-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unclamped [hPre_finite_and_unclamped : Cert.Pre_finite_and_unclamped.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2.2.1 = (fun _ => 1#1)
    ∧ (Cert.Pre_finite_and_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unclamped [hPre_finite_and_unclamped : Cert.Pre_finite_and_unclamped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2.2.1 = (fun _ => 1#1)
    ∧ (Cert.Pre_finite_and_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_unclamped [hKernelIdeal : Cert.KernelIdeal.Facts] [hPre_finite_and_unclamped : Cert.Pre_finite_and_unclamped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unclamped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_unclamped [hReferenceIdeal : Cert.ReferenceIdeal.Facts] [hPre_finite_and_unclamped : Cert.Pre_finite_and_unclamped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unclamped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_and_unclamped [hKernelIdeal : Cert.KernelIdeal.Facts] [hReferenceIdeal : Cert.ReferenceIdeal.Facts] [hPre_finite_and_unclamped : Cert.Pre_finite_and_unclamped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unclamped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v138)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v138) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v526) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_unclamped : Cert.Pre_finite_and_unclamped.Facts),
    quiescent_Kernel (hKernel := hKernel)
    ∧ quiescent_KernelIdeal (hKernelIdeal := hKernelIdeal)
    ∧ quiescent_KernelIdeal_pre_finite_and_unclamped (hKernelIdeal := hKernelIdeal) (hPre_finite_and_unclamped := hPre_finite_and_unclamped)
    ∧ quiescent_ReferenceIdeal (hReferenceIdeal := hReferenceIdeal)
    ∧ quiescent_ReferenceIdeal_pre_finite_and_unclamped (hReferenceIdeal := hReferenceIdeal) (hPre_finite_and_unclamped := hPre_finite_and_unclamped)
    ∧ preserves_Kernel_KernelIdeal
    ∧ algebraic_KernelIdeal_ReferenceIdeal_pre_finite_and_unclamped (hKernelIdeal := hKernelIdeal) (hReferenceIdeal := hReferenceIdeal) (hPre_finite_and_unclamped := hPre_finite_and_unclamped)
-- ==== Pre_finite_and_unclamped.lean ====
abbrev S4x2048x512 : Shape := ⟨3, ![4, 2048, 512]⟩
abbrev S4x2048 : Shape := ⟨2, ![4, 2048]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x512x2048 : Shape := ⟨3, ![4, 512, 2048]⟩
abbrev S_ : Shape := ⟨0, ![]⟩
abbrev S1x1536x512 : Shape := ⟨3, ![1, 1536, 512]⟩
abbrev S1536x512 : Shape := ⟨2, ![1536, 512]⟩
abbrev S1x1536 : Shape := ⟨2, ![1, 1536]⟩
abbrev S1536 : Shape := ⟨1, ![1536]⟩
abbrev S512x1536 : Shape := ⟨2, ![512, 1536]⟩
abbrev S4x2048x1536 : Shape := ⟨3, ![4, 2048, 1536]⟩
abbrev S1x1x1536 : Shape := ⟨3, ![1, 1, 1536]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S1x512x2048 : Shape := ⟨3, ![1, 512, 2048]⟩
abbrev S512x2048 : Shape := ⟨2, ![512, 2048]⟩
abbrev S4x8x2048 : Shape := ⟨3, ![4, 8, 2048]⟩
abbrev S4x8x2048x1 : Shape := ⟨4, ![4, 8, 2048, 1]⟩
abbrev S1x1x512 : Shape := ⟨3, ![1, 1, 512]⟩
abbrev S4x2048x1 : Shape := ⟨3, ![4, 2048, 1]⟩
abbrev S4x2048x2048 : Shape := ⟨3, ![4, 2048, 2048]⟩
abbrev S1x1x2048 : Shape := ⟨3, ![1, 1, 2048]⟩
abbrev S1 : Shape := ⟨1, ![1]⟩
abbrev S4 : Shape := ⟨1, ![4]⟩
abbrev S4x1 : Shape := ⟨2, ![4, 1]⟩
abbrev S8192 : Shape := ⟨1, ![8192]⟩
abbrev S8192x512 : Shape := ⟨2, ![8192, 512]⟩
abbrev S8192x1 : Shape := ⟨2, ![8192, 1]⟩
abbrev S4x1024x512 : Shape := ⟨3, ![4, 1024, 512]⟩
abbrev S4x1024x1536 : Shape := ⟨3, ![4, 1024, 1536]⟩
abbrev S4x1024x8x64 : Shape := ⟨4, ![4, 1024, 8, 64]⟩
abbrev S4x8x1024x64 : Shape := ⟨4, ![4, 8, 1024, 64]⟩
abbrev S4x8x1024x1024 : Shape := ⟨4, ![4, 8, 1024, 1024]⟩
abbrev S4x8x1024 : Shape := ⟨3, ![4, 8, 1024]⟩
abbrev S4x8x1024x1 : Shape := ⟨4, ![4, 8, 1024, 1]⟩
abbrev S4x1024 : Shape := ⟨2, ![4, 1024]⟩
abbrev S4x1024x1 : Shape := ⟨3, ![4, 1024, 1]⟩
abbrev S4x1024x2048 : Shape := ⟨3, ![4, 1024, 2048]⟩

class Facts : Prop where
  bcast_S_S4x2048x512 : S_.BroadcastsInDim S4x2048x512 (![] : Fin 0 → Fin S4x2048x512.rank)
  bcast_S_S4x1536x512 : S_.BroadcastsInDim S4x1536x512 (![] : Fin 0 → Fin S4x1536x512.rank)
  bcast_S_S4x1536 : S_.BroadcastsInDim S4x1536 (![] : Fin 0 → Fin S4x1536.rank)
  bcast_S_S4x512x512 : S_.BroadcastsInDim S4x512x512 (![] : Fin 0 → Fin S4x512x512.rank)
  bcast_S_S4x512 : S_.BroadcastsInDim S4x512 (![] : Fin 0 → Fin S4x512.rank)
  bcast_S_S4x2048 : S_.BroadcastsInDim S4x2048 (![] : Fin 0 → Fin S4x2048.rank)
  bcast_S_S4x512x2048 : S_.BroadcastsInDim S4x512x2048 (![] : Fin 0 → Fin S4x512x2048.rank)
  slices_S4x1536x512_S1x1536x512_0_0_0 : S4x1536x512.Slices ![0, 0, 0] S1x1536x512
  shapeCasts_S1x1536x512_S1536x512 : S1x1536x512.ShapeCasts S1536x512
  slices_S4x1536_S1x1536_0_0 : S4x1536.Slices ![0, 0] S1x1536
  shapeCasts_S1x1536_S1536 : S1x1536.ShapeCasts S1536
  transposes_S1536x512_S512x1536_1_0 : S1536x512.Transposes [1, 0] S512x1536
  bcast_S1536_S1x1x1536_2 : S1536.BroadcastsInDim S1x1x1536 (![2] : Fin 1 → Fin S1x1x1536.rank)
  bcast_S1x1x1536_S4x2048x1536_0_1_2 : S1x1x1536.BroadcastsInDim S4x2048x1536 (![0, 1, 2] : Fin 3 → Fin S4x2048x1536.rank)
  slices_S4x2048x1536_S4x2048x512_0_0_0 : S4x2048x1536.Slices ![0, 0, 0] S4x2048x512
  slices_S4x2048x1536_S4x2048x512_0_0_512 : S4x2048x1536.Slices ![0, 0, 512] S4x2048x512
  slices_S4x2048x1536_S4x2048x512_0_0_1024 : S4x2048x1536.Slices ![0, 0, 1024] S4x2048x512
  shapeCasts_S4x2048x512_S4x2048x8x64 : S4x2048x512.ShapeCasts S4x2048x8x64
  transposes_S4x2048x8x64_S4x8x2048x64_0_2_1_3 : S4x2048x8x64.Transposes [0, 2, 1, 3] S4x8x2048x64
  bcast_S_S4x8x2048x2048 : S_.BroadcastsInDim S4x8x2048x2048 (![] : Fin 0 → Fin S4x8x2048x2048.rank)
  slices_S4x512x512_S1x512x512_0_0_0 : S4x512x512.Slices ![0, 0, 0] S1x512x512
  shapeCasts_S1x512x512_S512x512 : S1x512x512.ShapeCasts S512x512
  slices_S4x512_S1x512_0_0 : S4x512.Slices ![0, 0] S1x512
  shapeCasts_S1x512_S512 : S1x512.ShapeCasts S512
  slices_S4x2048x512_S1x2048x512_0_0_0 : S4x2048x512.Slices ![0, 0, 0] S1x2048x512
  shapeCasts_S1x2048x512_S2048x512 : S1x2048x512.ShapeCasts S2048x512
  slices_S4x2048_S1x2048_0_0 : S4x2048.Slices ![0, 0] S1x2048
  shapeCasts_S1x2048_S2048 : S1x2048.ShapeCasts S2048
  slices_S4x512x2048_S1x512x2048_0_0_0 : S4x512x2048.Slices ![0, 0, 0] S1x512x2048
  shapeCasts_S1x512x2048_S512x2048 : S1x512x2048.ShapeCasts S512x2048
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  transposes_S512x512_S512x512_1_0 : S512x512.Transposes [1, 0] S512x512
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  reducesTo_S4x2048x512_S4x2048_d2 : S4x2048x512.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  transposes_S2048x512_S512x2048_1_0 : S2048x512.Transposes [1, 0] S512x2048
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x2048 : S_.BroadcastsInDim S4x2048x2048 (![] : Fin 0 → Fin S4x2048x2048.rank)
  transposes_S512x2048_S2048x512_1_0 : S512x2048.Transposes [1, 0] S2048x512
  slices_S4x1536x512_S1x1536x512_1_0_0 : S4x1536x512.Slices ![1, 0, 0] S1x1536x512
  slices_S4x1536_S1x1536_1_0 : S4x1536.Slices ![1, 0] S1x1536
  slices_S4x512x512_S1x512x512_1_0_0 : S4x512x512.Slices ![1, 0, 0] S1x512x512
  slices_S4x512_S1x512_1_0 : S4x512.Slices ![1, 0] S1x512
  slices_S4x2048x512_S1x2048x512_1_0_0 : S4x2048x512.Slices ![1, 0, 0] S1x2048x512
  slices_S4x2048_S1x2048_1_0 : S4x2048.Slices ![1, 0] S1x2048
  slices_S4x512x2048_S1x512x2048_1_0_0 : S4x512x2048.Slices ![1, 0, 0] S1x512x2048
  natLt_1_32 : 1 < 32
  bcast_S_S1 : S_.BroadcastsInDim S1 (![] : Fin 0 → Fin S1.rank)
  bcast_S_S4 : S_.BroadcastsInDim S4 (![] : Fin 0 → Fin S4.rank)
  bcast_S_S_ : S_.BroadcastsInDim S_ (![] : Fin 0 → Fin S_.rank)
  reduceWindows_S4x2048_S4x2048_w1s1p0_0_w2048s1p2047_0 : S4x2048.ReduceWindows (![1, 2048] : Fin 2 → Nat) ![1, 1] ![0, 2047] ![0, 0] S4x2048
  slices_S4x2048_S4x1_0_2047 : S4x2048.Slices ![0, 2047] S4x1
  shapeCasts_S4x1_S4 : S4x1.ShapeCasts S4
  bcast_S4_S4x1_0 : S4.BroadcastsInDim S4x1 (![0] : Fin 1 → Fin S4x1.rank)
  bcast_S_S4x1 : S_.BroadcastsInDim S4x1 (![] : Fin 0 → Fin S4x1.rank)
  bcast_S4x1_S4x2048_0_1 : S4x1.BroadcastsInDim S4x2048 (![0, 1] : Fin 2 → Fin S4x2048.rank)
  shapeCasts_S4x2048_S8192 : S4x2048.ShapeCasts S8192
  shapeCasts_S4x2048x512_S8192x512 : S4x2048x512.ShapeCasts S8192x512
  bcast_S_S8192x512 : S_.BroadcastsInDim S8192x512 (![] : Fin 0 → Fin S8192x512.rank)
  bcast_S8192_S8192x1_0 : S8192.BroadcastsInDim S8192x1 (![0] : Fin 1 → Fin S8192x1.rank)
  shapeCasts_S8192x512_S4x2048x512 : S8192x512.ShapeCasts S4x2048x512
  bcast_S_S8192 : S_.BroadcastsInDim S8192 (![] : Fin 0 → Fin S8192.rank)
  shapeCasts_S8192_S4x2048 : S8192.ShapeCasts S4x2048
  bcast_S2048_S1x2048_1 : S2048.BroadcastsInDim S1x2048 (![1] : Fin 1 → Fin S1x2048.rank)
  bcast_S1x2048_S4x2048_0_1 : S1x2048.BroadcastsInDim S4x2048 (![0, 1] : Fin 2 → Fin S4x2048.rank)
  bcast_S4x2048_S4x2048x512_0_1 : S4x2048.BroadcastsInDim S4x2048x512 (![0, 1] : Fin 2 → Fin S4x2048x512.rank)
  slices_S4x2048x512_S4x1024x512_0_0_0 : S4x2048x512.Slices ![0, 0, 0] S4x1024x512
  slices_S4x1536x512_S1x1536x512_2_0_0 : S4x1536x512.Slices ![2, 0, 0] S1x1536x512
  slices_S4x1536_S1x1536_2_0 : S4x1536.Slices ![2, 0] S1x1536
  bcast_S1x1x1536_S4x1024x1536_0_1_2 : S1x1x1536.BroadcastsInDim S4x1024x1536 (![0, 1, 2] : Fin 3 → Fin S4x1024x1536.rank)
  slices_S4x1024x1536_S4x1024x512_0_0_0 : S4x1024x1536.Slices ![0, 0, 0] S4x1024x512
  slices_S4x1024x1536_S4x1024x512_0_0_512 : S4x1024x1536.Slices ![0, 0, 512] S4x1024x512
  slices_S4x1024x1536_S4x1024x512_0_0_1024 : S4x1024x1536.Slices ![0, 0, 1024] S4x1024x512
  shapeCasts_S4x1024x512_S4x1024x8x64 : S4x1024x512.ShapeCasts S4x1024x8x64
  transposes_S4x1024x8x64_S4x8x1024x64_0_2_1_3 : S4x1024x8x64.Transposes [0, 2, 1, 3] S4x8x1024x64
  bcast_S_S4x8x1024x1024 : S_.BroadcastsInDim S4x8x1024x1024 (![] : Fin 0 → Fin S4x8x1024x1024.rank)
  slices_S4x512x512_S1x512x512_2_0_0 : S4x512x512.Slices ![2, 0, 0] S1x512x512
  slices_S4x512_S1x512_2_0 : S4x512.Slices ![2, 0] S1x512
  slices_S4x2048x512_S1x2048x512_2_0_0 : S4x2048x512.Slices ![2, 0, 0] S1x2048x512
  slices_S4x2048_S1x2048_2_0 : S4x2048.Slices ![2, 0] S1x2048
  slices_S4x512x2048_S1x512x2048_2_0_0 : S4x512x2048.Slices ![2, 0, 0] S1x512x2048
  reducesTo_S4x8x1024x1024_S4x8x1024_d3 : S4x8x1024x1024.ReducesTo [3] S4x8x1024
  bcast_S_S4x8x1024 : S_.BroadcastsInDim S4x8x1024 (![] : Fin 0 → Fin S4x8x1024.rank)
  bcast_S4x8x1024_S4x8x1024x1_0_1_2 : S4x8x1024.BroadcastsInDim S4x8x1024x1 (![0, 1, 2] : Fin 3 → Fin S4x8x1024x1.rank)
  bcast_S4x8x1024x1_S4x8x1024x1024_0_1_2_3 : S4x8x1024x1.BroadcastsInDim S4x8x1024x1024 (![0, 1, 2, 3] : Fin 4 → Fin S4x8x1024x1024.rank)
  transposes_S4x8x1024x64_S4x1024x8x64_0_2_1_3 : S4x8x1024x64.Transposes [0, 2, 1, 3] S4x1024x8x64
  shapeCasts_S4x1024x8x64_S4x1024x512 : S4x1024x8x64.ShapeCasts S4x1024x512
  bcast_S1x1x512_S4x1024x512_0_1_2 : S1x1x512.BroadcastsInDim S4x1024x512 (![0, 1, 2] : Fin 3 → Fin S4x1024x512.rank)
  reducesTo_S4x1024x512_S4x1024_d2 : S4x1024x512.ReducesTo [2] S4x1024
  bcast_S4x1024_S4x1024x1_0_1 : S4x1024.BroadcastsInDim S4x1024x1 (![0, 1] : Fin 2 → Fin S4x1024x1.rank)
  bcast_S_S4x1024x1 : S_.BroadcastsInDim S4x1024x1 (![] : Fin 0 → Fin S4x1024x1.rank)
  bcast_S4x1024x1_S4x1024x512_0_1_2 : S4x1024x1.BroadcastsInDim S4x1024x512 (![0, 1, 2] : Fin 3 → Fin S4x1024x512.rank)
  bcast_S1x1x2048_S4x1024x2048_0_1_2 : S1x1x2048.BroadcastsInDim S4x1024x2048 (![0, 1, 2] : Fin 3 → Fin S4x1024x2048.rank)
  bcast_S_S4x1024x2048 : S_.BroadcastsInDim S4x1024x2048 (![] : Fin 0 → Fin S4x1024x2048.rank)
  slices_S4x1536x512_S1x1536x512_3_0_0 : S4x1536x512.Slices ![3, 0, 0] S1x1536x512
  slices_S4x1536_S1x1536_3_0 : S4x1536.Slices ![3, 0] S1x1536
  dot_S4x2048x512_S512x1536_S4x2048x1536_2_0_01_1_n_n_wf : DotDims.WF S4x2048x512 S512x1536 S4x2048x1536 [2] [0] [0, 1] [1] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]
  dot_S4x2048x512_S512x512_S4x2048x512_2_0_01_1_n_n_wf : DotDims.WF S4x2048x512 S512x512 S4x2048x512 [2] [0] [0, 1] [1] [] []
  dot_S4x2048x512_S512x2048_S4x2048x2048_2_0_01_1_n_n_wf : DotDims.WF S4x2048x512 S512x2048 S4x2048x2048 [2] [0] [0, 1] [1] [] []
  dot_S4x2048x2048_S2048x512_S4x2048x512_2_0_01_1_n_n_wf : DotDims.WF S4x2048x2048 S2048x512 S4x2048x512 [2] [0] [0, 1] [1] [] []
  scatter_S4x2048_S1_S4_0_1_1_0_wf : ScatterDims.WF S4x2048 S1 S4 [0] [1] [1] 0
  scatter_S8192x512_S8192x1_S8192x512_1_0_0_1_wf : ScatterDims.WF S8192x512 S8192x1 S8192x512 [1] [0] [0] 1
  scatter_S8192_S8192x1_S8192_n_0_0_1_wf : ScatterDims.WF S8192 S8192x1 S8192 [] [0] [0] 1
  dot_S4x1024x512_S512x1536_S4x1024x1536_2_0_01_1_n_n_wf : DotDims.WF S4x1024x512 S512x1536 S4x1024x1536 [2] [0] [0, 1] [1] [] []
  dot_S4x8x1024x64_S4x8x1024x64_S4x8x1024x1024_3_3_2_2_01_01_wf : DotDims.WF S4x8x1024x64 S4x8x1024x64 S4x8x1024x1024 [3] [3] [2] [2] [0, 1] [0, 1]
  dot_S4x8x1024x1024_S4x8x1024x64_S4x8x1024x64_3_2_2_3_01_01_wf : DotDims.WF S4x8x1024x1024 S4x8x1024x64 S4x8x1024x64 [3] [2] [2] [3] [0, 1] [0, 1]
  dot_S4x1024x512_S512x512_S4x1024x512_2_0_01_1_n_n_wf : DotDims.WF S4x1024x512 S512x512 S4x1024x512 [2] [0] [0, 1] [1] [] []
  dot_S4x1024x512_S512x2048_S4x1024x2048_2_0_01_1_n_n_wf : DotDims.WF S4x1024x512 S512x2048 S4x1024x2048 [2] [0] [0, 1] [1] [] []
  dot_S4x1024x2048_S2048x512_S4x1024x512_2_0_01_1_n_n_wf : DotDims.WF S4x1024x2048 S2048x512 S4x1024x512 [2] [0] [0, 1] [1] [] []

variable [Facts]

def dot_S4x2048x512_S512x1536_S4x2048x1536_2_0_01_1_n_n : DotDims S4x2048x512 S512x1536 S4x2048x1536 where
  lhsContracting := [2]
  rhsContracting := [0]
  lhsNonContracting := [0, 1]
  rhsNonContracting := [1]
  lhsBatch := []
  rhsBatch := []
  wf := dot_S4x2048x512_S512x1536_S4x2048x1536_2_0_01_1_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf
def dot_S4x2048x512_S512x512_S4x2048x512_2_0_01_1_n_n : DotDims S4x2048x512 S512x512 S4x2048x512 where
  lhsContracting := [2]
  rhsContracting := [0]
  lhsNonContracting := [0, 1]
  rhsNonContracting := [1]
  lhsBatch := []
  rhsBatch := []
  wf := dot_S4x2048x512_S512x512_S4x2048x512_2_0_01_1_n_n_wf
def dot_S4x2048x512_S512x2048_S4x2048x2048_2_0_01_1_n_n : DotDims S4x2048x512 S512x2048 S4x2048x2048 where
  lhsContracting := [2]
  rhsContracting := [0]
  lhsNonContracting := [0, 1]
  rhsNonContracting := [1]
  lhsBatch := []
  rhsBatch := []
  wf := dot_S4x2048x512_S512x2048_S4x2048x2048_2_0_01_1_n_n_wf
def dot_S4x2048x2048_S2048x512_S4x2048x512_2_0_01_1_n_n : DotDims S4x2048x2048 S2048x512 S4x2048x512 where
  lhsContracting := [2]
  rhsContracting := [0]
  lhsNonContracting := [0, 1]
  rhsNonContracting := [1]
  lhsBatch := []
  rhsBatch := []
  wf := dot_S4x2048x2048_S2048x512_S4x2048x512_2_0_01_1_n_n_wf
def scatter_S4x2048_S1_S4_0_1_1_0 : ScatterDims S4x2048 S1 S4 where
  updateWindowDims := [0]
  insertedWindowDims := [1]
  scatterDimsToOperandDims := [1]
  indexVectorDim := 0
  wf := scatter_S4x2048_S1_S4_0_1_1_0_wf
def scatter_S8192x512_S8192x1_S8192x512_1_0_0_1 : ScatterDims S8192x512 S8192x1 S8192x512 where
  updateWindowDims := [1]
  insertedWindowDims := [0]
  scatterDimsToOperandDims := [0]
  indexVectorDim := 1
  wf := scatter_S8192x512_S8192x1_S8192x512_1_0_0_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def dot_S4x1024x512_S512x1536_S4x1024x1536_2_0_01_1_n_n : DotDims S4x1024x512 S512x1536 S4x1024x1536 where
  lhsContracting := [2]
  rhsContracting := [0]
  lhsNonContracting := [0, 1]
  rhsNonContracting := [1]
  lhsBatch := []
  rhsBatch := []
  wf := dot_S4x1024x512_S512x1536_S4x1024x1536_2_0_01_1_n_n_wf
def dot_S4x8x1024x64_S4x8x1024x64_S4x8x1024x1024_3_3_2_2_01_01 : DotDims S4x8x1024x64 S4x8x1024x64 S4x8x1024x1024 where
  lhsContracting := [3]
  rhsContracting := [3]
  lhsNonContracting := [2]
  rhsNonContracting := [2]
  lhsBatch := [0, 1]
  rhsBatch := [0, 1]
  wf := dot_S4x8x1024x64_S4x8x1024x64_S4x8x1024x1024_3_3_2_2_01_01_wf
def dot_S4x8x1024x1024_S4x8x1024x64_S4x8x1024x64_3_2_2_3_01_01 : DotDims S4x8x1024x1024 S4x8x1024x64 S4x8x1024x64 where
  lhsContracting := [3]
  rhsContracting := [2]
  lhsNonContracting := [2]
  rhsNonContracting := [3]
  lhsBatch := [0, 1]
  rhsBatch := [0, 1]
  wf := dot_S4x8x1024x1024_S4x8x1024x64_S4x8x1024x64_3_2_2_3_01_01_wf
def dot_S4x1024x512_S512x512_S4x1024x512_2_0_01_1_n_n : DotDims S4x1024x512 S512x512 S4x1024x512 where
  lhsContracting := [2]
  rhsContracting := [0]
  lhsNonContracting := [0, 1]
  rhsNonContracting := [1]
  lhsBatch := []
  rhsBatch := []
  wf := dot_S4x1024x512_S512x512_S4x1024x512_2_0_01_1_n_n_wf
def dot_S4x1024x512_S512x2048_S4x1024x2048_2_0_01_1_n_n : DotDims S4x1024x512 S512x2048 S4x1024x2048 where
  lhsContracting := [2]
  rhsContracting := [0]
  lhsNonContracting := [0, 1]
  rhsNonContracting := [1]
  lhsBatch := []
  rhsBatch := []
  wf := dot_S4x1024x512_S512x2048_S4x1024x2048_2_0_01_1_n_n_wf
def dot_S4x1024x2048_S2048x512_S4x1024x512_2_0_01_1_n_n : DotDims S4x1024x2048 S2048x512 S4x1024x512 where
  lhsContracting := [2]
  rhsContracting := [0]
  lhsNonContracting := [0, 1]
  rhsNonContracting := [1]
  lhsBatch := []
  rhsBatch := []
  wf := dot_S4x1024x2048_S2048x512_S4x1024x512_2_0_01_1_n_n_wf
def fn_cumsum {F : FTy → Type} [FloatOps F] (arg0 : IVec S4x2048 32) : IVec S4x2048 32 :=
  let c : IVec S_ 32 := constantI S_ 32 0#32
  let v0 : IVec S_ 32 := broadcastInDim S_ ![] bcast_S_S_ c
  let v1 : IVec S4x2048 32 := (fun x v => Host.reduceWindow IntOp.addi ![1, 2048] ![1, 1] ![0, 2047] ![0, 0] x v reduceWindows_S4x2048_S4x2048_w1s1p0_0_w2048s1p2047_0 h_S_) arg0 v0
  v1

def fn_part25 {F : FTy → Type} [FloatOps F] (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v389 : IVec S4x8x1024x1024 1) (main_v522 : FVec F S4x1024x512 .f32) (main_v525 : FVec F S4x8x1024x64 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v526 : FVec F S4x1024x8x64 .f32 := shapeCast S4x1024x8x64 main_v522 shapeCasts_S4x1024x512_S4x1024x8x64
  let main_v527 : FVec F S4x8x1024x64 .f32 := (transpose S4x8x1024x64 [0, 2, 1, 3] · transposes_S4x1024x8x64_S4x8x1024x64_0_2_1_3) main_v526
  let main_v528 : FVec F S4x8x1024x1024 .f32 := (fun l r => Host.dotGeneral dot_S4x8x1024x64_S4x8x1024x64_S4x8x1024x1024_3_3_2_2_01_01 none l r) main_v525 main_v527
  let main_cst_72 : FVec F S_ .f32 := constant S_ .f32 0x3E000000#32
  let main_v529 : FVec F S4x8x1024x1024 .f32 := broadcastInDim S4x8x1024x1024 ![] bcast_S_S4x8x1024x1024 main_cst_72
  let main_v530 : FVec F S4x8x1024x1024 .f32 := mulf main_v528 main_v529
  let main_cst_73 : FVec F S_ .f32 := constant S_ .f32 0x42A00000#32
  let main_v531 : FVec F S4x8x1024x1024 .f32 := broadcastInDim S4x8x1024x1024 ![] bcast_S_S4x8x1024x1024 main_cst_73
  let main_v532 : IVec S4x8x1024x1024 1 := cmpf .ole main_v530 main_v531
  (main_v2, main_v5, main_v8, main_v11, main_v14, main_v17, main_v20, main_v23, main_v26, main_v29, main_v32, main_v35, main_v38, main_v59, main_v202, main_v389, main_v532)

def fn_part24 {F : FTy → Type} [FloatOps F] (main_arg2 : FVec F S4x1536x512 .f32) (main_arg3 : FVec F S4x1536 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v389 : IVec S4x8x1024x1024 1) (main_v411 : FVec F S512 .f32) (main_v413 : FVec F S512 .f32) (main_v498 : FVec F S4x1024x1 .f32) (main_v500 : FVec F S4x1024x512 .f32) (main_v501 : FVec F S4x1024x1 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v502 : FVec F S4x1024x1 .f32 := addf main_v498 main_v501
  let main_v503 : FVec F S4x1024x1 .f32 := Host.sqrt main_v502
  let main_v504 : FVec F S4x1024x512 .f32 := broadcastInDim S4x1024x512 ![0, 1, 2] bcast_S4x1024x1_S4x1024x512_0_1_2 main_v503
  let main_v505 : FVec F S4x1024x512 .f32 := Host.divf main_v500 main_v504
  let main_v506 : FVec F S1x1x512 .f32 := broadcastInDim S1x1x512 ![2] bcast_S512_S1x1x512_2 main_v411
  let main_v507 : FVec F S4x1024x512 .f32 := broadcastInDim S4x1024x512 ![0, 1, 2] bcast_S1x1x512_S4x1024x512_0_1_2 main_v506
  let main_v508 : FVec F S4x1024x512 .f32 := mulf main_v505 main_v507
  let main_v509 : FVec F S1x1x512 .f32 := broadcastInDim S1x1x512 ![2] bcast_S512_S1x1x512_2 main_v413
  let main_v510 : FVec F S4x1024x512 .f32 := broadcastInDim S4x1024x512 ![0, 1, 2] bcast_S1x1x512_S4x1024x512_0_1_2 main_v509
  let main_v511 : FVec F S4x1024x512 .f32 := addf main_v508 main_v510
  let main_v512 : FVec F S1x1536x512 .f32 := (extractStridedSlice S1x1536x512 ![3, 0, 0] · slices_S4x1536x512_S1x1536x512_3_0_0) main_arg2
  let main_v513 : FVec F S1536x512 .f32 := shapeCast S1536x512 main_v512 shapeCasts_S1x1536x512_S1536x512
  let main_v514 : FVec F S1x1536 .f32 := (extractStridedSlice S1x1536 ![3, 0] · slices_S4x1536_S1x1536_3_0) main_arg3
  let main_v515 : FVec F S1536 .f32 := shapeCast S1536 main_v514 shapeCasts_S1x1536_S1536
  let main_v516 : FVec F S512x1536 .f32 := (transpose S512x1536 [1, 0] · transposes_S1536x512_S512x1536_1_0) main_v513
  let main_v517 : FVec F S4x1024x1536 .f32 := (fun l r => Host.dotGeneral dot_S4x1024x512_S512x1536_S4x1024x1536_2_0_01_1_n_n none l r) main_v511 main_v516
  let main_v518 : FVec F S1x1x1536 .f32 := broadcastInDim S1x1x1536 ![2] bcast_S1536_S1x1x1536_2 main_v515
  let main_v519 : FVec F S4x1024x1536 .f32 := broadcastInDim S4x1024x1536 ![0, 1, 2] bcast_S1x1x1536_S4x1024x1536_0_1_2 main_v518
  let main_v520 : FVec F S4x1024x1536 .f32 := addf main_v517 main_v519
  let main_v521 : FVec F S4x1024x512 .f32 := (extractStridedSlice S4x1024x512 ![0, 0, 0] · slices_S4x1024x1536_S4x1024x512_0_0_0) main_v520
  let main_v522 : FVec F S4x1024x512 .f32 := (extractStridedSlice S4x1024x512 ![0, 0, 512] · slices_S4x1024x1536_S4x1024x512_0_0_512) main_v520
  let main_v523 : FVec F S4x1024x512 .f32 := (extractStridedSlice S4x1024x512 ![0, 0, 1024] · slices_S4x1024x1536_S4x1024x512_0_0_1024) main_v520
  let main_v524 : FVec F S4x1024x8x64 .f32 := shapeCast S4x1024x8x64 main_v521 shapeCasts_S4x1024x512_S4x1024x8x64
  let main_v525 : FVec F S4x8x1024x64 .f32 := (transpose S4x8x1024x64 [0, 2, 1, 3] · transposes_S4x1024x8x64_S4x8x1024x64_0_2_1_3) main_v524
  fn_part25 (F := F) main_v2 main_v5 main_v8 main_v11 main_v14 main_v17 main_v20 main_v23 main_v26 main_v29 main_v32 main_v35 main_v38 main_v59 main_v202 main_v389 main_v522 main_v525

def fn_part23 {F : FTy → Type} [FloatOps F] (main_arg2 : FVec F S4x1536x512 .f32) (main_arg3 : FVec F S4x1536 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v389 : IVec S4x8x1024x1024 1) (main_v405 : FVec F S512 .f32) (main_v411 : FVec F S512 .f32) (main_v413 : FVec F S512 .f32) (main_v474 : FVec F S4x1024x512 .f32) (main_v481 : FVec F S4x1024x2048 .f32) (main_v482 : FVec F S2048x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v483 : FVec F S4x1024x512 .f32 := (fun l r => Host.dotGeneral dot_S4x1024x2048_S2048x512_S4x1024x512_2_0_01_1_n_n none l r) main_v481 main_v482
  let main_v484 : FVec F S1x1x512 .f32 := broadcastInDim S1x1x512 ![2] bcast_S512_S1x1x512_2 main_v405
  let main_v485 : FVec F S4x1024x512 .f32 := broadcastInDim S4x1024x512 ![0, 1, 2] bcast_S1x1x512_S4x1024x512_0_1_2 main_v484
  let main_v486 : FVec F S4x1024x512 .f32 := addf main_v483 main_v485
  let main_v487 : FVec F S4x1024x512 .f32 := addf main_v474 main_v486
  let main_cst_67 : FVec F S_ .f32 := constant S_ .f32 0x00000000#32
  let main_v488 : FVec F S4x1024 .f32 := (fun x v => Host.reduceAdd x v reducesTo_S4x1024x512_S4x1024_d2 h_S_) main_v487 main_cst_67
  let main_v489 : FVec F S4x1024x1 .f32 := broadcastInDim S4x1024x1 ![0, 1] bcast_S4x1024_S4x1024x1_0_1 main_v488
  let main_cst_68 : FVec F S_ .f32 := constant S_ .f32 0x44000000#32
  let main_v490 : FVec F S4x1024x1 .f32 := broadcastInDim S4x1024x1 ![] bcast_S_S4x1024x1 main_cst_68
  let main_v491 : FVec F S4x1024x1 .f32 := Host.divf main_v489 main_v490
  let main_v492 : FVec F S4x1024x512 .f32 := broadcastInDim S4x1024x512 ![0, 1, 2] bcast_S4x1024x1_S4x1024x512_0_1_2 main_v491
  let main_v493 : FVec F S4x1024x512 .f32 := subf main_v487 main_v492
  let main_v494 : FVec F S4x1024x512 .f32 := mulf main_v493 main_v493
  let main_cst_69 : FVec F S_ .f32 := constant S_ .f32 0x00000000#32
  let main_v495 : FVec F S4x1024 .f32 := (fun x v => Host.reduceAdd x v reducesTo_S4x1024x512_S4x1024_d2 h_S_) main_v494 main_cst_69
  let main_v496 : FVec F S4x1024x1 .f32 := broadcastInDim S4x1024x1 ![0, 1] bcast_S4x1024_S4x1024x1_0_1 main_v495
  let main_cst_70 : FVec F S_ .f32 := constant S_ .f32 0x44000000#32
  let main_v497 : FVec F S4x1024x1 .f32 := broadcastInDim S4x1024x1 ![] bcast_S_S4x1024x1 main_cst_70
  let main_v498 : FVec F S4x1024x1 .f32 := Host.divf main_v496 main_v497
  let main_v499 : FVec F S4x1024x512 .f32 := broadcastInDim S4x1024x512 ![0, 1, 2] bcast_S4x1024x1_S4x1024x512_0_1_2 main_v491
  let main_v500 : FVec F S4x1024x512 .f32 := subf main_v487 main_v499
  let main_cst_71 : FVec F S_ .f32 := constant S_ .f32 0x3727C5AC#32
  let main_v501 : FVec F S4x1024x1 .f32 := broadcastInDim S4x1024x1 ![] bcast_S_S4x1024x1 main_cst_71
  fn_part24 (F := F) main_arg2 main_arg3 main_v2 main_v5 main_v8 main_v11 main_v14 main_v17 main_v20 main_v23 main_v26 main_v29 main_v32 main_v35 main_v38 main_v59 main_v202 main_v389 main_v411 main_v413 main_v498 main_v500 main_v501

def fn_part22 {F : FTy → Type} [FloatOps F] (main_arg2 : FVec F S4x1536x512 .f32) (main_arg3 : FVec F S4x1536 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v389 : IVec S4x8x1024x1024 1) (main_v399 : FVec F S2048x512 .f32) (main_v401 : FVec F S2048 .f32) (main_v403 : FVec F S512x2048 .f32) (main_v405 : FVec F S512 .f32) (main_v407 : FVec F S512 .f32) (main_v409 : FVec F S512 .f32) (main_v411 : FVec F S512 .f32) (main_v413 : FVec F S512 .f32) (main_v450 : FVec F S4x1024x512 .f32) (main_v454 : FVec F S4x1024x1 .f32) (main_v459 : FVec F S4x1024x1 .f32) (main_v460 : FVec F S4x1024x1 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v461 : FVec F S4x1024x1 .f32 := Host.divf main_v459 main_v460
  let main_v462 : FVec F S4x1024x512 .f32 := broadcastInDim S4x1024x512 ![0, 1, 2] bcast_S4x1024x1_S4x1024x512_0_1_2 main_v454
  let main_v463 : FVec F S4x1024x512 .f32 := subf main_v450 main_v462
  let main_cst_65 : FVec F S_ .f32 := constant S_ .f32 0x3727C5AC#32
  let main_v464 : FVec F S4x1024x1 .f32 := broadcastInDim S4x1024x1 ![] bcast_S_S4x1024x1 main_cst_65
  let main_v465 : FVec F S4x1024x1 .f32 := addf main_v461 main_v464
  let main_v466 : FVec F S4x1024x1 .f32 := Host.sqrt main_v465
  let main_v467 : FVec F S4x1024x512 .f32 := broadcastInDim S4x1024x512 ![0, 1, 2] bcast_S4x1024x1_S4x1024x512_0_1_2 main_v466
  let main_v468 : FVec F S4x1024x512 .f32 := Host.divf main_v463 main_v467
  let main_v469 : FVec F S1x1x512 .f32 := broadcastInDim S1x1x512 ![2] bcast_S512_S1x1x512_2 main_v407
  let main_v470 : FVec F S4x1024x512 .f32 := broadcastInDim S4x1024x512 ![0, 1, 2] bcast_S1x1x512_S4x1024x512_0_1_2 main_v469
  let main_v471 : FVec F S4x1024x512 .f32 := mulf main_v468 main_v470
  let main_v472 : FVec F S1x1x512 .f32 := broadcastInDim S1x1x512 ![2] bcast_S512_S1x1x512_2 main_v409
  let main_v473 : FVec F S4x1024x512 .f32 := broadcastInDim S4x1024x512 ![0, 1, 2] bcast_S1x1x512_S4x1024x512_0_1_2 main_v472
  let main_v474 : FVec F S4x1024x512 .f32 := addf main_v471 main_v473
  let main_v475 : FVec F S512x2048 .f32 := (transpose S512x2048 [1, 0] · transposes_S2048x512_S512x2048_1_0) main_v399
  let main_v476 : FVec F S4x1024x2048 .f32 := (fun l r => Host.dotGeneral dot_S4x1024x512_S512x2048_S4x1024x2048_2_0_01_1_n_n none l r) main_v474 main_v475
  let main_v477 : FVec F S1x1x2048 .f32 := broadcastInDim S1x1x2048 ![2] bcast_S2048_S1x1x2048_2 main_v401
  let main_v478 : FVec F S4x1024x2048 .f32 := broadcastInDim S4x1024x2048 ![0, 1, 2] bcast_S1x1x2048_S4x1024x2048_0_1_2 main_v477
  let main_v479 : FVec F S4x1024x2048 .f32 := addf main_v476 main_v478
  let main_cst_66 : FVec F S_ .f32 := constant S_ .f32 0x00000000#32
  let main_v480 : FVec F S4x1024x2048 .f32 := broadcastInDim S4x1024x2048 ![] bcast_S_S4x1024x2048 main_cst_66
  let main_v481 : FVec F S4x1024x2048 .f32 := maximumf main_v479 main_v480
  let main_v482 : FVec F S2048x512 .f32 := (transpose S2048x512 [1, 0] · transposes_S512x2048_S2048x512_1_0) main_v403
  fn_part23 (F := F) main_arg2 main_arg3 main_v2 main_v5 main_v8 main_v11 main_v14 main_v17 main_v20 main_v23 main_v26 main_v29 main_v32 main_v35 main_v38 main_v59 main_v202 main_v389 main_v405 main_v411 main_v413 main_v474 main_v481 main_v482

def fn_part21 {F : FTy → Type} [FloatOps F] (main_arg2 : FVec F S4x1536x512 .f32) (main_arg3 : FVec F S4x1536 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v368 : FVec F S4x1024x512 .f32) (main_v389 : IVec S4x8x1024x1024 1) (main_v395 : FVec F S512x512 .f32) (main_v397 : FVec F S512 .f32) (main_v399 : FVec F S2048x512 .f32) (main_v401 : FVec F S2048 .f32) (main_v403 : FVec F S512x2048 .f32) (main_v405 : FVec F S512 .f32) (main_v407 : FVec F S512 .f32) (main_v409 : FVec F S512 .f32) (main_v411 : FVec F S512 .f32) (main_v413 : FVec F S512 .f32) (main_v427 : FVec F S4x8x1024x64 .f32) (main_v437 : FVec F S4x8x1024x1024 .f32) (main_v440 : FVec F S4x8x1024x1024 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v441 : FVec F S4x8x1024x1024 .f32 := Host.divf main_v437 main_v440
  let main_v442 : FVec F S4x8x1024x64 .f32 := (fun l r => Host.dotGeneral dot_S4x8x1024x1024_S4x8x1024x64_S4x8x1024x64_3_2_2_3_01_01 none l r) main_v441 main_v427
  let main_v443 : FVec F S4x1024x8x64 .f32 := (transpose S4x1024x8x64 [0, 2, 1, 3] · transposes_S4x8x1024x64_S4x1024x8x64_0_2_1_3) main_v442
  let main_v444 : FVec F S4x1024x512 .f32 := shapeCast S4x1024x512 main_v443 shapeCasts_S4x1024x8x64_S4x1024x512
  let main_v445 : FVec F S512x512 .f32 := (transpose S512x512 [1, 0] · transposes_S512x512_S512x512_1_0) main_v395
  let main_v446 : FVec F S4x1024x512 .f32 := (fun l r => Host.dotGeneral dot_S4x1024x512_S512x512_S4x1024x512_2_0_01_1_n_n none l r) main_v444 main_v445
  let main_v447 : FVec F S1x1x512 .f32 := broadcastInDim S1x1x512 ![2] bcast_S512_S1x1x512_2 main_v397
  let main_v448 : FVec F S4x1024x512 .f32 := broadcastInDim S4x1024x512 ![0, 1, 2] bcast_S1x1x512_S4x1024x512_0_1_2 main_v447
  let main_v449 : FVec F S4x1024x512 .f32 := addf main_v446 main_v448
  let main_v450 : FVec F S4x1024x512 .f32 := addf main_v368 main_v449
  let main_cst_61 : FVec F S_ .f32 := constant S_ .f32 0x00000000#32
  let main_v451 : FVec F S4x1024 .f32 := (fun x v => Host.reduceAdd x v reducesTo_S4x1024x512_S4x1024_d2 h_S_) main_v450 main_cst_61
  let main_v452 : FVec F S4x1024x1 .f32 := broadcastInDim S4x1024x1 ![0, 1] bcast_S4x1024_S4x1024x1_0_1 main_v451
  let main_cst_62 : FVec F S_ .f32 := constant S_ .f32 0x44000000#32
  let main_v453 : FVec F S4x1024x1 .f32 := broadcastInDim S4x1024x1 ![] bcast_S_S4x1024x1 main_cst_62
  let main_v454 : FVec F S4x1024x1 .f32 := Host.divf main_v452 main_v453
  let main_v455 : FVec F S4x1024x512 .f32 := broadcastInDim S4x1024x512 ![0, 1, 2] bcast_S4x1024x1_S4x1024x512_0_1_2 main_v454
  let main_v456 : FVec F S4x1024x512 .f32 := subf main_v450 main_v455
  let main_v457 : FVec F S4x1024x512 .f32 := mulf main_v456 main_v456
  let main_cst_63 : FVec F S_ .f32 := constant S_ .f32 0x00000000#32
  let main_v458 : FVec F S4x1024 .f32 := (fun x v => Host.reduceAdd x v reducesTo_S4x1024x512_S4x1024_d2 h_S_) main_v457 main_cst_63
  let main_v459 : FVec F S4x1024x1 .f32 := broadcastInDim S4x1024x1 ![0, 1] bcast_S4x1024_S4x1024x1_0_1 main_v458
  let main_cst_64 : FVec F S_ .f32 := constant S_ .f32 0x44000000#32
  let main_v460 : FVec F S4x1024x1 .f32 := broadcastInDim S4x1024x1 ![] bcast_S_S4x1024x1 main_cst_64
  fn_part22 (F := F) main_arg2 main_arg3 main_v2 main_v5 main_v8 main_v11 main_v14 main_v17 main_v20 main_v23 main_v26 main_v29 main_v32 main_v35 main_v38 main_v59 main_v202 main_v389 main_v399 main_v401 main_v403 main_v405 main_v407 main_v409 main_v411 main_v413 main_v450 main_v454 main_v459 main_v460

def fn_part20 {F : FTy → Type} [FloatOps F] (main_arg2 : FVec F S4x1536x512 .f32) (main_arg3 : FVec F S4x1536 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v368 : FVec F S4x1024x512 .f32) (main_v389 : IVec S4x8x1024x1024 1) (main_v395 : FVec F S512x512 .f32) (main_v397 : FVec F S512 .f32) (main_v399 : FVec F S2048x512 .f32) (main_v401 : FVec F S2048 .f32) (main_v403 : FVec F S512x2048 .f32) (main_v405 : FVec F S512 .f32) (main_v407 : FVec F S512 .f32) (main_v409 : FVec F S512 .f32) (main_v411 : FVec F S512 .f32) (main_v413 : FVec F S512 .f32) (main_v418 : FVec F S4x1024x1536 .f32) (main_v419 : FVec F S4x1024x512 .f32) (main_v420 : FVec F S4x1024x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v421 : FVec F S4x1024x512 .f32 := (extractStridedSlice S4x1024x512 ![0, 0, 1024] · slices_S4x1024x1536_S4x1024x512_0_0_1024) main_v418
  let main_v422 : FVec F S4x1024x8x64 .f32 := shapeCast S4x1024x8x64 main_v419 shapeCasts_S4x1024x512_S4x1024x8x64
  let main_v423 : FVec F S4x8x1024x64 .f32 := (transpose S4x8x1024x64 [0, 2, 1, 3] · transposes_S4x1024x8x64_S4x8x1024x64_0_2_1_3) main_v422
  let main_v424 : FVec F S4x1024x8x64 .f32 := shapeCast S4x1024x8x64 main_v420 shapeCasts_S4x1024x512_S4x1024x8x64
  let main_v425 : FVec F S4x8x1024x64 .f32 := (transpose S4x8x1024x64 [0, 2, 1, 3] · transposes_S4x1024x8x64_S4x8x1024x64_0_2_1_3) main_v424
  let main_v426 : FVec F S4x1024x8x64 .f32 := shapeCast S4x1024x8x64 main_v421 shapeCasts_S4x1024x512_S4x1024x8x64
  let main_v427 : FVec F S4x8x1024x64 .f32 := (transpose S4x8x1024x64 [0, 2, 1, 3] · transposes_S4x1024x8x64_S4x8x1024x64_0_2_1_3) main_v426
  let main_v428 : FVec F S4x8x1024x1024 .f32 := (fun l r => Host.dotGeneral dot_S4x8x1024x64_S4x8x1024x64_S4x8x1024x1024_3_3_2_2_01_01 none l r) main_v423 main_v425
  let main_cst_57 : FVec F S_ .f32 := constant S_ .f32 0x3E000000#32
  let main_v429 : FVec F S4x8x1024x1024 .f32 := broadcastInDim S4x8x1024x1024 ![] bcast_S_S4x8x1024x1024 main_cst_57
  let main_v430 : FVec F S4x8x1024x1024 .f32 := mulf main_v428 main_v429
  let main_cst_58 : FVec F S_ .f32 := constant S_ .f32 0xFF800000#32
  let main_v431 : FVec F S4x8x1024 .f32 := (fun x v => Host.reduce FloatOps.maximumf x v reducesTo_S4x8x1024x1024_S4x8x1024_d3 h_S_) main_v430 main_cst_58
  let main_cst_59 : FVec F S_ .f32 := constant S_ .f32 0xFF800000#32
  let main_v432 : FVec F S4x8x1024 .f32 := broadcastInDim S4x8x1024 ![] bcast_S_S4x8x1024 main_cst_59
  let main_v433 : FVec F S4x8x1024 .f32 := maximumf main_v432 main_v431
  let main_v434 : FVec F S4x8x1024x1 .f32 := broadcastInDim S4x8x1024x1 ![0, 1, 2] bcast_S4x8x1024_S4x8x1024x1_0_1_2 main_v433
  let main_v435 : FVec F S4x8x1024x1024 .f32 := broadcastInDim S4x8x1024x1024 ![0, 1, 2, 3] bcast_S4x8x1024x1_S4x8x1024x1024_0_1_2_3 main_v434
  let main_v436 : FVec F S4x8x1024x1024 .f32 := subf main_v430 main_v435
  let main_v437 : FVec F S4x8x1024x1024 .f32 := Host.exp main_v436
  let main_cst_60 : FVec F S_ .f32 := constant S_ .f32 0x00000000#32
  let main_v438 : FVec F S4x8x1024 .f32 := (fun x v => Host.reduceAdd x v reducesTo_S4x8x1024x1024_S4x8x1024_d3 h_S_) main_v437 main_cst_60
  let main_v439 : FVec F S4x8x1024x1 .f32 := broadcastInDim S4x8x1024x1 ![0, 1, 2] bcast_S4x8x1024_S4x8x1024x1_0_1_2 main_v438
  let main_v440 : FVec F S4x8x1024x1024 .f32 := broadcastInDim S4x8x1024x1024 ![0, 1, 2, 3] bcast_S4x8x1024x1_S4x8x1024x1024_0_1_2_3 main_v439
  fn_part21 (F := F) main_arg2 main_arg3 main_v2 main_v5 main_v8 main_v11 main_v14 main_v17 main_v20 main_v23 main_v26 main_v29 main_v32 main_v35 main_v38 main_v59 main_v202 main_v368 main_v389 main_v395 main_v397 main_v399 main_v401 main_v403 main_v405 main_v407 main_v409 main_v411 main_v413 main_v427 main_v437 main_v440

def fn_part19 {F : FTy → Type} [FloatOps F] (main_arg2 : FVec F S4x1536x512 .f32) (main_arg3 : FVec F S4x1536 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v368 : FVec F S4x1024x512 .f32) (main_v389 : IVec S4x8x1024x1024 1) (main_v391 : FVec F S1536x512 .f32) (main_v393 : FVec F S1536 .f32) (main_v395 : FVec F S512x512 .f32) (main_v396 : FVec F S1x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v397 : FVec F S512 .f32 := shapeCast S512 main_v396 shapeCasts_S1x512_S512
  let main_v398 : FVec F S1x2048x512 .f32 := (extractStridedSlice S1x2048x512 ![2, 0, 0] · slices_S4x2048x512_S1x2048x512_2_0_0) main_arg6
  let main_v399 : FVec F S2048x512 .f32 := shapeCast S2048x512 main_v398 shapeCasts_S1x2048x512_S2048x512
  let main_v400 : FVec F S1x2048 .f32 := (extractStridedSlice S1x2048 ![2, 0] · slices_S4x2048_S1x2048_2_0) main_arg7
  let main_v401 : FVec F S2048 .f32 := shapeCast S2048 main_v400 shapeCasts_S1x2048_S2048
  let main_v402 : FVec F S1x512x2048 .f32 := (extractStridedSlice S1x512x2048 ![2, 0, 0] · slices_S4x512x2048_S1x512x2048_2_0_0) main_arg8
  let main_v403 : FVec F S512x2048 .f32 := shapeCast S512x2048 main_v402 shapeCasts_S1x512x2048_S512x2048
  let main_v404 : FVec F S1x512 .f32 := (extractStridedSlice S1x512 ![2, 0] · slices_S4x512_S1x512_2_0) main_arg9
  let main_v405 : FVec F S512 .f32 := shapeCast S512 main_v404 shapeCasts_S1x512_S512
  let main_v406 : FVec F S1x512 .f32 := (extractStridedSlice S1x512 ![2, 0] · slices_S4x512_S1x512_2_0) main_arg10
  let main_v407 : FVec F S512 .f32 := shapeCast S512 main_v406 shapeCasts_S1x512_S512
  let main_v408 : FVec F S1x512 .f32 := (extractStridedSlice S1x512 ![2, 0] · slices_S4x512_S1x512_2_0) main_arg11
  let main_v409 : FVec F S512 .f32 := shapeCast S512 main_v408 shapeCasts_S1x512_S512
  let main_v410 : FVec F S1x512 .f32 := (extractStridedSlice S1x512 ![2, 0] · slices_S4x512_S1x512_2_0) main_arg12
  let main_v411 : FVec F S512 .f32 := shapeCast S512 main_v410 shapeCasts_S1x512_S512
  let main_v412 : FVec F S1x512 .f32 := (extractStridedSlice S1x512 ![2, 0] · slices_S4x512_S1x512_2_0) main_arg13
  let main_v413 : FVec F S512 .f32 := shapeCast S512 main_v412 shapeCasts_S1x512_S512
  let main_v414 : FVec F S512x1536 .f32 := (transpose S512x1536 [1, 0] · transposes_S1536x512_S512x1536_1_0) main_v391
  let main_v415 : FVec F S4x1024x1536 .f32 := (fun l r => Host.dotGeneral dot_S4x1024x512_S512x1536_S4x1024x1536_2_0_01_1_n_n none l r) main_v368 main_v414
  let main_v416 : FVec F S1x1x1536 .f32 := broadcastInDim S1x1x1536 ![2] bcast_S1536_S1x1x1536_2 main_v393
  let main_v417 : FVec F S4x1024x1536 .f32 := broadcastInDim S4x1024x1536 ![0, 1, 2] bcast_S1x1x1536_S4x1024x1536_0_1_2 main_v416
  let main_v418 : FVec F S4x1024x1536 .f32 := addf main_v415 main_v417
  let main_v419 : FVec F S4x1024x512 .f32 := (extractStridedSlice S4x1024x512 ![0, 0, 0] · slices_S4x1024x1536_S4x1024x512_0_0_0) main_v418
  let main_v420 : FVec F S4x1024x512 .f32 := (extractStridedSlice S4x1024x512 ![0, 0, 512] · slices_S4x1024x1536_S4x1024x512_0_0_512) main_v418
  fn_part20 (F := F) main_arg2 main_arg3 main_v2 main_v5 main_v8 main_v11 main_v14 main_v17 main_v20 main_v23 main_v26 main_v29 main_v32 main_v35 main_v38 main_v59 main_v202 main_v368 main_v389 main_v395 main_v397 main_v399 main_v401 main_v403 main_v405 main_v407 main_v409 main_v411 main_v413 main_v418 main_v419 main_v420

def fn_part18 {F : FTy → Type} [FloatOps F] (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v368 : FVec F S4x1024x512 .f32) (main_v372 : FVec F S1536 .f32) (main_v374 : FVec F S4x1024x1536 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v375 : FVec F S1x1x1536 .f32 := broadcastInDim S1x1x1536 ![2] bcast_S1536_S1x1x1536_2 main_v372
  let main_v376 : FVec F S4x1024x1536 .f32 := broadcastInDim S4x1024x1536 ![0, 1, 2] bcast_S1x1x1536_S4x1024x1536_0_1_2 main_v375
  let main_v377 : FVec F S4x1024x1536 .f32 := addf main_v374 main_v376
  let main_v378 : FVec F S4x1024x512 .f32 := (extractStridedSlice S4x1024x512 ![0, 0, 0] · slices_S4x1024x1536_S4x1024x512_0_0_0) main_v377
  let main_v379 : FVec F S4x1024x512 .f32 := (extractStridedSlice S4x1024x512 ![0, 0, 512] · slices_S4x1024x1536_S4x1024x512_0_0_512) main_v377
  let main_v380 : FVec F S4x1024x512 .f32 := (extractStridedSlice S4x1024x512 ![0, 0, 1024] · slices_S4x1024x1536_S4x1024x512_0_0_1024) main_v377
  let main_v381 : FVec F S4x1024x8x64 .f32 := shapeCast S4x1024x8x64 main_v378 shapeCasts_S4x1024x512_S4x1024x8x64
  let main_v382 : FVec F S4x8x1024x64 .f32 := (transpose S4x8x1024x64 [0, 2, 1, 3] · transposes_S4x1024x8x64_S4x8x1024x64_0_2_1_3) main_v381
  let main_v383 : FVec F S4x1024x8x64 .f32 := shapeCast S4x1024x8x64 main_v379 shapeCasts_S4x1024x512_S4x1024x8x64
  let main_v384 : FVec F S4x8x1024x64 .f32 := (transpose S4x8x1024x64 [0, 2, 1, 3] · transposes_S4x1024x8x64_S4x8x1024x64_0_2_1_3) main_v383
  let main_v385 : FVec F S4x8x1024x1024 .f32 := (fun l r => Host.dotGeneral dot_S4x8x1024x64_S4x8x1024x64_S4x8x1024x1024_3_3_2_2_01_01 none l r) main_v382 main_v384
  let main_cst_55 : FVec F S_ .f32 := constant S_ .f32 0x3E000000#32
  let main_v386 : FVec F S4x8x1024x1024 .f32 := broadcastInDim S4x8x1024x1024 ![] bcast_S_S4x8x1024x1024 main_cst_55
  let main_v387 : FVec F S4x8x1024x1024 .f32 := mulf main_v385 main_v386
  let main_cst_56 : FVec F S_ .f32 := constant S_ .f32 0x42A00000#32
  let main_v388 : FVec F S4x8x1024x1024 .f32 := broadcastInDim S4x8x1024x1024 ![] bcast_S_S4x8x1024x1024 main_cst_56
  let main_v389 : IVec S4x8x1024x1024 1 := cmpf .ole main_v387 main_v388
  let main_v390 : FVec F S1x1536x512 .f32 := (extractStridedSlice S1x1536x512 ![2, 0, 0] · slices_S4x1536x512_S1x1536x512_2_0_0) main_arg2
  let main_v391 : FVec F S1536x512 .f32 := shapeCast S1536x512 main_v390 shapeCasts_S1x1536x512_S1536x512
  let main_v392 : FVec F S1x1536 .f32 := (extractStridedSlice S1x1536 ![2, 0] · slices_S4x1536_S1x1536_2_0) main_arg3
  let main_v393 : FVec F S1536 .f32 := shapeCast S1536 main_v392 shapeCasts_S1x1536_S1536
  let main_v394 : FVec F S1x512x512 .f32 := (extractStridedSlice S1x512x512 ![2, 0, 0] · slices_S4x512x512_S1x512x512_2_0_0) main_arg4
  let main_v395 : FVec F S512x512 .f32 := shapeCast S512x512 main_v394 shapeCasts_S1x512x512_S512x512
  let main_v396 : FVec F S1x512 .f32 := (extractStridedSlice S1x512 ![2, 0] · slices_S4x512_S1x512_2_0) main_arg5
  fn_part19 (F := F) main_arg2 main_arg3 main_arg6 main_arg7 main_arg8 main_arg9 main_arg10 main_arg11 main_arg12 main_arg13 main_v2 main_v5 main_v8 main_v11 main_v14 main_v17 main_v20 main_v23 main_v26 main_v29 main_v32 main_v35 main_v38 main_v59 main_v202 main_v368 main_v389 main_v391 main_v393 main_v395 main_v396

def fn_part17 {F : FTy → Type} [FloatOps F] (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v336 : IVec S4 32) (main_v348 : FVec F S4x2048x512 .f32) (main_v352 : FVec F S8192 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v353 : FVec F S4x2048 .f32 := shapeCast S4x2048 main_v352 shapeCasts_S8192_S4x2048
  let main_cst_53 : FVec F S_ .f32 := constant S_ .f32 0x3F800000#32
  let main_v354 : FVec F S4x2048 .f32 := broadcastInDim S4x2048 ![] bcast_S_S4x2048 main_cst_53
  let main_v355 : FVec F S4x2048 .f32 := maximumf main_v353 main_v354
  let main_v356 : FVec F S4x2048x1 .f32 := broadcastInDim S4x2048x1 ![0, 1] bcast_S4x2048_S4x2048x1_0_1 main_v355
  let main_v357 : FVec F S4x2048x512 .f32 := broadcastInDim S4x2048x512 ![0, 1, 2] bcast_S4x2048x1_S4x2048x512_0_1_2 main_v356
  let main_v358 : FVec F S4x2048x512 .f32 := Host.divf main_v348 main_v357
  let main_v359 : IVec S2048 32 := iotaInDim S2048 32 0
  let main_v360 : IVec S1x2048 32 := broadcastInDim S1x2048 ![1] bcast_S2048_S1x2048_1 main_v359
  let main_v361 : IVec S4x1 32 := broadcastInDim S4x1 ![0] bcast_S4_S4x1_0 main_v336
  let main_v362 : IVec S4x2048 32 := broadcastInDim S4x2048 ![0, 1] bcast_S1x2048_S4x2048_0_1 main_v360
  let main_v363 : IVec S4x2048 32 := broadcastInDim S4x2048 ![0, 1] bcast_S4x1_S4x2048_0_1 main_v361
  let main_v364 : IVec S4x2048 1 := cmpi .slt main_v362 main_v363
  let main_v365 : IVec S4x2048x512 1 := broadcastInDim S4x2048x512 ![0, 1] bcast_S4x2048_S4x2048x512_0_1 main_v364
  let main_cst_54 : FVec F S_ .f32 := constant S_ .f32 0x00000000#32
  let main_v366 : FVec F S4x2048x512 .f32 := broadcastInDim S4x2048x512 ![] bcast_S_S4x2048x512 main_cst_54
  let main_v367 : FVec F S4x2048x512 .f32 := select main_v365 main_v358 main_v366
  let main_v368 : FVec F S4x1024x512 .f32 := (extractStridedSlice S4x1024x512 ![0, 0, 0] · slices_S4x2048x512_S4x1024x512_0_0_0) main_v367
  let main_v369 : FVec F S1x1536x512 .f32 := (extractStridedSlice S1x1536x512 ![2, 0, 0] · slices_S4x1536x512_S1x1536x512_2_0_0) main_arg2
  let main_v370 : FVec F S1536x512 .f32 := shapeCast S1536x512 main_v369 shapeCasts_S1x1536x512_S1536x512
  let main_v371 : FVec F S1x1536 .f32 := (extractStridedSlice S1x1536 ![2, 0] · slices_S4x1536_S1x1536_2_0) main_arg3
  let main_v372 : FVec F S1536 .f32 := shapeCast S1536 main_v371 shapeCasts_S1x1536_S1536
  let main_v373 : FVec F S512x1536 .f32 := (transpose S512x1536 [1, 0] · transposes_S1536x512_S512x1536_1_0) main_v370
  let main_v374 : FVec F S4x1024x1536 .f32 := (fun l r => Host.dotGeneral dot_S4x1024x512_S512x1536_S4x1024x1536_2_0_01_1_n_n none l r) main_v368 main_v373
  fn_part18 (F := F) main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v202 main_v368 main_v372 main_v374

def fn_part16 {F : FTy → Type} [FloatOps F] (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v324 : FVec F S4x2048x512 .f32) (main_v332 : IVec S4x2048 32) (main_v333 : IVec S4x1 32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v334 : IVec S4 32 := shapeCast S4 main_v333 shapeCasts_S4x1_S4
  let main_c_48 : IVec S_ 32 := constantI S_ 32 1#32
  let main_v335 : IVec S4 32 := broadcastInDim S4 ![] bcast_S_S4 main_c_48
  let main_v336 : IVec S4 32 := addi main_v334 main_v335
  let main_v337 : IVec S4 32 := iotaInDim S4 32 0
  let main_v338 : IVec S4x1 32 := broadcastInDim S4x1 ![0] bcast_S4_S4x1_0 main_v337
  let main_c_49 : IVec S_ 32 := constantI S_ 32 2048#32
  let main_v339 : IVec S4x1 32 := broadcastInDim S4x1 ![] bcast_S_S4x1 main_c_49
  let main_v340 : IVec S4x1 32 := muli main_v339 main_v338
  let main_v341 : IVec S4x2048 32 := broadcastInDim S4x2048 ![0, 1] bcast_S4x1_S4x2048_0_1 main_v340
  let main_v342 : IVec S4x2048 32 := addi main_v332 main_v341
  let main_v343 : IVec S8192 32 := shapeCast S8192 main_v342 shapeCasts_S4x2048_S8192
  let main_v344 : FVec F S8192x512 .f32 := shapeCast S8192x512 main_v324 shapeCasts_S4x2048x512_S8192x512
  let main_cst_50 : FVec F S_ .f32 := constant S_ .f32 0x00000000#32
  let main_v345 : FVec F S8192x512 .f32 := broadcastInDim S8192x512 ![] bcast_S_S8192x512 main_cst_50
  let main_v346 : IVec S8192x1 32 := broadcastInDim S8192x1 ![0] bcast_S8192_S8192x1_0 main_v343
  let main_v347 : FVec F S8192x512 .f32 := (fun x i u => Host.scatterAdd scatter_S8192x512_S8192x1_S8192x512_1_0_0_1 x i u) main_v345 main_v346 main_v344
  let main_v348 : FVec F S4x2048x512 .f32 := shapeCast S4x2048x512 main_v347 shapeCasts_S8192x512_S4x2048x512
  let main_cst_51 : FVec F S_ .f32 := constant S_ .f32 0x3F800000#32
  let main_v349 : FVec F S8192 .f32 := broadcastInDim S8192 ![] bcast_S_S8192 main_cst_51
  let main_cst_52 : FVec F S_ .f32 := constant S_ .f32 0x00000000#32
  let main_v350 : FVec F S8192 .f32 := broadcastInDim S8192 ![] bcast_S_S8192 main_cst_52
  let main_v351 : IVec S8192x1 32 := broadcastInDim S8192x1 ![0] bcast_S8192_S8192x1_0 main_v343
  let main_v352 : FVec F S8192 .f32 := (fun x i u => Host.scatterAdd scatter_S8192_S8192x1_S8192_n_0_0_1 x i u) main_v350 main_v351 main_v349
  fn_part17 (F := F) main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v202 main_v336 main_v348 main_v352

def fn_part15 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v224 : FVec F S512 .f32) (main_v226 : FVec F S512 .f32) (main_v311 : FVec F S4x2048x1 .f32) (main_v313 : FVec F S4x2048x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_cst_45 : FVec F S_ .f32 := constant S_ .f32 0x3727C5AC#32
  let main_v314 : FVec F S4x2048x1 .f32 := broadcastInDim S4x2048x1 ![] bcast_S_S4x2048x1 main_cst_45
  let main_v315 : FVec F S4x2048x1 .f32 := addf main_v311 main_v314
  let main_v316 : FVec F S4x2048x1 .f32 := Host.sqrt main_v315
  let main_v317 : FVec F S4x2048x512 .f32 := broadcastInDim S4x2048x512 ![0, 1, 2] bcast_S4x2048x1_S4x2048x512_0_1_2 main_v316
  let main_v318 : FVec F S4x2048x512 .f32 := Host.divf main_v313 main_v317
  let main_v319 : FVec F S1x1x512 .f32 := broadcastInDim S1x1x512 ![2] bcast_S512_S1x1x512_2 main_v224
  let main_v320 : FVec F S4x2048x512 .f32 := broadcastInDim S4x2048x512 ![0, 1, 2] bcast_S1x1x512_S4x2048x512_0_1_2 main_v319
  let main_v321 : FVec F S4x2048x512 .f32 := mulf main_v318 main_v320
  let main_v322 : FVec F S1x1x512 .f32 := broadcastInDim S1x1x512 ![2] bcast_S512_S1x1x512_2 main_v226
  let main_v323 : FVec F S4x2048x512 .f32 := broadcastInDim S4x2048x512 ![0, 1, 2] bcast_S1x1x512_S4x2048x512_0_1_2 main_v322
  let main_v324 : FVec F S4x2048x512 .f32 := addf main_v321 main_v323
  let main_cst_46 : FVec F S_ .f32 := constant S_ .f32 0x3F000000#32
  let main_v325 : FVec F S4x2048 .f32 := broadcastInDim S4x2048 ![] bcast_S_S4x2048 main_cst_46
  let main_v326 : IVec S4x2048 1 := cmpf .ogt main_arg1 main_v325
  let main_v327 : IVec S4x2048 32 := (extui 32 · natLt_1_32) main_v326
  let main_c : IVec S_ 32 := constantI S_ 32 0#32
  let main_v328 : IVec S1 32 := broadcastInDim S1 ![] bcast_S_S1 main_c
  let main_c_47 : IVec S_ 32 := constantI S_ 32 0#32
  let main_v329 : IVec S4 32 := broadcastInDim S4 ![] bcast_S_S4 main_c_47
  let main_v330 : IVec S4x2048 32 := (fun x i u => Host.scatter scatter_S4x2048_S1_S4_0_1_1_0 (fun _ b => b) x i u) main_v327 main_v328 main_v329
  let main_v331 : IVec S4x2048 32 := fn_cumsum (F := F) main_v330
  let main_v332 : IVec S4x2048 32 := subi main_v331 main_v330
  let main_v333 : IVec S4x1 32 := (extractStridedSlice S4x1 ![0, 2047] · slices_S4x2048_S4x1_0_2047) main_v332
  fn_part16 (F := F) main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v202 main_v324 main_v332 main_v333

def fn_part14 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v216 : FVec F S512x2048 .f32) (main_v218 : FVec F S512 .f32) (main_v224 : FVec F S512 .f32) (main_v226 : FVec F S512 .f32) (main_v287 : FVec F S4x2048x512 .f32) (main_v292 : FVec F S4x2048x2048 .f32) (main_v293 : FVec F S4x2048x2048 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v294 : FVec F S4x2048x2048 .f32 := maximumf main_v292 main_v293
  let main_v295 : FVec F S2048x512 .f32 := (transpose S2048x512 [1, 0] · transposes_S512x2048_S2048x512_1_0) main_v216
  let main_v296 : FVec F S4x2048x512 .f32 := (fun l r => Host.dotGeneral dot_S4x2048x2048_S2048x512_S4x2048x512_2_0_01_1_n_n none l r) main_v294 main_v295
  let main_v297 : FVec F S1x1x512 .f32 := broadcastInDim S1x1x512 ![2] bcast_S512_S1x1x512_2 main_v218
  let main_v298 : FVec F S4x2048x512 .f32 := broadcastInDim S4x2048x512 ![0, 1, 2] bcast_S1x1x512_S4x2048x512_0_1_2 main_v297
  let main_v299 : FVec F S4x2048x512 .f32 := addf main_v296 main_v298
  let main_v300 : FVec F S4x2048x512 .f32 := addf main_v287 main_v299
  let main_cst_41 : FVec F S_ .f32 := constant S_ .f32 0x00000000#32
  let main_v301 : FVec F S4x2048 .f32 := (fun x v => Host.reduceAdd x v reducesTo_S4x2048x512_S4x2048_d2 h_S_) main_v300 main_cst_41
  let main_v302 : FVec F S4x2048x1 .f32 := broadcastInDim S4x2048x1 ![0, 1] bcast_S4x2048_S4x2048x1_0_1 main_v301
  let main_cst_42 : FVec F S_ .f32 := constant S_ .f32 0x44000000#32
  let main_v303 : FVec F S4x2048x1 .f32 := broadcastInDim S4x2048x1 ![] bcast_S_S4x2048x1 main_cst_42
  let main_v304 : FVec F S4x2048x1 .f32 := Host.divf main_v302 main_v303
  let main_v305 : FVec F S4x2048x512 .f32 := broadcastInDim S4x2048x512 ![0, 1, 2] bcast_S4x2048x1_S4x2048x512_0_1_2 main_v304
  let main_v306 : FVec F S4x2048x512 .f32 := subf main_v300 main_v305
  let main_v307 : FVec F S4x2048x512 .f32 := mulf main_v306 main_v306
  let main_cst_43 : FVec F S_ .f32 := constant S_ .f32 0x00000000#32
  let main_v308 : FVec F S4x2048 .f32 := (fun x v => Host.reduceAdd x v reducesTo_S4x2048x512_S4x2048_d2 h_S_) main_v307 main_cst_43
  let main_v309 : FVec F S4x2048x1 .f32 := broadcastInDim S4x2048x1 ![0, 1] bcast_S4x2048_S4x2048x1_0_1 main_v308
  let main_cst_44 : FVec F S_ .f32 := constant S_ .f32 0x44000000#32
  let main_v310 : FVec F S4x2048x1 .f32 := broadcastInDim S4x2048x1 ![] bcast_S_S4x2048x1 main_cst_44
  let main_v311 : FVec F S4x2048x1 .f32 := Host.divf main_v309 main_v310
  let main_v312 : FVec F S4x2048x512 .f32 := broadcastInDim S4x2048x512 ![0, 1, 2] bcast_S4x2048x1_S4x2048x512_0_1_2 main_v304
  let main_v313 : FVec F S4x2048x512 .f32 := subf main_v300 main_v312
  fn_part15 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v202 main_v224 main_v226 main_v311 main_v313

def fn_part13 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v202 : IVec S4x8x2048x2048 1) (main_v212 : FVec F S2048x512 .f32) (main_v214 : FVec F S2048 .f32) (main_v216 : FVec F S512x2048 .f32) (main_v218 : FVec F S512 .f32) (main_v220 : FVec F S512 .f32) (main_v222 : FVec F S512 .f32) (main_v224 : FVec F S512 .f32) (main_v226 : FVec F S512 .f32) (main_v263 : FVec F S4x2048x512 .f32) (main_v267 : FVec F S4x2048x1 .f32) (main_v272 : FVec F S4x2048x1 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_cst_38 : FVec F S_ .f32 := constant S_ .f32 0x44000000#32
  let main_v273 : FVec F S4x2048x1 .f32 := broadcastInDim S4x2048x1 ![] bcast_S_S4x2048x1 main_cst_38
  let main_v274 : FVec F S4x2048x1 .f32 := Host.divf main_v272 main_v273
  let main_v275 : FVec F S4x2048x512 .f32 := broadcastInDim S4x2048x512 ![0, 1, 2] bcast_S4x2048x1_S4x2048x512_0_1_2 main_v267
  let main_v276 : FVec F S4x2048x512 .f32 := subf main_v263 main_v275
  let main_cst_39 : FVec F S_ .f32 := constant S_ .f32 0x3727C5AC#32
  let main_v277 : FVec F S4x2048x1 .f32 := broadcastInDim S4x2048x1 ![] bcast_S_S4x2048x1 main_cst_39
  let main_v278 : FVec F S4x2048x1 .f32 := addf main_v274 main_v277
  let main_v279 : FVec F S4x2048x1 .f32 := Host.sqrt main_v278
  let main_v280 : FVec F S4x2048x512 .f32 := broadcastInDim S4x2048x512 ![0, 1, 2] bcast_S4x2048x1_S4x2048x512_0_1_2 main_v279
  let main_v281 : FVec F S4x2048x512 .f32 := Host.divf main_v276 main_v280
  let main_v282 : FVec F S1x1x512 .f32 := broadcastInDim S1x1x512 ![2] bcast_S512_S1x1x512_2 main_v220
  let main_v283 : FVec F S4x2048x512 .f32 := broadcastInDim S4x2048x512 ![0, 1, 2] bcast_S1x1x512_S4x2048x512_0_1_2 main_v282
  let main_v284 : FVec F S4x2048x512 .f32 := mulf main_v281 main_v283
  let main_v285 : FVec F S1x1x512 .f32 := broadcastInDim S1x1x512 ![2] bcast_S512_S1x1x512_2 main_v222
  let main_v286 : FVec F S4x2048x512 .f32 := broadcastInDim S4x2048x512 ![0, 1, 2] bcast_S1x1x512_S4x2048x512_0_1_2 main_v285
  let main_v287 : FVec F S4x2048x512 .f32 := addf main_v284 main_v286
  let main_v288 : FVec F S512x2048 .f32 := (transpose S512x2048 [1, 0] · transposes_S2048x512_S512x2048_1_0) main_v212
  let main_v289 : FVec F S4x2048x2048 .f32 := (fun l r => Host.dotGeneral dot_S4x2048x512_S512x2048_S4x2048x2048_2_0_01_1_n_n none l r) main_v287 main_v288
  let main_v290 : FVec F S1x1x2048 .f32 := broadcastInDim S1x1x2048 ![2] bcast_S2048_S1x1x2048_2 main_v214
  let main_v291 : FVec F S4x2048x2048 .f32 := broadcastInDim S4x2048x2048 ![0, 1, 2] bcast_S1x1x2048_S4x2048x2048_0_1_2 main_v290
  let main_v292 : FVec F S4x2048x2048 .f32 := addf main_v289 main_v291
  let main_cst_40 : FVec F S_ .f32 := constant S_ .f32 0x00000000#32
  let main_v293 : FVec F S4x2048x2048 .f32 := broadcastInDim S4x2048x2048 ![] bcast_S_S4x2048x2048 main_cst_40
  fn_part14 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v202 main_v216 main_v218 main_v224 main_v226 main_v287 main_v292 main_v293

def fn_part12 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v181 : FVec F S4x2048x512 .f32) (main_v202 : IVec S4x8x2048x2048 1) (main_v208 : FVec F S512x512 .f32) (main_v210 : FVec F S512 .f32) (main_v212 : FVec F S2048x512 .f32) (main_v214 : FVec F S2048 .f32) (main_v216 : FVec F S512x2048 .f32) (main_v218 : FVec F S512 .f32) (main_v220 : FVec F S512 .f32) (main_v222 : FVec F S512 .f32) (main_v224 : FVec F S512 .f32) (main_v226 : FVec F S512 .f32) (main_v240 : FVec F S4x8x2048x64 .f32) (main_v250 : FVec F S4x8x2048x2048 .f32) (main_v251 : FVec F S4x8x2048 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v252 : FVec F S4x8x2048x1 .f32 := broadcastInDim S4x8x2048x1 ![0, 1, 2] bcast_S4x8x2048_S4x8x2048x1_0_1_2 main_v251
  let main_v253 : FVec F S4x8x2048x2048 .f32 := broadcastInDim S4x8x2048x2048 ![0, 1, 2, 3] bcast_S4x8x2048x1_S4x8x2048x2048_0_1_2_3 main_v252
  let main_v254 : FVec F S4x8x2048x2048 .f32 := Host.divf main_v250 main_v253
  let main_v255 : FVec F S4x8x2048x64 .f32 := (fun l r => Host.dotGeneral dot_S4x8x2048x2048_S4x8x2048x64_S4x8x2048x64_3_2_2_3_01_01 none l r) main_v254 main_v240
  let main_v256 : FVec F S4x2048x8x64 .f32 := (transpose S4x2048x8x64 [0, 2, 1, 3] · transposes_S4x8x2048x64_S4x2048x8x64_0_2_1_3) main_v255
  let main_v257 : FVec F S4x2048x512 .f32 := shapeCast S4x2048x512 main_v256 shapeCasts_S4x2048x8x64_S4x2048x512
  let main_v258 : FVec F S512x512 .f32 := (transpose S512x512 [1, 0] · transposes_S512x512_S512x512_1_0) main_v208
  let main_v259 : FVec F S4x2048x512 .f32 := (fun l r => Host.dotGeneral dot_S4x2048x512_S512x512_S4x2048x512_2_0_01_1_n_n none l r) main_v257 main_v258
  let main_v260 : FVec F S1x1x512 .f32 := broadcastInDim S1x1x512 ![2] bcast_S512_S1x1x512_2 main_v210
  let main_v261 : FVec F S4x2048x512 .f32 := broadcastInDim S4x2048x512 ![0, 1, 2] bcast_S1x1x512_S4x2048x512_0_1_2 main_v260
  let main_v262 : FVec F S4x2048x512 .f32 := addf main_v259 main_v261
  let main_v263 : FVec F S4x2048x512 .f32 := addf main_v181 main_v262
  let main_cst_35 : FVec F S_ .f32 := constant S_ .f32 0x00000000#32
  let main_v264 : FVec F S4x2048 .f32 := (fun x v => Host.reduceAdd x v reducesTo_S4x2048x512_S4x2048_d2 h_S_) main_v263 main_cst_35
  let main_v265 : FVec F S4x2048x1 .f32 := broadcastInDim S4x2048x1 ![0, 1] bcast_S4x2048_S4x2048x1_0_1 main_v264
  let main_cst_36 : FVec F S_ .f32 := constant S_ .f32 0x44000000#32
  let main_v266 : FVec F S4x2048x1 .f32 := broadcastInDim S4x2048x1 ![] bcast_S_S4x2048x1 main_cst_36
  let main_v267 : FVec F S4x2048x1 .f32 := Host.divf main_v265 main_v266
  let main_v268 : FVec F S4x2048x512 .f32 := broadcastInDim S4x2048x512 ![0, 1, 2] bcast_S4x2048x1_S4x2048x512_0_1_2 main_v267
  let main_v269 : FVec F S4x2048x512 .f32 := subf main_v263 main_v268
  let main_v270 : FVec F S4x2048x512 .f32 := mulf main_v269 main_v269
  let main_cst_37 : FVec F S_ .f32 := constant S_ .f32 0x00000000#32
  let main_v271 : FVec F S4x2048 .f32 := (fun x v => Host.reduceAdd x v reducesTo_S4x2048x512_S4x2048_d2 h_S_) main_v270 main_cst_37
  let main_v272 : FVec F S4x2048x1 .f32 := broadcastInDim S4x2048x1 ![0, 1] bcast_S4x2048_S4x2048x1_0_1 main_v271
  fn_part13 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v202 main_v212 main_v214 main_v216 main_v218 main_v220 main_v222 main_v224 main_v226 main_v263 main_v267 main_v272

def fn_part11 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v181 : FVec F S4x2048x512 .f32) (main_v202 : IVec S4x8x2048x2048 1) (main_v208 : FVec F S512x512 .f32) (main_v210 : FVec F S512 .f32) (main_v212 : FVec F S2048x512 .f32) (main_v214 : FVec F S2048 .f32) (main_v216 : FVec F S512x2048 .f32) (main_v218 : FVec F S512 .f32) (main_v220 : FVec F S512 .f32) (main_v222 : FVec F S512 .f32) (main_v224 : FVec F S512 .f32) (main_v226 : FVec F S512 .f32) (main_v231 : FVec F S4x2048x1536 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v232 : FVec F S4x2048x512 .f32 := (extractStridedSlice S4x2048x512 ![0, 0, 0] · slices_S4x2048x1536_S4x2048x512_0_0_0) main_v231
  let main_v233 : FVec F S4x2048x512 .f32 := (extractStridedSlice S4x2048x512 ![0, 0, 512] · slices_S4x2048x1536_S4x2048x512_0_0_512) main_v231
  let main_v234 : FVec F S4x2048x512 .f32 := (extractStridedSlice S4x2048x512 ![0, 0, 1024] · slices_S4x2048x1536_S4x2048x512_0_0_1024) main_v231
  let main_v235 : FVec F S4x2048x8x64 .f32 := shapeCast S4x2048x8x64 main_v232 shapeCasts_S4x2048x512_S4x2048x8x64
  let main_v236 : FVec F S4x8x2048x64 .f32 := (transpose S4x8x2048x64 [0, 2, 1, 3] · transposes_S4x2048x8x64_S4x8x2048x64_0_2_1_3) main_v235
  let main_v237 : FVec F S4x2048x8x64 .f32 := shapeCast S4x2048x8x64 main_v233 shapeCasts_S4x2048x512_S4x2048x8x64
  let main_v238 : FVec F S4x8x2048x64 .f32 := (transpose S4x8x2048x64 [0, 2, 1, 3] · transposes_S4x2048x8x64_S4x8x2048x64_0_2_1_3) main_v237
  let main_v239 : FVec F S4x2048x8x64 .f32 := shapeCast S4x2048x8x64 main_v234 shapeCasts_S4x2048x512_S4x2048x8x64
  let main_v240 : FVec F S4x8x2048x64 .f32 := (transpose S4x8x2048x64 [0, 2, 1, 3] · transposes_S4x2048x8x64_S4x8x2048x64_0_2_1_3) main_v239
  let main_v241 : FVec F S4x8x2048x2048 .f32 := (fun l r => Host.dotGeneral dot_S4x8x2048x64_S4x8x2048x64_S4x8x2048x2048_3_3_2_2_01_01 none l r) main_v236 main_v238
  let main_cst_31 : FVec F S_ .f32 := constant S_ .f32 0x3E000000#32
  let main_v242 : FVec F S4x8x2048x2048 .f32 := broadcastInDim S4x8x2048x2048 ![] bcast_S_S4x8x2048x2048 main_cst_31
  let main_v243 : FVec F S4x8x2048x2048 .f32 := mulf main_v241 main_v242
  let main_cst_32 : FVec F S_ .f32 := constant S_ .f32 0xFF800000#32
  let main_v244 : FVec F S4x8x2048 .f32 := (fun x v => Host.reduce FloatOps.maximumf x v reducesTo_S4x8x2048x2048_S4x8x2048_d3 h_S_) main_v243 main_cst_32
  let main_cst_33 : FVec F S_ .f32 := constant S_ .f32 0xFF800000#32
  let main_v245 : FVec F S4x8x2048 .f32 := broadcastInDim S4x8x2048 ![] bcast_S_S4x8x2048 main_cst_33
  let main_v246 : FVec F S4x8x2048 .f32 := maximumf main_v245 main_v244
  let main_v247 : FVec F S4x8x2048x1 .f32 := broadcastInDim S4x8x2048x1 ![0, 1, 2] bcast_S4x8x2048_S4x8x2048x1_0_1_2 main_v246
  let main_v248 : FVec F S4x8x2048x2048 .f32 := broadcastInDim S4x8x2048x2048 ![0, 1, 2, 3] bcast_S4x8x2048x1_S4x8x2048x2048_0_1_2_3 main_v247
  let main_v249 : FVec F S4x8x2048x2048 .f32 := subf main_v243 main_v248
  let main_v250 : FVec F S4x8x2048x2048 .f32 := Host.exp main_v249
  let main_cst_34 : FVec F S_ .f32 := constant S_ .f32 0x00000000#32
  let main_v251 : FVec F S4x8x2048 .f32 := (fun x v => Host.reduceAdd x v reducesTo_S4x8x2048x2048_S4x8x2048_d3 h_S_) main_v250 main_cst_34
  fn_part12 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v181 main_v202 main_v208 main_v210 main_v212 main_v214 main_v216 main_v218 main_v220 main_v222 main_v224 main_v226 main_v240 main_v250 main_v251

def fn_part10 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v181 : FVec F S4x2048x512 .f32) (main_v202 : IVec S4x8x2048x2048 1) (main_v204 : FVec F S1536x512 .f32) (main_v206 : FVec F S1536 .f32) (main_v207 : FVec F S1x512x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v208 : FVec F S512x512 .f32 := shapeCast S512x512 main_v207 shapeCasts_S1x512x512_S512x512
  let main_v209 : FVec F S1x512 .f32 := (extractStridedSlice S1x512 ![1, 0] · slices_S4x512_S1x512_1_0) main_arg5
  let main_v210 : FVec F S512 .f32 := shapeCast S512 main_v209 shapeCasts_S1x512_S512
  let main_v211 : FVec F S1x2048x512 .f32 := (extractStridedSlice S1x2048x512 ![1, 0, 0] · slices_S4x2048x512_S1x2048x512_1_0_0) main_arg6
  let main_v212 : FVec F S2048x512 .f32 := shapeCast S2048x512 main_v211 shapeCasts_S1x2048x512_S2048x512
  let main_v213 : FVec F S1x2048 .f32 := (extractStridedSlice S1x2048 ![1, 0] · slices_S4x2048_S1x2048_1_0) main_arg7
  let main_v214 : FVec F S2048 .f32 := shapeCast S2048 main_v213 shapeCasts_S1x2048_S2048
  let main_v215 : FVec F S1x512x2048 .f32 := (extractStridedSlice S1x512x2048 ![1, 0, 0] · slices_S4x512x2048_S1x512x2048_1_0_0) main_arg8
  let main_v216 : FVec F S512x2048 .f32 := shapeCast S512x2048 main_v215 shapeCasts_S1x512x2048_S512x2048
  let main_v217 : FVec F S1x512 .f32 := (extractStridedSlice S1x512 ![1, 0] · slices_S4x512_S1x512_1_0) main_arg9
  let main_v218 : FVec F S512 .f32 := shapeCast S512 main_v217 shapeCasts_S1x512_S512
  let main_v219 : FVec F S1x512 .f32 := (extractStridedSlice S1x512 ![1, 0] · slices_S4x512_S1x512_1_0) main_arg10
  let main_v220 : FVec F S512 .f32 := shapeCast S512 main_v219 shapeCasts_S1x512_S512
  let main_v221 : FVec F S1x512 .f32 := (extractStridedSlice S1x512 ![1, 0] · slices_S4x512_S1x512_1_0) main_arg11
  let main_v222 : FVec F S512 .f32 := shapeCast S512 main_v221 shapeCasts_S1x512_S512
  let main_v223 : FVec F S1x512 .f32 := (extractStridedSlice S1x512 ![1, 0] · slices_S4x512_S1x512_1_0) main_arg12
  let main_v224 : FVec F S512 .f32 := shapeCast S512 main_v223 shapeCasts_S1x512_S512
  let main_v225 : FVec F S1x512 .f32 := (extractStridedSlice S1x512 ![1, 0] · slices_S4x512_S1x512_1_0) main_arg13
  let main_v226 : FVec F S512 .f32 := shapeCast S512 main_v225 shapeCasts_S1x512_S512
  let main_v227 : FVec F S512x1536 .f32 := (transpose S512x1536 [1, 0] · transposes_S1536x512_S512x1536_1_0) main_v204
  let main_v228 : FVec F S4x2048x1536 .f32 := (fun l r => Host.dotGeneral dot_S4x2048x512_S512x1536_S4x2048x1536_2_0_01_1_n_n none l r) main_v181 main_v227
  let main_v229 : FVec F S1x1x1536 .f32 := broadcastInDim S1x1x1536 ![2] bcast_S1536_S1x1x1536_2 main_v206
  let main_v230 : FVec F S4x2048x1536 .f32 := broadcastInDim S4x2048x1536 ![0, 1, 2] bcast_S1x1x1536_S4x2048x1536_0_1_2 main_v229
  let main_v231 : FVec F S4x2048x1536 .f32 := addf main_v228 main_v230
  fn_part11 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v181 main_v202 main_v208 main_v210 main_v212 main_v214 main_v216 main_v218 main_v220 main_v222 main_v224 main_v226 main_v231

def fn_part9 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v181 : FVec F S4x2048x512 .f32) (main_v183 : FVec F S1536x512 .f32) (main_v185 : FVec F S1536 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v186 : FVec F S512x1536 .f32 := (transpose S512x1536 [1, 0] · transposes_S1536x512_S512x1536_1_0) main_v183
  let main_v187 : FVec F S4x2048x1536 .f32 := (fun l r => Host.dotGeneral dot_S4x2048x512_S512x1536_S4x2048x1536_2_0_01_1_n_n none l r) main_v181 main_v186
  let main_v188 : FVec F S1x1x1536 .f32 := broadcastInDim S1x1x1536 ![2] bcast_S1536_S1x1x1536_2 main_v185
  let main_v189 : FVec F S4x2048x1536 .f32 := broadcastInDim S4x2048x1536 ![0, 1, 2] bcast_S1x1x1536_S4x2048x1536_0_1_2 main_v188
  let main_v190 : FVec F S4x2048x1536 .f32 := addf main_v187 main_v189
  let main_v191 : FVec F S4x2048x512 .f32 := (extractStridedSlice S4x2048x512 ![0, 0, 0] · slices_S4x2048x1536_S4x2048x512_0_0_0) main_v190
  let main_v192 : FVec F S4x2048x512 .f32 := (extractStridedSlice S4x2048x512 ![0, 0, 512] · slices_S4x2048x1536_S4x2048x512_0_0_512) main_v190
  let main_v193 : FVec F S4x2048x512 .f32 := (extractStridedSlice S4x2048x512 ![0, 0, 1024] · slices_S4x2048x1536_S4x2048x512_0_0_1024) main_v190
  let main_v194 : FVec F S4x2048x8x64 .f32 := shapeCast S4x2048x8x64 main_v191 shapeCasts_S4x2048x512_S4x2048x8x64
  let main_v195 : FVec F S4x8x2048x64 .f32 := (transpose S4x8x2048x64 [0, 2, 1, 3] · transposes_S4x2048x8x64_S4x8x2048x64_0_2_1_3) main_v194
  let main_v196 : FVec F S4x2048x8x64 .f32 := shapeCast S4x2048x8x64 main_v192 shapeCasts_S4x2048x512_S4x2048x8x64
  let main_v197 : FVec F S4x8x2048x64 .f32 := (transpose S4x8x2048x64 [0, 2, 1, 3] · transposes_S4x2048x8x64_S4x8x2048x64_0_2_1_3) main_v196
  let main_v198 : FVec F S4x8x2048x2048 .f32 := (fun l r => Host.dotGeneral dot_S4x8x2048x64_S4x8x2048x64_S4x8x2048x2048_3_3_2_2_01_01 none l r) main_v195 main_v197
  let main_cst_29 : FVec F S_ .f32 := constant S_ .f32 0x3E000000#32
  let main_v199 : FVec F S4x8x2048x2048 .f32 := broadcastInDim S4x8x2048x2048 ![] bcast_S_S4x8x2048x2048 main_cst_29
  let main_v200 : FVec F S4x8x2048x2048 .f32 := mulf main_v198 main_v199
  let main_cst_30 : FVec F S_ .f32 := constant S_ .f32 0x42A00000#32
  let main_v201 : FVec F S4x8x2048x2048 .f32 := broadcastInDim S4x8x2048x2048 ![] bcast_S_S4x8x2048x2048 main_cst_30
  let main_v202 : IVec S4x8x2048x2048 1 := cmpf .ole main_v200 main_v201
  let main_v203 : FVec F S1x1536x512 .f32 := (extractStridedSlice S1x1536x512 ![1, 0, 0] · slices_S4x1536x512_S1x1536x512_1_0_0) main_arg2
  let main_v204 : FVec F S1536x512 .f32 := shapeCast S1536x512 main_v203 shapeCasts_S1x1536x512_S1536x512
  let main_v205 : FVec F S1x1536 .f32 := (extractStridedSlice S1x1536 ![1, 0] · slices_S4x1536_S1x1536_1_0) main_arg3
  let main_v206 : FVec F S1536 .f32 := shapeCast S1536 main_v205 shapeCasts_S1x1536_S1536
  let main_v207 : FVec F S1x512x512 .f32 := (extractStridedSlice S1x512x512 ![1, 0, 0] · slices_S4x512x512_S1x512x512_1_0_0) main_arg4
  fn_part10 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v181 main_v202 main_v204 main_v206 main_v207

def fn_part8 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v81 : FVec F S512 .f32) (main_v83 : FVec F S512 .f32) (main_v157 : FVec F S4x2048x512 .f32) (main_v161 : FVec F S4x2048x1 .f32) (main_v164 : FVec F S4x2048x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_cst_26 : FVec F S_ .f32 := constant S_ .f32 0x00000000#32
  let main_v165 : FVec F S4x2048 .f32 := (fun x v => Host.reduceAdd x v reducesTo_S4x2048x512_S4x2048_d2 h_S_) main_v164 main_cst_26
  let main_v166 : FVec F S4x2048x1 .f32 := broadcastInDim S4x2048x1 ![0, 1] bcast_S4x2048_S4x2048x1_0_1 main_v165
  let main_cst_27 : FVec F S_ .f32 := constant S_ .f32 0x44000000#32
  let main_v167 : FVec F S4x2048x1 .f32 := broadcastInDim S4x2048x1 ![] bcast_S_S4x2048x1 main_cst_27
  let main_v168 : FVec F S4x2048x1 .f32 := Host.divf main_v166 main_v167
  let main_v169 : FVec F S4x2048x512 .f32 := broadcastInDim S4x2048x512 ![0, 1, 2] bcast_S4x2048x1_S4x2048x512_0_1_2 main_v161
  let main_v170 : FVec F S4x2048x512 .f32 := subf main_v157 main_v169
  let main_cst_28 : FVec F S_ .f32 := constant S_ .f32 0x3727C5AC#32
  let main_v171 : FVec F S4x2048x1 .f32 := broadcastInDim S4x2048x1 ![] bcast_S_S4x2048x1 main_cst_28
  let main_v172 : FVec F S4x2048x1 .f32 := addf main_v168 main_v171
  let main_v173 : FVec F S4x2048x1 .f32 := Host.sqrt main_v172
  let main_v174 : FVec F S4x2048x512 .f32 := broadcastInDim S4x2048x512 ![0, 1, 2] bcast_S4x2048x1_S4x2048x512_0_1_2 main_v173
  let main_v175 : FVec F S4x2048x512 .f32 := Host.divf main_v170 main_v174
  let main_v176 : FVec F S1x1x512 .f32 := broadcastInDim S1x1x512 ![2] bcast_S512_S1x1x512_2 main_v81
  let main_v177 : FVec F S4x2048x512 .f32 := broadcastInDim S4x2048x512 ![0, 1, 2] bcast_S1x1x512_S4x2048x512_0_1_2 main_v176
  let main_v178 : FVec F S4x2048x512 .f32 := mulf main_v175 main_v177
  let main_v179 : FVec F S1x1x512 .f32 := broadcastInDim S1x1x512 ![2] bcast_S512_S1x1x512_2 main_v83
  let main_v180 : FVec F S4x2048x512 .f32 := broadcastInDim S4x2048x512 ![0, 1, 2] bcast_S1x1x512_S4x2048x512_0_1_2 main_v179
  let main_v181 : FVec F S4x2048x512 .f32 := addf main_v178 main_v180
  let main_v182 : FVec F S1x1536x512 .f32 := (extractStridedSlice S1x1536x512 ![1, 0, 0] · slices_S4x1536x512_S1x1536x512_1_0_0) main_arg2
  let main_v183 : FVec F S1536x512 .f32 := shapeCast S1536x512 main_v182 shapeCasts_S1x1536x512_S1536x512
  let main_v184 : FVec F S1x1536 .f32 := (extractStridedSlice S1x1536 ![1, 0] · slices_S4x1536_S1x1536_1_0) main_arg3
  let main_v185 : FVec F S1536 .f32 := shapeCast S1536 main_v184 shapeCasts_S1x1536_S1536
  fn_part9 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v181 main_v183 main_v185

def fn_part7 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v69 : FVec F S2048x512 .f32) (main_v71 : FVec F S2048 .f32) (main_v73 : FVec F S512x2048 .f32) (main_v75 : FVec F S512 .f32) (main_v81 : FVec F S512 .f32) (main_v83 : FVec F S512 .f32) (main_v141 : FVec F S4x2048x512 .f32) (main_v143 : FVec F S4x2048x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v144 : FVec F S4x2048x512 .f32 := addf main_v141 main_v143
  let main_v145 : FVec F S512x2048 .f32 := (transpose S512x2048 [1, 0] · transposes_S2048x512_S512x2048_1_0) main_v69
  let main_v146 : FVec F S4x2048x2048 .f32 := (fun l r => Host.dotGeneral dot_S4x2048x512_S512x2048_S4x2048x2048_2_0_01_1_n_n none l r) main_v144 main_v145
  let main_v147 : FVec F S1x1x2048 .f32 := broadcastInDim S1x1x2048 ![2] bcast_S2048_S1x1x2048_2 main_v71
  let main_v148 : FVec F S4x2048x2048 .f32 := broadcastInDim S4x2048x2048 ![0, 1, 2] bcast_S1x1x2048_S4x2048x2048_0_1_2 main_v147
  let main_v149 : FVec F S4x2048x2048 .f32 := addf main_v146 main_v148
  let main_cst_23 : FVec F S_ .f32 := constant S_ .f32 0x00000000#32
  let main_v150 : FVec F S4x2048x2048 .f32 := broadcastInDim S4x2048x2048 ![] bcast_S_S4x2048x2048 main_cst_23
  let main_v151 : FVec F S4x2048x2048 .f32 := maximumf main_v149 main_v150
  let main_v152 : FVec F S2048x512 .f32 := (transpose S2048x512 [1, 0] · transposes_S512x2048_S2048x512_1_0) main_v73
  let main_v153 : FVec F S4x2048x512 .f32 := (fun l r => Host.dotGeneral dot_S4x2048x2048_S2048x512_S4x2048x512_2_0_01_1_n_n none l r) main_v151 main_v152
  let main_v154 : FVec F S1x1x512 .f32 := broadcastInDim S1x1x512 ![2] bcast_S512_S1x1x512_2 main_v75
  let main_v155 : FVec F S4x2048x512 .f32 := broadcastInDim S4x2048x512 ![0, 1, 2] bcast_S1x1x512_S4x2048x512_0_1_2 main_v154
  let main_v156 : FVec F S4x2048x512 .f32 := addf main_v153 main_v155
  let main_v157 : FVec F S4x2048x512 .f32 := addf main_v144 main_v156
  let main_cst_24 : FVec F S_ .f32 := constant S_ .f32 0x00000000#32
  let main_v158 : FVec F S4x2048 .f32 := (fun x v => Host.reduceAdd x v reducesTo_S4x2048x512_S4x2048_d2 h_S_) main_v157 main_cst_24
  let main_v159 : FVec F S4x2048x1 .f32 := broadcastInDim S4x2048x1 ![0, 1] bcast_S4x2048_S4x2048x1_0_1 main_v158
  let main_cst_25 : FVec F S_ .f32 := constant S_ .f32 0x44000000#32
  let main_v160 : FVec F S4x2048x1 .f32 := broadcastInDim S4x2048x1 ![] bcast_S_S4x2048x1 main_cst_25
  let main_v161 : FVec F S4x2048x1 .f32 := Host.divf main_v159 main_v160
  let main_v162 : FVec F S4x2048x512 .f32 := broadcastInDim S4x2048x512 ![0, 1, 2] bcast_S4x2048x1_S4x2048x512_0_1_2 main_v161
  let main_v163 : FVec F S4x2048x512 .f32 := subf main_v157 main_v162
  let main_v164 : FVec F S4x2048x512 .f32 := mulf main_v163 main_v163
  fn_part8 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v81 main_v83 main_v157 main_v161 main_v164

def fn_part6 {F : FTy → Type} [FloatOps F] (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v69 : FVec F S2048x512 .f32) (main_v71 : FVec F S2048 .f32) (main_v73 : FVec F S512x2048 .f32) (main_v75 : FVec F S512 .f32) (main_v77 : FVec F S512 .f32) (main_v79 : FVec F S512 .f32) (main_v81 : FVec F S512 .f32) (main_v83 : FVec F S512 .f32) (main_v120 : FVec F S4x2048x512 .f32) (main_v122 : FVec F S4x2048x1 .f32) (main_cst_19 : FVec F S_ .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v123 : FVec F S4x2048x1 .f32 := broadcastInDim S4x2048x1 ![] bcast_S_S4x2048x1 main_cst_19
  let main_v124 : FVec F S4x2048x1 .f32 := Host.divf main_v122 main_v123
  let main_v125 : FVec F S4x2048x512 .f32 := broadcastInDim S4x2048x512 ![0, 1, 2] bcast_S4x2048x1_S4x2048x512_0_1_2 main_v124
  let main_v126 : FVec F S4x2048x512 .f32 := subf main_v120 main_v125
  let main_v127 : FVec F S4x2048x512 .f32 := mulf main_v126 main_v126
  let main_cst_20 : FVec F S_ .f32 := constant S_ .f32 0x00000000#32
  let main_v128 : FVec F S4x2048 .f32 := (fun x v => Host.reduceAdd x v reducesTo_S4x2048x512_S4x2048_d2 h_S_) main_v127 main_cst_20
  let main_v129 : FVec F S4x2048x1 .f32 := broadcastInDim S4x2048x1 ![0, 1] bcast_S4x2048_S4x2048x1_0_1 main_v128
  let main_cst_21 : FVec F S_ .f32 := constant S_ .f32 0x44000000#32
  let main_v130 : FVec F S4x2048x1 .f32 := broadcastInDim S4x2048x1 ![] bcast_S_S4x2048x1 main_cst_21
  let main_v131 : FVec F S4x2048x1 .f32 := Host.divf main_v129 main_v130
  let main_v132 : FVec F S4x2048x512 .f32 := broadcastInDim S4x2048x512 ![0, 1, 2] bcast_S4x2048x1_S4x2048x512_0_1_2 main_v124
  let main_v133 : FVec F S4x2048x512 .f32 := subf main_v120 main_v132
  let main_cst_22 : FVec F S_ .f32 := constant S_ .f32 0x3727C5AC#32
  let main_v134 : FVec F S4x2048x1 .f32 := broadcastInDim S4x2048x1 ![] bcast_S_S4x2048x1 main_cst_22
  let main_v135 : FVec F S4x2048x1 .f32 := addf main_v131 main_v134
  let main_v136 : FVec F S4x2048x1 .f32 := Host.sqrt main_v135
  let main_v137 : FVec F S4x2048x512 .f32 := broadcastInDim S4x2048x512 ![0, 1, 2] bcast_S4x2048x1_S4x2048x512_0_1_2 main_v136
  let main_v138 : FVec F S4x2048x512 .f32 := Host.divf main_v133 main_v137
  let main_v139 : FVec F S1x1x512 .f32 := broadcastInDim S1x1x512 ![2] bcast_S512_S1x1x512_2 main_v77
  let main_v140 : FVec F S4x2048x512 .f32 := broadcastInDim S4x2048x512 ![0, 1, 2] bcast_S1x1x512_S4x2048x512_0_1_2 main_v139
  let main_v141 : FVec F S4x2048x512 .f32 := mulf main_v138 main_v140
  let main_v142 : FVec F S1x1x512 .f32 := broadcastInDim S1x1x512 ![2] bcast_S512_S1x1x512_2 main_v79
  let main_v143 : FVec F S4x2048x512 .f32 := broadcastInDim S4x2048x512 ![0, 1, 2] bcast_S1x1x512_S4x2048x512_0_1_2 main_v142
  fn_part7 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v69 main_v71 main_v73 main_v75 main_v81 main_v83 main_v141 main_v143

def fn_part5 {F : FTy → Type} [FloatOps F] (main_arg0 : FVec F S4x2048x512 .f32) (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v65 : FVec F S512x512 .f32) (main_v67 : FVec F S512 .f32) (main_v69 : FVec F S2048x512 .f32) (main_v71 : FVec F S2048 .f32) (main_v73 : FVec F S512x2048 .f32) (main_v75 : FVec F S512 .f32) (main_v77 : FVec F S512 .f32) (main_v79 : FVec F S512 .f32) (main_v81 : FVec F S512 .f32) (main_v83 : FVec F S512 .f32) (main_v97 : FVec F S4x8x2048x64 .f32) (main_v100 : FVec F S4x8x2048x2048 .f32) (main_v101 : FVec F S4x8x2048 .f32) (main_cst_16 : FVec F S_ .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v102 : FVec F S4x8x2048 .f32 := broadcastInDim S4x8x2048 ![] bcast_S_S4x8x2048 main_cst_16
  let main_v103 : FVec F S4x8x2048 .f32 := maximumf main_v102 main_v101
  let main_v104 : FVec F S4x8x2048x1 .f32 := broadcastInDim S4x8x2048x1 ![0, 1, 2] bcast_S4x8x2048_S4x8x2048x1_0_1_2 main_v103
  let main_v105 : FVec F S4x8x2048x2048 .f32 := broadcastInDim S4x8x2048x2048 ![0, 1, 2, 3] bcast_S4x8x2048x1_S4x8x2048x2048_0_1_2_3 main_v104
  let main_v106 : FVec F S4x8x2048x2048 .f32 := subf main_v100 main_v105
  let main_v107 : FVec F S4x8x2048x2048 .f32 := Host.exp main_v106
  let main_cst_17 : FVec F S_ .f32 := constant S_ .f32 0x00000000#32
  let main_v108 : FVec F S4x8x2048 .f32 := (fun x v => Host.reduceAdd x v reducesTo_S4x8x2048x2048_S4x8x2048_d3 h_S_) main_v107 main_cst_17
  let main_v109 : FVec F S4x8x2048x1 .f32 := broadcastInDim S4x8x2048x1 ![0, 1, 2] bcast_S4x8x2048_S4x8x2048x1_0_1_2 main_v108
  let main_v110 : FVec F S4x8x2048x2048 .f32 := broadcastInDim S4x8x2048x2048 ![0, 1, 2, 3] bcast_S4x8x2048x1_S4x8x2048x2048_0_1_2_3 main_v109
  let main_v111 : FVec F S4x8x2048x2048 .f32 := Host.divf main_v107 main_v110
  let main_v112 : FVec F S4x8x2048x64 .f32 := (fun l r => Host.dotGeneral dot_S4x8x2048x2048_S4x8x2048x64_S4x8x2048x64_3_2_2_3_01_01 none l r) main_v111 main_v97
  let main_v113 : FVec F S4x2048x8x64 .f32 := (transpose S4x2048x8x64 [0, 2, 1, 3] · transposes_S4x8x2048x64_S4x2048x8x64_0_2_1_3) main_v112
  let main_v114 : FVec F S4x2048x512 .f32 := shapeCast S4x2048x512 main_v113 shapeCasts_S4x2048x8x64_S4x2048x512
  let main_v115 : FVec F S512x512 .f32 := (transpose S512x512 [1, 0] · transposes_S512x512_S512x512_1_0) main_v65
  let main_v116 : FVec F S4x2048x512 .f32 := (fun l r => Host.dotGeneral dot_S4x2048x512_S512x512_S4x2048x512_2_0_01_1_n_n none l r) main_v114 main_v115
  let main_v117 : FVec F S1x1x512 .f32 := broadcastInDim S1x1x512 ![2] bcast_S512_S1x1x512_2 main_v67
  let main_v118 : FVec F S4x2048x512 .f32 := broadcastInDim S4x2048x512 ![0, 1, 2] bcast_S1x1x512_S4x2048x512_0_1_2 main_v117
  let main_v119 : FVec F S4x2048x512 .f32 := addf main_v116 main_v118
  let main_v120 : FVec F S4x2048x512 .f32 := addf main_arg0 main_v119
  let main_cst_18 : FVec F S_ .f32 := constant S_ .f32 0x00000000#32
  let main_v121 : FVec F S4x2048 .f32 := (fun x v => Host.reduceAdd x v reducesTo_S4x2048x512_S4x2048_d2 h_S_) main_v120 main_cst_18
  let main_v122 : FVec F S4x2048x1 .f32 := broadcastInDim S4x2048x1 ![0, 1] bcast_S4x2048_S4x2048x1_0_1 main_v121
  let main_cst_19 : FVec F S_ .f32 := constant S_ .f32 0x44000000#32
  fn_part6 (F := F) main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v69 main_v71 main_v73 main_v75 main_v77 main_v79 main_v81 main_v83 main_v120 main_v122 main_cst_19

def fn_part4 {F : FTy → Type} [FloatOps F] (main_arg0 : FVec F S4x2048x512 .f32) (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v59 : IVec S4x8x2048x2048 1) (main_v61 : FVec F S1536x512 .f32) (main_v63 : FVec F S1536 .f32) (main_v65 : FVec F S512x512 .f32) (main_v67 : FVec F S512 .f32) (main_v69 : FVec F S2048x512 .f32) (main_v71 : FVec F S2048 .f32) (main_v73 : FVec F S512x2048 .f32) (main_v75 : FVec F S512 .f32) (main_v77 : FVec F S512 .f32) (main_v79 : FVec F S512 .f32) (main_v80 : FVec F S1x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v81 : FVec F S512 .f32 := shapeCast S512 main_v80 shapeCasts_S1x512_S512
  let main_v82 : FVec F S1x512 .f32 := (extractStridedSlice S1x512 ![0, 0] · slices_S4x512_S1x512_0_0) main_arg13
  let main_v83 : FVec F S512 .f32 := shapeCast S512 main_v82 shapeCasts_S1x512_S512
  let main_v84 : FVec F S512x1536 .f32 := (transpose S512x1536 [1, 0] · transposes_S1536x512_S512x1536_1_0) main_v61
  let main_v85 : FVec F S4x2048x1536 .f32 := (fun l r => Host.dotGeneral dot_S4x2048x512_S512x1536_S4x2048x1536_2_0_01_1_n_n none l r) main_arg0 main_v84
  let main_v86 : FVec F S1x1x1536 .f32 := broadcastInDim S1x1x1536 ![2] bcast_S1536_S1x1x1536_2 main_v63
  let main_v87 : FVec F S4x2048x1536 .f32 := broadcastInDim S4x2048x1536 ![0, 1, 2] bcast_S1x1x1536_S4x2048x1536_0_1_2 main_v86
  let main_v88 : FVec F S4x2048x1536 .f32 := addf main_v85 main_v87
  let main_v89 : FVec F S4x2048x512 .f32 := (extractStridedSlice S4x2048x512 ![0, 0, 0] · slices_S4x2048x1536_S4x2048x512_0_0_0) main_v88
  let main_v90 : FVec F S4x2048x512 .f32 := (extractStridedSlice S4x2048x512 ![0, 0, 512] · slices_S4x2048x1536_S4x2048x512_0_0_512) main_v88
  let main_v91 : FVec F S4x2048x512 .f32 := (extractStridedSlice S4x2048x512 ![0, 0, 1024] · slices_S4x2048x1536_S4x2048x512_0_0_1024) main_v88
  let main_v92 : FVec F S4x2048x8x64 .f32 := shapeCast S4x2048x8x64 main_v89 shapeCasts_S4x2048x512_S4x2048x8x64
  let main_v93 : FVec F S4x8x2048x64 .f32 := (transpose S4x8x2048x64 [0, 2, 1, 3] · transposes_S4x2048x8x64_S4x8x2048x64_0_2_1_3) main_v92
  let main_v94 : FVec F S4x2048x8x64 .f32 := shapeCast S4x2048x8x64 main_v90 shapeCasts_S4x2048x512_S4x2048x8x64
  let main_v95 : FVec F S4x8x2048x64 .f32 := (transpose S4x8x2048x64 [0, 2, 1, 3] · transposes_S4x2048x8x64_S4x8x2048x64_0_2_1_3) main_v94
  let main_v96 : FVec F S4x2048x8x64 .f32 := shapeCast S4x2048x8x64 main_v91 shapeCasts_S4x2048x512_S4x2048x8x64
  let main_v97 : FVec F S4x8x2048x64 .f32 := (transpose S4x8x2048x64 [0, 2, 1, 3] · transposes_S4x2048x8x64_S4x8x2048x64_0_2_1_3) main_v96
  let main_v98 : FVec F S4x8x2048x2048 .f32 := (fun l r => Host.dotGeneral dot_S4x8x2048x64_S4x8x2048x64_S4x8x2048x2048_3_3_2_2_01_01 none l r) main_v93 main_v95
  let main_cst_14 : FVec F S_ .f32 := constant S_ .f32 0x3E000000#32
  let main_v99 : FVec F S4x8x2048x2048 .f32 := broadcastInDim S4x8x2048x2048 ![] bcast_S_S4x8x2048x2048 main_cst_14
  let main_v100 : FVec F S4x8x2048x2048 .f32 := mulf main_v98 main_v99
  let main_cst_15 : FVec F S_ .f32 := constant S_ .f32 0xFF800000#32
  let main_v101 : FVec F S4x8x2048 .f32 := (fun x v => Host.reduce FloatOps.maximumf x v reducesTo_S4x8x2048x2048_S4x8x2048_d3 h_S_) main_v100 main_cst_15
  let main_cst_16 : FVec F S_ .f32 := constant S_ .f32 0xFF800000#32
  fn_part5 (F := F) main_arg0 main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v65 main_v67 main_v69 main_v71 main_v73 main_v75 main_v77 main_v79 main_v81 main_v83 main_v97 main_v100 main_v101 main_cst_16

def fn_part3 {F : FTy → Type} [FloatOps F] (main_arg0 : FVec F S4x2048x512 .f32) (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) (main_v38 : IVec S4x512 1) (main_v57 : FVec F S4x8x2048x2048 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_cst_13 : FVec F S_ .f32 := constant S_ .f32 0x42A00000#32
  let main_v58 : FVec F S4x8x2048x2048 .f32 := broadcastInDim S4x8x2048x2048 ![] bcast_S_S4x8x2048x2048 main_cst_13
  let main_v59 : IVec S4x8x2048x2048 1 := cmpf .ole main_v57 main_v58
  let main_v60 : FVec F S1x1536x512 .f32 := (extractStridedSlice S1x1536x512 ![0, 0, 0] · slices_S4x1536x512_S1x1536x512_0_0_0) main_arg2
  let main_v61 : FVec F S1536x512 .f32 := shapeCast S1536x512 main_v60 shapeCasts_S1x1536x512_S1536x512
  let main_v62 : FVec F S1x1536 .f32 := (extractStridedSlice S1x1536 ![0, 0] · slices_S4x1536_S1x1536_0_0) main_arg3
  let main_v63 : FVec F S1536 .f32 := shapeCast S1536 main_v62 shapeCasts_S1x1536_S1536
  let main_v64 : FVec F S1x512x512 .f32 := (extractStridedSlice S1x512x512 ![0, 0, 0] · slices_S4x512x512_S1x512x512_0_0_0) main_arg4
  let main_v65 : FVec F S512x512 .f32 := shapeCast S512x512 main_v64 shapeCasts_S1x512x512_S512x512
  let main_v66 : FVec F S1x512 .f32 := (extractStridedSlice S1x512 ![0, 0] · slices_S4x512_S1x512_0_0) main_arg5
  let main_v67 : FVec F S512 .f32 := shapeCast S512 main_v66 shapeCasts_S1x512_S512
  let main_v68 : FVec F S1x2048x512 .f32 := (extractStridedSlice S1x2048x512 ![0, 0, 0] · slices_S4x2048x512_S1x2048x512_0_0_0) main_arg6
  let main_v69 : FVec F S2048x512 .f32 := shapeCast S2048x512 main_v68 shapeCasts_S1x2048x512_S2048x512
  let main_v70 : FVec F S1x2048 .f32 := (extractStridedSlice S1x2048 ![0, 0] · slices_S4x2048_S1x2048_0_0) main_arg7
  let main_v71 : FVec F S2048 .f32 := shapeCast S2048 main_v70 shapeCasts_S1x2048_S2048
  let main_v72 : FVec F S1x512x2048 .f32 := (extractStridedSlice S1x512x2048 ![0, 0, 0] · slices_S4x512x2048_S1x512x2048_0_0_0) main_arg8
  let main_v73 : FVec F S512x2048 .f32 := shapeCast S512x2048 main_v72 shapeCasts_S1x512x2048_S512x2048
  let main_v74 : FVec F S1x512 .f32 := (extractStridedSlice S1x512 ![0, 0] · slices_S4x512_S1x512_0_0) main_arg9
  let main_v75 : FVec F S512 .f32 := shapeCast S512 main_v74 shapeCasts_S1x512_S512
  let main_v76 : FVec F S1x512 .f32 := (extractStridedSlice S1x512 ![0, 0] · slices_S4x512_S1x512_0_0) main_arg10
  let main_v77 : FVec F S512 .f32 := shapeCast S512 main_v76 shapeCasts_S1x512_S512
  let main_v78 : FVec F S1x512 .f32 := (extractStridedSlice S1x512 ![0, 0] · slices_S4x512_S1x512_0_0) main_arg11
  let main_v79 : FVec F S512 .f32 := shapeCast S512 main_v78 shapeCasts_S1x512_S512
  let main_v80 : FVec F S1x512 .f32 := (extractStridedSlice S1x512 ![0, 0] · slices_S4x512_S1x512_0_0) main_arg12
  fn_part4 (F := F) main_arg0 main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v59 main_v61 main_v63 main_v65 main_v67 main_v69 main_v71 main_v73 main_v75 main_v77 main_v79 main_v80

def fn_part2 {F : FTy → Type} [FloatOps F] (main_arg0 : FVec F S4x2048x512 .f32) (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) (main_v20 : IVec S4x2048 1) (main_v23 : IVec S4x512x2048 1) (main_v26 : IVec S4x512 1) (main_v29 : IVec S4x512 1) (main_v32 : IVec S4x512 1) (main_v35 : IVec S4x512 1) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v36 : FVec F S4x512 .f32 := Host.absf main_arg13
  let main_cst_11 : FVec F S_ .f32 := constant S_ .f32 0x7F800000#32
  let main_v37 : FVec F S4x512 .f32 := broadcastInDim S4x512 ![] bcast_S_S4x512 main_cst_11
  let main_v38 : IVec S4x512 1 := cmpf .olt main_v36 main_v37
  let main_v39 : FVec F S1x1536x512 .f32 := (extractStridedSlice S1x1536x512 ![0, 0, 0] · slices_S4x1536x512_S1x1536x512_0_0_0) main_arg2
  let main_v40 : FVec F S1536x512 .f32 := shapeCast S1536x512 main_v39 shapeCasts_S1x1536x512_S1536x512
  let main_v41 : FVec F S1x1536 .f32 := (extractStridedSlice S1x1536 ![0, 0] · slices_S4x1536_S1x1536_0_0) main_arg3
  let main_v42 : FVec F S1536 .f32 := shapeCast S1536 main_v41 shapeCasts_S1x1536_S1536
  let main_v43 : FVec F S512x1536 .f32 := (transpose S512x1536 [1, 0] · transposes_S1536x512_S512x1536_1_0) main_v40
  let main_v44 : FVec F S4x2048x1536 .f32 := (fun l r => Host.dotGeneral dot_S4x2048x512_S512x1536_S4x2048x1536_2_0_01_1_n_n none l r) main_arg0 main_v43
  let main_v45 : FVec F S1x1x1536 .f32 := broadcastInDim S1x1x1536 ![2] bcast_S1536_S1x1x1536_2 main_v42
  let main_v46 : FVec F S4x2048x1536 .f32 := broadcastInDim S4x2048x1536 ![0, 1, 2] bcast_S1x1x1536_S4x2048x1536_0_1_2 main_v45
  let main_v47 : FVec F S4x2048x1536 .f32 := addf main_v44 main_v46
  let main_v48 : FVec F S4x2048x512 .f32 := (extractStridedSlice S4x2048x512 ![0, 0, 0] · slices_S4x2048x1536_S4x2048x512_0_0_0) main_v47
  let main_v49 : FVec F S4x2048x512 .f32 := (extractStridedSlice S4x2048x512 ![0, 0, 512] · slices_S4x2048x1536_S4x2048x512_0_0_512) main_v47
  let main_v50 : FVec F S4x2048x512 .f32 := (extractStridedSlice S4x2048x512 ![0, 0, 1024] · slices_S4x2048x1536_S4x2048x512_0_0_1024) main_v47
  let main_v51 : FVec F S4x2048x8x64 .f32 := shapeCast S4x2048x8x64 main_v48 shapeCasts_S4x2048x512_S4x2048x8x64
  let main_v52 : FVec F S4x8x2048x64 .f32 := (transpose S4x8x2048x64 [0, 2, 1, 3] · transposes_S4x2048x8x64_S4x8x2048x64_0_2_1_3) main_v51
  let main_v53 : FVec F S4x2048x8x64 .f32 := shapeCast S4x2048x8x64 main_v49 shapeCasts_S4x2048x512_S4x2048x8x64
  let main_v54 : FVec F S4x8x2048x64 .f32 := (transpose S4x8x2048x64 [0, 2, 1, 3] · transposes_S4x2048x8x64_S4x8x2048x64_0_2_1_3) main_v53
  let main_v55 : FVec F S4x8x2048x2048 .f32 := (fun l r => Host.dotGeneral dot_S4x8x2048x64_S4x8x2048x64_S4x8x2048x2048_3_3_2_2_01_01 none l r) main_v52 main_v54
  let main_cst_12 : FVec F S_ .f32 := constant S_ .f32 0x3E000000#32
  let main_v56 : FVec F S4x8x2048x2048 .f32 := broadcastInDim S4x8x2048x2048 ![] bcast_S_S4x8x2048x2048 main_cst_12
  let main_v57 : FVec F S4x8x2048x2048 .f32 := mulf main_v55 main_v56
  fn_part3 (F := F) main_arg0 main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35 main_v38 main_v57

def fn_part1 {F : FTy → Type} [FloatOps F] (main_arg0 : FVec F S4x2048x512 .f32) (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) (main_v2 : IVec S4x2048x512 1) (main_v5 : IVec S4x1536x512 1) (main_v8 : IVec S4x1536 1) (main_v11 : IVec S4x512x512 1) (main_v14 : IVec S4x512 1) (main_v17 : IVec S4x2048x512 1) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v18 : FVec F S4x2048 .f32 := Host.absf main_arg7
  let main_cst_5 : FVec F S_ .f32 := constant S_ .f32 0x7F800000#32
  let main_v19 : FVec F S4x2048 .f32 := broadcastInDim S4x2048 ![] bcast_S_S4x2048 main_cst_5
  let main_v20 : IVec S4x2048 1 := cmpf .olt main_v18 main_v19
  let main_v21 : FVec F S4x512x2048 .f32 := Host.absf main_arg8
  let main_cst_6 : FVec F S_ .f32 := constant S_ .f32 0x7F800000#32
  let main_v22 : FVec F S4x512x2048 .f32 := broadcastInDim S4x512x2048 ![] bcast_S_S4x512x2048 main_cst_6
  let main_v23 : IVec S4x512x2048 1 := cmpf .olt main_v21 main_v22
  let main_v24 : FVec F S4x512 .f32 := Host.absf main_arg9
  let main_cst_7 : FVec F S_ .f32 := constant S_ .f32 0x7F800000#32
  let main_v25 : FVec F S4x512 .f32 := broadcastInDim S4x512 ![] bcast_S_S4x512 main_cst_7
  let main_v26 : IVec S4x512 1 := cmpf .olt main_v24 main_v25
  let main_v27 : FVec F S4x512 .f32 := Host.absf main_arg10
  let main_cst_8 : FVec F S_ .f32 := constant S_ .f32 0x7F800000#32
  let main_v28 : FVec F S4x512 .f32 := broadcastInDim S4x512 ![] bcast_S_S4x512 main_cst_8
  let main_v29 : IVec S4x512 1 := cmpf .olt main_v27 main_v28
  let main_v30 : FVec F S4x512 .f32 := Host.absf main_arg11
  let main_cst_9 : FVec F S_ .f32 := constant S_ .f32 0x7F800000#32
  let main_v31 : FVec F S4x512 .f32 := broadcastInDim S4x512 ![] bcast_S_S4x512 main_cst_9
  let main_v32 : IVec S4x512 1 := cmpf .olt main_v30 main_v31
  let main_v33 : FVec F S4x512 .f32 := Host.absf main_arg12
  let main_cst_10 : FVec F S_ .f32 := constant S_ .f32 0x7F800000#32
  let main_v34 : FVec F S4x512 .f32 := broadcastInDim S4x512 ![] bcast_S_S4x512 main_cst_10
  let main_v35 : IVec S4x512 1 := cmpf .olt main_v33 main_v34
  fn_part2 (F := F) main_arg0 main_arg1 main_arg2 main_arg3 main_arg4 main_arg5 main_arg6 main_arg7 main_arg8 main_arg9 main_arg10 main_arg11 main_arg12 main_arg13 main_v2 main_v5 main_v8 main_v11 main_v14 main_v17 main_v20 main_v23 main_v26 main_v29 main_v32 main_v35

def fn {F : FTy → Type} [FloatOps F] (main_arg0 : FVec F S4x2048x512 .f32) (main_arg1 : FVec F S4x2048 .f32) (main_arg2 : FVec F S4x1536x512 .f32) (main_arg3 : FVec F S4x1536 .f32) (main_arg4 : FVec F S4x512x512 .f32) (main_arg5 : FVec F S4x512 .f32) (main_arg6 : FVec F S4x2048x512 .f32) (main_arg7 : FVec F S4x2048 .f32) (main_arg8 : FVec F S4x512x2048 .f32) (main_arg9 : FVec F S4x512 .f32) (main_arg10 : FVec F S4x512 .f32) (main_arg11 : FVec F S4x512 .f32) (main_arg12 : FVec F S4x512 .f32) (main_arg13 : FVec F S4x512 .f32) : IVec S4x2048x512 1 × IVec S4x1536x512 1 × IVec S4x1536 1 × IVec S4x512x512 1 × IVec S4x512 1 × IVec S4x2048x512 1 × IVec S4x2048 1 × IVec S4x512x2048 1 × IVec S4x512 1 × IVec S4x512 1 × IVec S4x512 1 × IVec S4x512 1 × IVec S4x512 1 × IVec S4x8x2048x2048 1 × IVec S4x8x2048x2048 1 × IVec S4x8x1024x1024 1 × IVec S4x8x1024x1024 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_v3 : FVec F S4x1536x512 .f32 := Host.absf main_arg2
  let main_cst_0 : FVec F S_ .f32 := constant S_ .f32 0x7F800000#32
  let main_v4 : FVec F S4x1536x512 .f32 := broadcastInDim S4x1536x512 ![] bcast_S_S4x1536x512 main_cst_0
  let main_v5 : IVec S4x1536x512 1 := cmpf .olt main_v3 main_v4
  let main_v6 : FVec F S4x1536 .f32 := Host.absf main_arg3
  let main_cst_1 : FVec F S_ .f32 := constant S_ .f32 0x7F800000#32
  let main_v7 : FVec F S4x1536 .f32 := broadcastInDim S4x1536 ![] bcast_S_S4x1536 main_cst_1
  let main_v8 : IVec S4x1536 1 := cmpf .olt main_v6 main_v7
  let main_v9 : FVec F S4x512x512 .f32 := Host.absf main_arg4
  let main_cst_2 : FVec F S_ .f32 := constant S_ .f32 0x7F800000#32
  let main_v10 : FVec F S4x512x512 .f32 := broadcastInDim S4x512x512 ![] bcast_S_S4x512x512 main_cst_2
  let main_v11 : IVec S4x512x512 1 := cmpf .olt main_v9 main_v10
  let main_v12 : FVec F S4x512 .f32 := Host.absf main_arg5
  let main_cst_3 : FVec F S_ .f32 := constant S_ .f32 0x7F800000#32
  let main_v13 : FVec F S4x512 .f32 := broadcastInDim S4x512 ![] bcast_S_S4x512 main_cst_3
  let main_v14 : IVec S4x512 1 := cmpf .olt main_v12 main_v13
  let main_v15 : FVec F S4x2048x512 .f32 := Host.absf main_arg6
  let main_cst_4 : FVec F S_ .f32 := constant S_ .f32 0x7F800000#32
  let main_v16 : FVec F S4x2048x512 .f32 := broadcastInDim S4x2048x512 ![] bcast_S_S4x2048x512 main_cst_4
  let main_v17 : IVec S4x2048x512 1 := cmpf .olt main_v15 main_v16
  fn_part1 (F := F) main_arg0 main_arg1 main_arg2 main_arg3 main_arg4 main_arg5 main_arg6 main_arg7 main_arg8 main_arg9 main_arg10 main_arg11 main_arg12 main_arg13 main_v2 main_v5 main_v8 main_v11 main_v14 main_v17
-- ==== Kernel.lean ====
abbrev S4x2048x512 : Shape := ⟨3, ![4, 2048, 512]⟩
abbrev S4x2048 : Shape := ⟨2, ![4, 2048]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x512x2048 : Shape := ⟨3, ![4, 512, 2048]⟩
abbrev S1x1536x512 : Shape := ⟨3, ![1, 1536, 512]⟩
abbrev S1536x512 : Shape := ⟨2, ![1536, 512]⟩
abbrev S1x1536 : Shape := ⟨2, ![1, 1536]⟩
abbrev S1536 : Shape := ⟨1, ![1536]⟩
abbrev S4x8x2048x64 : Shape := ⟨4, ![4, 8, 2048, 64]⟩
abbrev S4x8x2048x128 : Shape := ⟨4, ![4, 8, 2048, 128]⟩
abbrev S1x1024x512 : Shape := ⟨3, ![1, 1024, 512]⟩
abbrev S1x8x1024x64 : Shape := ⟨4, ![1, 8, 1024, 64]⟩
abbrev S1x8x1024x128 : Shape := ⟨4, ![1, 8, 1024, 128]⟩
abbrev S1024x512 : Shape := ⟨2, ![1024, 512]⟩
abbrev S1024x1536 : Shape := ⟨2, ![1024, 1536]⟩
abbrev S1024x64 : Shape := ⟨2, ![1024, 64]⟩
abbrev S1x1x1024x64 : Shape := ⟨4, ![1, 1, 1024, 64]⟩
abbrev S1024x128 : Shape := ⟨2, ![1024, 128]⟩
abbrev S1x1x1024x128 : Shape := ⟨4, ![1, 1, 1024, 128]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S1x512x2048 : Shape := ⟨3, ![1, 512, 2048]⟩
abbrev S512x2048 : Shape := ⟨2, ![512, 2048]⟩
abbrev S1x8x512x64 : Shape := ⟨4, ![1, 8, 512, 64]⟩
abbrev S1x8x2048x64 : Shape := ⟨4, ![1, 8, 2048, 64]⟩
abbrev S1x8x2048x128 : Shape := ⟨4, ![1, 8, 2048, 128]⟩
abbrev S1x8x512x128 : Shape := ⟨4, ![1, 8, 512, 128]⟩
abbrev S1x1x512x64 : Shape := ⟨4, ![1, 1, 512, 64]⟩
abbrev S512x64 : Shape := ⟨2, ![512, 64]⟩
abbrev S1x1x2048x64 : Shape := ⟨4, ![1, 1, 2048, 64]⟩
abbrev S2048x64 : Shape := ⟨2, ![2048, 64]⟩
abbrev S1x1x2048x128 : Shape := ⟨4, ![1, 1, 2048, 128]⟩
abbrev S2048x128 : Shape := ⟨2, ![2048, 128]⟩
abbrev S512x128 : Shape := ⟨2, ![512, 128]⟩
abbrev S512x1 : Shape := ⟨2, ![512, 1]⟩
abbrev S512x1536 : Shape := ⟨2, ![512, 1536]⟩
abbrev S1x1x512x128 : Shape := ⟨4, ![1, 1, 512, 128]⟩
abbrev S4x1x2048 : Shape := ⟨3, ![4, 1, 2048]⟩
abbrev S4x1024x512 : Shape := ⟨3, ![4, 1024, 512]⟩
abbrev S4x8x1024x64 : Shape := ⟨4, ![4, 8, 1024, 64]⟩
abbrev S4x8x1024x128 : Shape := ⟨4, ![4, 8, 1024, 128]⟩
abbrev S1x1x2048 : Shape := ⟨3, ![1, 1, 2048]⟩
abbrev S1x1 : Shape := ⟨2, ![1, 1]⟩
abbrev S1x2047 : Shape := ⟨2, ![1, 2047]⟩
abbrev S1x2 : Shape := ⟨2, ![1, 2]⟩
abbrev S1x2046 : Shape := ⟨2, ![1, 2046]⟩
abbrev S1x4 : Shape := ⟨2, ![1, 4]⟩
abbrev S1x2044 : Shape := ⟨2, ![1, 2044]⟩
abbrev S1x8 : Shape := ⟨2, ![1, 8]⟩
abbrev S1x2040 : Shape := ⟨2, ![1, 2040]⟩
abbrev S1x16 : Shape := ⟨2, ![1, 16]⟩
abbrev S1x2032 : Shape := ⟨2, ![1, 2032]⟩
abbrev S1x32 : Shape := ⟨2, ![1, 32]⟩
abbrev S1x2016 : Shape := ⟨2, ![1, 2016]⟩
abbrev S1x64 : Shape := ⟨2, ![1, 64]⟩
abbrev S1x1984 : Shape := ⟨2, ![1, 1984]⟩
abbrev S1x128 : Shape := ⟨2, ![1, 128]⟩
abbrev S1x1920 : Shape := ⟨2, ![1, 1920]⟩
abbrev S1x256 : Shape := ⟨2, ![1, 256]⟩
abbrev S1x1792 : Shape := ⟨2, ![1, 1792]⟩
abbrev S1x1024 : Shape := ⟨2, ![1, 1024]⟩
abbrev S1024x2048 : Shape := ⟨2, ![1024, 2048]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 164
  | .vmem => 120
  | .smem => 0
  | _ => 0

abbrev hbmTy0_0 (i : Nat) : BufTy := match i % 128 with
  | 0 => ⟨S4x2048x512, .f32⟩
  | 1 => ⟨S4x2048, .f32⟩
  | 2 => ⟨S4x1536x512, .f32⟩
  | 3 => ⟨S4x1536, .f32⟩
  | 4 => ⟨S4x512x512, .f32⟩
  | 5 => ⟨S4x512, .f32⟩
  | 6 => ⟨S4x2048x512, .f32⟩
  | 7 => ⟨S4x2048, .f32⟩
  | 8 => ⟨S4x512x2048, .f32⟩
  | 9 => ⟨S4x512, .f32⟩
  | 10 => ⟨S4x512, .f32⟩
  | 11 => ⟨S4x512, .f32⟩
  | 12 => ⟨S4x512, .f32⟩
  | 13 => ⟨S4x512, .f32⟩
  | 14 => ⟨S4x1536x512, .bf16⟩
  | 15 => ⟨S4x512x512, .bf16⟩
  | 16 => ⟨S4x2048x512, .bf16⟩
  | 17 => ⟨S4x512x2048, .bf16⟩
  | 18 => ⟨S1x1536x512, .bf16⟩
  | 19 => ⟨S1536x512, .bf16⟩
  | 20 => ⟨S1x1536, .f32⟩
  | 21 => ⟨S1536, .f32⟩
  | 22 => ⟨S1x1536, .f32⟩
  | 23 => ⟨S4x8x2048x64, .bf16⟩
  | 24 => ⟨S4x8x2048x64, .bf16⟩
  | 25 => ⟨S4x8x2048x128, .bf16⟩
  | 26 => ⟨S1x512x512, .bf16⟩
  | 27 => ⟨S512x512, .bf16⟩
  | 28 => ⟨S1x512, .f32⟩
  | 29 => ⟨S512, .f32⟩
  | 30 => ⟨S1x512, .f32⟩
  | 31 => ⟨S1x2048x512, .bf16⟩
  | 32 => ⟨S2048x512, .bf16⟩
  | 33 => ⟨S1x2048, .f32⟩
  | 34 => ⟨S2048, .f32⟩
  | 35 => ⟨S1x2048, .f32⟩
  | 36 => ⟨S1x512x2048, .bf16⟩
  | 37 => ⟨S512x2048, .bf16⟩
  | 38 => ⟨S1x512, .f32⟩
  | 39 => ⟨S512, .f32⟩
  | 40 => ⟨S1x512, .f32⟩
  | 41 => ⟨S1x512, .f32⟩
  | 42 => ⟨S512, .f32⟩
  | 43 => ⟨S1x512, .f32⟩
  | 44 => ⟨S1x512, .f32⟩
  | 45 => ⟨S512, .f32⟩
  | 46 => ⟨S1x512, .f32⟩
  | 47 => ⟨S1x512, .f32⟩
  | 48 => ⟨S512, .f32⟩
  | 49 => ⟨S1x512, .f32⟩
  | 50 => ⟨S1x512, .f32⟩
  | 51 => ⟨S512, .f32⟩
  | 52 => ⟨S1x512, .f32⟩
  | 53 => ⟨S1x1536x512, .bf16⟩
  | 54 => ⟨S1536x512, .bf16⟩
  | 55 => ⟨S1x1536, .f32⟩
  | 56 => ⟨S1536, .f32⟩
  | 57 => ⟨S1x1536, .f32⟩
  | 58 => ⟨S4x2048x512, .f32⟩
  | 59 => ⟨S4x8x2048x64, .bf16⟩
  | 60 => ⟨S4x8x2048x64, .bf16⟩
  | 61 => ⟨S4x8x2048x128, .bf16⟩
  | 62 => ⟨S1x512x512, .bf16⟩
  | 63 => ⟨S512x512, .bf16⟩
  | 64 => ⟨S1x512, .f32⟩
  | 65 => ⟨S512, .f32⟩
  | 66 => ⟨S1x512, .f32⟩
  | 67 => ⟨S1x2048x512, .bf16⟩
  | 68 => ⟨S2048x512, .bf16⟩
  | 69 => ⟨S1x2048, .f32⟩
  | 70 => ⟨S2048, .f32⟩
  | 71 => ⟨S1x2048, .f32⟩
  | 72 => ⟨S1x512x2048, .bf16⟩
  | 73 => ⟨S512x2048, .bf16⟩
  | 74 => ⟨S1x512, .f32⟩
  | 75 => ⟨S512, .f32⟩
  | 76 => ⟨S1x512, .f32⟩
  | 77 => ⟨S1x512, .f32⟩
  | 78 => ⟨S512, .f32⟩
  | 79 => ⟨S1x512, .f32⟩
  | 80 => ⟨S1x512, .f32⟩
  | 81 => ⟨S512, .f32⟩
  | 82 => ⟨S1x512, .f32⟩
  | 83 => ⟨S1x512, .f32⟩
  | 84 => ⟨S512, .f32⟩
  | 85 => ⟨S1x512, .f32⟩
  | 86 => ⟨S1x512, .f32⟩
  | 87 => ⟨S512, .f32⟩
  | 88 => ⟨S1x512, .f32⟩
  | 89 => ⟨S4x2048x512, .f32⟩
  | 90 => ⟨S1x1536x512, .bf16⟩
  | 91 => ⟨S1536x512, .bf16⟩
  | 92 => ⟨S1x1536, .f32⟩
  | 93 => ⟨S1536, .f32⟩
  | 94 => ⟨S1x1536, .f32⟩
  | 95 => ⟨S4x1x2048, .f32⟩
  | 96 => ⟨S4x1024x512, .f32⟩
  | 97 => ⟨S4x8x1024x64, .bf16⟩
  | 98 => ⟨S4x8x1024x64, .bf16⟩
  | 99 => ⟨S4x8x1024x128, .bf16⟩
  | 100 => ⟨S1x512x512, .bf16⟩
  | 101 => ⟨S512x512, .bf16⟩
  | 102 => ⟨S1x512, .f32⟩
  | 103 => ⟨S512, .f32⟩
  | 104 => ⟨S1x512, .f32⟩
  | 105 => ⟨S1x2048x512, .bf16⟩
  | 106 => ⟨S2048x512, .bf16⟩
  | 107 => ⟨S1x2048, .f32⟩
  | 108 => ⟨S2048, .f32⟩
  | 109 => ⟨S1x2048, .f32⟩
  | 110 => ⟨S1x512x2048, .bf16⟩
  | 111 => ⟨S512x2048, .bf16⟩
  | 112 => ⟨S1x512, .f32⟩
  | 113 => ⟨S512, .f32⟩
  | 114 => ⟨S1x512, .f32⟩
  | 115 => ⟨S1x512, .f32⟩
  | 116 => ⟨S512, .f32⟩
  | 117 => ⟨S1x512, .f32⟩
  | 118 => ⟨S1x512, .f32⟩
  | 119 => ⟨S512, .f32⟩
  | 120 => ⟨S1x512, .f32⟩
  | 121 => ⟨S1x512, .f32⟩
  | 122 => ⟨S512, .f32⟩
  | 123 => ⟨S1x512, .f32⟩
  | 124 => ⟨S1x512, .f32⟩
  | 125 => ⟨S512, .f32⟩
  | 126 => ⟨S1x512, .f32⟩
  | 127 => ⟨S1x1536x512, .bf16⟩
  | _ => ⟨S4x2048x512, .f32⟩

abbrev hbmTy0_1 (i : Nat) : BufTy := match i % 128 with
  | 0 => ⟨S1536x512, .bf16⟩
  | 1 => ⟨S1x1536, .f32⟩
  | 2 => ⟨S1536, .f32⟩
  | 3 => ⟨S1x1536, .f32⟩
  | 4 => ⟨S4x1024x512, .f32⟩
  | 5 => ⟨S4x8x1024x64, .bf16⟩
  | 6 => ⟨S4x8x1024x64, .bf16⟩
  | 7 => ⟨S4x8x1024x128, .bf16⟩
  | 8 => ⟨S1x512x512, .bf16⟩
  | 9 => ⟨S512x512, .bf16⟩
  | 10 => ⟨S1x512, .f32⟩
  | 11 => ⟨S512, .f32⟩
  | 12 => ⟨S1x512, .f32⟩
  | 13 => ⟨S1x2048x512, .bf16⟩
  | 14 => ⟨S2048x512, .bf16⟩
  | 15 => ⟨S1x2048, .f32⟩
  | 16 => ⟨S2048, .f32⟩
  | 17 => ⟨S1x2048, .f32⟩
  | 18 => ⟨S1x512x2048, .bf16⟩
  | 19 => ⟨S512x2048, .bf16⟩
  | 20 => ⟨S1x512, .f32⟩
  | 21 => ⟨S512, .f32⟩
  | 22 => ⟨S1x512, .f32⟩
  | 23 => ⟨S1x512, .f32⟩
  | 24 => ⟨S512, .f32⟩
  | 25 => ⟨S1x512, .f32⟩
  | 26 => ⟨S1x512, .f32⟩
  | 27 => ⟨S512, .f32⟩
  | 28 => ⟨S1x512, .f32⟩
  | 29 => ⟨S1x512, .f32⟩
  | 30 => ⟨S512, .f32⟩
  | 31 => ⟨S1x512, .f32⟩
  | 32 => ⟨S1x512, .f32⟩
  | 33 => ⟨S512, .f32⟩
  | 34 => ⟨S1x512, .f32⟩
  | 35 => ⟨S4x1024x512, .f32⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | .local _ .vmem, ⟨0, _⟩ => ⟨S1x1024x512, .f32⟩
  | .local _ .vmem, ⟨1, _⟩ => ⟨S1x1024x512, .f32⟩
  | .local _ .vmem, ⟨2, _⟩ => ⟨S1536x512, .bf16⟩
  | .local _ .vmem, ⟨3, _⟩ => ⟨S1x1536, .f32⟩
  | .local _ .vmem, ⟨4, _⟩ => ⟨S1x8x1024x64, .bf16⟩
  | .local _ .vmem, ⟨5, _⟩ => ⟨S1x8x1024x64, .bf16⟩
  | .local _ .vmem, ⟨6, _⟩ => ⟨S1x8x1024x64, .bf16⟩
  | .local _ .vmem, ⟨7, _⟩ => ⟨S1x8x1024x64, .bf16⟩
  | .local _ .vmem, ⟨8, _⟩ => ⟨S1x8x1024x128, .bf16⟩
  | .local _ .vmem, ⟨9, _⟩ => ⟨S1x8x1024x128, .bf16⟩
  | .local _ .vmem, ⟨10, _⟩ => ⟨S1x8x512x64, .bf16⟩
  | .local _ .vmem, ⟨11, _⟩ => ⟨S1x8x512x64, .bf16⟩
  | .local _ .vmem, ⟨12, _⟩ => ⟨S1x8x2048x64, .bf16⟩
  | .local _ .vmem, ⟨13, _⟩ => ⟨S1x8x2048x64, .bf16⟩
  | .local _ .vmem, ⟨14, _⟩ => ⟨S1x8x2048x128, .bf16⟩
  | .local _ .vmem, ⟨15, _⟩ => ⟨S1x8x2048x128, .bf16⟩
  | .local _ .vmem, ⟨16, _⟩ => ⟨S1x512x512, .f32⟩
  | .local _ .vmem, ⟨17, _⟩ => ⟨S1x512x512, .f32⟩
  | .local _ .vmem, ⟨18, _⟩ => ⟨S512x512, .bf16⟩
  | .local _ .vmem, ⟨19, _⟩ => ⟨S1x512, .f32⟩
  | .local _ .vmem, ⟨20, _⟩ => ⟨S2048x512, .bf16⟩
  | .local _ .vmem, ⟨21, _⟩ => ⟨S1x2048, .f32⟩
  | .local _ .vmem, ⟨22, _⟩ => ⟨S512x2048, .bf16⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1536x512, .bf16⟩
  | .local _ .vmem, ⟨29, _⟩ => ⟨S1x1536, .f32⟩
  | .local _ .vmem, ⟨30, _⟩ => ⟨S1x512x512, .f32⟩
  | .local _ .vmem, ⟨31, _⟩ => ⟨S1x512x512, .f32⟩
  | .local _ .vmem, ⟨32, _⟩ => ⟨S1x8x512x64, .bf16⟩
  | .local _ .vmem, ⟨33, _⟩ => ⟨S1x8x512x64, .bf16⟩
  | .local _ .vmem, ⟨34, _⟩ => ⟨S1x8x512x64, .bf16⟩
  | .local _ .vmem, ⟨35, _⟩ => ⟨S1x8x512x64, .bf16⟩
  | .local _ .vmem, ⟨36, _⟩ => ⟨S1x8x512x128, .bf16⟩
  | .local _ .vmem, ⟨37, _⟩ => ⟨S1x8x512x128, .bf16⟩
  | .local _ .vmem, ⟨38, _⟩ => ⟨S1x8x512x64, .bf16⟩
  | .local _ .vmem, ⟨39, _⟩ => ⟨S1x8x512x64, .bf16⟩
  | .local _ .vmem, ⟨40, _⟩ => ⟨S1x8x2048x64, .bf16⟩
  | .local _ .vmem, ⟨41, _⟩ => ⟨S1x8x2048x64, .bf16⟩
  | .local _ .vmem, ⟨42, _⟩ => ⟨S1x8x2048x128, .bf16⟩
  | .local _ .vmem, ⟨43, _⟩ => ⟨S1x8x2048x128, .bf16⟩
  | .local _ .vmem, ⟨44, _⟩ => ⟨S1x512x512, .f32⟩
  | .local _ .vmem, ⟨45, _⟩ => ⟨S1x512x512, .f32⟩
  | .local _ .vmem, ⟨46, _⟩ => ⟨S512x512, .bf16⟩
  | .local _ .vmem, ⟨47, _⟩ => ⟨S1x512, .f32⟩
  | .local _ .vmem, ⟨48, _⟩ => ⟨S2048x512, .bf16⟩
  | .local _ .vmem, ⟨49, _⟩ => ⟨S1x2048, .f32⟩
  | .local _ .vmem, ⟨50, _⟩ => ⟨S512x2048, .bf16⟩
  | .local _ .vmem, ⟨51, _⟩ => ⟨S1x512, .f32⟩
  | .local _ .vmem, ⟨52, _⟩ => ⟨S1x512, .f32⟩
  | .local _ .vmem, ⟨53, _⟩ => ⟨S1x512, .f32⟩
  | .local _ .vmem, ⟨54, _⟩ => ⟨S1x512, .f32⟩
  | .local _ .vmem, ⟨55, _⟩ => ⟨S1x512, .f32⟩
  | .local _ .vmem, ⟨56, _⟩ => ⟨S1x512x512, .f32⟩
  | .local _ .vmem, ⟨57, _⟩ => ⟨S1x512x512, .f32⟩
  | .local _ .vmem, ⟨58, _⟩ => ⟨S1x1x2048, .f32⟩
  | .local _ .vmem, ⟨59, _⟩ => ⟨S1x1x2048, .f32⟩
  | .local _ .vmem, ⟨60, _⟩ => ⟨S1x2048x512, .f32⟩
  | .local _ .vmem, ⟨61, _⟩ => ⟨S1x2048x512, .f32⟩
  | .local _ .vmem, ⟨62, _⟩ => ⟨S1536x512, .bf16⟩
  | .local _ .vmem, ⟨63, _⟩ => ⟨S1x1536, .f32⟩
  | .local _ .vmem, ⟨64, _⟩ => ⟨S1x1024x512, .f32⟩
  | .local _ .vmem, ⟨65, _⟩ => ⟨S1x1024x512, .f32⟩
  | .local _ .vmem, ⟨66, _⟩ => ⟨S1x8x1024x64, .bf16⟩
  | .local _ .vmem, ⟨67, _⟩ => ⟨S1x8x1024x64, .bf16⟩
  | .local _ .vmem, ⟨68, _⟩ => ⟨S1x8x1024x64, .bf16⟩
  | .local _ .vmem, ⟨69, _⟩ => ⟨S1x8x1024x64, .bf16⟩
  | .local _ .vmem, ⟨70, _⟩ => ⟨S1x8x1024x128, .bf16⟩
  | .local _ .vmem, ⟨71, _⟩ => ⟨S1x8x1024x128, .bf16⟩
  | .local _ .vmem, ⟨72, _⟩ => ⟨S1x8x1024x64, .bf16⟩
  | .local _ .vmem, ⟨73, _⟩ => ⟨S1x8x1024x64, .bf16⟩
  | .local _ .vmem, ⟨74, _⟩ => ⟨S1x8x1024x64, .bf16⟩
  | .local _ .vmem, ⟨75, _⟩ => ⟨S1x8x1024x64, .bf16⟩
  | .local _ .vmem, ⟨76, _⟩ => ⟨S1x8x1024x128, .bf16⟩
  | .local _ .vmem, ⟨77, _⟩ => ⟨S1x8x1024x128, .bf16⟩
  | .local _ .vmem, ⟨78, _⟩ => ⟨S1x1024x512, .f32⟩
  | .local _ .vmem, ⟨79, _⟩ => ⟨S1x1024x512, .f32⟩
  | .local _ .vmem, ⟨80, _⟩ => ⟨S512x512, .bf16⟩
  | .local _ .vmem, ⟨81, _⟩ => ⟨S1x512, .f32⟩
  | .local _ .vmem, ⟨82, _⟩ => ⟨S2048x512, .bf16⟩
  | .local _ .vmem, ⟨83, _⟩ => ⟨S1x2048, .f32⟩
  | .local _ .vmem, ⟨84, _⟩ => ⟨S512x2048, .bf16⟩
  | .local _ .vmem, ⟨85, _⟩ => ⟨S1x512, .f32⟩
  | .local _ .vmem, ⟨86, _⟩ => ⟨S1x512, .f32⟩
  | .local _ .vmem, ⟨87, _⟩ => ⟨S1x512, .f32⟩
  | .local _ .vmem, ⟨88, _⟩ => ⟨S1x512, .f32⟩
  | .local _ .vmem, ⟨89, _⟩ => ⟨S1x512, .f32⟩
  | .local _ .vmem, ⟨90, _⟩ => ⟨S1536x512, .bf16⟩
  | .local _ .vmem, ⟨91, _⟩ => ⟨S1x1536, .f32⟩
  | .local _ .vmem, ⟨92, _⟩ => ⟨S1x1024x512, .f32⟩
  | .local _ .vmem, ⟨93, _⟩ => ⟨S1x1024x512, .f32⟩
  | .local _ .vmem, ⟨94, _⟩ => ⟨S1x8x1024x64, .bf16⟩
  | .local _ .vmem, ⟨95, _⟩ => ⟨S1x8x1024x64, .bf16⟩
  | .local _ .vmem, ⟨96, _⟩ => ⟨S1x8x1024x64, .bf16⟩
  | .local _ .vmem, ⟨97, _⟩ => ⟨S1x8x1024x64, .bf16⟩
  | .local _ .vmem, ⟨98, _⟩ => ⟨S1x8x1024x128, .bf16⟩
  | .local _ .vmem, ⟨99, _⟩ => ⟨S1x8x1024x128, .bf16⟩
  | .local _ .vmem, ⟨100, _⟩ => ⟨S1x8x1024x64, .bf16⟩
  | .local _ .vmem, ⟨101, _⟩ => ⟨S1x8x1024x64, .bf16⟩
  | .local _ .vmem, ⟨102, _⟩ => ⟨S1x8x1024x64, .bf16⟩
  | .local _ .vmem, ⟨103, _⟩ => ⟨S1x8x1024x64, .bf16⟩
  | .local _ .vmem, ⟨104, _⟩ => ⟨S1x8x1024x128, .bf16⟩
  | .local _ .vmem, ⟨105, _⟩ => ⟨S1x8x1024x128, .bf16⟩
  | .local _ .vmem, ⟨106, _⟩ => ⟨S1x1024x512, .f32⟩
  | .local _ .vmem, ⟨107, _⟩ => ⟨S1x1024x512, .f32⟩
  | .local _ .vmem, ⟨108, _⟩ => ⟨S512x512, .bf16⟩
  | .local _ .vmem, ⟨109, _⟩ => ⟨S1x512, .f32⟩
  | .local _ .vmem, ⟨110, _⟩ => ⟨S2048x512, .bf16⟩
  | .local _ .vmem, ⟨111, _⟩ => ⟨S1x2048, .f32⟩
  | .local _ .vmem, ⟨112, _⟩ => ⟨S512x2048, .bf16⟩
  | .local _ .vmem, ⟨113, _⟩ => ⟨S1x512, .f32⟩
  | .local _ .vmem, ⟨114, _⟩ => ⟨S1x512, .f32⟩
  | .local _ .vmem, ⟨115, _⟩ => ⟨S1x512, .f32⟩
  | .local _ .vmem, ⟨116, _⟩ => ⟨S1x512, .f32⟩
  | .local _ .vmem, ⟨117, _⟩ => ⟨S1x512, .f32⟩
  | .local _ .vmem, ⟨118, _⟩ => ⟨S1x1024x512, .f32⟩
  | .local _ .vmem, ⟨119, _⟩ => ⟨S1x1024x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42_0 : Ref sig .tc := ⟨.hbm, 58, rfl⟩
abbrev main_v42_1 : Ref sig .tc := ⟨.hbm, 59, rfl⟩
abbrev main_v42_2 : Ref sig .tc := ⟨.hbm, 60, rfl⟩
abbrev main_v42_3 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77_0 : Ref sig .tc := ⟨.hbm, 96, rfl⟩
abbrev main_v77_1 : Ref sig .tc := ⟨.hbm, 97, rfl⟩
abbrev main_v77_2 : Ref sig .tc := ⟨.hbm, 98, rfl⟩
abbrev main_v77_3 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110_0 : Ref sig .tc := ⟨.hbm, 132, rfl⟩
abbrev main_v110_1 : Ref sig .tc := ⟨.hbm, 133, rfl⟩
abbrev main_v110_2 : Ref sig .tc := ⟨.hbm, 134, rfl⟩
abbrev main_v110_3 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg13_0 : Ref sig .tc := ⟨.vmem, 27, rfl⟩
abbrev cc1_stg14_0 : Ref sig .tc := ⟨.vmem, 28, rfl⟩
abbrev cc1_stg15_0 : Ref sig .tc := ⟨.vmem, 29, rfl⟩
abbrev cc1_stg16_0 : Ref sig .tc := ⟨.vmem, 30, rfl⟩
abbrev cc1_stg16_1 : Ref sig .tc := ⟨.vmem, 31, rfl⟩
abbrev cc1_stg17_0 : Ref sig .tc := ⟨.vmem, 32, rfl⟩
abbrev cc1_stg17_1 : Ref sig .tc := ⟨.vmem, 33, rfl⟩
abbrev cc1_stg18_0 : Ref sig .tc := ⟨.vmem, 34, rfl⟩
abbrev cc1_stg18_1 : Ref sig .tc := ⟨.vmem, 35, rfl⟩
abbrev cc1_stg19_0 : Ref sig .tc := ⟨.vmem, 36, rfl⟩
abbrev cc1_stg19_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg3_1 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg10_0 : Ref sig .tc := ⟨.vmem, 52, rfl⟩
abbrev cc2_stg11_0 : Ref sig .tc := ⟨.vmem, 53, rfl⟩
abbrev cc2_stg12_0 : Ref sig .tc := ⟨.vmem, 54, rfl⟩
abbrev cc2_stg13_0 : Ref sig .tc := ⟨.vmem, 55, rfl⟩
abbrev cc2_stg14_0 : Ref sig .tc := ⟨.vmem, 56, rfl⟩
abbrev cc2_stg14_1 : Ref sig .tc := ⟨.vmem, 57, rfl⟩
abbrev cc3_stg0_0 : Ref sig .tc := ⟨.vmem, 58, rfl⟩
abbrev cc3_stg0_1 : Ref sig .tc := ⟨.vmem, 59, rfl⟩
abbrev cc3_stg1_0 : Ref sig .tc := ⟨.vmem, 60, rfl⟩
abbrev cc3_stg1_1 : Ref sig .tc := ⟨.vmem, 61, rfl⟩
abbrev cc3_stg2_0 : Ref sig .tc := ⟨.vmem, 62, rfl⟩
abbrev cc3_stg3_0 : Ref sig .tc := ⟨.vmem, 63, rfl⟩
abbrev cc3_stg4_0 : Ref sig .tc := ⟨.vmem, 64, rfl⟩
abbrev cc3_stg4_1 : Ref sig .tc := ⟨.vmem, 65, rfl⟩
abbrev cc3_stg5_0 : Ref sig .tc := ⟨.vmem, 66, rfl⟩
abbrev cc3_stg5_1 : Ref sig .tc := ⟨.vmem, 67, rfl⟩
abbrev cc3_stg6_0 : Ref sig .tc := ⟨.vmem, 68, rfl⟩
abbrev cc3_stg6_1 : Ref sig .tc := ⟨.vmem, 69, rfl⟩
abbrev cc3_stg7_0 : Ref sig .tc := ⟨.vmem, 70, rfl⟩
abbrev cc3_stg7_1 : Ref sig .tc := ⟨.vmem, 71, rfl⟩
abbrev cc4_stg0_0 : Ref sig .tc := ⟨.vmem, 72, rfl⟩
abbrev cc4_stg0_1 : Ref sig .tc := ⟨.vmem, 73, rfl⟩
abbrev cc4_stg1_0 : Ref sig .tc := ⟨.vmem, 74, rfl⟩
abbrev cc4_stg1_1 : Ref sig .tc := ⟨.vmem, 75, rfl⟩
abbrev cc4_stg2_0 : Ref sig .tc := ⟨.vmem, 76, rfl⟩
abbrev cc4_stg2_1 : Ref sig .tc := ⟨.vmem, 77, rfl⟩
abbrev cc4_stg3_0 : Ref sig .tc := ⟨.vmem, 78, rfl⟩
abbrev cc4_stg3_1 : Ref sig .tc := ⟨.vmem, 79, rfl⟩
abbrev cc4_stg4_0 : Ref sig .tc := ⟨.vmem, 80, rfl⟩
abbrev cc4_stg5_0 : Ref sig .tc := ⟨.vmem, 81, rfl⟩
abbrev cc4_stg6_0 : Ref sig .tc := ⟨.vmem, 82, rfl⟩
abbrev cc4_stg7_0 : Ref sig .tc := ⟨.vmem, 83, rfl⟩
abbrev cc4_stg8_0 : Ref sig .tc := ⟨.vmem, 84, rfl⟩
abbrev cc4_stg9_0 : Ref sig .tc := ⟨.vmem, 85, rfl⟩
abbrev cc4_stg10_0 : Ref sig .tc := ⟨.vmem, 86, rfl⟩
abbrev cc4_stg11_0 : Ref sig .tc := ⟨.vmem, 87, rfl⟩
abbrev cc4_stg12_0 : Ref sig .tc := ⟨.vmem, 88, rfl⟩
abbrev cc4_stg13_0 : Ref sig .tc := ⟨.vmem, 89, rfl⟩
abbrev cc4_stg14_0 : Ref sig .tc := ⟨.vmem, 90, rfl⟩
abbrev cc4_stg15_0 : Ref sig .tc := ⟨.vmem, 91, rfl⟩
abbrev cc4_stg16_0 : Ref sig .tc := ⟨.vmem, 92, rfl⟩
abbrev cc4_stg16_1 : Ref sig .tc := ⟨.vmem, 93, rfl⟩
abbrev cc4_stg17_0 : Ref sig .tc := ⟨.vmem, 94, rfl⟩
abbrev cc4_stg17_1 : Ref sig .tc := ⟨.vmem, 95, rfl⟩
abbrev cc4_stg18_0 : Ref sig .tc := ⟨.vmem, 96, rfl⟩
abbrev cc4_stg18_1 : Ref sig .tc := ⟨.vmem, 97, rfl⟩
abbrev cc4_stg19_0 : Ref sig .tc := ⟨.vmem, 98, rfl⟩
abbrev cc4_stg19_1 : Ref sig .tc := ⟨.vmem, 99, rfl⟩
abbrev cc5_stg0_0 : Ref sig .tc := ⟨.vmem, 100, rfl⟩
abbrev cc5_stg0_1 : Ref sig .tc := ⟨.vmem, 101, rfl⟩
abbrev cc5_stg1_0 : Ref sig .tc := ⟨.vmem, 102, rfl⟩
abbrev cc5_stg1_1 : Ref sig .tc := ⟨.vmem, 103, rfl⟩
abbrev cc5_stg2_0 : Ref sig .tc := ⟨.vmem, 104, rfl⟩
abbrev cc5_stg2_1 : Ref sig .tc := ⟨.vmem, 105, rfl⟩
abbrev cc5_stg3_0 : Ref sig .tc := ⟨.vmem, 106, rfl⟩
abbrev cc5_stg3_1 : Ref sig .tc := ⟨.vmem, 107, rfl⟩
abbrev cc5_stg4_0 : Ref sig .tc := ⟨.vmem, 108, rfl⟩
abbrev cc5_stg5_0 : Ref sig .tc := ⟨.vmem, 109, rfl⟩
abbrev cc5_stg6_0 : Ref sig .tc := ⟨.vmem, 110, rfl⟩
abbrev cc5_stg7_0 : Ref sig .tc := ⟨.vmem, 111, rfl⟩
abbrev cc5_stg8_0 : Ref sig .tc := ⟨.vmem, 112, rfl⟩
abbrev cc5_stg9_0 : Ref sig .tc := ⟨.vmem, 113, rfl⟩
abbrev cc5_stg10_0 : Ref sig .tc := ⟨.vmem, 114, rfl⟩
abbrev cc5_stg11_0 : Ref sig .tc := ⟨.vmem, 115, rfl⟩
abbrev cc5_stg12_0 : Ref sig .tc := ⟨.vmem, 116, rfl⟩
abbrev cc5_stg13_0 : Ref sig .tc := ⟨.vmem, 117, rfl⟩
abbrev cc5_stg14_0 : Ref sig .tc := ⟨.vmem, 118, rfl⟩
abbrev cc5_stg14_1 : Ref sig .tc := ⟨.vmem, 119, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem13_0 : DmaSem sig := 27
abbrev cc1_sem14_0 : DmaSem sig := 28
abbrev cc1_sem15_0 : DmaSem sig := 29
abbrev cc1_sem16_0 : DmaSem sig := 30
abbrev cc1_sem16_1 : DmaSem sig := 31
abbrev cc1_sem17_0 : DmaSem sig := 32
abbrev cc1_sem17_1 : DmaSem sig := 33
abbrev cc1_sem18_0 : DmaSem sig := 34
abbrev cc1_sem18_1 : DmaSem sig := 35
abbrev cc1_sem19_0 : DmaSem sig := 36
abbrev cc1_sem19_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem3_1 : DmaSem sig := 45
abbrev cc2_sem4_0 : DmaSem sig := 46
abbrev cc2_sem5_0 : DmaSem sig := 47
abbrev cc2_sem6_0 : DmaSem sig := 48
abbrev cc2_sem7_0 : DmaSem sig := 49
abbrev cc2_sem8_0 : DmaSem sig := 50
abbrev cc2_sem9_0 : DmaSem sig := 51
abbrev cc2_sem10_0 : DmaSem sig := 52
abbrev cc2_sem11_0 : DmaSem sig := 53
abbrev cc2_sem12_0 : DmaSem sig := 54
abbrev cc2_sem13_0 : DmaSem sig := 55
abbrev cc2_sem14_0 : DmaSem sig := 56
abbrev cc2_sem14_1 : DmaSem sig := 57
abbrev cc3_sem0_0 : DmaSem sig := 58
abbrev cc3_sem0_1 : DmaSem sig := 59
abbrev cc3_sem1_0 : DmaSem sig := 60
abbrev cc3_sem1_1 : DmaSem sig := 61
abbrev cc3_sem2_0 : DmaSem sig := 62
abbrev cc3_sem3_0 : DmaSem sig := 63
abbrev cc3_sem4_0 : DmaSem sig := 64
abbrev cc3_sem4_1 : DmaSem sig := 65
abbrev cc3_sem5_0 : DmaSem sig := 66
abbrev cc3_sem5_1 : DmaSem sig := 67
abbrev cc3_sem6_0 : DmaSem sig := 68
abbrev cc3_sem6_1 : DmaSem sig := 69
abbrev cc3_sem7_0 : DmaSem sig := 70
abbrev cc3_sem7_1 : DmaSem sig := 71
abbrev cc4_sem0_0 : DmaSem sig := 72
abbrev cc4_sem0_1 : DmaSem sig := 73
abbrev cc4_sem1_0 : DmaSem sig := 74
abbrev cc4_sem1_1 : DmaSem sig := 75
abbrev cc4_sem2_0 : DmaSem sig := 76
abbrev cc4_sem2_1 : DmaSem sig := 77
abbrev cc4_sem3_0 : DmaSem sig := 78
abbrev cc4_sem3_1 : DmaSem sig := 79
abbrev cc4_sem4_0 : DmaSem sig := 80
abbrev cc4_sem5_0 : DmaSem sig := 81
abbrev cc4_sem6_0 : DmaSem sig := 82
abbrev cc4_sem7_0 : DmaSem sig := 83
abbrev cc4_sem8_0 : DmaSem sig := 84
abbrev cc4_sem9_0 : DmaSem sig := 85
abbrev cc4_sem10_0 : DmaSem sig := 86
abbrev cc4_sem11_0 : DmaSem sig := 87
abbrev cc4_sem12_0 : DmaSem sig := 88
abbrev cc4_sem13_0 : DmaSem sig := 89
abbrev cc4_sem14_0 : DmaSem sig := 90
abbrev cc4_sem15_0 : DmaSem sig := 91
abbrev cc4_sem16_0 : DmaSem sig := 92
abbrev cc4_sem16_1 : DmaSem sig := 93
abbrev cc4_sem17_0 : DmaSem sig := 94
abbrev cc4_sem17_1 : DmaSem sig := 95
abbrev cc4_sem18_0 : DmaSem sig := 96
abbrev cc4_sem18_1 : DmaSem sig := 97
abbrev cc4_sem19_0 : DmaSem sig := 98
abbrev cc4_sem19_1 : DmaSem sig := 99
abbrev cc5_sem0_0 : DmaSem sig := 100
abbrev cc5_sem0_1 : DmaSem sig := 101
abbrev cc5_sem1_0 : DmaSem sig := 102
abbrev cc5_sem1_1 : DmaSem sig := 103
abbrev cc5_sem2_0 : DmaSem sig := 104
abbrev cc5_sem2_1 : DmaSem sig := 105
abbrev cc5_sem3_0 : DmaSem sig := 106
abbrev cc5_sem3_1 : DmaSem sig := 107
abbrev cc5_sem4_0 : DmaSem sig := 108
abbrev cc5_sem5_0 : DmaSem sig := 109
abbrev cc5_sem6_0 : DmaSem sig := 110
abbrev cc5_sem7_0 : DmaSem sig := 111
abbrev cc5_sem8_0 : DmaSem sig := 112
abbrev cc5_sem9_0 : DmaSem sig := 113
abbrev cc5_sem10_0 : DmaSem sig := 114
abbrev cc5_sem11_0 : DmaSem sig := 115
abbrev cc5_sem12_0 : DmaSem sig := 116
abbrev cc5_sem13_0 : DmaSem sig := 117
abbrev cc5_sem14_0 : DmaSem sig := 118
abbrev cc5_sem14_1 : DmaSem sig := 119

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 4], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_17 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_18 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_19 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x8x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S512x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S2048x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x512 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1536x512 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S1x1536 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 2 → Memref sig .tc .vmem S1x512x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x8x512x64 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x8x512x64 .bf16 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S1x8x512x128 .bf16 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev grid2 : Pipeline.Grid := ⟨2, ![4, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x8x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x8x2048x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x8x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S512x512 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S2048x512 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S512x2048 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x512 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x512 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x512 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 2 → Memref sig .tc .vmem S1x512x512 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, true]

abbrev grid3 : Pipeline.Grid := ⟨2, ![4, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_6 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_7 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage3_0 : Fin 2 → Memref sig .tc .vmem S1x1x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S1536x512 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1536 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x8x1024x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x8x1024x64 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x8x1024x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![4, 1], ![false, false]⟩

def cc4_transform_0 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_1 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_2 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_15 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_16 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_17 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_18 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc4_transform_19 (i : grid4.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage4_0 : Fin 2 → Memref sig .tc .vmem S1x8x1024x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x8x1024x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1x8x1024x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1x1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 1 → Memref sig .tc .vmem S512x512 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S2048x512 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 1 → Memref sig .tc .vmem S1x2048 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .vmem S512x2048 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 1 → Memref sig .tc .vmem S1x512 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false, false]

abbrev stage4_10 : Fin 1 → Memref sig .tc .vmem S1x512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev stage4_11 : Fin 1 → Memref sig .tc .vmem S1x512 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false, false]

abbrev stage4_12 : Fin 1 → Memref sig .tc .vmem S1x512 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false, false]

abbrev stage4_13 : Fin 1 → Memref sig .tc .vmem S1x512 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false, false]

abbrev stage4_14 : Fin 1 → Memref sig .tc .vmem S1536x512 .bf16 := fun | 0 => Memref.whole cc4_stg14_0 | ⟨_ + 1, h⟩ => absurd h (Nat.not_lt.2 (Nat.le_add_left _ _))
abbrev sem4_14 : Fin 1 → DmaSem sig := fun | 0 => cc4_sem14_0 | ⟨_ + 1, h⟩ => absurd h (Nat.not_lt.2 (Nat.le_add_left _ _))
abbrev reads4_14 : Fin grid4.rank → Bool := ![false, false]

abbrev stage4_15 : Fin 1 → Memref sig .tc .vmem S1x1536 .f32 := fun | 0 => Memref.whole cc4_stg15_0 | ⟨_ + 1, h⟩ => absurd h (Nat.not_lt.2 (Nat.le_add_left _ _))
abbrev sem4_15 : Fin 1 → DmaSem sig := fun | 0 => cc4_sem15_0 | ⟨_ + 1, h⟩ => absurd h (Nat.not_lt.2 (Nat.le_add_left _ _))
abbrev reads4_15 : Fin grid4.rank → Bool := ![false, false]

abbrev stage4_16 : Fin 2 → Memref sig .tc .vmem S1x1024x512 .f32 := fun | 0 => Memref.whole cc4_stg16_0 | 1 => Memref.whole cc4_stg16_1 | ⟨_ + 2, h⟩ => absurd h (Nat.not_lt.2 (Nat.le_add_left _ _))
abbrev sem4_16 : Fin 2 → DmaSem sig := fun | 0 => cc4_sem16_0 | 1 => cc4_sem16_1 | ⟨_ + 2, h⟩ => absurd h (Nat.not_lt.2 (Nat.le_add_left _ _))
abbrev reads4_16 : Fin grid4.rank → Bool := ![true, true]

abbrev stage4_17 : Fin 2 → Memref sig .tc .vmem S1x8x1024x64 .bf16 := fun | 0 => Memref.whole cc4_stg17_0 | 1 => Memref.whole cc4_stg17_1 | ⟨_ + 2, h⟩ => absurd h (Nat.not_lt.2 (Nat.le_add_left _ _))
abbrev sem4_17 : Fin 2 → DmaSem sig := fun | 0 => cc4_sem17_0 | 1 => cc4_sem17_1 | ⟨_ + 2, h⟩ => absurd h (Nat.not_lt.2 (Nat.le_add_left _ _))
abbrev reads4_17 : Fin grid4.rank → Bool := ![true, true]

abbrev stage4_18 : Fin 2 → Memref sig .tc .vmem S1x8x1024x64 .bf16 := fun | 0 => Memref.whole cc4_stg18_0 | 1 => Memref.whole cc4_stg18_1 | ⟨_ + 2, h⟩ => absurd h (Nat.not_lt.2 (Nat.le_add_left _ _))
abbrev sem4_18 : Fin 2 → DmaSem sig := fun | 0 => cc4_sem18_0 | 1 => cc4_sem18_1 | ⟨_ + 2, h⟩ => absurd h (Nat.not_lt.2 (Nat.le_add_left _ _))
abbrev reads4_18 : Fin grid4.rank → Bool := ![true, true]

abbrev stage4_19 : Fin 2 → Memref sig .tc .vmem S1x8x1024x128 .bf16 := fun | 0 => Memref.whole cc4_stg19_0 | 1 => Memref.whole cc4_stg19_1 | ⟨_ + 2, h⟩ => absurd h (Nat.not_lt.2 (Nat.le_add_left _ _))
abbrev sem4_19 : Fin 2 → DmaSem sig := fun | 0 => cc4_sem19_0 | 1 => cc4_sem19_1 | ⟨_ + 2, h⟩ => absurd h (Nat.not_lt.2 (Nat.le_add_left _ _))
abbrev reads4_19 : Fin grid4.rank → Bool := ![true, true]

abbrev grid5 : Pipeline.Grid := ⟨2, ![4, 1], ![false, false]⟩

def cc5_transform_0 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc5_transform_1 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x8x1024x64 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x8x1024x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x8x1024x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S1x1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 1 → Memref sig .tc .vmem S512x512 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S2048x512 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S1x2048 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 1 → Memref sig .tc .vmem S512x2048 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev stage5_9 : Fin 1 → Memref sig .tc .vmem S1x512 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false, false]

abbrev stage5_10 : Fin 1 → Memref sig .tc .vmem S1x512 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false, false]

abbrev stage5_11 : Fin 1 → Memref sig .tc .vmem S1x512 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false, false]

abbrev stage5_12 : Fin 1 → Memref sig .tc .vmem S1x512 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false, false]

abbrev stage5_13 : Fin 1 → Memref sig .tc .vmem S1x512 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false, false]

abbrev stage5_14 : Fin 2 → Memref sig .tc .vmem S1x1024x512 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true, true]
-- ==== ReferenceIdeal.lean ====
abbrev S4x2048x512 : Shape := ⟨3, ![4, 2048, 512]⟩
abbrev S4x2048 : Shape := ⟨2, ![4, 2048]⟩
abbrev S4x1536x512 : Shape := ⟨3, ![4, 1536, 512]⟩
abbrev S4x1536 : Shape := ⟨2, ![4, 1536]⟩
abbrev S4x512x512 : Shape := ⟨3, ![4, 512, 512]⟩
abbrev S4x512 : Shape := ⟨2, ![4, 512]⟩
abbrev S4x512x2048 : Shape := ⟨3, ![4, 512, 2048]⟩
abbrev S1x1536x512 : Shape := ⟨3, ![1, 1536, 512]⟩
abbrev S1536x512 : Shape := ⟨2, ![1536, 512]⟩
abbrev S1x1536 : Shape := ⟨2, ![1, 1536]⟩
abbrev S1536 : Shape := ⟨1, ![1536]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x2048x512 : Shape := ⟨3, ![1, 2048, 512]⟩
abbrev S2048x512 : Shape := ⟨2, ![2048, 512]⟩
abbrev S1x2048 : Shape := ⟨2, ![1, 2048]⟩
abbrev S2048 : Shape := ⟨1, ![2048]⟩
abbrev S1x512x2048 : Shape := ⟨3, ![1, 512, 2048]⟩
abbrev S512x2048 : Shape := ⟨2, ![512, 2048]⟩
abbrev S512x1536 : Shape := ⟨2, ![512, 1536]⟩
abbrev S4x2048x1536 : Shape := ⟨3, ![4, 2048, 1536]⟩
abbrev S1x1x1536 : Shape := ⟨3, ![1, 1, 1536]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩
abbrev S1x1x512 : Shape := ⟨3, ![1, 1, 512]⟩
abbrev S4x2048x1 : Shape := ⟨3, ![4, 2048, 1]⟩
abbrev S4x2048x2048 : Shape := ⟨3, ![4, 2048, 2048]⟩
abbrev S1x1x2048 : Shape := ⟨3, ![1, 1, 2048]⟩
abbrev S1 : Shape := ⟨1, ![1]⟩
abbrev S4 : Shape := ⟨1, ![4]⟩
abbrev S4x1 : Shape := ⟨2, ![4, 1]⟩
abbrev S8192 : Shape := ⟨1, ![8192]⟩
abbrev S8192x512 : Shape := ⟨2, ![8192, 512]⟩
abbrev S8192x1 : Shape := ⟨2, ![8192, 1]⟩
abbrev S4x1024x512 : Shape := ⟨3, ![4, 1024, 512]⟩
abbrev S4x1024x1536 : Shape := ⟨3, ![4, 1024, 1536]⟩
abbrev S4x1024x8x64 : Shape := ⟨4, ![4, 1024, 8, 64]⟩
abbrev S4x8x1024x64 : Shape := ⟨4, ![4, 8, 1024, 64]⟩
abbrev S4x8x1024x1024 : Shape := ⟨4, ![4, 8, 1024, 1024]⟩
abbrev S4x8x1024 : Shape := ⟨3, ![4, 8, 1024]⟩
abbrev S4x8x1024x1 : Shape := ⟨4, ![4, 8, 1024, 1]⟩
abbrev S4x1024 : Shape := ⟨2, ![4, 1024]⟩
abbrev S4x1024x1 : Shape := ⟨3, ![4, 1024, 1]⟩
abbrev S4x1024x2048 : Shape := ⟨3, ![4, 1024, 2048]⟩

abbrev nBuf : Space → Nat
  | .hbm => 620
  | .vmem => 0
  | .smem => 0
  | _ => 0

abbrev hbmTy0_0 (i : Nat) : BufTy := match i % 128 with
  | 0 => ⟨S4x2048x512, .f32⟩
  | 1 => ⟨S4x2048, .f32⟩
  | 2 => ⟨S4x1536x512, .f32⟩
  | 3 => ⟨S4x1536, .f32⟩
  | 4 => ⟨S4x512x512, .f32⟩
  | 5 => ⟨S4x512, .f32⟩
  | 6 => ⟨S4x2048x512, .f32⟩
  | 7 => ⟨S4x2048, .f32⟩
  | 8 => ⟨S4x512x2048, .f32⟩
  | 9 => ⟨S4x512, .f32⟩
  | 10 => ⟨S4x512, .f32⟩
  | 11 => ⟨S4x512, .f32⟩
  | 12 => ⟨S4x512, .f32⟩
  | 13 => ⟨S4x512, .f32⟩
  | 14 => ⟨S1x1536x512, .f32⟩
  | 15 => ⟨S1536x512, .f32⟩
  | 16 => ⟨S1x1536, .f32⟩
  | 17 => ⟨S1536, .f32⟩
  | 18 => ⟨S1x512x512, .f32⟩
  | 19 => ⟨S512x512, .f32⟩
  | 20 => ⟨S1x512, .f32⟩
  | 21 => ⟨S512, .f32⟩
  | 22 => ⟨S1x2048x512, .f32⟩
  | 23 => ⟨S2048x512, .f32⟩
  | 24 => ⟨S1x2048, .f32⟩
  | 25 => ⟨S2048, .f32⟩
  | 26 => ⟨S1x512x2048, .f32⟩
  | 27 => ⟨S512x2048, .f32⟩
  | 28 => ⟨S1x512, .f32⟩
  | 29 => ⟨S512, .f32⟩
  | 30 => ⟨S1x512, .f32⟩
  | 31 => ⟨S512, .f32⟩
  | 32 => ⟨S1x512, .f32⟩
  | 33 => ⟨S512, .f32⟩
  | 34 => ⟨S1x512, .f32⟩
  | 35 => ⟨S512, .f32⟩
  | 36 => ⟨S1x512, .f32⟩
  | 37 => ⟨S512, .f32⟩
  | 38 => ⟨S512x1536, .f32⟩
  | 39 => ⟨S4x2048x1536, .f32⟩
  | 40 => ⟨S1x1x1536, .f32⟩
  | 41 => ⟨S4x2048x1536, .f32⟩
  | 42 => ⟨S4x2048x1536, .f32⟩
  | 43 => ⟨S4x2048x512, .f32⟩
  | 44 => ⟨S4x2048x512, .f32⟩
  | 45 => ⟨S4x2048x512, .f32⟩
  | 46 => ⟨S4x2048x8x64, .f32⟩
  | 47 => ⟨S4x8x2048x64, .f32⟩
  | 48 => ⟨S4x2048x8x64, .f32⟩
  | 49 => ⟨S4x8x2048x64, .f32⟩
  | 50 => ⟨S4x2048x8x64, .f32⟩
  | 51 => ⟨S4x8x2048x64, .f32⟩
  | 52 => ⟨S4x8x2048x2048, .f32⟩
  | 53 => ⟨S_, .f32⟩
  | 54 => ⟨S4x8x2048x2048, .f32⟩
  | 55 => ⟨S4x8x2048x2048, .f32⟩
  | 56 => ⟨S_, .f32⟩
  | 57 => ⟨S4x8x2048, .f32⟩
  | 58 => ⟨S_, .f32⟩
  | 59 => ⟨S4x8x2048, .f32⟩
  | 60 => ⟨S4x8x2048, .f32⟩
  | 61 => ⟨S4x8x2048x1, .f32⟩
  | 62 => ⟨S4x8x2048x2048, .f32⟩
  | 63 => ⟨S4x8x2048x2048, .f32⟩
  | 64 => ⟨S4x8x2048x2048, .f32⟩
  | 65 => ⟨S_, .f32⟩
  | 66 => ⟨S4x8x2048, .f32⟩
  | 67 => ⟨S4x8x2048x1, .f32⟩
  | 68 => ⟨S4x8x2048x2048, .f32⟩
  | 69 => ⟨S4x8x2048x2048, .f32⟩
  | 70 => ⟨S4x8x2048x64, .f32⟩
  | 71 => ⟨S4x2048x8x64, .f32⟩
  | 72 => ⟨S4x2048x512, .f32⟩
  | 73 => ⟨S512x512, .f32⟩
  | 74 => ⟨S4x2048x512, .f32⟩
  | 75 => ⟨S1x1x512, .f32⟩
  | 76 => ⟨S4x2048x512, .f32⟩
  | 77 => ⟨S4x2048x512, .f32⟩
  | 78 => ⟨S4x2048x512, .f32⟩
  | 79 => ⟨S_, .f32⟩
  | 80 => ⟨S4x2048, .f32⟩
  | 81 => ⟨S4x2048x1, .f32⟩
  | 82 => ⟨S_, .f32⟩
  | 83 => ⟨S4x2048x1, .f32⟩
  | 84 => ⟨S4x2048x1, .f32⟩
  | 85 => ⟨S4x2048x512, .f32⟩
  | 86 => ⟨S4x2048x512, .f32⟩
  | 87 => ⟨S4x2048x512, .f32⟩
  | 88 => ⟨S_, .f32⟩
  | 89 => ⟨S4x2048, .f32⟩
  | 90 => ⟨S4x2048x1, .f32⟩
  | 91 => ⟨S_, .f32⟩
  | 92 => ⟨S4x2048x1, .f32⟩
  | 93 => ⟨S4x2048x1, .f32⟩
  | 94 => ⟨S4x2048x512, .f32⟩
  | 95 => ⟨S4x2048x512, .f32⟩
  | 96 => ⟨S_, .f32⟩
  | 97 => ⟨S4x2048x1, .f32⟩
  | 98 => ⟨S4x2048x1, .f32⟩
  | 99 => ⟨S4x2048x1, .f32⟩
  | 100 => ⟨S4x2048x512, .f32⟩
  | 101 => ⟨S4x2048x512, .f32⟩
  | 102 => ⟨S1x1x512, .f32⟩
  | 103 => ⟨S4x2048x512, .f32⟩
  | 104 => ⟨S4x2048x512, .f32⟩
  | 105 => ⟨S1x1x512, .f32⟩
  | 106 => ⟨S4x2048x512, .f32⟩
  | 107 => ⟨S4x2048x512, .f32⟩
  | 108 => ⟨S512x2048, .f32⟩
  | 109 => ⟨S4x2048x2048, .f32⟩
  | 110 => ⟨S1x1x2048, .f32⟩
  | 111 => ⟨S4x2048x2048, .f32⟩
  | 112 => ⟨S4x2048x2048, .f32⟩
  | 113 => ⟨S_, .f32⟩
  | 114 => ⟨S4x2048x2048, .f32⟩
  | 115 => ⟨S4x2048x2048, .f32⟩
  | 116 => ⟨S2048x512, .f32⟩
  | 117 => ⟨S4x2048x512, .f32⟩
  | 118 => ⟨S1x1x512, .f32⟩
  | 119 => ⟨S4x2048x512, .f32⟩
  | 120 => ⟨S4x2048x512, .f32⟩
  | 121 => ⟨S4x2048x512, .f32⟩
  | 122 => ⟨S_, .f32⟩
  | 123 => ⟨S4x2048, .f32⟩
  | 124 => ⟨S4x2048x1, .f32⟩
  | 125 => ⟨S_, .f32⟩
  | 126 => ⟨S4x2048x1, .f32⟩
  | 127 => ⟨S4x2048x1, .f32⟩
  | _ => ⟨S4x2048x512, .f32⟩

abbrev hbmTy0_1 (i : Nat) : BufTy := match i % 128 with
  | 0 => ⟨S4x2048x512, .f32⟩
  | 1 => ⟨S4x2048x512, .f32⟩
  | 2 => ⟨S4x2048x512, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S4x2048x512, .f32⟩
  | 10 => ⟨S4x2048x512, .f32⟩
  | 11 => ⟨S_, .f32⟩
  | 12 => ⟨S4x2048x1, .f32⟩
  | 13 => ⟨S4x2048x1, .f32⟩
  | 14 => ⟨S4x2048x1, .f32⟩
  | 15 => ⟨S4x2048x512, .f32⟩
  | 16 => ⟨S4x2048x512, .f32⟩
  | 17 => ⟨S1x1x512, .f32⟩
  | 18 => ⟨S4x2048x512, .f32⟩
  | 19 => ⟨S4x2048x512, .f32⟩
  | 20 => ⟨S1x1x512, .f32⟩
  | 21 => ⟨S4x2048x512, .f32⟩
  | 22 => ⟨S4x2048x512, .f32⟩
  | 23 => ⟨S1x1536x512, .f32⟩
  | 24 => ⟨S1536x512, .f32⟩
  | 25 => ⟨S1x1536, .f32⟩
  | 26 => ⟨S1536, .f32⟩
  | 27 => ⟨S1x512x512, .f32⟩
  | 28 => ⟨S512x512, .f32⟩
  | 29 => ⟨S1x512, .f32⟩
  | 30 => ⟨S512, .f32⟩
  | 31 => ⟨S1x2048x512, .f32⟩
  | 32 => ⟨S2048x512, .f32⟩
  | 33 => ⟨S1x2048, .f32⟩
  | 34 => ⟨S2048, .f32⟩
  | 35 => ⟨S1x512x2048, .f32⟩
  | 36 => ⟨S512x2048, .f32⟩
  | 37 => ⟨S1x512, .f32⟩
  | 38 => ⟨S512, .f32⟩
  | 39 => ⟨S1x512, .f32⟩
  | 40 => ⟨S512, .f32⟩
  | 41 => ⟨S1x512, .f32⟩
  | 42 => ⟨S512, .f32⟩
  | 43 => ⟨S1x512, .f32⟩
  | 44 => ⟨S512, .f32⟩
  | 45 => ⟨S1x512, .f32⟩
  | 46 => ⟨S512, .f32⟩
  | 47 => ⟨S512x1536, .f32⟩
  | 48 => ⟨S4x2048x1536, .f32⟩
  | 49 => ⟨S1x1x1536, .f32⟩
  | 50 => ⟨S4x2048x1536, .f32⟩
  | 51 => ⟨S4x2048x1536, .f32⟩
  | 52 => ⟨S4x2048x512, .f32⟩
  | 53 => ⟨S4x2048x512, .f32⟩
  | 54 => ⟨S4x2048x512, .f32⟩
  | 55 => ⟨S4x2048x8x64, .f32⟩
  | 56 => ⟨S4x8x2048x64, .f32⟩
  | 57 => ⟨S4x2048x8x64, .f32⟩
  | 58 => ⟨S4x8x2048x64, .f32⟩
  | 59 => ⟨S4x2048x8x64, .f32⟩
  | 60 => ⟨S4x8x2048x64, .f32⟩
  | 61 => ⟨S4x8x2048x2048, .f32⟩
  | 62 => ⟨S_, .f32⟩
  | 63 => ⟨S4x8x2048x2048, .f32⟩
  | 64 => ⟨S4x8x2048x2048, .f32⟩
  | 65 => ⟨S_, .f32⟩
  | 66 => ⟨S4x8x2048, .f32⟩
  | 67 => ⟨S_, .f32⟩
  | 68 => ⟨S4x8x2048, .f32⟩
  | 69 => ⟨S4x8x2048, .f32⟩
  | 70 => ⟨S4x8x2048x1, .f32⟩
  | 71 => ⟨S4x8x2048x2048, .f32⟩
  | 72 => ⟨S4x8x2048x2048, .f32⟩
  | 73 => ⟨S4x8x2048x2048, .f32⟩
  | 74 => ⟨S_, .f32⟩
  | 75 => ⟨S4x8x2048, .f32⟩
  | 76 => ⟨S4x8x2048x1, .f32⟩
  | 77 => ⟨S4x8x2048x2048, .f32⟩
  | 78 => ⟨S4x8x2048x2048, .f32⟩
  | 79 => ⟨S4x8x2048x64, .f32⟩
  | 80 => ⟨S4x2048x8x64, .f32⟩
  | 81 => ⟨S4x2048x512, .f32⟩
  | 82 => ⟨S512x512, .f32⟩
  | 83 => ⟨S4x2048x512, .f32⟩
  | 84 => ⟨S1x1x512, .f32⟩
  | 85 => ⟨S4x2048x512, .f32⟩
  | 86 => ⟨S4x2048x512, .f32⟩
  | 87 => ⟨S4x2048x512, .f32⟩
  | 88 => ⟨S_, .f32⟩
  | 89 => ⟨S4x2048, .f32⟩
  | 90 => ⟨S4x2048x1, .f32⟩
  | 91 => ⟨S_, .f32⟩
  | 92 => ⟨S4x2048x1, .f32⟩
  | 93 => ⟨S4x2048x1, .f32⟩
  | 94 => ⟨S4x2048x512, .f32⟩
  | 95 => ⟨S4x2048x512, .f32⟩
  | 96 => ⟨S4x2048x512, .f32⟩
  | 97 => ⟨S_, .f32⟩
  | 98 => ⟨S4x2048, .f32⟩
  | 99 => ⟨S4x2048x1, .f32⟩
  | 100 => ⟨S_, .f32⟩
  | 101 => ⟨S4x2048x1, .f32⟩
  | 102 => ⟨S4x2048x1, .f32⟩
  | 103 => ⟨S4x2048x512, .f32⟩
  | 104 => ⟨S4x2048x512, .f32⟩
  | 105 => ⟨S_, .f32⟩
  | 106 => ⟨S4x2048x1, .f32⟩
  | 107 => ⟨S4x2048x1, .f32⟩
  | 108 => ⟨S4x2048x1, .f32⟩
  | 109 => ⟨S4x2048x512, .f32⟩
  | 110 => ⟨S4x2048x512, .f32⟩
  | 111 => ⟨S1x1x512, .f32⟩
  | 112 => ⟨S4x2048x512, .f32⟩
  | 113 => ⟨S4x2048x512, .f32⟩
  | 114 => ⟨S1x1x512, .f32⟩
  | 115 => ⟨S4x2048x512, .f32⟩
  | 116 => ⟨S4x2048x512, .f32⟩
  | 117 => ⟨S512x2048, .f32⟩
  | 118 => ⟨S4x2048x2048, .f32⟩
  | 119 => ⟨S1x1x2048, .f32⟩
  | 120 => ⟨S4x2048x2048, .f32⟩
  | 121 => ⟨S4x2048x2048, .f32⟩
  | 122 => ⟨S_, .f32⟩
  | 123 => ⟨S4x2048x2048, .f32⟩
  | 124 => ⟨S4x2048x2048, .f32⟩
  | 125 => ⟨S2048x512, .f32⟩
  | 126 => ⟨S4x2048x512, .f32⟩
  | 127 => ⟨S1x1x512, .f32⟩
  | _ => ⟨S4x2048x512, .f32⟩

abbrev hbmTy0_2 (i : Nat) : BufTy := match i % 128 with
  | 0 => ⟨S4x2048x512, .f32⟩
  | 1 => ⟨S4x2048x512, .f32⟩
  | 2 => ⟨S4x2048x512, .f32⟩
  | 3 => ⟨S_, .f32⟩
  | 4 => ⟨S4x2048, .f32⟩
  | 5 => ⟨S4x2048x1, .f32⟩
  | 6 => ⟨S_, .f32⟩
  | 7 => ⟨S4x2048x1, .f32⟩
  | 8 => ⟨S4x2048x1, .f32⟩
  | 9 => ⟨S4x2048x512, .f32⟩
  | 10 => ⟨S4x2048x512, .f32⟩
  | 11 => ⟨S4x2048x512, .f32⟩
  | 12 => ⟨S_, .f32⟩
  | 13 => ⟨S4x2048, .f32⟩
  | 14 => ⟨S4x2048x1, .f32⟩
  | 15 => ⟨S_, .f32⟩
  | 16 => ⟨S4x2048x1, .f32⟩
  | 17 => ⟨S4x2048x1, .f32⟩
  | 18 => ⟨S4x2048x512, .f32⟩
  | 19 => ⟨S4x2048x512, .f32⟩
  | 20 => ⟨S_, .f32⟩
  | 21 => ⟨S4x2048x1, .f32⟩
  | 22 => ⟨S4x2048x1, .f32⟩
  | 23 => ⟨S4x2048x1, .f32⟩
  | 24 => ⟨S4x2048x512, .f32⟩
  | 25 => ⟨S4x2048x512, .f32⟩
  | 26 => ⟨S1x1x512, .f32⟩
  | 27 => ⟨S4x2048x512, .f32⟩
  | 28 => ⟨S4x2048x512, .f32⟩
  | 29 => ⟨S1x1x512, .f32⟩
  | 30 => ⟨S4x2048x512, .f32⟩
  | 31 => ⟨S4x2048x512, .f32⟩
  | 32 => ⟨S_, .f32⟩
  | 33 => ⟨S4x2048, .f32⟩
  | 34 => ⟨S4x2048, .i1⟩
  | 35 => ⟨S4x2048, .i32⟩
  | 36 => ⟨S_, .i32⟩
  | 37 => ⟨S1, .i32⟩
  | 38 => ⟨S_, .i32⟩
  | 39 => ⟨S4, .i32⟩
  | 40 => ⟨S4x2048, .i32⟩
  | 41 => ⟨S_, .i32⟩
  | 42 => ⟨S_, .i32⟩
  | 43 => ⟨S4x2048, .i32⟩
  | 44 => ⟨S4x2048, .i32⟩
  | 45 => ⟨S4x1, .i32⟩
  | 46 => ⟨S4, .i32⟩
  | 47 => ⟨S_, .i32⟩
  | 48 => ⟨S4, .i32⟩
  | 49 => ⟨S4, .i32⟩
  | 50 => ⟨S4, .i32⟩
  | 51 => ⟨S4x1, .i32⟩
  | 52 => ⟨S_, .i32⟩
  | 53 => ⟨S4x1, .i32⟩
  | 54 => ⟨S4x1, .i32⟩
  | 55 => ⟨S4x2048, .i32⟩
  | 56 => ⟨S4x2048, .i32⟩
  | 57 => ⟨S8192, .i32⟩
  | 58 => ⟨S8192x512, .f32⟩
  | 59 => ⟨S_, .f32⟩
  | 60 => ⟨S8192x512, .f32⟩
  | 61 => ⟨S8192x1, .i32⟩
  | 62 => ⟨S8192x512, .f32⟩
  | 63 => ⟨S4x2048x512, .f32⟩
  | 64 => ⟨S_, .f32⟩
  | 65 => ⟨S8192, .f32⟩
  | 66 => ⟨S_, .f32⟩
  | 67 => ⟨S8192, .f32⟩
  | 68 => ⟨S8192x1, .i32⟩
  | 69 => ⟨S8192, .f32⟩
  | 70 => ⟨S4x2048, .f32⟩
  | 71 => ⟨S_, .f32⟩
  | 72 => ⟨S4x2048, .f32⟩
  | 73 => ⟨S4x2048, .f32⟩
  | 74 => ⟨S4x2048x1, .f32⟩
  | 75 => ⟨S4x2048x512, .f32⟩
  | 76 => ⟨S4x2048x512, .f32⟩
  | 77 => ⟨S2048, .i32⟩
  | 78 => ⟨S1x2048, .i32⟩
  | 79 => ⟨S4x1, .i32⟩
  | 80 => ⟨S4x2048, .i32⟩
  | 81 => ⟨S4x2048, .i32⟩
  | 82 => ⟨S4x2048, .i1⟩
  | 83 => ⟨S4x2048x1, .i1⟩
  | 84 => ⟨S_, .f32⟩
  | 85 => ⟨S_, .f32⟩
  | 86 => ⟨S4x2048x512, .i1⟩
  | 87 => ⟨S4x2048x512, .f32⟩
  | 88 => ⟨S4x2048x512, .f32⟩
  | 89 => ⟨S4x1024x512, .f32⟩
  | 90 => ⟨S1x1536x512, .f32⟩
  | 91 => ⟨S1536x512, .f32⟩
  | 92 => ⟨S1x1536, .f32⟩
  | 93 => ⟨S1536, .f32⟩
  | 94 => ⟨S1x512x512, .f32⟩
  | 95 => ⟨S512x512, .f32⟩
  | 96 => ⟨S1x512, .f32⟩
  | 97 => ⟨S512, .f32⟩
  | 98 => ⟨S1x2048x512, .f32⟩
  | 99 => ⟨S2048x512, .f32⟩
  | 100 => ⟨S1x2048, .f32⟩
  | 101 => ⟨S2048, .f32⟩
  | 102 => ⟨S1x512x2048, .f32⟩
  | 103 => ⟨S512x2048, .f32⟩
  | 104 => ⟨S1x512, .f32⟩
  | 105 => ⟨S512, .f32⟩
  | 106 => ⟨S1x512, .f32⟩
  | 107 => ⟨S512, .f32⟩
  | 108 => ⟨S1x512, .f32⟩
  | 109 => ⟨S512, .f32⟩
  | 110 => ⟨S1x512, .f32⟩
  | 111 => ⟨S512, .f32⟩
  | 112 => ⟨S1x512, .f32⟩
  | 113 => ⟨S512, .f32⟩
  | 114 => ⟨S512x1536, .f32⟩
  | 115 => ⟨S4x1024x1536, .f32⟩
  | 116 => ⟨S1x1x1536, .f32⟩
  | 117 => ⟨S4x1024x1536, .f32⟩
  | 118 => ⟨S4x1024x1536, .f32⟩
  | 119 => ⟨S4x1024x512, .f32⟩
  | 120 => ⟨S4x1024x512, .f32⟩
  | 121 => ⟨S4x1024x512, .f32⟩
  | 122 => ⟨S4x1024x8x64, .f32⟩
  | 123 => ⟨S4x8x1024x64, .f32⟩
  | 124 => ⟨S4x1024x8x64, .f32⟩
  | 125 => ⟨S4x8x1024x64, .f32⟩
  | 126 => ⟨S4x1024x8x64, .f32⟩
  | 127 => ⟨S4x8x1024x64, .f32⟩
  | _ => ⟨S4x2048x512, .f32⟩

abbrev hbmTy0_3 (i : Nat) : BufTy := match i % 128 with
  | 0 => ⟨S4x8x1024x1024, .f32⟩
  | 1 => ⟨S_, .f32⟩
  | 2 => ⟨S4x8x1024x1024, .f32⟩
  | 3 => ⟨S4x8x1024x1024, .f32⟩
  | 4 => ⟨S_, .f32⟩
  | 5 => ⟨S4x8x1024, .f32⟩
  | 6 => ⟨S_, .f32⟩
  | 7 => ⟨S4x8x1024, .f32⟩
  | 8 => ⟨S4x8x1024, .f32⟩
  | 9 => ⟨S4x8x1024x1, .f32⟩
  | 10 => ⟨S4x8x1024x1024, .f32⟩
  | 11 => ⟨S4x8x1024x1024, .f32⟩
  | 12 => ⟨S4x8x1024x1024, .f32⟩
  | 13 => ⟨S_, .f32⟩
  | 14 => ⟨S4x8x1024, .f32⟩
  | 15 => ⟨S4x8x1024x1, .f32⟩
  | 16 => ⟨S4x8x1024x1024, .f32⟩
  | 17 => ⟨S4x8x1024x1024, .f32⟩
  | 18 => ⟨S4x8x1024x64, .f32⟩
  | 19 => ⟨S4x1024x8x64, .f32⟩
  | 20 => ⟨S4x1024x512, .f32⟩
  | 21 => ⟨S512x512, .f32⟩
  | 22 => ⟨S4x1024x512, .f32⟩
  | 23 => ⟨S1x1x512, .f32⟩
  | 24 => ⟨S4x1024x512, .f32⟩
  | 25 => ⟨S4x1024x512, .f32⟩
  | 26 => ⟨S4x1024x512, .f32⟩
  | 27 => ⟨S_, .f32⟩
  | 28 => ⟨S4x1024, .f32⟩
  | 29 => ⟨S4x1024x1, .f32⟩
  | 30 => ⟨S_, .f32⟩
  | 31 => ⟨S4x1024x1, .f32⟩
  | 32 => ⟨S4x1024x1, .f32⟩
  | 33 => ⟨S4x1024x512, .f32⟩
  | 34 => ⟨S4x1024x512, .f32⟩
  | 35 => ⟨S4x1024x512, .f32⟩
  | 36 => ⟨S_, .f32⟩
  | 37 => ⟨S4x1024, .f32⟩
  | 38 => ⟨S4x1024x1, .f32⟩
  | 39 => ⟨S_, .f32⟩
  | 40 => ⟨S4x1024x1, .f32⟩
  | 41 => ⟨S4x1024x1, .f32⟩
  | 42 => ⟨S4x1024x512, .f32⟩
  | 43 => ⟨S4x1024x512, .f32⟩
  | 44 => ⟨S_, .f32⟩
  | 45 => ⟨S4x1024x1, .f32⟩
  | 46 => ⟨S4x1024x1, .f32⟩
  | 47 => ⟨S4x1024x1, .f32⟩
  | 48 => ⟨S4x1024x512, .f32⟩
  | 49 => ⟨S4x1024x512, .f32⟩
  | 50 => ⟨S1x1x512, .f32⟩
  | 51 => ⟨S4x1024x512, .f32⟩
  | 52 => ⟨S4x1024x512, .f32⟩
  | 53 => ⟨S1x1x512, .f32⟩
  | 54 => ⟨S4x1024x512, .f32⟩
  | 55 => ⟨S4x1024x512, .f32⟩
  | 56 => ⟨S512x2048, .f32⟩
  | 57 => ⟨S4x1024x2048, .f32⟩
  | 58 => ⟨S1x1x2048, .f32⟩
  | 59 => ⟨S4x1024x2048, .f32⟩
  | 60 => ⟨S4x1024x2048, .f32⟩
  | 61 => ⟨S_, .f32⟩
  | 62 => ⟨S4x1024x2048, .f32⟩
  | 63 => ⟨S4x1024x2048, .f32⟩
  | 64 => ⟨S2048x512, .f32⟩
  | 65 => ⟨S4x1024x512, .f32⟩
  | 66 => ⟨S1x1x512, .f32⟩
  | 67 => ⟨S4x1024x512, .f32⟩
  | 68 => ⟨S4x1024x512, .f32⟩
  | 69 => ⟨S4x1024x512, .f32⟩
  | 70 => ⟨S_, .f32⟩
  | 71 => ⟨S4x1024, .f32⟩
  | 72 => ⟨S4x1024x1, .f32⟩
  | 73 => ⟨S_, .f32⟩
  | 74 => ⟨S4x1024x1, .f32⟩
  | 75 => ⟨S4x1024x1, .f32⟩
  | 76 => ⟨S4x1024x512, .f32⟩
  | 77 => ⟨S4x1024x512, .f32⟩
  | 78 => ⟨S4x1024x512, .f32⟩
  | 79 => ⟨S_, .f32⟩
  | 80 => ⟨S4x1024, .f32⟩
  | 81 => ⟨S4x1024x1, .f32⟩
  | 82 => ⟨S_, .f32⟩
  | 83 => ⟨S4x1024x1, .f32⟩
  | 84 => ⟨S4x1024x1, .f32⟩
  | 85 => ⟨S4x1024x512, .f32⟩
  | 86 => ⟨S4x1024x512, .f32⟩
  | 87 => ⟨S_, .f32⟩
  | 88 => ⟨S4x1024x1, .f32⟩
  | 89 => ⟨S4x1024x1, .f32⟩
  | 90 => ⟨S4x1024x1, .f32⟩
  | 91 => ⟨S4x1024x512, .f32⟩
  | 92 => ⟨S4x1024x512, .f32⟩
  | 93 => ⟨S1x1x512, .f32⟩
  | 94 => ⟨S4x1024x512, .f32⟩
  | 95 => ⟨S4x1024x512, .f32⟩
  | 96 => ⟨S1x1x512, .f32⟩
  | 97 => ⟨S4x1024x512, .f32⟩
  | 98 => ⟨S4x1024x512, .f32⟩
  | 99 => ⟨S1x1536x512, .f32⟩
  | 100 => ⟨S1536x512, .f32⟩
  | 101 => ⟨S1x1536, .f32⟩
  | 102 => ⟨S1536, .f32⟩
  | 103 => ⟨S1x512x512, .f32⟩
  | 104 => ⟨S512x512, .f32⟩
  | 105 => ⟨S1x512, .f32⟩
  | 106 => ⟨S512, .f32⟩
  | 107 => ⟨S1x2048x512, .f32⟩
  | 108 => ⟨S2048x512, .f32⟩
  | 109 => ⟨S1x2048, .f32⟩
  | 110 => ⟨S2048, .f32⟩
  | 111 => ⟨S1x512x2048, .f32⟩
  | 112 => ⟨S512x2048, .f32⟩
  | 113 => ⟨S1x512, .f32⟩
  | 114 => ⟨S512, .f32⟩
  | 115 => ⟨S1x512, .f32⟩
  | 116 => ⟨S512, .f32⟩
  | 117 => ⟨S1x512, .f32⟩
  | 118 => ⟨S512, .f32⟩
  | 119 => ⟨S1x512, .f32⟩
  | 120 => ⟨S512, .f32⟩
  | 121 => ⟨S1x512, .f32⟩
  | 122 => ⟨S512, .f32⟩
  | 123 => ⟨S512x1536, .f32⟩
  | 124 => ⟨S4x1024x1536, .f32⟩
  | 125 => ⟨S1x1x1536, .f32⟩
  | 126 => ⟨S4x1024x1536, .f32⟩
  | 127 => ⟨S4x1024x1536, .f32⟩
  | _ => ⟨S4x2048x512, .f32⟩

abbrev hbmTy0_4 (i : Nat) : BufTy := match i % 128 with
  | 0 => ⟨S4x1024x512, .f32⟩
  | 1 => ⟨S4x1024x512, .f32⟩
  | 2 => ⟨S4x1024x512, .f32⟩
  | 3 => ⟨S4x1024x8x64, .f32⟩
  | 4 => ⟨S4x8x1024x64, .f32⟩
  | 5 => ⟨S4x1024x8x64, .f32⟩
  | 6 => ⟨S4x8x1024x64, .f32⟩
  | 7 => ⟨S4x1024x8x64, .f32⟩
  | 8 => ⟨S4x8x1024x64, .f32⟩
  | 9 => ⟨S4x8x1024x1024, .f32⟩
  | 10 => ⟨S_, .f32⟩
  | 11 => ⟨S4x8x1024x1024, .f32⟩
  | 12 => ⟨S4x8x1024x1024, .f32⟩
  | 13 => ⟨S_, .f32⟩
  | 14 => ⟨S4x8x1024, .f32⟩
  | 15 => ⟨S_, .f32⟩
  | 16 => ⟨S4x8x1024, .f32⟩
  | 17 => ⟨S4x8x1024, .f32⟩
  | 18 => ⟨S4x8x1024x1, .f32⟩
  | 19 => ⟨S4x8x1024x1024, .f32⟩
  | 20 => ⟨S4x8x1024x1024, .f32⟩
  | 21 => ⟨S4x8x1024x1024, .f32⟩
  | 22 => ⟨S_, .f32⟩
  | 23 => ⟨S4x8x1024, .f32⟩
  | 24 => ⟨S4x8x1024x1, .f32⟩
  | 25 => ⟨S4x8x1024x1024, .f32⟩
  | 26 => ⟨S4x8x1024x1024, .f32⟩
  | 27 => ⟨S4x8x1024x64, .f32⟩
  | 28 => ⟨S4x1024x8x64, .f32⟩
  | 29 => ⟨S4x1024x512, .f32⟩
  | 30 => ⟨S512x512, .f32⟩
  | 31 => ⟨S4x1024x512, .f32⟩
  | 32 => ⟨S1x1x512, .f32⟩
  | 33 => ⟨S4x1024x512, .f32⟩
  | 34 => ⟨S4x1024x512, .f32⟩
  | 35 => ⟨S4x1024x512, .f32⟩
  | 36 => ⟨S_, .f32⟩
  | 37 => ⟨S4x1024, .f32⟩
  | 38 => ⟨S4x1024x1, .f32⟩
  | 39 => ⟨S_, .f32⟩
  | 40 => ⟨S4x1024x1, .f32⟩
  | 41 => ⟨S4x1024x1, .f32⟩
  | 42 => ⟨S4x1024x512, .f32⟩
  | 43 => ⟨S4x1024x512, .f32⟩
  | 44 => ⟨S4x1024x512, .f32⟩
  | 45 => ⟨S_, .f32⟩
  | 46 => ⟨S4x1024, .f32⟩
  | 47 => ⟨S4x1024x1, .f32⟩
  | 48 => ⟨S_, .f32⟩
  | 49 => ⟨S4x1024x1, .f32⟩
  | 50 => ⟨S4x1024x1, .f32⟩
  | 51 => ⟨S4x1024x512, .f32⟩
  | 52 => ⟨S4x1024x512, .f32⟩
  | 53 => ⟨S_, .f32⟩
  | 54 => ⟨S4x1024x1, .f32⟩
  | 55 => ⟨S4x1024x1, .f32⟩
  | 56 => ⟨S4x1024x1, .f32⟩
  | 57 => ⟨S4x1024x512, .f32⟩
  | 58 => ⟨S4x1024x512, .f32⟩
  | 59 => ⟨S1x1x512, .f32⟩
  | 60 => ⟨S4x1024x512, .f32⟩
  | 61 => ⟨S4x1024x512, .f32⟩
  | 62 => ⟨S1x1x512, .f32⟩
  | 63 => ⟨S4x1024x512, .f32⟩
  | 64 => ⟨S4x1024x512, .f32⟩
  | 65 => ⟨S512x2048, .f32⟩
  | 66 => ⟨S4x1024x2048, .f32⟩
  | 67 => ⟨S1x1x2048, .f32⟩
  | 68 => ⟨S4x1024x2048, .f32⟩
  | 69 => ⟨S4x1024x2048, .f32⟩
  | 70 => ⟨S_, .f32⟩
  | 71 => ⟨S4x1024x2048, .f32⟩
  | 72 => ⟨S4x1024x2048, .f32⟩
  | 73 => ⟨S2048x512, .f32⟩
  | 74 => ⟨S4x1024x512, .f32⟩
  | 75 => ⟨S1x1x512, .f32⟩
  | 76 => ⟨S4x1024x512, .f32⟩
  | 77 => ⟨S4x1024x512, .f32⟩
  | 78 => ⟨S4x1024x512, .f32⟩
  | 79 => ⟨S_, .f32⟩
  | 80 => ⟨S4x1024, .f32⟩
  | 81 => ⟨S4x1024x1, .f32⟩
  | 82 => ⟨S_, .f32⟩
  | 83 => ⟨S4x1024x1, .f32⟩
  | 84 => ⟨S4x1024x1, .f32⟩
  | 85 => ⟨S4x1024x512, .f32⟩
  | 86 => ⟨S4x1024x512, .f32⟩
  | 87 => ⟨S4x1024x512, .f32⟩
  | 88 => ⟨S_, .f32⟩
  | 89 => ⟨S4x1024, .f32⟩
  | 90 => ⟨S4x1024x1, .f32⟩
  | 91 => ⟨S_, .f32⟩
  | 92 => ⟨S4x1024x1, .f32⟩
  | 93 => ⟨S4x1024x1, .f32⟩
  | 94 => ⟨S4x1024x512, .f32⟩
  | 95 => ⟨S4x1024x512, .f32⟩
  | 96 => ⟨S_, .f32⟩
  | 97 => ⟨S4x1024x1, .f32⟩
  | 98 => ⟨S4x1024x1, .f32⟩
  | 99 => ⟨S4x1024x1, .f32⟩
  | 100 => ⟨S4x1024x512, .f32⟩
  | 101 => ⟨S4x1024x512, .f32⟩
  | 102 => ⟨S1x1x512, .f32⟩
  | 103 => ⟨S4x1024x512, .f32⟩
  | 104 => ⟨S4x1024x512, .f32⟩
  | 105 => ⟨S1x1x512, .f32⟩
  | 106 => ⟨S4x1024x512, .f32⟩
  | 107 => ⟨S4x1024x512, .f32⟩
  | _ => ⟨S4x2048x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_v39 : Ref sig .tc := ⟨.hbm, 54, rfl⟩
abbrev main_v40 : Ref sig .tc := ⟨.hbm, 55, rfl⟩
abbrev main_cst_0 : Ref sig .tc := ⟨.hbm, 56, rfl⟩
abbrev main_v41 : Ref sig .tc := ⟨.hbm, 57, rfl⟩
abbrev main_cst_1 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_2 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_3 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_5 : Ref sig .tc := ⟨.hbm, 88, rfl⟩
abbrev main_v68 : Ref sig .tc := ⟨.hbm, 89, rfl⟩
abbrev main_v69 : Ref sig .tc := ⟨.hbm, 90, rfl⟩
abbrev main_cst_6 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call0_cst : Ref sig .tc := ⟨.hbm, 113, rfl⟩
abbrev main_call0_v0 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_8 : Ref sig .tc := ⟨.hbm, 122, rfl⟩
abbrev main_v97 : Ref sig .tc := ⟨.hbm, 123, rfl⟩
abbrev main_v98 : Ref sig .tc := ⟨.hbm, 124, rfl⟩
abbrev main_cst_9 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_cst_11 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_12 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_cst_13 : Ref sig .tc := ⟨.hbm, 190, rfl⟩
abbrev main_v160 : Ref sig .tc := ⟨.hbm, 191, rfl⟩
abbrev main_v161 : Ref sig .tc := ⟨.hbm, 192, rfl⟩
abbrev main_cst_14 : Ref sig .tc := ⟨.hbm, 193, rfl⟩
abbrev main_v162 : Ref sig .tc := ⟨.hbm, 194, rfl⟩
abbrev main_cst_15 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_cst_16 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_cst_17 : Ref sig .tc := ⟨.hbm, 216, rfl⟩
abbrev main_v182 : Ref sig .tc := ⟨.hbm, 217, rfl⟩
abbrev main_v183 : Ref sig .tc := ⟨.hbm, 218, rfl⟩
abbrev main_cst_18 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_cst_19 : Ref sig .tc := ⟨.hbm, 225, rfl⟩
abbrev main_v189 : Ref sig .tc := ⟨.hbm, 226, rfl⟩
abbrev main_v190 : Ref sig .tc := ⟨.hbm, 227, rfl⟩
abbrev main_cst_20 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_cst_21 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_call1_cst : Ref sig .tc := ⟨.hbm, 250, rfl⟩
abbrev main_call1_v0 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_cst_22 : Ref sig .tc := ⟨.hbm, 259, rfl⟩
abbrev main_v218 : Ref sig .tc := ⟨.hbm, 260, rfl⟩
abbrev main_v219 : Ref sig .tc := ⟨.hbm, 261, rfl⟩
abbrev main_cst_23 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_v224 : Ref sig .tc := ⟨.hbm, 267, rfl⟩
abbrev main_cst_24 : Ref sig .tc := ⟨.hbm, 268, rfl⟩
abbrev main_v225 : Ref sig .tc := ⟨.hbm, 269, rfl⟩
abbrev main_v226 : Ref sig .tc := ⟨.hbm, 270, rfl⟩
abbrev main_cst_25 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_cst_26 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_v234 : Ref sig .tc := ⟨.hbm, 280, rfl⟩
abbrev main_v235 : Ref sig .tc := ⟨.hbm, 281, rfl⟩
abbrev main_v236 : Ref sig .tc := ⟨.hbm, 282, rfl⟩
abbrev main_v237 : Ref sig .tc := ⟨.hbm, 283, rfl⟩
abbrev main_v238 : Ref sig .tc := ⟨.hbm, 284, rfl⟩
abbrev main_v239 : Ref sig .tc := ⟨.hbm, 285, rfl⟩
abbrev main_v240 : Ref sig .tc := ⟨.hbm, 286, rfl⟩
abbrev main_v241 : Ref sig .tc := ⟨.hbm, 287, rfl⟩
abbrev main_cst_27 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_c : Ref sig .tc := ⟨.hbm, 292, rfl⟩
abbrev main_v245 : Ref sig .tc := ⟨.hbm, 293, rfl⟩
abbrev main_c_28 : Ref sig .tc := ⟨.hbm, 294, rfl⟩
abbrev main_v246 : Ref sig .tc := ⟨.hbm, 295, rfl⟩
abbrev main_v247 : Ref sig .tc := ⟨.hbm, 296, rfl⟩
abbrev main_call2_call0_c : Ref sig .tc := ⟨.hbm, 297, rfl⟩
abbrev main_call2_call0_v0 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_c_29 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_c_30 : Ref sig .tc := ⟨.hbm, 308, rfl⟩
abbrev main_v256 : Ref sig .tc := ⟨.hbm, 309, rfl⟩
abbrev main_v257 : Ref sig .tc := ⟨.hbm, 310, rfl⟩
abbrev main_v258 : Ref sig .tc := ⟨.hbm, 311, rfl⟩
abbrev main_v259 : Ref sig .tc := ⟨.hbm, 312, rfl⟩
abbrev main_v260 : Ref sig .tc := ⟨.hbm, 313, rfl⟩
abbrev main_v261 : Ref sig .tc := ⟨.hbm, 314, rfl⟩
abbrev main_cst_31 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_cst_32 : Ref sig .tc := ⟨.hbm, 320, rfl⟩
abbrev main_v266 : Ref sig .tc := ⟨.hbm, 321, rfl⟩
abbrev main_cst_33 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_cst_34 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_cst_35 : Ref sig .tc := ⟨.hbm, 340, rfl⟩
abbrev main_call3_v0 : Ref sig .tc := ⟨.hbm, 341, rfl⟩
abbrev main_call3_v1 : Ref sig .tc := ⟨.hbm, 342, rfl⟩
abbrev main_call3_v2 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_cst_36 : Ref sig .tc := ⟨.hbm, 385, rfl⟩
abbrev main_v324 : Ref sig .tc := ⟨.hbm, 386, rfl⟩
abbrev main_v325 : Ref sig .tc := ⟨.hbm, 387, rfl⟩
abbrev main_cst_37 : Ref sig .tc := ⟨.hbm, 388, rfl⟩
abbrev main_v326 : Ref sig .tc := ⟨.hbm, 389, rfl⟩
abbrev main_cst_38 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_cst_39 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_v343 : Ref sig .tc := ⟨.hbm, 408, rfl⟩
abbrev main_v344 : Ref sig .tc := ⟨.hbm, 409, rfl⟩
abbrev main_v345 : Ref sig .tc := ⟨.hbm, 410, rfl⟩
abbrev main_cst_40 : Ref sig .tc := ⟨.hbm, 411, rfl⟩
abbrev main_v346 : Ref sig .tc := ⟨.hbm, 412, rfl⟩
abbrev main_v347 : Ref sig .tc := ⟨.hbm, 413, rfl⟩
abbrev main_cst_41 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_cst_42 : Ref sig .tc := ⟨.hbm, 420, rfl⟩
abbrev main_v353 : Ref sig .tc := ⟨.hbm, 421, rfl⟩
abbrev main_v354 : Ref sig .tc := ⟨.hbm, 422, rfl⟩
abbrev main_cst_43 : Ref sig .tc := ⟨.hbm, 423, rfl⟩
abbrev main_v355 : Ref sig .tc := ⟨.hbm, 424, rfl⟩
abbrev main_v356 : Ref sig .tc := ⟨.hbm, 425, rfl⟩
abbrev main_v357 : Ref sig .tc := ⟨.hbm, 426, rfl⟩
abbrev main_v358 : Ref sig .tc := ⟨.hbm, 427, rfl⟩
abbrev main_cst_44 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_v364 : Ref sig .tc := ⟨.hbm, 434, rfl⟩
abbrev main_v365 : Ref sig .tc := ⟨.hbm, 435, rfl⟩
abbrev main_v366 : Ref sig .tc := ⟨.hbm, 436, rfl⟩
abbrev main_v367 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_call4_cst : Ref sig .tc := ⟨.hbm, 445, rfl⟩
abbrev main_call4_v0 : Ref sig .tc := ⟨.hbm, 446, rfl⟩
abbrev main_v375 : Ref sig .tc := ⟨.hbm, 447, rfl⟩
abbrev main_v376 : Ref sig .tc := ⟨.hbm, 448, rfl⟩
abbrev main_v377 : Ref sig .tc := ⟨.hbm, 449, rfl⟩
abbrev main_v378 : Ref sig .tc := ⟨.hbm, 450, rfl⟩
abbrev main_v379 : Ref sig .tc := ⟨.hbm, 451, rfl⟩
abbrev main_v380 : Ref sig .tc := ⟨.hbm, 452, rfl⟩
abbrev main_v381 : Ref sig .tc := ⟨.hbm, 453, rfl⟩
abbrev main_cst_45 : Ref sig .tc := ⟨.hbm, 454, rfl⟩
abbrev main_v382 : Ref sig .tc := ⟨.hbm, 455, rfl⟩
abbrev main_v383 : Ref sig .tc := ⟨.hbm, 456, rfl⟩
abbrev main_cst_46 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_cst_47 : Ref sig .tc := ⟨.hbm, 463, rfl⟩
abbrev main_v389 : Ref sig .tc := ⟨.hbm, 464, rfl⟩
abbrev main_v390 : Ref sig .tc := ⟨.hbm, 465, rfl⟩
abbrev main_cst_48 : Ref sig .tc := ⟨.hbm, 466, rfl⟩
abbrev main_v391 : Ref sig .tc := ⟨.hbm, 467, rfl⟩
abbrev main_v392 : Ref sig .tc := ⟨.hbm, 468, rfl⟩
abbrev main_v393 : Ref sig .tc := ⟨.hbm, 469, rfl⟩
abbrev main_v394 : Ref sig .tc := ⟨.hbm, 470, rfl⟩
abbrev main_cst_49 : Ref sig .tc := ⟨.hbm, 471, rfl⟩
abbrev main_v395 : Ref sig .tc := ⟨.hbm, 472, rfl⟩
abbrev main_v396 : Ref sig .tc := ⟨.hbm, 473, rfl⟩
abbrev main_v397 : Ref sig .tc := ⟨.hbm, 474, rfl⟩
abbrev main_v398 : Ref sig .tc := ⟨.hbm, 475, rfl⟩
abbrev main_v399 : Ref sig .tc := ⟨.hbm, 476, rfl⟩
abbrev main_v400 : Ref sig .tc := ⟨.hbm, 477, rfl⟩
abbrev main_v401 : Ref sig .tc := ⟨.hbm, 478, rfl⟩
abbrev main_v402 : Ref sig .tc := ⟨.hbm, 479, rfl⟩
abbrev main_v403 : Ref sig .tc := ⟨.hbm, 480, rfl⟩
abbrev main_v404 : Ref sig .tc := ⟨.hbm, 481, rfl⟩
abbrev main_v405 : Ref sig .tc := ⟨.hbm, 482, rfl⟩
abbrev main_v406 : Ref sig .tc := ⟨.hbm, 483, rfl⟩
abbrev main_v407 : Ref sig .tc := ⟨.hbm, 484, rfl⟩
abbrev main_v408 : Ref sig .tc := ⟨.hbm, 485, rfl⟩
abbrev main_v409 : Ref sig .tc := ⟨.hbm, 486, rfl⟩
abbrev main_v410 : Ref sig .tc := ⟨.hbm, 487, rfl⟩
abbrev main_v411 : Ref sig .tc := ⟨.hbm, 488, rfl⟩
abbrev main_v412 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_v419 : Ref sig .tc := ⟨.hbm, 496, rfl⟩
abbrev main_v420 : Ref sig .tc := ⟨.hbm, 497, rfl⟩
abbrev main_v421 : Ref sig .tc := ⟨.hbm, 498, rfl⟩
abbrev main_v422 : Ref sig .tc := ⟨.hbm, 499, rfl⟩
abbrev main_v423 : Ref sig .tc := ⟨.hbm, 500, rfl⟩
abbrev main_v424 : Ref sig .tc := ⟨.hbm, 501, rfl⟩
abbrev main_v425 : Ref sig .tc := ⟨.hbm, 502, rfl⟩
abbrev main_v426 : Ref sig .tc := ⟨.hbm, 503, rfl⟩
abbrev main_v427 : Ref sig .tc := ⟨.hbm, 504, rfl⟩
abbrev main_v428 : Ref sig .tc := ⟨.hbm, 505, rfl⟩
abbrev main_v429 : Ref sig .tc := ⟨.hbm, 506, rfl⟩
abbrev main_v430 : Ref sig .tc := ⟨.hbm, 507, rfl⟩
abbrev main_v431 : Ref sig .tc := ⟨.hbm, 508, rfl⟩
abbrev main_v432 : Ref sig .tc := ⟨.hbm, 509, rfl⟩
abbrev main_v433 : Ref sig .tc := ⟨.hbm, 510, rfl⟩
abbrev main_v434 : Ref sig .tc := ⟨.hbm, 511, rfl⟩
abbrev main_v435 : Ref sig .tc := ⟨.hbm, 512, rfl⟩
abbrev main_v436 : Ref sig .tc := ⟨.hbm, 513, rfl⟩
abbrev main_v437 : Ref sig .tc := ⟨.hbm, 514, rfl⟩
abbrev main_v438 : Ref sig .tc := ⟨.hbm, 515, rfl⟩
abbrev main_v439 : Ref sig .tc := ⟨.hbm, 516, rfl⟩
abbrev main_v440 : Ref sig .tc := ⟨.hbm, 517, rfl⟩
abbrev main_v441 : Ref sig .tc := ⟨.hbm, 518, rfl⟩
abbrev main_v442 : Ref sig .tc := ⟨.hbm, 519, rfl⟩
abbrev main_v443 : Ref sig .tc := ⟨.hbm, 520, rfl⟩
abbrev main_v444 : Ref sig .tc := ⟨.hbm, 521, rfl⟩
abbrev main_cst_50 : Ref sig .tc := ⟨.hbm, 522, rfl⟩
abbrev main_v445 : Ref sig .tc := ⟨.hbm, 523, rfl⟩
abbrev main_v446 : Ref sig .tc := ⟨.hbm, 524, rfl⟩
abbrev main_cst_51 : Ref sig .tc := ⟨.hbm, 525, rfl⟩
abbrev main_v447 : Ref sig .tc := ⟨.hbm, 526, rfl⟩
abbrev main_cst_52 : Ref sig .tc := ⟨.hbm, 527, rfl⟩
abbrev main_v448 : Ref sig .tc := ⟨.hbm, 528, rfl⟩
abbrev main_v449 : Ref sig .tc := ⟨.hbm, 529, rfl⟩
abbrev main_v450 : Ref sig .tc := ⟨.hbm, 530, rfl⟩
abbrev main_v451 : Ref sig .tc := ⟨.hbm, 531, rfl⟩
abbrev main_v452 : Ref sig .tc := ⟨.hbm, 532, rfl⟩
abbrev main_v453 : Ref sig .tc := ⟨.hbm, 533, rfl⟩
abbrev main_cst_53 : Ref sig .tc := ⟨.hbm, 534, rfl⟩
abbrev main_v454 : Ref sig .tc := ⟨.hbm, 535, rfl⟩
abbrev main_v455 : Ref sig .tc := ⟨.hbm, 536, rfl⟩
abbrev main_v456 : Ref sig .tc := ⟨.hbm, 537, rfl⟩
abbrev main_v457 : Ref sig .tc := ⟨.hbm, 538, rfl⟩
abbrev main_v458 : Ref sig .tc := ⟨.hbm, 539, rfl⟩
abbrev main_v459 : Ref sig .tc := ⟨.hbm, 540, rfl⟩
abbrev main_v460 : Ref sig .tc := ⟨.hbm, 541, rfl⟩
abbrev main_v461 : Ref sig .tc := ⟨.hbm, 542, rfl⟩
abbrev main_v462 : Ref sig .tc := ⟨.hbm, 543, rfl⟩
abbrev main_v463 : Ref sig .tc := ⟨.hbm, 544, rfl⟩
abbrev main_v464 : Ref sig .tc := ⟨.hbm, 545, rfl⟩
abbrev main_v465 : Ref sig .tc := ⟨.hbm, 546, rfl⟩
abbrev main_v466 : Ref sig .tc := ⟨.hbm, 547, rfl⟩
abbrev main_cst_54 : Ref sig .tc := ⟨.hbm, 548, rfl⟩
abbrev main_v467 : Ref sig .tc := ⟨.hbm, 549, rfl⟩
abbrev main_v468 : Ref sig .tc := ⟨.hbm, 550, rfl⟩
abbrev main_cst_55 : Ref sig .tc := ⟨.hbm, 551, rfl⟩
abbrev main_v469 : Ref sig .tc := ⟨.hbm, 552, rfl⟩
abbrev main_v470 : Ref sig .tc := ⟨.hbm, 553, rfl⟩
abbrev main_v471 : Ref sig .tc := ⟨.hbm, 554, rfl⟩
abbrev main_v472 : Ref sig .tc := ⟨.hbm, 555, rfl⟩
abbrev main_v473 : Ref sig .tc := ⟨.hbm, 556, rfl⟩
abbrev main_cst_56 : Ref sig .tc := ⟨.hbm, 557, rfl⟩
abbrev main_v474 : Ref sig .tc := ⟨.hbm, 558, rfl⟩
abbrev main_v475 : Ref sig .tc := ⟨.hbm, 559, rfl⟩
abbrev main_cst_57 : Ref sig .tc := ⟨.hbm, 560, rfl⟩
abbrev main_v476 : Ref sig .tc := ⟨.hbm, 561, rfl⟩
abbrev main_v477 : Ref sig .tc := ⟨.hbm, 562, rfl⟩
abbrev main_v478 : Ref sig .tc := ⟨.hbm, 563, rfl⟩
abbrev main_v479 : Ref sig .tc := ⟨.hbm, 564, rfl⟩
abbrev main_cst_58 : Ref sig .tc := ⟨.hbm, 565, rfl⟩
abbrev main_v480 : Ref sig .tc := ⟨.hbm, 566, rfl⟩
abbrev main_v481 : Ref sig .tc := ⟨.hbm, 567, rfl⟩
abbrev main_v482 : Ref sig .tc := ⟨.hbm, 568, rfl⟩
abbrev main_v483 : Ref sig .tc := ⟨.hbm, 569, rfl⟩
abbrev main_v484 : Ref sig .tc := ⟨.hbm, 570, rfl⟩
abbrev main_v485 : Ref sig .tc := ⟨.hbm, 571, rfl⟩
abbrev main_v486 : Ref sig .tc := ⟨.hbm, 572, rfl⟩
abbrev main_v487 : Ref sig .tc := ⟨.hbm, 573, rfl⟩
abbrev main_v488 : Ref sig .tc := ⟨.hbm, 574, rfl⟩
abbrev main_v489 : Ref sig .tc := ⟨.hbm, 575, rfl⟩
abbrev main_v490 : Ref sig .tc := ⟨.hbm, 576, rfl⟩
abbrev main_v491 : Ref sig .tc := ⟨.hbm, 577, rfl⟩
abbrev main_v492 : Ref sig .tc := ⟨.hbm, 578, rfl⟩
abbrev main_v493 : Ref sig .tc := ⟨.hbm, 579, rfl⟩
abbrev main_v494 : Ref sig .tc := ⟨.hbm, 580, rfl⟩
abbrev main_v495 : Ref sig .tc := ⟨.hbm, 581, rfl⟩
abbrev main_call5_cst : Ref sig .tc := ⟨.hbm, 582, rfl⟩
abbrev main_call5_v0 : Ref sig .tc := ⟨.hbm, 583, rfl⟩
abbrev main_v496 : Ref sig .tc := ⟨.hbm, 584, rfl⟩
abbrev main_v497 : Ref sig .tc := ⟨.hbm, 585, rfl⟩
abbrev main_v498 : Ref sig .tc := ⟨.hbm, 586, rfl⟩
abbrev main_v499 : Ref sig .tc := ⟨.hbm, 587, rfl⟩
abbrev main_v500 : Ref sig .tc := ⟨.hbm, 588, rfl⟩
abbrev main_v501 : Ref sig .tc := ⟨.hbm, 589, rfl⟩
abbrev main_v502 : Ref sig .tc := ⟨.hbm, 590, rfl⟩
abbrev main_cst_59 : Ref sig .tc := ⟨.hbm, 591, rfl⟩
abbrev main_v503 : Ref sig .tc := ⟨.hbm, 592, rfl⟩
abbrev main_v504 : Ref sig .tc := ⟨.hbm, 593, rfl⟩
abbrev main_cst_60 : Ref sig .tc := ⟨.hbm, 594, rfl⟩
abbrev main_v505 : Ref sig .tc := ⟨.hbm, 595, rfl⟩
abbrev main_v506 : Ref sig .tc := ⟨.hbm, 596, rfl⟩
abbrev main_v507 : Ref sig .tc := ⟨.hbm, 597, rfl⟩
abbrev main_v508 : Ref sig .tc := ⟨.hbm, 598, rfl⟩
abbrev main_v509 : Ref sig .tc := ⟨.hbm, 599, rfl⟩
abbrev main_cst_61 : Ref sig .tc := ⟨.hbm, 600, rfl⟩
abbrev main_v510 : Ref sig .tc := ⟨.hbm, 601, rfl⟩
abbrev main_v511 : Ref sig .tc := ⟨.hbm, 602, rfl⟩
abbrev main_cst_62 : Ref sig .tc := ⟨.hbm, 603, rfl⟩
abbrev main_v512 : Ref sig .tc := ⟨.hbm, 604, rfl⟩
abbrev main_v513 : Ref sig .tc := ⟨.hbm, 605, rfl⟩
abbrev main_v514 : Ref sig .tc := ⟨.hbm, 606, rfl⟩
abbrev main_v515 : Ref sig .tc := ⟨.hbm, 607, rfl⟩
abbrev main_cst_63 : Ref sig .tc := ⟨.hbm, 608, rfl⟩
abbrev main_v516 : Ref sig .tc := ⟨.hbm, 609, rfl⟩
abbrev main_v517 : Ref sig .tc := ⟨.hbm, 610, rfl⟩
abbrev main_v518 : Ref sig .tc := ⟨.hbm, 611, rfl⟩
abbrev main_v519 : Ref sig .tc := ⟨.hbm, 612, rfl⟩
abbrev main_v520 : Ref sig .tc := ⟨.hbm, 613, rfl⟩
abbrev main_v521 : Ref sig .tc := ⟨.hbm, 614, rfl⟩
abbrev main_v522 : Ref sig .tc := ⟨.hbm, 615, rfl⟩
abbrev main_v523 : Ref sig .tc := ⟨.hbm, 616, rfl⟩
abbrev main_v524 : Ref sig .tc := ⟨.hbm, 617, rfl⟩
abbrev main_v525 : Ref sig .tc := ⟨.hbm, 618, rfl⟩
abbrev main_v526 : Ref sig .tc := ⟨.hbm, 619, rfl⟩

abbrev nD : Nat := 1
abbrev τ : Topo := Topo.v7x

variable {F : FTy → Type} [FloatOps F]
-- ==== Proof.Frm.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_layer_s2048_qkv` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x8x512x64 := Rect.unit (s := S1x8x512x64) ![0, 0, 0, 0] S1x1x512x64.size inb_S1x8x512x64_S1x1x512x64_0_0_0_0
abbrev r1_1 : Rect S1x8x2048x64 := Rect.unit (s := S1x8x2048x64) ![0, 0, 0, 0] S1x1x2048x64.size inb_S1x8x2048x64_S1x1x2048x64_0_0_0_0
abbrev r1_2 : Rect S1x8x2048x128 := Rect.unit (s := S1x8x2048x128) ![0, 0, 0, 0] S1x1x2048x128.size inb_S1x8x2048x128_S1x1x2048x128_0_0_0_0
abbrev r1_3 : Rect S1x8x512x64 := Rect.unit (s := S1x8x512x64) ![0, 1, 0, 0] S1x1x512x64.size inb_S1x8x512x64_S1x1x512x64_0_1_0_0
abbrev r1_4 : Rect S1x8x2048x64 := Rect.unit (s := S1x8x2048x64) ![0, 1, 0, 0] S1x1x2048x64.size inb_S1x8x2048x64_S1x1x2048x64_0_1_0_0
abbrev r1_5 : Rect S1x8x2048x128 := Rect.unit (s := S1x8x2048x128) ![0, 1, 0, 0] S1x1x2048x128.size inb_S1x8x2048x128_S1x1x2048x128_0_1_0_0
abbrev r1_6 : Rect S1x8x512x64 := Rect.unit (s := S1x8x512x64) ![0, 2, 0, 0] S1x1x512x64.size inb_S1x8x512x64_S1x1x512x64_0_2_0_0
abbrev r1_7 : Rect S1x8x2048x64 := Rect.unit (s := S1x8x2048x64) ![0, 2, 0, 0] S1x1x2048x64.size inb_S1x8x2048x64_S1x1x2048x64_0_2_0_0
abbrev r1_8 : Rect S1x8x2048x128 := Rect.unit (s := S1x8x2048x128) ![0, 2, 0, 0] S1x1x2048x128.size inb_S1x8x2048x128_S1x1x2048x128_0_2_0_0
abbrev r1_9 : Rect S1x8x512x64 := Rect.unit (s := S1x8x512x64) ![0, 3, 0, 0] S1x1x512x64.size inb_S1x8x512x64_S1x1x512x64_0_3_0_0
abbrev r1_10 : Rect S1x8x2048x64 := Rect.unit (s := S1x8x2048x64) ![0, 3, 0, 0] S1x1x2048x64.size inb_S1x8x2048x64_S1x1x2048x64_0_3_0_0
abbrev r1_11 : Rect S1x8x2048x128 := Rect.unit (s := S1x8x2048x128) ![0, 3, 0, 0] S1x1x2048x128.size inb_S1x8x2048x128_S1x1x2048x128_0_3_0_0
abbrev r1_12 : Rect S1x8x512x64 := Rect.unit (s := S1x8x512x64) ![0, 4, 0, 0] S1x1x512x64.size inb_S1x8x512x64_S1x1x512x64_0_4_0_0
abbrev r1_13 : Rect S1x8x2048x64 := Rect.unit (s := S1x8x2048x64) ![0, 4, 0, 0] S1x1x2048x64.size inb_S1x8x2048x64_S1x1x2048x64_0_4_0_0
abbrev r1_14 : Rect S1x8x2048x128 := Rect.unit (s := S1x8x2048x128) ![0, 4, 0, 0] S1x1x2048x128.size inb_S1x8x2048x128_S1x1x2048x128_0_4_0_0
abbrev r1_15 : Rect S1x8x512x64 := Rect.unit (s := S1x8x512x64) ![0, 5, 0, 0] S1x1x512x64.size inb_S1x8x512x64_S1x1x512x64_0_5_0_0
abbrev r1_16 : Rect S1x8x2048x64 := Rect.unit (s := S1x8x2048x64) ![0, 5, 0, 0] S1x1x2048x64.size inb_S1x8x2048x64_S1x1x2048x64_0_5_0_0
abbrev r1_17 : Rect S1x8x2048x128 := Rect.unit (s := S1x8x2048x128) ![0, 5, 0, 0] S1x1x2048x128.size inb_S1x8x2048x128_S1x1x2048x128_0_5_0_0
abbrev r1_18 : Rect S1x8x512x64 := Rect.unit (s := S1x8x512x64) ![0, 6, 0, 0] S1x1x512x64.size inb_S1x8x512x64_S1x1x512x64_0_6_0_0
abbrev r1_19 : Rect S1x8x2048x64 := Rect.unit (s := S1x8x2048x64) ![0, 6, 0, 0] S1x1x2048x64.size inb_S1x8x2048x64_S1x1x2048x64_0_6_0_0
abbrev r1_20 : Rect S1x8x2048x128 := Rect.unit (s := S1x8x2048x128) ![0, 6, 0, 0] S1x1x2048x128.size inb_S1x8x2048x128_S1x1x2048x128_0_6_0_0
abbrev r1_21 : Rect S1x8x512x64 := Rect.unit (s := S1x8x512x64) ![0, 7, 0, 0] S1x1x512x64.size inb_S1x8x512x64_S1x1x512x64_0_7_0_0
abbrev r1_22 : Rect S1x8x2048x64 := Rect.unit (s := S1x8x2048x64) ![0, 7, 0, 0] S1x1x2048x64.size inb_S1x8x2048x64_S1x1x2048x64_0_7_0_0
abbrev r1_23 : Rect S1x8x2048x128 := Rect.unit (s := S1x8x2048x128) ![0, 7, 0, 0] S1x1x2048x128.size inb_S1x8x2048x128_S1x1x2048x128_0_7_0_0
abbrev r1_24 : Rect S1x512x512 := Rect.unit (s := S1x512x512) ![0, 0, 0] S1x512x512.size inb_S1x512x512_S1x512x512_0_0_0
abbrev r1_25 : Rect S512x512 := Rect.unit (s := S512x512) ![0, 0] S512x512.size inb_S512x512_S512x512_0_0
abbrev r1_26 : Rect S1x512 := Rect.unit (s := S1x512) ![0, 0] S1x512.size inb_S1x512_S1x512_0_0
abbrev r1_27 : Rect S2048x512 := Rect.unit (s := S2048x512) ![0, 0] S2048x512.size inb_S2048x512_S2048x512_0_0
abbrev r1_28 : Rect S1x2048 := Rect.unit (s := S1x2048) ![0, 0] S1x2048.size inb_S1x2048_S1x2048_0_0
abbrev r1_29 : Rect S512x2048 := Rect.unit (s := S512x2048) ![0, 0] S512x2048.size inb_S512x2048_S512x2048_0_0
abbrev r1_30 : Rect S1536x512 := Rect.unit (s := S1536x512) ![0, 0] S1536x512.size inb_S1536x512_S1536x512_0_0
abbrev r1_31 : Rect S1x1536 := Rect.unit (s := S1x1536) ![0, 0] S1x1536.size inb_S1x1536_S1x1536_0_0
abbrev r1_32 : Rect S1x8x512x128 := Rect.unit (s := S1x8x512x128) ![0, 0, 0, 0] S1x1x512x128.size inb_S1x8x512x128_S1x1x512x128_0_0_0_0
abbrev r1_33 : Rect S1x8x512x128 := Rect.unit (s := S1x8x512x128) ![0, 1, 0, 0] S1x1x512x128.size inb_S1x8x512x128_S1x1x512x128_0_1_0_0
abbrev r1_34 : Rect S1x8x512x128 := Rect.unit (s := S1x8x512x128) ![0, 2, 0, 0] S1x1x512x128.size inb_S1x8x512x128_S1x1x512x128_0_2_0_0
abbrev r1_35 : Rect S1x8x512x128 := Rect.unit (s := S1x8x512x128) ![0, 3, 0, 0] S1x1x512x128.size inb_S1x8x512x128_S1x1x512x128_0_3_0_0
abbrev r1_36 : Rect S1x8x512x128 := Rect.unit (s := S1x8x512x128) ![0, 4, 0, 0] S1x1x512x128.size inb_S1x8x512x128_S1x1x512x128_0_4_0_0
abbrev r1_37 : Rect S1x8x512x128 := Rect.unit (s := S1x8x512x128) ![0, 5, 0, 0] S1x1x512x128.size inb_S1x8x512x128_S1x1x512x128_0_5_0_0
abbrev r1_38 : Rect S1x8x512x128 := Rect.unit (s := S1x8x512x128) ![0, 6, 0, 0] S1x1x512x128.size inb_S1x8x512x128_S1x1x512x128_0_6_0_0
abbrev r1_39 : Rect S1x8x512x128 := Rect.unit (s := S1x8x512x128) ![0, 7, 0, 0] S1x1x512x128.size inb_S1x8x512x128_S1x1x512x128_0_7_0_0

/-! ## What the body leaves in each output window's buffer -/

/-! ### Values of the body that the stores' payloads, spelt out, would write more than once

    Each is a vector the body binds (often a part call's result), stated over the input windows' blocks and
    numbered on from the skeleton's payload functions (`k1_pay52` …, after `k1_pay51`), so that
    `out1_W` and the values after it name it instead of spelling it out (`unfold_out out1_W` opens a canon
    with them, `unfold_payloads` opens them with the payloads); the comment after each is the printed function's
    name for the value (a count appended where that name is bound again). -/

def k1_pay52 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay5 (View.ld x0 r1_0) (View.ld x1 r1_1) (View.ld x2 r1_2) -- `v14`
def k1_pay53 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay8 (k1_pay6 (View.ld x0 r1_3) (View.ld x1 r1_4) (View.ld x2 r1_5)) (k1_pay7 (View.ld x0 r1_3) (View.ld x1 r1_4) (View.ld x2 r1_5)) -- `v29`
def k1_pay54 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay9 (View.ld x0 r1_6) (View.ld x1 r1_7) (View.ld x2 r1_8) -- `v44`
def k1_pay55 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay12 (k1_pay10 (View.ld x0 r1_9) (View.ld x1 r1_10) (View.ld x2 r1_11)) (k1_pay11 (View.ld x0 r1_9) (View.ld x1 r1_10) (View.ld x2 r1_11)) -- `v59`
def k1_pay56 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay13 (View.ld x0 r1_12) (View.ld x1 r1_13) (View.ld x2 r1_14) -- `v74`
def k1_pay57 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay16 (k1_pay14 (View.ld x0 r1_15) (View.ld x1 r1_16) (View.ld x2 r1_17)) (k1_pay15 (View.ld x0 r1_15) (View.ld x1 r1_16) (View.ld x2 r1_17)) -- `v89`
def k1_pay58 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay17 (View.ld x0 r1_18) (View.ld x1 r1_19) (View.ld x2 r1_20) -- `v104`
def k1_pay59 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x128 .f32 :=
  k1_pay18 (View.ld x0 r1_21) (View.ld x1 r1_22) (View.ld x2 r1_23) -- `v116`
def k1_pay60 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .f32 :=
  k1_pay19 (View.ld x0 r1_21) (View.ld x1 r1_22) (View.ld x2 r1_23) -- `v117`
def k1_pay61 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1x512 .f32 :=
  k1_pay22 (View.ld x13 r1_26) -- `v181`
def k1_pay62 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x512 .f32 :=
  k1_pay23 (k1_pay20 (k1_pay52 x0 x1 x2 x3 x4 x5 x6 x7 x8 x9 x10 x11 x12 x13 x14 x15) (k1_pay53 x0 x1 x2 x3 x4 x5 x6 x7 x8 x9 x10 x11 x12 x13 x14 x15) (k1_pay54 x0 x1 x2 x3 x4 x5 x6 x7 x8 x9 x10 x11 x12 x13 x14 x15) (k1_pay55 x0 x1 x2 x3 x4 x5 x6 x7 x8 x9 x10 x11 x12 x13 x14 x15) (k1_pay56 x0 x1 x2 x3 x4 x5 x6 x7 x8 x9 x10 x11 x12 x13 x14 x15) (k1_pay57 x0 x1 x2 x3 x4 x5 x6 x7 x8 x9 x10 x11 x12 x13 x14 x15) (k1_pay58 x0 x1 x2 x3 x4 x5 x6 x7 x8 x9 x10 x11 x12 x13 x14 x15) (k1_pay59 x0 x1 x2 x3 x4 x5 x6 x7 x8 x9 x10 x11 x12 x13 x14 x15) (k1_pay60 x0 x1 x2 x3 x4 x5 x6 x7 x8 x9 x10 x11 x12 x13 x14 x15) (View.ld x3 r1_24) (View.ld x4 r1_25) (View.ld x5 r1_26) (View.ld x10 r1_26) (View.ld x11 r1_26)) (k1_pay21 (k1_pay52 x0 x1 x2 x3 x4 x5 x6 x7 x8 x9 x10 x11 x12 x13 x14 x15) (k1_pay53 x0 x1 x2 x3 x4 x5 x6 x7 x8 x9 x10 x11 x12 x13 x14 x15) (k1_pay54 x0 x1 x2 x3 x4 x5 x6 x7 x8 x9 x10 x11 x12 x13 x14 x15) (k1_pay55 x0 x1 x2 x3 x4 x5 x6 x7 x8 x9 x10 x11 x12 x13 x14 x15) (k1_pay56 x0 x1 x2 x3 x4 x5 x6 x7 x8 x9 x10 x11 x12 x13 x14 x15) (k1_pay57 x0 x1 x2 x3 x4 x5 x6 x7 x8 x9 x10 x11 x12 x13 x14 x15) (k1_pay58 x0 x1 x2 x3 x4 x5 x6 x7 x8 x9 x10 x11 x12 x13 x14 x15) (k1_pay59 x0 x1 x2 x3 x4 x5 x6 x7 x8 x9 x10 x11 x12 x13 x14 x15) (k1_pay60 x0 x1 x2 x3 x4 x5 x6 x7 x8 x9 x10 x11 x12 x13 x14 x15) (View.ld x3 r1_24) (View.ld x4 r1_25) (View.ld x5 r1_26) (View.ld x10 r1_26) (View.ld x11 r1_26)) (View.ld x6 r1_27) (View.ld x7 r1_28) (View.ld x8 r1_29) (View.ld x9 r1_26) -- `v199`
def k1_pay63 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x512 .f32 :=
  k1_pay24 (View.ld x12 r1_26) -- `v200`
def k1_pay64 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x1536 .bf16 :=
  k1_pay27 (k1_pay61 x0 x1 x2 x3 x4 x5 x6 x7 x8 x9 x10 x11 x12 x13 x14 x15) (k1_pay62 x0 x1 x2 x3 x4 x5 x6 x7 x8 x9 x10 x11 x12 x13 x14 x15) (k1_pay63 x0 x1 x2 x3 x4 x5 x6 x7 x8 x9 x10 x11 x12 x13 x14 x15) (View.ld x14 r1_30) (View.ld x15 r1_31) -- `v216`
def k1_pay65 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S512x64 .bf16 :=
  k1_pay28 (F := F) -- `v217`

/-- Window 16's staging buffer after the body, from the input windows' blocks: its 1 store as pieces, LAST
    FIRST (Lib/Pipeline/FrameBody.lean `View.canon`; the payloads are the skeleton's and the values stated above). -/
def out1_16 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x512x512 .f32 :=
  View.canon [⟨r1_24, k1_pay26 (k1_pay61 x0 x1 x2 x3 x4 x5 x6 x7 x8 x9 x10 x11 x12 x13 x14 x15) (k1_pay62 x0 x1 x2 x3 x4 x5 x6 x7 x8 x9 x10 x11 x12 x13 x14 x15) (k1_pay63 x0 x1 x2 x3 x4 x5 x6 x7 x8 x9 x10 x11 x12 x13 x14 x15)⟩]

/-- Its stores tile the buffer (checked by evaluation), so they cover it. -/
theorem cover1_16 (p0 : Vec F S1x512x512 .f32) (y : S1x512x512.Idx) :
    ∃ pc ∈ ([⟨r1_24, p0⟩] : List (View.Piece (Elt F) S1x512x512 .f32)), y ∈ pc.1.set :=
  View.cover_of_tiled [⟨r1_24, p0⟩] S1x512x512.size (by rfl) y

/-- Window 17's staging buffer after the body, from the input windows' blocks: its 8 stores as pieces, LAST
    FIRST (Lib/Pipeline/FrameBody.lean `View.canon`; the payloads are the skeleton's and the values stated above). -/
def out1_17 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x8x512x64 .bf16 :=
  View.canon [⟨r1_21, k1_pay2 (k1_pay64 x0 x1 x2 x3 x4 x5 x6 x7 x8 x9 x10 x11 x12 x13 x14 x15)⟩,
    ⟨r1_18, k1_pay49 (k1_pay64 x0 x1 x2 x3 x4 x5 x6 x7 x8 x9 x10 x11 x12 x13 x14 x15)⟩,
    ⟨r1_15, k1_pay46 (k1_pay64 x0 x1 x2 x3 x4 x5 x6 x7 x8 x9 x10 x11 x12 x13 x14 x15)⟩,
    ⟨r1_12, k1_pay42 (k1_pay64 x0 x1 x2 x3 x4 x5 x6 x7 x8 x9 x10 x11 x12 x13 x14 x15)⟩,
    ⟨r1_9, k1_pay39 (k1_pay64 x0 x1 x2 x3 x4 x5 x6 x7 x8 x9 x10 x11 x12 x13 x14 x15)⟩,
    ⟨r1_6, k1_pay36 (k1_pay64 x0 x1 x2 x3 x4 x5 x6 x7 x8 x9 x10 x11 x12 x13 x14 x15)⟩,
    ⟨r1_3, k1_pay33 (k1_pay32 (k1_pay61 x0 x1 x2 x3 x4 x5 x6 x7 x8 x9 x10 x11 x12 x13 x14 x15) (k1_pay62 x0 x1 x2 x3 x4 x5 x6 x7 x8 x9 x10 x11 x12 x13 x14 x15) (k1_pay63 x0 x1 x2 x3 x4 x5 x6 x7 x8 x9 x10 x11 x12 x13 x14 x15) (View.ld x14 r1_30) (View.ld x15 r1_31)) (Scalar.ofBits .bf16 0x3E00#16)⟩,
    ⟨r1_0, k1_pay29 (k1_pay61 x0 x1 x2 x3 x4 x5 x6 x7 x8 x9 x10 x11 x12 x13 x14 x15) (k1_pay62 x0 x1 x2 x3 x4 x5 x6 x7 x8 x9 x10 x11 x12 x13 x14 x15) (k1_pay63 x0 x1 x2 x3 x4 x5 x6 x7 x8 x9 x10 x11 x12 x13 x14 x15) (View.ld x14 r1_30) (View.ld x15 r1_31)⟩]

/-- Its stores tile the buffer (checked by evaluation), so they cover it. -/
theorem cover1_17 (p0 : Vec F S1x1x512x64 .bf16) (p1 : Vec F S1x1x512x64 .bf16) (p2 : Vec F S1x1x512x64 .bf16) (p3 : Vec F S1x1x512x64 .bf16) (p4 : Vec F S1x1x512x64 .bf16) (p5 : Vec F S1x1x512x64 .bf16) (p6 : Vec F S1x1x512x64 .bf16) (p7 : Vec F S1x1x512x64 .bf16) (y : S1x8x512x64.Idx) :
    ∃ pc ∈ ([⟨r1_21, p0⟩, ⟨r1_18, p1⟩, ⟨r1_15, p2⟩, ⟨r1_12, p3⟩, ⟨r1_9, p4⟩, ⟨r1_6, p5⟩, ⟨r1_3, p6⟩, ⟨r1_0, p7⟩] : List (View.Piece (Elt F) S1x8x512x64 .bf16)), y ∈ pc.1.set :=
  View.cover_of_tiled [⟨r1_21, p0⟩, ⟨r1_18, p1⟩, ⟨r1_15, p2⟩, ⟨r1_12, p3⟩, ⟨r1_9, p4⟩, ⟨r1_6, p5⟩, ⟨r1_3, p6⟩, ⟨r1_0, p7⟩] S1x1x512x64.size (by rfl) y

/-- Window 18's staging buffer after the body, from the input windows' blocks: its 8 stores as pieces, LAST
    FIRST (Lib/Pipeline/FrameBody.lean `View.canon`; the payloads are the skeleton's and the values stated above). -/
def out1_18 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x8x512x64 .bf16 :=
  View.canon [⟨r1_21, k1_pay3 (k1_pay64 x0 x1 x2 x3 x4 x5 x6 x7 x8 x9 x10 x11 x12 x13 x14 x15)⟩,
    ⟨r1_18, k1_pay50 (k1_pay64 x0 x1 x2 x3 x4 x5 x6 x7 x8 x9 x10 x11 x12 x13 x14 x15)⟩,
    ⟨r1_15, k1_pay47 (k1_pay64 x0 x1 x2 x3 x4 x5 x6 x7 x8 x9 x10 x11 x12 x13 x14 x15)⟩,
    ⟨r1_12, k1_pay43 (k1_pay64 x0 x1 x2 x3 x4 x5 x6 x7 x8 x9 x10 x11 x12 x13 x14 x15)⟩,
    ⟨r1_9, k1_pay40 (k1_pay64 x0 x1 x2 x3 x4 x5 x6 x7 x8 x9 x10 x11 x12 x13 x14 x15)⟩,
    ⟨r1_6, k1_pay37 (k1_pay64 x0 x1 x2 x3 x4 x5 x6 x7 x8 x9 x10 x11 x12 x13 x14 x15)⟩,
    ⟨r1_3, k1_pay34 (k1_pay64 x0 x1 x2 x3 x4 x5 x6 x7 x8 x9 x10 x11 x12 x13 x14 x15)⟩,
    ⟨r1_0, k1_pay30 (k1_pay61 x0 x1 x2 x3 x4 x5 x6 x7 x8 x9 x10 x11 x12 x13 x14 x15) (k1_pay62 x0 x1 x2 x3 x4 x5 x6 x7 x8 x9 x10 x11 x12 x13 x14 x15) (k1_pay63 x0 x1 x2 x3 x4 x5 x6 x7 x8 x9 x10 x11 x12 x13 x14 x15) (View.ld x14 r1_30) (View.ld x15 r1_31)⟩]

/-- Its stores tile the buffer (checked by evaluation), so they cover it. -/
theorem cover1_18 (p0 : Vec F S1x1x512x64 .bf16) (p1 : Vec F S1x1x512x64 .bf16) (p2 : Vec F S1x1x512x64 .bf16) (p3 : Vec F S1x1x512x64 .bf16) (p4 : Vec F S1x1x512x64 .bf16) (p5 : Vec F S1x1x512x64 .bf16) (p6 : Vec F S1x1x512x64 .bf16) (p7 : Vec F S1x1x512x64 .bf16) (y : S1x8x512x64.Idx) :
    ∃ pc ∈ ([⟨r1_21, p0⟩, ⟨r1_18, p1⟩, ⟨r1_15, p2⟩, ⟨r1_12, p3⟩, ⟨r1_9, p4⟩, ⟨r1_6, p5⟩, ⟨r1_3, p6⟩, ⟨r1_0, p7⟩] : List (View.Piece (Elt F) S1x8x512x64 .bf16)), y ∈ pc.1.set :=
  View.cover_of_tiled [⟨r1_21, p0⟩, ⟨r1_18, p1⟩, ⟨r1_15, p2⟩, ⟨r1_12, p3⟩, ⟨r1_9, p4⟩, ⟨r1_6, p5⟩, ⟨r1_3, p6⟩, ⟨r1_0, p7⟩] S1x1x512x64.size (by rfl) y

/-- Window 19's staging buffer after the body, from the input windows' blocks: its 8 stores as pieces, LAST
    FIRST (Lib/Pipeline/FrameBody.lean `View.canon`; the payloads are the skeleton's and the values stated above). -/
def out1_19 (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x8x512x128 .bf16 :=
  View.canon [⟨r1_39, k1_pay4 (k1_pay64 x0 x1 x2 x3 x4 x5 x6 x7 x8 x9 x10 x11 x12 x13 x14 x15) (k1_pay65 x0 x1 x2 x3 x4 x5 x6 x7 x8 x9 x10 x11 x12 x13 x14 x15)⟩,
    ⟨r1_38, k1_pay1 (k1_pay51 (k1_pay64 x0 x1 x2 x3 x4 x5 x6 x7 x8 x9 x10 x11 x12 x13 x14 x15) (k1_pay65 x0 x1 x2 x3 x4 x5 x6 x7 x8 x9 x10 x11 x12 x13 x14 x15))⟩,
    ⟨r1_37, k1_pay48 (k1_pay64 x0 x1 x2 x3 x4 x5 x6 x7 x8 x9 x10 x11 x12 x13 x14 x15) (k1_pay65 x0 x1 x2 x3 x4 x5 x6 x7 x8 x9 x10 x11 x12 x13 x14 x15)⟩,
    ⟨r1_36, k1_pay45 (k1_pay44 (k1_pay64 x0 x1 x2 x3 x4 x5 x6 x7 x8 x9 x10 x11 x12 x13 x14 x15) (k1_pay65 x0 x1 x2 x3 x4 x5 x6 x7 x8 x9 x10 x11 x12 x13 x14 x15))⟩,
    ⟨r1_35, k1_pay41 (k1_pay64 x0 x1 x2 x3 x4 x5 x6 x7 x8 x9 x10 x11 x12 x13 x14 x15) (k1_pay65 x0 x1 x2 x3 x4 x5 x6 x7 x8 x9 x10 x11 x12 x13 x14 x15)⟩,
    ⟨r1_34, k1_pay38 (k1_pay64 x0 x1 x2 x3 x4 x5 x6 x7 x8 x9 x10 x11 x12 x13 x14 x15) (k1_pay65 x0 x1 x2 x3 x4 x5 x6 x7 x8 x9 x10 x11 x12 x13 x14 x15)⟩,
    ⟨r1_33, k1_pay35 (k1_pay64 x0 x1 x2 x3 x4 x5 x6 x7 x8 x9 x10 x11 x12 x13 x14 x15) (k1_pay65 x0 x1 x2 x3 x4 x5 x6 x7 x8 x9 x10 x11 x12 x13 x14 x15)⟩,
    ⟨r1_32, k1_pay31 (k1_pay61 x0 x1 x2 x3 x4 x5 x6 x7 x8 x9 x10 x11 x12 x13 x14 x15) (k1_pay62 x0 x1 x2 x3 x4 x5 x6 x7 x8 x9 x10 x11 x12 x13 x14 x15) (k1_pay63 x0 x1 x2 x3 x4 x5 x6 x7 x8 x9 x10 x11 x12 x13 x14 x15) (View.ld x14 r1_30) (View.ld x15 r1_31)⟩]

/-- Its stores tile the buffer (checked by evaluation), so they cover it. -/
theorem cover1_19 (p0 : Vec F S1x1x512x128 .bf16) (p1 : Vec F S1x1x512x128 .bf16) (p2 : Vec F S1x1x512x128 .bf16) (p3 : Vec F S1x1x512x128 .bf16) (p4 : Vec F S1x1x512x128 .bf16) (p5 : Vec F S1x1x512x128 .bf16) (p6 : Vec F S1x1x512x128 .bf16) (p7 : Vec F S1x1x512x128 .bf16) (y : S1x8x512x128.Idx) :
    ∃ pc ∈ ([⟨r1_39, p0⟩, ⟨r1_38, p1⟩, ⟨r1_37, p2⟩, ⟨r1_36, p3⟩, ⟨r1_35, p4⟩, ⟨r1_34, p5⟩, ⟨r1_33, p6⟩, ⟨r1_32, p7⟩] : List (View.Piece (Elt F) S1x8x512x128 .bf16)), y ∈ pc.1.set :=
  View.cover_of_tiled [⟨r1_39, p0⟩, ⟨r1_38, p1⟩, ⟨r1_37, p2⟩, ⟨r1_36, p3⟩, ⟨r1_35, p4⟩, ⟨r1_34, p5⟩, ⟨r1_33, p6⟩, ⟨r1_32, p7⟩] S1x1x512x128.size (by rfl) y

/-! ## The body's triple -/

set_option maxHeartbeats 2612800 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x8x512x64 .bf16) (harg2 : arg2.IsWhole) (arg3 : Memref sig .tc .vmem S1x8x2048x64 .bf16) (harg3 : arg3.IsWhole) (arg4 : Memref sig .tc .vmem S1x8x2048x128 .bf16) (harg4 : arg4.IsWhole) (arg5 : Memref sig .tc .vmem S1x512x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S2048x512 .bf16) (harg8 : arg8.IsWhole) (arg9 : Memref sig .tc .vmem S1x2048 .f32) (harg9 : arg9.IsWhole) (arg10 : Memref sig .tc .vmem S512x2048 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1536x512 .bf16) (harg16 : arg16.IsWhole) (arg17 : Memref sig .tc .vmem S1x1536 .f32) (harg17 : arg17.IsWhole) (arg18 : Memref sig .tc .vmem S1x512x512 .f32) (harg18 : arg18.IsWhole) (arg19 : Memref sig .tc .vmem S1x8x512x64 .bf16) (harg19 : arg19.IsWhole) (arg20 : Memref sig .tc .vmem S1x8x512x64 .bf16) (harg20 : arg20.IsWhole) (arg21 : Memref sig .tc .vmem S1x8x512x128 .bf16) (harg21 : arg21.IsWhole)
    (x0 : Vec F S1x8x512x64 .bf16) (x1 : Vec F S1x8x2048x64 .bf16) (x2 : Vec F S1x8x2048x128 .bf16) (x3 : Vec F S1x512x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out1_16 x0 x1 x2 x3 x4 x5 x6 x7 x8 x9 x10 x11 x12 x13 x14 x15) ∗ owns (c : Thread nD τ) arg19 fullShare (out1_17 x0 x1 x2 x3 x4 x5 x6 x7 x8 x9 x10 x11 x12 x13 x14 x15) ∗ owns (c : Thread nD τ) arg20 fullShare (out1_18 x0 x1 x2 x3 x4 x5 x6 x7 x8 x9 x10 x11 x12 x13 x14 x15) ∗ owns (c : Thread nD τ) arg21 fullShare (out1_19 x0 x1 x2 x3 x4 x5 x6 x7 x8 x9 x10 x11 x12 x13 x14 x15)) -∗ K ⟨⟩))
      ⊢ wp frame (wpE (defs₀ (F := F)) Variants.none c none) E (cc1_layer_s2048_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc1_layer_s2048_qkv_eq_skeleton]; unfold cc1_layer_s2048_qkv_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover1_16 _)).trans ?_
    rfl
  isplitl [H17]
  · iexists _; isplitr
    swap; · iexact H17
    ipureintro
    refine (View.read_writes_eq_canon _ _ _ (cover1_17 _ _ _ _ _ _ _ _)).trans ?_
    rfl
  isplitl [H18]
  · iexists _; isplitr
    swap; · iexact H18
    ipureintro
    refine (View.read_writes_eq_canon _ _ _ (cover1_18 _ _ _ _ _ _ _ _)).trans ?_
    rfl
  iexists _; isplitr
  swap; · iexact H19
  ipureintro
  refine (View.read_writes_eq_canon _ _ _ (cover1_19 _ _ _ _ _ _ _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨18, _⟩ => out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨19, _⟩ => out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)
    | ⟨_ + 20, h⟩ => absurd h (Nat.not_lt.2 (Nat.le_add_left _ _))
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]
theorem after1_18 (c : Dev nD) (t : Fin cfg1.N) : (dat1 V c).after 18 t = out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]
theorem after1_19 (c : Dev nD) (t : Fin cfg1.N) : (dat1 V c).after 19 t = out1_19 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel1 c Set.univ (grid1.coords t) _ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 4000000 in
/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frm.Region4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 4 of @main: custom_call 4, `cc4_layer_s1024_qkv` (pipeline 4), at the entry contents `V` -/

/-! ## The windows' blocks -/

/-- Window `w`'s block at point `t`, read off its array as the region finds it (`V`). -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_11_of {c : Dev nD} (dat : Dat τ (Elt F) Unit ℕ (UR sig nD τ) ℕ cfg4 c) (hA : dat.A 11 = V c (Pipeline.arrRef spec4 11))
    (hafter : ∀ t, dat.after 11 t = iblk4 V c 11 t) (t : Fin cfg4.N) (d) : dat.before 11 t d = iblk4 V c 11 t :=
  (dat.before_in_eq_fetched 11 rfl (fun _ => rfl) (fun _ _ _ => rfl) (fun t => by rw [hafter]; unfold Dat.blockOf iblk4; rw [hA]; try rfl) t d).trans
    (by unfold Dat.fetched Dat.blockOf iblk4; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_12_of {c : Dev nD} (dat : Dat τ (Elt F) Unit ℕ (UR sig nD τ) ℕ cfg4 c) (hA : dat.A 12 = V c (Pipeline.arrRef spec4 12))
    (hafter : ∀ t, dat.after 12 t = iblk4 V c 12 t) (t : Fin cfg4.N) (d) : dat.before 12 t d = iblk4 V c 12 t :=
  (dat.before_in_eq_fetched 12 rfl (fun _ => rfl) (fun _ _ _ => rfl) (fun t => by rw [hafter]; unfold Dat.blockOf iblk4; rw [hA]; try rfl) t d).trans
    (by unfold Dat.fetched Dat.blockOf iblk4; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_13_of {c : Dev nD} (dat : Dat τ (Elt F) Unit ℕ (UR sig nD τ) ℕ cfg4 c) (hA : dat.A 13 = V c (Pipeline.arrRef spec4 13))
    (hafter : ∀ t, dat.after 13 t = iblk4 V c 13 t) (t : Fin cfg4.N) (d) : dat.before 13 t d = iblk4 V c 13 t :=
  (dat.before_in_eq_fetched 13 rfl (fun _ => rfl) (fun _ _ _ => rfl) (fun t => by rw [hafter]; unfold Dat.blockOf iblk4; rw [hA]; try rfl) t d).trans
    (by unfold Dat.fetched Dat.blockOf iblk4; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_14_of {c : Dev nD} (dat : Dat τ (Elt F) Unit ℕ (UR sig nD τ) ℕ cfg4 c) (hA : dat.A 14 = V c (Pipeline.arrRef spec4 14))
    (hafter : ∀ t, dat.after 14 t = iblk4 V c 14 t) (t : Fin cfg4.N) (d) : dat.before 14 t d = iblk4 V c 14 t :=
  (dat.before_in_eq_fetched 14 rfl (fun _ => rfl) (fun _ _ _ => rfl) (fun t => by rw [hafter]; unfold Dat.blockOf iblk4; rw [hA]; try rfl) t d).trans
    (by unfold Dat.fetched Dat.blockOf iblk4; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before4_15_of {c : Dev nD} (dat : Dat τ (Elt F) Unit ℕ (UR sig nD τ) ℕ cfg4 c) (hA : dat.A 15 = V c (Pipeline.arrRef spec4 15))
    (hafter : ∀ t, dat.after 15 t = iblk4 V c 15 t) (t : Fin cfg4.N) (d) : dat.before 15 t d = iblk4 V c 15 t :=
  (dat.before_in_eq_fetched 15 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S1x8x1024x64 := Rect.unit (s := S1x8x1024x64) ![0, 0, 0, 0] S1x1x1024x64.size inb_S1x8x1024x64_S1x1x1024x64_0_0_0_0
abbrev r4_1 : Rect S1x8x1024x128 := Rect.unit (s := S1x8x1024x128) ![0, 0, 0, 0] S1x1x1024x128.size inb_S1x8x1024x128_S1x1x1024x128_0_0_0_0
abbrev r4_2 : Rect S1x8x1024x64 := Rect.unit (s := S1x8x1024x64) ![0, 1, 0, 0] S1x1x1024x64.size inb_S1x8x1024x64_S1x1x1024x64_0_1_0_0
abbrev r4_3 : Rect S1x8x1024x128 := Rect.unit (s := S1x8x1024x128) ![0, 1, 0, 0] S1x1x1024x128.size inb_S1x8x1024x128_S1x1x1024x128_0_1_0_0
abbrev r4_4 : Rect S1x8x1024x64 := Rect.unit (s := S1x8x1024x64) ![0, 2, 0, 0] S1x1x1024x64.size inb_S1x8x1024x64_S1x1x1024x64_0_2_0_0
abbrev r4_5 : Rect S1x8x1024x128 := Rect.unit (s := S1x8x1024x128) ![0, 2, 0, 0] S1x1x1024x128.size inb_S1x8x1024x128_S1x1x1024x128_0_2_0_0
abbrev r4_6 : Rect S1x8x1024x64 := Rect.unit (s := S1x8x1024x64) ![0, 3, 0, 0] S1x1x1024x64.size inb_S1x8x1024x64_S1x1x1024x64_0_3_0_0
abbrev r4_7 : Rect S1x8x1024x128 := Rect.unit (s := S1x8x1024x128) ![0, 3, 0, 0] S1x1x1024x128.size inb_S1x8x1024x128_S1x1x1024x128_0_3_0_0
abbrev r4_8 : Rect S1x8x1024x64 := Rect.unit (s := S1x8x1024x64) ![0, 4, 0, 0] S1x1x1024x64.size inb_S1x8x1024x64_S1x1x1024x64_0_4_0_0
abbrev r4_9 : Rect S1x8x1024x128 := Rect.unit (s := S1x8x1024x128) ![0, 4, 0, 0] S1x1x1024x128.size inb_S1x8x1024x128_S1x1x1024x128_0_4_0_0
abbrev r4_10 : Rect S1x8x1024x64 := Rect.unit (s := S1x8x1024x64) ![0, 5, 0, 0] S1x1x1024x64.size inb_S1x8x1024x64_S1x1x1024x64_0_5_0_0
abbrev r4_11 : Rect S1x8x1024x128 := Rect.unit (s := S1x8x1024x128) ![0, 5, 0, 0] S1x1x1024x128.size inb_S1x8x1024x128_S1x1x1024x128_0_5_0_0
abbrev r4_12 : Rect S1x8x1024x64 := Rect.unit (s := S1x8x1024x64) ![0, 6, 0, 0] S1x1x1024x64.size inb_S1x8x1024x64_S1x1x1024x64_0_6_0_0
abbrev r4_13 : Rect S1x8x1024x128 := Rect.unit (s := S1x8x1024x128) ![0, 6, 0, 0] S1x1x1024x128.size inb_S1x8x1024x128_S1x1x1024x128_0_6_0_0
abbrev r4_14 : Rect S1x8x1024x64 := Rect.unit (s := S1x8x1024x64) ![0, 7, 0, 0] S1x1x1024x64.size inb_S1x8x1024x64_S1x1x1024x64_0_7_0_0
abbrev r4_15 : Rect S1x8x1024x128 := Rect.unit (s := S1x8x1024x128) ![0, 7, 0, 0] S1x1x1024x128.size inb_S1x8x1024x128_S1x1x1024x128_0_7_0_0
abbrev r4_16 : Rect S1x1024x512 := Rect.unit (s := S1x1024x512) ![0, 0, 0] S1x1024x512.size inb_S1x1024x512_S1x1024x512_0_0_0
abbrev r4_17 : Rect S512x512 := Rect.unit (s := S512x512) ![0, 0] S512x512.size inb_S512x512_S512x512_0_0
abbrev r4_18 : Rect S1x512 := Rect.unit (s := S1x512) ![0, 0] S1x512.size inb_S1x512_S1x512_0_0
abbrev r4_19 : Rect S2048x512 := Rect.unit (s := S2048x512) ![0, 0] S2048x512.size inb_S2048x512_S2048x512_0_0
abbrev r4_20 : Rect S1x2048 := Rect.unit (s := S1x2048) ![0, 0] S1x2048.size inb_S1x2048_S1x2048_0_0
abbrev r4_21 : Rect S512x2048 := Rect.unit (s := S512x2048) ![0, 0] S512x2048.size inb_S512x2048_S512x2048_0_0
abbrev r4_22 : Rect S1536x512 := Rect.unit (s := S1536x512) ![0, 0] S1536x512.size inb_S1536x512_S1536x512_0_0
abbrev r4_23 : Rect S1x1536 := Rect.unit (s := S1x1536) ![0, 0] S1x1536.size inb_S1x1536_S1x1536_0_0

/-! ## What the body leaves in each output window's buffer -/

/-! ### Values of the body that the stores' payloads, spelt out, would write more than once

    Each is a vector the body binds (often a part call's result), stated over the input windows' blocks and
    numbered on from the skeleton's payload functions (`k4_pay52` …, after `k4_pay51`), so that
    `out4_W` and the values after it name it instead of spelling it out (`unfold_out out4_W` opens a canon
    with them, `unfold_payloads` opens them with the payloads); the comment after each is the printed function's
    name for the value (a count appended where that name is bound again). -/

def k4_pay52 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay5 (View.ld x0 r4_0) (View.ld x1 r4_0) (View.ld x2 r4_1) -- `v14`
def k4_pay53 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay8 (k4_pay6 (View.ld x0 r4_2) (View.ld x1 r4_2) (View.ld x2 r4_3)) (k4_pay7 (View.ld x0 r4_2) (View.ld x1 r4_2) (View.ld x2 r4_3)) -- `v29`
def k4_pay54 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay9 (View.ld x0 r4_4) (View.ld x1 r4_4) (View.ld x2 r4_5) -- `v44`
def k4_pay55 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay12 (k4_pay10 (View.ld x0 r4_6) (View.ld x1 r4_6) (View.ld x2 r4_7)) (k4_pay11 (View.ld x0 r4_6) (View.ld x1 r4_6) (View.ld x2 r4_7)) -- `v59`
def k4_pay56 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay13 (View.ld x0 r4_8) (View.ld x1 r4_8) (View.ld x2 r4_9) -- `v74`
def k4_pay57 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay16 (k4_pay14 (View.ld x0 r4_10) (View.ld x1 r4_10) (View.ld x2 r4_11)) (k4_pay15 (View.ld x0 r4_10) (View.ld x1 r4_10) (View.ld x2 r4_11)) -- `v89`
def k4_pay58 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay17 (View.ld x0 r4_12) (View.ld x1 r4_12) (View.ld x2 r4_13) -- `v104`
def k4_pay59 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x128 .f32 :=
  k4_pay18 (View.ld x0 r4_14) (View.ld x1 r4_14) (View.ld x2 r4_15) -- `v116`
def k4_pay60 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .f32 :=
  k4_pay19 (View.ld x0 r4_14) (View.ld x1 r4_14) (View.ld x2 r4_15) -- `v117`
def k4_pay61 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1x512 .f32 :=
  k4_pay22 (View.ld x13 r4_18) -- `v181`
def k4_pay62 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x512 .f32 :=
  k4_pay23 (k4_pay20 (k4_pay52 x0 x1 x2 x3 x4 x5 x6 x7 x8 x9 x10 x11 x12 x13 x14 x15) (k4_pay53 x0 x1 x2 x3 x4 x5 x6 x7 x8 x9 x10 x11 x12 x13 x14 x15) (k4_pay54 x0 x1 x2 x3 x4 x5 x6 x7 x8 x9 x10 x11 x12 x13 x14 x15) (k4_pay55 x0 x1 x2 x3 x4 x5 x6 x7 x8 x9 x10 x11 x12 x13 x14 x15) (k4_pay56 x0 x1 x2 x3 x4 x5 x6 x7 x8 x9 x10 x11 x12 x13 x14 x15) (k4_pay57 x0 x1 x2 x3 x4 x5 x6 x7 x8 x9 x10 x11 x12 x13 x14 x15) (k4_pay58 x0 x1 x2 x3 x4 x5 x6 x7 x8 x9 x10 x11 x12 x13 x14 x15) (k4_pay59 x0 x1 x2 x3 x4 x5 x6 x7 x8 x9 x10 x11 x12 x13 x14 x15) (k4_pay60 x0 x1 x2 x3 x4 x5 x6 x7 x8 x9 x10 x11 x12 x13 x14 x15) (View.ld x3 r4_16) (View.ld x4 r4_17) (View.ld x5 r4_18) (View.ld x10 r4_18) (View.ld x11 r4_18)) (k4_pay21 (k4_pay52 x0 x1 x2 x3 x4 x5 x6 x7 x8 x9 x10 x11 x12 x13 x14 x15) (k4_pay53 x0 x1 x2 x3 x4 x5 x6 x7 x8 x9 x10 x11 x12 x13 x14 x15) (k4_pay54 x0 x1 x2 x3 x4 x5 x6 x7 x8 x9 x10 x11 x12 x13 x14 x15) (k4_pay55 x0 x1 x2 x3 x4 x5 x6 x7 x8 x9 x10 x11 x12 x13 x14 x15) (k4_pay56 x0 x1 x2 x3 x4 x5 x6 x7 x8 x9 x10 x11 x12 x13 x14 x15) (k4_pay57 x0 x1 x2 x3 x4 x5 x6 x7 x8 x9 x10 x11 x12 x13 x14 x15) (k4_pay58 x0 x1 x2 x3 x4 x5 x6 x7 x8 x9 x10 x11 x12 x13 x14 x15) (k4_pay59 x0 x1 x2 x3 x4 x5 x6 x7 x8 x9 x10 x11 x12 x13 x14 x15) (k4_pay60 x0 x1 x2 x3 x4 x5 x6 x7 x8 x9 x10 x11 x12 x13 x14 x15) (View.ld x3 r4_16) (View.ld x4 r4_17) (View.ld x5 r4_18) (View.ld x10 r4_18) (View.ld x11 r4_18)) (View.ld x6 r4_19) (View.ld x7 r4_20) (View.ld x8 r4_21) (View.ld x9 r4_18) -- `v199`
def k4_pay63 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x512 .f32 :=
  k4_pay24 (View.ld x12 r4_18) -- `v200`
def k4_pay64 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x1536 .bf16 :=
  k4_pay27 (k4_pay61 x0 x1 x2 x3 x4 x5 x6 x7 x8 x9 x10 x11 x12 x13 x14 x15) (k4_pay62 x0 x1 x2 x3 x4 x5 x6 x7 x8 x9 x10 x11 x12 x13 x14 x15) (k4_pay63 x0 x1 x2 x3 x4 x5 x6 x7 x8 x9 x10 x11 x12 x13 x14 x15) (View.ld x14 r4_22) (View.ld x15 r4_23) -- `v216`
def k4_pay65 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : FVec F S1024x64 .bf16 :=
  k4_pay28 (F := F) -- `v217`

/-- Window 16's staging buffer after the body, from the input windows' blocks: its 1 store as pieces, LAST
    FIRST (Lib/Pipeline/FrameBody.lean `View.canon`; the payloads are the skeleton's and the values stated above). -/
def out4_16 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x1024x512 .f32 :=
  View.canon [⟨r4_16, k4_pay26 (k4_pay61 x0 x1 x2 x3 x4 x5 x6 x7 x8 x9 x10 x11 x12 x13 x14 x15) (k4_pay62 x0 x1 x2 x3 x4 x5 x6 x7 x8 x9 x10 x11 x12 x13 x14 x15) (k4_pay63 x0 x1 x2 x3 x4 x5 x6 x7 x8 x9 x10 x11 x12 x13 x14 x15)⟩]

/-- Its stores tile the buffer (checked by evaluation), so they cover it. -/
theorem cover4_16 (p0 : Vec F S1x1024x512 .f32) (y : S1x1024x512.Idx) :
    ∃ pc ∈ ([⟨r4_16, p0⟩] : List (View.Piece (Elt F) S1x1024x512 .f32)), y ∈ pc.1.set :=
  View.cover_of_tiled [⟨r4_16, p0⟩] S1x1024x512.size (by rfl) y

/-- Window 17's staging buffer after the body, from the input windows' blocks: its 8 stores as pieces, LAST
    FIRST (Lib/Pipeline/FrameBody.lean `View.canon`; the payloads are the skeleton's and the values stated above). -/
def out4_17 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x8x1024x64 .bf16 :=
  View.canon [⟨r4_14, k4_pay2 (k4_pay64 x0 x1 x2 x3 x4 x5 x6 x7 x8 x9 x10 x11 x12 x13 x14 x15)⟩,
    ⟨r4_12, k4_pay49 (k4_pay64 x0 x1 x2 x3 x4 x5 x6 x7 x8 x9 x10 x11 x12 x13 x14 x15)⟩,
    ⟨r4_10, k4_pay46 (k4_pay64 x0 x1 x2 x3 x4 x5 x6 x7 x8 x9 x10 x11 x12 x13 x14 x15)⟩,
    ⟨r4_8, k4_pay42 (k4_pay64 x0 x1 x2 x3 x4 x5 x6 x7 x8 x9 x10 x11 x12 x13 x14 x15)⟩,
    ⟨r4_6, k4_pay39 (k4_pay64 x0 x1 x2 x3 x4 x5 x6 x7 x8 x9 x10 x11 x12 x13 x14 x15)⟩,
    ⟨r4_4, k4_pay36 (k4_pay64 x0 x1 x2 x3 x4 x5 x6 x7 x8 x9 x10 x11 x12 x13 x14 x15)⟩,
    ⟨r4_2, k4_pay33 (k4_pay32 (k4_pay61 x0 x1 x2 x3 x4 x5 x6 x7 x8 x9 x10 x11 x12 x13 x14 x15) (k4_pay62 x0 x1 x2 x3 x4 x5 x6 x7 x8 x9 x10 x11 x12 x13 x14 x15) (k4_pay63 x0 x1 x2 x3 x4 x5 x6 x7 x8 x9 x10 x11 x12 x13 x14 x15) (View.ld x14 r4_22) (View.ld x15 r4_23)) (Scalar.ofBits .bf16 0x3E00#16)⟩,
    ⟨r4_0, k4_pay29 (k4_pay61 x0 x1 x2 x3 x4 x5 x6 x7 x8 x9 x10 x11 x12 x13 x14 x15) (k4_pay62 x0 x1 x2 x3 x4 x5 x6 x7 x8 x9 x10 x11 x12 x13 x14 x15) (k4_pay63 x0 x1 x2 x3 x4 x5 x6 x7 x8 x9 x10 x11 x12 x13 x14 x15) (View.ld x14 r4_22) (View.ld x15 r4_23)⟩]

/-- Its stores tile the buffer (checked by evaluation), so they cover it. -/
theorem cover4_17 (p0 : Vec F S1x1x1024x64 .bf16) (p1 : Vec F S1x1x1024x64 .bf16) (p2 : Vec F S1x1x1024x64 .bf16) (p3 : Vec F S1x1x1024x64 .bf16) (p4 : Vec F S1x1x1024x64 .bf16) (p5 : Vec F S1x1x1024x64 .bf16) (p6 : Vec F S1x1x1024x64 .bf16) (p7 : Vec F S1x1x1024x64 .bf16) (y : S1x8x1024x64.Idx) :
    ∃ pc ∈ ([⟨r4_14, p0⟩, ⟨r4_12, p1⟩, ⟨r4_10, p2⟩, ⟨r4_8, p3⟩, ⟨r4_6, p4⟩, ⟨r4_4, p5⟩, ⟨r4_2, p6⟩, ⟨r4_0, p7⟩] : List (View.Piece (Elt F) S1x8x1024x64 .bf16)), y ∈ pc.1.set :=
  View.cover_of_tiled [⟨r4_14, p0⟩, ⟨r4_12, p1⟩, ⟨r4_10, p2⟩, ⟨r4_8, p3⟩, ⟨r4_6, p4⟩, ⟨r4_4, p5⟩, ⟨r4_2, p6⟩, ⟨r4_0, p7⟩] S1x1x1024x64.size (by rfl) y

/-- Window 18's staging buffer after the body, from the input windows' blocks: its 8 stores as pieces, LAST
    FIRST (Lib/Pipeline/FrameBody.lean `View.canon`; the payloads are the skeleton's and the values stated above). -/
def out4_18 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x8x1024x64 .bf16 :=
  View.canon [⟨r4_14, k4_pay3 (k4_pay64 x0 x1 x2 x3 x4 x5 x6 x7 x8 x9 x10 x11 x12 x13 x14 x15)⟩,
    ⟨r4_12, k4_pay50 (k4_pay64 x0 x1 x2 x3 x4 x5 x6 x7 x8 x9 x10 x11 x12 x13 x14 x15)⟩,
    ⟨r4_10, k4_pay47 (k4_pay64 x0 x1 x2 x3 x4 x5 x6 x7 x8 x9 x10 x11 x12 x13 x14 x15)⟩,
    ⟨r4_8, k4_pay43 (k4_pay64 x0 x1 x2 x3 x4 x5 x6 x7 x8 x9 x10 x11 x12 x13 x14 x15)⟩,
    ⟨r4_6, k4_pay40 (k4_pay64 x0 x1 x2 x3 x4 x5 x6 x7 x8 x9 x10 x11 x12 x13 x14 x15)⟩,
    ⟨r4_4, k4_pay37 (k4_pay64 x0 x1 x2 x3 x4 x5 x6 x7 x8 x9 x10 x11 x12 x13 x14 x15)⟩,
    ⟨r4_2, k4_pay34 (k4_pay64 x0 x1 x2 x3 x4 x5 x6 x7 x8 x9 x10 x11 x12 x13 x14 x15)⟩,
    ⟨r4_0, k4_pay30 (k4_pay61 x0 x1 x2 x3 x4 x5 x6 x7 x8 x9 x10 x11 x12 x13 x14 x15) (k4_pay62 x0 x1 x2 x3 x4 x5 x6 x7 x8 x9 x10 x11 x12 x13 x14 x15) (k4_pay63 x0 x1 x2 x3 x4 x5 x6 x7 x8 x9 x10 x11 x12 x13 x14 x15) (View.ld x14 r4_22) (View.ld x15 r4_23)⟩]

/-- Its stores tile the buffer (checked by evaluation), so they cover it. -/
theorem cover4_18 (p0 : Vec F S1x1x1024x64 .bf16) (p1 : Vec F S1x1x1024x64 .bf16) (p2 : Vec F S1x1x1024x64 .bf16) (p3 : Vec F S1x1x1024x64 .bf16) (p4 : Vec F S1x1x1024x64 .bf16) (p5 : Vec F S1x1x1024x64 .bf16) (p6 : Vec F S1x1x1024x64 .bf16) (p7 : Vec F S1x1x1024x64 .bf16) (y : S1x8x1024x64.Idx) :
    ∃ pc ∈ ([⟨r4_14, p0⟩, ⟨r4_12, p1⟩, ⟨r4_10, p2⟩, ⟨r4_8, p3⟩, ⟨r4_6, p4⟩, ⟨r4_4, p5⟩, ⟨r4_2, p6⟩, ⟨r4_0, p7⟩] : List (View.Piece (Elt F) S1x8x1024x64 .bf16)), y ∈ pc.1.set :=
  View.cover_of_tiled [⟨r4_14, p0⟩, ⟨r4_12, p1⟩, ⟨r4_10, p2⟩, ⟨r4_8, p3⟩, ⟨r4_6, p4⟩, ⟨r4_4, p5⟩, ⟨r4_2, p6⟩, ⟨r4_0, p7⟩] S1x1x1024x64.size (by rfl) y

/-- Window 19's staging buffer after the body, from the input windows' blocks: its 8 stores as pieces, LAST
    FIRST (Lib/Pipeline/FrameBody.lean `View.canon`; the payloads are the skeleton's and the values stated above). -/
def out4_19 (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) : Vec F S1x8x1024x128 .bf16 :=
  View.canon [⟨r4_15, k4_pay4 (k4_pay64 x0 x1 x2 x3 x4 x5 x6 x7 x8 x9 x10 x11 x12 x13 x14 x15) (k4_pay65 x0 x1 x2 x3 x4 x5 x6 x7 x8 x9 x10 x11 x12 x13 x14 x15)⟩,
    ⟨r4_13, k4_pay1 (k4_pay51 (k4_pay64 x0 x1 x2 x3 x4 x5 x6 x7 x8 x9 x10 x11 x12 x13 x14 x15) (k4_pay65 x0 x1 x2 x3 x4 x5 x6 x7 x8 x9 x10 x11 x12 x13 x14 x15))⟩,
    ⟨r4_11, k4_pay48 (k4_pay64 x0 x1 x2 x3 x4 x5 x6 x7 x8 x9 x10 x11 x12 x13 x14 x15) (k4_pay65 x0 x1 x2 x3 x4 x5 x6 x7 x8 x9 x10 x11 x12 x13 x14 x15)⟩,
    ⟨r4_9, k4_pay45 (k4_pay44 (k4_pay64 x0 x1 x2 x3 x4 x5 x6 x7 x8 x9 x10 x11 x12 x13 x14 x15) (k4_pay65 x0 x1 x2 x3 x4 x5 x6 x7 x8 x9 x10 x11 x12 x13 x14 x15))⟩,
    ⟨r4_7, k4_pay41 (k4_pay64 x0 x1 x2 x3 x4 x5 x6 x7 x8 x9 x10 x11 x12 x13 x14 x15) (k4_pay65 x0 x1 x2 x3 x4 x5 x6 x7 x8 x9 x10 x11 x12 x13 x14 x15)⟩,
    ⟨r4_5, k4_pay38 (k4_pay64 x0 x1 x2 x3 x4 x5 x6 x7 x8 x9 x10 x11 x12 x13 x14 x15) (k4_pay65 x0 x1 x2 x3 x4 x5 x6 x7 x8 x9 x10 x11 x12 x13 x14 x15)⟩,
    ⟨r4_3, k4_pay35 (k4_pay64 x0 x1 x2 x3 x4 x5 x6 x7 x8 x9 x10 x11 x12 x13 x14 x15) (k4_pay65 x0 x1 x2 x3 x4 x5 x6 x7 x8 x9 x10 x11 x12 x13 x14 x15)⟩,
    ⟨r4_1, k4_pay31 (k4_pay61 x0 x1 x2 x3 x4 x5 x6 x7 x8 x9 x10 x11 x12 x13 x14 x15) (k4_pay62 x0 x1 x2 x3 x4 x5 x6 x7 x8 x9 x10 x11 x12 x13 x14 x15) (k4_pay63 x0 x1 x2 x3 x4 x5 x6 x7 x8 x9 x10 x11 x12 x13 x14 x15) (View.ld x14 r4_22) (View.ld x15 r4_23)⟩]

/-- Its stores tile the buffer (checked by evaluation), so they cover it. -/
theorem cover4_19 (p0 : Vec F S1x1x1024x128 .bf16) (p1 : Vec F S1x1x1024x128 .bf16) (p2 : Vec F S1x1x1024x128 .bf16) (p3 : Vec F S1x1x1024x128 .bf16) (p4 : Vec F S1x1x1024x128 .bf16) (p5 : Vec F S1x1x1024x128 .bf16) (p6 : Vec F S1x1x1024x128 .bf16) (p7 : Vec F S1x1x1024x128 .bf16) (y : S1x8x1024x128.Idx) :
    ∃ pc ∈ ([⟨r4_15, p0⟩, ⟨r4_13, p1⟩, ⟨r4_11, p2⟩, ⟨r4_9, p3⟩, ⟨r4_7, p4⟩, ⟨r4_5, p5⟩, ⟨r4_3, p6⟩, ⟨r4_1, p7⟩] : List (View.Piece (Elt F) S1x8x1024x128 .bf16)), y ∈ pc.1.set :=
  View.cover_of_tiled [⟨r4_15, p0⟩, ⟨r4_13, p1⟩, ⟨r4_11, p2⟩, ⟨r4_9, p3⟩, ⟨r4_7, p4⟩, ⟨r4_5, p5⟩, ⟨r4_3, p6⟩, ⟨r4_1, p7⟩] S1x1x1024x128.size (by rfl) y

/-! ## The body's triple -/

set_option maxHeartbeats 2595300 in
/-- The kernel body on whole staging memrefs, the inputs' at read contents `xW` and the outputs' at anything, runs to
    the continuation holding the inputs' as they were and each output's at `out4_W` of the inputs': the printed functions
    are their skeletons (`Gen.*_eq_skeleton`), which `sl_exec` runs (Lib/Exec.lean), through every part call. -/
theorem sound_kernel4 (c : Dev nD) (E : Set ℕ) (i : grid4.Coords) (arg2 : Memref sig .tc .vmem S1x8x1024x64 .bf16) (harg2 : arg2.IsWhole) (arg3 : Memref sig .tc .vmem S1x8x1024x64 .bf16) (harg3 : arg3.IsWhole) (arg4 : Memref sig .tc .vmem S1x8x1024x128 .bf16) (harg4 : arg4.IsWhole) (arg5 : Memref sig .tc .vmem S1x1024x512 .f32) (harg5 : arg5.IsWhole) (arg6 : Memref sig .tc .vmem S512x512 .bf16) (harg6 : arg6.IsWhole) (arg7 : Memref sig .tc .vmem S1x512 .f32) (harg7 : arg7.IsWhole) (arg8 : Memref sig .tc .vmem S2048x512 .bf16) (harg8 : arg8.IsWhole) (arg9 : Memref sig .tc .vmem S1x2048 .f32) (harg9 : arg9.IsWhole) (arg10 : Memref sig .tc .vmem S512x2048 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1536x512 .bf16) (harg16 : arg16.IsWhole) (arg17 : Memref sig .tc .vmem S1x1536 .f32) (harg17 : arg17.IsWhole) (arg18 : Memref sig .tc .vmem S1x1024x512 .f32) (harg18 : arg18.IsWhole) (arg19 : Memref sig .tc .vmem S1x8x1024x64 .bf16) (harg19 : arg19.IsWhole) (arg20 : Memref sig .tc .vmem S1x8x1024x64 .bf16) (harg20 : arg20.IsWhole) (arg21 : Memref sig .tc .vmem S1x8x1024x128 .bf16) (harg21 : arg21.IsWhole)
    (x0 : Vec F S1x8x1024x64 .bf16) (x1 : Vec F S1x8x1024x64 .bf16) (x2 : Vec F S1x8x1024x128 .bf16) (x3 : Vec F S1x1024x512 .f32) (x4 : Vec F S512x512 .bf16) (x5 : Vec F S1x512 .f32) (x6 : Vec F S2048x512 .bf16) (x7 : Vec F S1x2048 .f32) (x8 : Vec F S512x2048 .bf16) (x9 : Vec F S1x512 .f32) (x10 : Vec F S1x512 .f32) (x11 : Vec F S1x512 .f32) (x12 : Vec F S1x512 .f32) (x13 : Vec F S1x512 .f32) (x14 : Vec F S1536x512 .bf16) (x15 : Vec F S1x1536 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare (out4_16 x0 x1 x2 x3 x4 x5 x6 x7 x8 x9 x10 x11 x12 x13 x14 x15) ∗ owns (c : Thread nD τ) arg19 fullShare (out4_17 x0 x1 x2 x3 x4 x5 x6 x7 x8 x9 x10 x11 x12 x13 x14 x15) ∗ owns (c : Thread nD τ) arg20 fullShare (out4_18 x0 x1 x2 x3 x4 x5 x6 x7 x8 x9 x10 x11 x12 x13 x14 x15) ∗ owns (c : Thread nD τ) arg21 fullShare (out4_19 x0 x1 x2 x3 x4 x5 x6 x7 x8 x9 x10 x11 x12 x13 x14 x15)) -∗ K ⟨⟩))
      ⊢ wp frame (wpE (defs₀ (F := F)) Variants.none c none) E (cc4_layer_s1024_qkv i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc4_layer_s1024_qkv_eq_skeleton]; unfold cc4_layer_s1024_qkv_skel
  simp only [k4_part1_eq_skeleton, k4_part2_eq_skeleton, k4_part3_eq_skeleton, k4_part4_eq_skeleton, k4_part5_eq_skeleton, k4_part6_eq_skeleton, k4_part7_eq_skeleton, k4_part8_eq_skeleton, k4_part9_eq_skeleton, k4_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    refine (View.read_writes_eq_canon _ _ _ (cover4_16 _)).trans ?_
    rfl
  isplitl [H17]
  · iexists _; isplitr
    swap; · iexact H17
    ipureintro
    refine (View.read_writes_eq_canon _ _ _ (cover4_17 _ _ _ _ _ _ _ _)).trans ?_
    rfl
  isplitl [H18]
  · iexists _; isplitr
    swap; · iexact H18
    ipureintro
    refine (View.read_writes_eq_canon _ _ _ (cover4_18 _ _ _ _ _ _ _ _)).trans ?_
    rfl
  iexists _; isplitr
  swap; · iexact H19
  ipureintro
  refine (View.read_writes_eq_canon _ _ _ (cover4_19 _ _ _ _ _ _ _ _)).trans ?_
  rfl

/-! ## The pipeline's proof data -/

/-- The proof data of pipeline 4 on core `c`: the arrays as the region finds them (`V`); after the body at
    point `t` each input's buffer at its block and each output's at `out4_W` of the input blocks; the invariant the
    class's (Lib/Pipeline/Frame.lean `ΦA`: the scoped rest and the generator register, untouched); nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => iblk4 V c 11 t
    | ⟨12, _⟩ => iblk4 V c 12 t
    | ⟨13, _⟩ => iblk4 V c 13 t
    | ⟨14, _⟩ => iblk4 V c 14 t
    | ⟨15, _⟩ => iblk4 V c 15 t
    | ⟨16, _⟩ => out4_16 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)
    | ⟨17, _⟩ => out4_17 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)
    | ⟨18, _⟩ => out4_18 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)
    | ⟨19, _⟩ => out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)
    | ⟨_ + 20, h⟩ => absurd h (Nat.not_lt.2 (Nat.le_add_left _ _))
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`, never `rfl`: Lib/Pipeline.lean `Dat`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = iblk4 V c 11 t := by dsimp only [dat4]
theorem after4_12 (c : Dev nD) (t : Fin cfg4.N) : (dat4 V c).after 12 t = iblk4 V c 12 t := by dsimp only [dat4]
theorem after4_13 (c : Dev nD) (t : Fin cfg4.N) : (dat4 V c).after 13 t = iblk4 V c 13 t := by dsimp only [dat4]
theorem after4_14 (c : Dev nD) (t : Fin cfg4.N) : (dat4 V c).after 14 t = iblk4 V c 14 t := by dsimp only [dat4]
theorem after4_15 (c : Dev nD) (t : Fin cfg4.N) : (dat4 V c).after 15 t = iblk4 V c 15 t := by dsimp only [dat4]
theorem after4_16 (c : Dev nD) (t : Fin cfg4.N) : (dat4 V c).after 16 t = out4_16 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) := by dsimp only [dat4]
theorem after4_17 (c : Dev nD) (t : Fin cfg4.N) : (dat4 V c).after 17 t = out4_17 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) := by dsimp only [dat4]
theorem after4_18 (c : Dev nD) (t : Fin cfg4.N) : (dat4 V c).after 18 t = out4_18 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) := by dsimp only [dat4]
theorem after4_19 (c : Dev nD) (t : Fin cfg4.N) : (dat4 V c).after 19 t = out4_19 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d
theorem before4_11 (c : Dev nD) (t : Fin cfg4.N) (d) : (dat4 V c).before 11 t d = iblk4 V c 11 t :=
  before4_11_of V (dat4 V c) (A_eq4 V c 11) (after4_11 V c) t d
theorem before4_12 (c : Dev nD) (t : Fin cfg4.N) (d) : (dat4 V c).before 12 t d = iblk4 V c 12 t :=
  before4_12_of V (dat4 V c) (A_eq4 V c 12) (after4_12 V c) t d
theorem before4_13 (c : Dev nD) (t : Fin cfg4.N) (d) : (dat4 V c).before 13 t d = iblk4 V c 13 t :=
  before4_13_of V (dat4 V c) (A_eq4 V c 13) (after4_13 V c) t d
theorem before4_14 (c : Dev nD) (t : Fin cfg4.N) (d) : (dat4 V c).before 14 t d = iblk4 V c 14 t :=
  before4_14_of V (dat4 V c) (A_eq4 V c 14) (after4_14 V c) t d
theorem before4_15 (c : Dev nD) (t : Fin cfg4.N) (d) : (dat4 V c).before 15 t d = iblk4 V c 15 t :=
  before4_15_of V (dat4 V c) (A_eq4 V c 15) (after4_15 V c) t d

/-! ## The body obligation, at a generic point -/

/-- What the body is called with at point `t` (Lib/Pipeline.lean `BodyObligation`'s precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d))
    ∗ (∃ d, owns (c : Thread nD τ) (st4_13 t) fullShare ((dat4 V c).before 13 t d))
    ∗ (∃ d, owns (c : Thread nD τ) (st4_14 t) fullShare ((dat4 V c).before 14 t d))
    ∗ (∃ d, owns (c : Thread nD τ) (st4_15 t) fullShare ((dat4 V c).before 15 t d))
    ∗ (∃ d, owns (c : Thread nD τ) (st4_16 t) fullShare ((dat4 V c).before 16 t d))
    ∗ (∃ d, owns (c : Thread nD τ) (st4_17 t) fullShare ((dat4 V c).before 17 t d))
    ∗ (∃ d, owns (c : Thread nD τ) (st4_18 t) fullShare ((dat4 V c).before 18 t d))
    ∗ (∃ d, owns (c : Thread nD τ) (st4_19 t) fullShare ((dat4 V c).before 19 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t)
    ∗ owns (c : Thread nD τ) (st4_13 t) fullShare ((dat4 V c).after 13 t)
    ∗ owns (c : Thread nD τ) (st4_14 t) fullShare ((dat4 V c).after 14 t)
    ∗ owns (c : Thread nD τ) (st4_15 t) fullShare ((dat4 V c).after 15 t)
    ∗ owns (c : Thread nD τ) (st4_16 t) fullShare ((dat4 V c).after 16 t)
    ∗ owns (c : Thread nD τ) (st4_17 t) fullShare ((dat4 V c).after 17 t)
    ∗ owns (c : Thread nD τ) (st4_18 t) fullShare ((dat4 V c).after 18 t)
    ∗ owns (c : Thread nD τ) (st4_19 t) fullShare ((dat4 V c).after 19 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10, before4_11, before4_12, before4_13, before4_14, before4_15]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12, after4_13, after4_14, after4_15, after4_16, after4_17, after4_18, after4_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel4 c Set.univ (grid4.coords t) _ _ _ _ _ _ _ _ _ _ _ _ _ _ _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

set_option maxHeartbeats 4000000 in
/-- The library's body obligation, at every point: the body's triple restated (Lib/Pipeline/FrameBody.lean `triple_restated`). -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Regions

end Cert.KernelIdeal.Gen

end
-- ==== Proof.Frm.Fold0.lean ====
module

public import proofs.«01_k».proof.Proof.Gen.KernelIdeal.Frame.Region0
public import proofs.«01_k».proof.Proof.Frm.Region1
public import proofs.«01_k».proof.Proof.Gen.KernelIdeal.Frame.Region2
public import proofs.«01_k».proof.Proof.Gen.KernelIdeal.Frame.Region3
public import proofs.«01_k».proof.Proof.Frm.Region4
public import proofs.«01_k».proof.Proof.Gen.KernelIdeal.Frame.Region5
public import proofs.«01_k».proof.Proof.Gen.KernelIdeal.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- A reference `hostOps4` does not write keeps its contents across it. -/
theorem W9_of (c : Dev nD) (r : Ref sig .tc) (h : r ∉ hostOps4_W) : W9 m ρ c (Proc.devRef .tc r) = W8 m ρ c (Proc.devRef .tc r) :=
  StableHlo.after_of_writes_sub hostOps4 _ hostOps4_writes h
theorem W9_args (c : Dev nD) : ∀ a ∈ argRefs, W9 m ρ c (Proc.devRef .tc a) = m ((c : Thread nD τ).loc a) :=
  fun a ha => (W9_of m ρ c a (hostOps4_args a ha)).trans (W8_args m ρ c a ha)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- A reference that is none of region 4's OUTPUT arrays keeps its entry contents across it: an input window's
    array is never written back (`Dat.arrAt_in`, `A_eq4`); any other buffer is left as is. -/
theorem W10_of (c : Dev nD) (r : Ref sig .tc) (h : ∀ w : Fin cfg4.W, Pipeline.arrRef spec4 w = r → (cfg4.win w).isOut = false) :
    W10 m ρ c (Proc.devRef .tc r) = W9 m ρ c (Proc.devRef .tc r) := by
  by_cases hw : ∃ w : Fin cfg4.W, Pipeline.arrRef spec4 w = r
  · obtain ⟨w, rfl⟩ := hw
    exact (W10_arr m ρ c w).trans (((dat4 (V9 m ρ) c).arrAt_in w (h w rfl) _).trans (A_eq4 (V9 m ρ) c w))
  · exact W10_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn4 a ha)).trans (W9_args m ρ c a ha)
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (region 5's entry). -/
abbrev W11 : Dev nD → Valuation τ sig (Elt F) := fun c => StableHlo.after hostOps5 (W10 m ρ c)
/-- A reference `hostOps5` does not write keeps its contents across it. -/
theorem W11_of (c : Dev nD) (r : Ref sig .tc) (h : r ∉ hostOps5_W) : W11 m ρ c (Proc.devRef .tc r) = W10 m ρ c (Proc.devRef .tc r) :=
  StableHlo.after_of_writes_sub hostOps5 _ hostOps5_writes h
theorem W11_args (c : Dev nD) : ∀ a ∈ argRefs, W11 m ρ c (Proc.devRef .tc a) = m ((c : Thread nD τ).loc a) :=
  fun a ha => (W11_of m ρ c a (hostOps5_args a ha)).trans (W10_args m ρ c a ha)
/-- The same read at the TensorCore's references (what region 5's proof data take). -/
abbrev V11 : (c : Dev nD) → (b : Ref sig .tc) → Buf (Elt F) ((c : Thread nD τ).loc b) := fun c b => W11 m ρ c b
/-- At region 5's exit: its arrays at what the pipeline leaves (the inputs as entered, each output's write-backs
    folded: `Dat.arrAt … N`), every other buffer as entered (Lib/Pipeline/FrameSuffix.lean `withArrays`). -/
def W12 (c : Dev nD) : Valuation τ sig (Elt F) :=
  Pipeline.withArrays spec5 c (W11 m ρ c) fun w => (dat5 (V11 m ρ) c).arrAt w cfg5.N
theorem W12_arr (c : Dev nD) (w : Fin cfg5.W) :
    W12 m ρ c (Proc.devRef .tc (Pipeline.arrRef spec5 w)) = (dat5 (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb
/-- A reference that is none of region 5's OUTPUT arrays keeps its entry contents across it: an input window's
    array is never written back (`Dat.arrAt_in`, `A_eq5`); any other buffer is left as is. -/
theorem W12_of (c : Dev nD) (r : Ref sig .tc) (h : ∀ w : Fin cfg5.W, Pipeline.arrRef spec5 w = r → (cfg5.win w).isOut = false) :
    W12 m ρ c (Proc.devRef .tc r) = W11 m ρ c (Proc.devRef .tc r) := by
  by_cases hw : ∃ w : Fin cfg5.W, Pipeline.arrRef spec5 w = r
  · obtain ⟨w, rfl⟩ := hw
    exact (W12_arr m ρ c w).trans (((dat5 (V11 m ρ) c).arrAt_in w (h w rfl) _).trans (A_eq5 (V11 m ρ) c w))
  · exact W12_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W12_args (c : Dev nD) : ∀ a ∈ argRefs, W12 m ρ c (Proc.devRef .tc a) = m ((c : Thread nD τ).loc a) :=
  fun a ha => (W12_of m ρ c a (argsIn5 a ha)).trans (W11_args m ρ c a ha)
/-- The same read at the TensorCore's references (region 5's exit contents). -/
abbrev V12 : (c : Dev nD) → (b : Ref sig .tc) → Buf (Elt F) ((c : Thread nD τ).loc b) := fun c b => W12 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V11 m ρ) c).arrAt w cfg5.N = V12 m ρ c (Pipeline.arrRef spec5 w) :=
  (W12_arr m ρ c w).symm
theorem hrest5 (c : Dev nD) : ∀ b, b ∉ Finset.univ.image (Pipeline.arrRef spec5) → V12 m ρ c b = V11 m ρ c b :=
  fun b hb => W12_of_ne m ρ c b fun w e => hb (Finset.mem_image.mpr ⟨w, Finset.mem_univ _, e⟩)

/-! ### The arguments end as launched: no host stretch writes one and no region may change one (a region reads it
    through an input window or bypasses it) -/

theorem W12_main_arg0 (c : Dev nD) : W12 m ρ c (Proc.devRef .tc main_arg0) = m ((c : Thread nD τ).loc main_arg0) :=
  W12_args m ρ c main_arg0 (by decide)
theorem W12_main_arg1 (c : Dev nD) : W12 m ρ c (Proc.devRef .tc main_arg1) = m ((c : Thread nD τ).loc main_arg1) :=
  W12_args m ρ c main_arg1 (by decide)
theorem W12_main_arg2 (c : Dev nD) : W12 m ρ c (Proc.devRef .tc main_arg2) = m ((c : Thread nD τ).loc main_arg2) :=
  W12_args m ρ c main_arg2 (by decide)
theorem W12_main_arg3 (c : Dev nD) : W12 m ρ c (Proc.devRef .tc main_arg3) = m ((c : Thread nD τ).loc main_arg3) :=
  W12_args m ρ c main_arg3 (by decide)
theorem W12_main_arg4 (c : Dev nD) : W12 m ρ c (Proc.devRef .tc main_arg4) = m ((c : Thread nD τ).loc main_arg4) :=
  W12_args m ρ c main_arg4 (by decide)
theorem W12_main_arg5 (c : Dev nD) : W12 m ρ c (Proc.devRef .tc main_arg5) = m ((c : Thread nD τ).loc main_arg5) :=
  W12_args m ρ c main_arg5 (by decide)
theorem W12_main_arg6 (c : Dev nD) : W12 m ρ c (Proc.devRef .tc main_arg6) = m ((c : Thread nD τ).loc main_arg6) :=
  W12_args m ρ c main_arg6 (by decide)
theorem W12_main_arg7 (c : Dev nD) : W12 m ρ c (Proc.devRef .tc main_arg7) = m ((c : Thread nD τ).loc main_arg7) :=
  W12_args m ρ c main_arg7 (by decide)
theorem W12_main_arg8 (c : Dev nD) : W12 m ρ c (Proc.devRef .tc main_arg8) = m ((c : Thread nD τ).loc main_arg8) :=
  W12_args m ρ c main_arg8 (by decide)
theorem W12_main_arg9 (c : Dev nD) : W12 m ρ c (Proc.devRef .tc main_arg9) = m ((c : Thread nD τ).loc main_arg9) :=
  W12_args m ρ c main_arg9 (by decide)
theorem W12_main_arg10 (c : Dev nD) : W12 m ρ c (Proc.devRef .tc main_arg10) = m ((c : Thread nD τ).loc main_arg10) :=
  W12_args m ρ c main_arg10 (by decide)
theorem W12_main_arg11 (c : Dev nD) : W12 m ρ c (Proc.devRef .tc main_arg11) = m ((c : Thread nD τ).loc main_arg11) :=
  W12_args m ρ c main_arg11 (by decide)
theorem W12_main_arg12 (c : Dev nD) : W12 m ρ c (Proc.devRef .tc main_arg12) = m ((c : Thread nD τ).loc main_arg12) :=
  W12_args m ρ c main_arg12 (by decide)
theorem W12_main_arg13 (c : Dev nD) : W12 m ρ c (Proc.devRef .tc main_arg13) = m ((c : Thread nD τ).loc main_arg13) :=
  W12_args m ρ c main_arg13 (by decide)
end Cert.KernelIdeal.Gen

end
-- ==== Proof.Frm.State.lean ====
module

public import proofs.«01_k».proof.Proof.Frm.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
  | ⟨5, _⟩ => fun c => dat5 (V11 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W12`, the generator register at some state. -/
abbrev Tₙ (c : Dev nD) : sProp 𝕄 := iprop(StableHlo.held (c : Thread nD τ) (Pipeline.ucRefs τ sig) (W12 m ρ c) ∗ ∃ r, prngReg c r)

end Cert.KernelIdeal.Gen

end
-- ==== Proof.Frm.Record0.lean ====
module

public import proofs.«01_k».proof.Proof.Frm.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frm.Record1.lean ====
module

public import proofs.«01_k».proof.Proof.Frm.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frm.Record2.lean ====
module

public import proofs.«01_k».proof.Proof.Frm.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frm.Record3.lean ====
module

public import proofs.«01_k».proof.Proof.Frm.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frm.Record4.lean ====
module

public import proofs.«01_k».proof.Proof.Frm.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 4 (custom_call 4) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) (A_eq4 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frm.Record5.lean ====
module

public import proofs.«01_k».proof.Proof.Frm.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 5 (custom_call 5) over the thread state: entered from every unscoped buffer at `W11`, left at `W12`
    (what the launch reads at the end). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V11 m ρ) c).loose
  hwaits := Pipeline.hwaits_of_owed_zero _ _ _ _ L lv 5 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c (V11 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V11 m ρ c) (A_eq5 (V11 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V11 m ρ c) (V12 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.Frm.Whole.lean ====
module

public import proofs.«01_k».proof.Proof.Frm.Record0
public import proofs.«01_k».proof.Proof.Frm.Record1
public import proofs.«01_k».proof.Proof.Frm.Record2
public import proofs.«01_k».proof.Proof.Frm.Record3
public import proofs.«01_k».proof.Proof.Frm.Record4
public import proofs.«01_k».proof.Proof.Frm.Record5

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 12 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)),
    .region (reg5 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch theorem's implicit arguments are found by unifying its conclusion with this one
set_option backward.isDefEq.respectTransparency.types false in
/-- The launch over the segments: every weakly fair execution of @main on the TensorCores terminates, every buffer of the
    main memory ends at its contents after the last segment, every semaphore counter at zero. -/
theorem run_whole : θ_run defs (onTc (τ := τ) (main (F := F))) ⟨m, fun _ => 0, ρ⟩ (fun r =>
      (∀ c : Dev nD, ∀ b ∈ Pipeline.ucRefs τ sig, r.2.mem (((c : Thread nD τ)).1, b) = W12 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h hz => ⟨h, funext fun g => hz g (.inr (no_unscoped g.2))⟩)

/-- The frame: the argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨
       (h.1 c _ (mem_uc main_arg0 (by decide))).trans (W12_main_arg0 m ρ c),
       (h.1 c _ (mem_uc main_arg1 (by decide))).trans (W12_main_arg1 m ρ c),
       (h.1 c _ (mem_uc main_arg2 (by decide))).trans (W12_main_arg2 m ρ c),
       (h.1 c _ (mem_uc main_arg3 (by decide))).trans (W12_main_arg3 m ρ c),
       (h.1 c _ (mem_uc main_arg4 (by decide))).trans (W12_main_arg4 m ρ c),
       (h.1 c _ (mem_uc main_arg5 (by decide))).trans (W12_main_arg5 m ρ c),
       (h.1 c _ (mem_uc main_arg6 (by decide))).trans (W12_main_arg6 m ρ c),
       (h.1 c _ (mem_uc main_arg7 (by decide))).trans (W12_main_arg7 m ρ c),
       (h.1 c _ (mem_uc main_arg8 (by decide))).trans (W12_main_arg8 m ρ c),
       (h.1 c _ (mem_uc main_arg9 (by decide))).trans (W12_main_arg9 m ρ c),
       (h.1 c _ (mem_uc main_arg10 (by decide))).trans (W12_main_arg10 m ρ c),
       (h.1 c _ (mem_uc main_arg11 (by decide))).trans (W12_main_arg11 m ρ c),
       (h.1 c _ (mem_uc main_arg12 (by decide))).trans (W12_main_arg12 m ρ c),
       (h.1 c _ (mem_uc main_arg13 (by decide))).trans (W12_main_arg13 m ρ c)⟩, h.2⟩) (run_whole m ρ)

end Cert.KernelIdeal.Gen

end
-- ==== Proof.Spec.lean ====
/- The mathematics of the four-layer network over the real numbers, and the few facts that carry it into the extended
   reals: sums, quotients, exponentials and square roots of real numbers read as extended reals. -/
module

public import Idealize.ShloMosaic.Lib.Pointwise

@[expose] public section

noncomputable section

namespace Cert.Net

open Idealize.ShloMosaic

/-! ### Real arithmetic inside the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem div_real (a b : ℝ) (h : b ≠ 0) : Ideal.div (a : EReal) (b : EReal) = ((a / b : ℝ) : EReal) := by
  have hb : (b : EReal) ≠ 0 := by exact_mod_cast h
  rw [Ideal.div, if_neg hb, div_eq_mul_inv, EReal.coe_mul, EReal.coe_inv]

theorem exp_real (a : ℝ) : Ideal.exp (a : EReal) = ((Real.exp a : ℝ) : EReal) := rfl

theorem sqrt_real (a : ℝ) (h : 0 ≤ a) : Ideal.sqrt (a : EReal) = ((Real.sqrt a : ℝ) : EReal) := by
  show (if a < 0 then (⊥ : EReal) else (Real.sqrt a : EReal)) = _
  rw [if_neg (not_lt.mpr h)]

theorem rsqrt_real (a : ℝ) (h : 0 < a) : Ideal.rsqrt (a : EReal) = (((Real.sqrt a)⁻¹ : ℝ) : EReal) := by
  show (if a < 0 then (⊥ : EReal) else if a = 0 then (⊤ : EReal) else (((Real.sqrt a)⁻¹ : ℝ) : EReal)) = _
  rw [if_neg (not_lt.mpr h.le), if_neg h.ne']

/-! ### The literals -/

/-- The `1e-5` both programs add under the square root: the real value of its float word. -/
def eps : ℝ := 10995116 / 1099511627776

theorem eps_pos : 0 < eps := by unfold eps; norm_num

theorem bits_eps : Ideal.ofBits .f32 0x3727C5AC#32 = ((eps : ℝ) : EReal) := by
  unfold eps
  simp [Ideal.ofBits, Ideal.ieee, -EReal.coe_mul]
  norm_num

theorem bits_512 : Ideal.ofBits .f32 0x44000000#32 = (((512 : ℝ)) : EReal) := by
  simp [Ideal.ofBits, Ideal.ieee, -EReal.coe_mul]
  norm_num

theorem bits_eighth : Ideal.ofBits .f32 0x3E000000#32 = (((1 / 8 : ℝ)) : EReal) := by
  simp [Ideal.ofBits, Ideal.ieee, -EReal.coe_mul]
  norm_num

theorem bits_eighth16 : Ideal.ofBits .bf16 0x3E00#16 = (((1 / 8 : ℝ)) : EReal) := by
  simp [Ideal.ofBits, Ideal.ieee, -EReal.coe_mul]
  norm_num

theorem bits_80 : Ideal.ofBits .f32 0x42A00000#32 = (((80 : ℝ)) : EReal) := by
  simp [Ideal.ofBits, Ideal.ieee, -EReal.coe_mul]
  norm_num

theorem bits_80' : Ideal.ofBits .bf16 0x42A0#16 = (((80 : ℝ)) : EReal) := by
  simp [Ideal.ofBits, Ideal.ieee, -EReal.coe_mul]
  norm_num

theorem bits_one : Ideal.ofBits .f32 0x3F800000#32 = (((1 : ℝ)) : EReal) := by
  simp [Ideal.ofBits, Ideal.ieee, -EReal.coe_mul]
  norm_num

theorem bits_one16 : Ideal.ofBits .bf16 0x3F80#16 = (((1 : ℝ)) : EReal) := by
  simp [Ideal.ofBits, Ideal.ieee, -EReal.coe_mul]
  norm_num

theorem bits_half : Ideal.ofBits .f32 0x3F000000#32 = (((1 / 2 : ℝ)) : EReal) := by
  simp [Ideal.ofBits, Ideal.ieee, -EReal.coe_mul]
  norm_num

theorem bits_zero : Ideal.ofBits .f32 0x00000000#32 = (((0 : ℝ)) : EReal) := by
  simp [Ideal.ofBits, Ideal.ieee]

theorem bits_zero16 : Ideal.ofBits .bf16 0x0000#16 = (((0 : ℝ)) : EReal) := by
  simp [Ideal.ofBits, Ideal.ieee]

theorem bits_inf : Ideal.ofBits .f32 0x7F800000#32 = ⊤ := by
  simp [Ideal.ofBits, Ideal.ieee]

theorem bits_neg_inf : Ideal.ofBits .f32 0xFF800000#32 = ⊥ := by
  simp [Ideal.ofBits, Ideal.ieee]

/-! ### The network -/

/-- A row-wise affine map, the weight matrix stored by output row. -/
def lin {n k m : ℕ} (x : Fin n → Fin k → ℝ) (W : Fin m → Fin k → ℝ) (b : Fin m → ℝ) (s : Fin n) (e : Fin m) : ℝ :=
  ∑ c, x s c * W e c + b e

/-- Column `d` of head `h` in part `j` (query, key, value) of the joint projection. -/
def col (j : Fin 3) (h : Fin 8) (d : Fin 64) : Fin 1536 := ⟨j.val * 512 + h.val * 64 + d.val, by omega⟩

/-- The scaled score of query row `q` and key row `k` in head `h`. -/
def score {S : ℕ} (Q : Fin S → Fin 1536 → ℝ) (h : Fin 8) (q k : Fin S) : ℝ :=
  (∑ d, Q q (col 0 h d) * Q k (col 1 h d)) * (1 / 8)

/-- The exponentials of the scores of row `q` add up to this. -/
def expSum {S : ℕ} (Q : Fin S → Fin 1536 → ℝ) (h : Fin 8) (q : Fin S) : ℝ := ∑ k, Real.exp (score Q h q k)

/-- One head of the attention: the average of the value rows weighted by the exponentials of the scores. -/
def head {S : ℕ} (Q : Fin S → Fin 1536 → ℝ) (h : Fin 8) (q : Fin S) (d : Fin 64) : ℝ :=
  (∑ k, Real.exp (score Q h q k) * Q k (col 2 h d)) / expSum Q h q

def hi (e : Fin 512) : Fin 8 := ⟨e.val / 64, by omega⟩
def lo (e : Fin 512) : Fin 64 := ⟨e.val % 64, by omega⟩

/-- The heads side by side. -/
def attn {S : ℕ} (Q : Fin S → Fin 1536 → ℝ) (q : Fin S) (e : Fin 512) : ℝ := head Q (hi e) q (lo e)

def mean (t : Fin 512 → ℝ) : ℝ := (∑ e, t e) / 512

def var (t : Fin 512 → ℝ) : ℝ := (∑ e, (t e - mean t) * (t e - mean t)) / 512

/-- Layer normalisation of one row. -/
def ln (g b : Fin 512 → ℝ) (t : Fin 512 → ℝ) (e : Fin 512) : ℝ := (t e - mean t) / Real.sqrt (var t + eps) * g e + b e

/-- One layer's parameters. -/
structure Par where
  Wqkv : Fin 1536 → Fin 512 → ℝ
  bqkv : Fin 1536 → ℝ
  Wo : Fin 512 → Fin 512 → ℝ
  bo : Fin 512 → ℝ
  W1 : Fin 2048 → Fin 512 → ℝ
  b1 : Fin 2048 → ℝ
  W2 : Fin 512 → Fin 2048 → ℝ
  b2 : Fin 512 → ℝ
  g1 : Fin 512 → ℝ
  be1 : Fin 512 → ℝ
  g2 : Fin 512 → ℝ
  be2 : Fin 512 → ℝ

/-- The rows after the attention's residual, before normalisation. -/
def res1 {S : ℕ} (p : Par) (x : Fin S → Fin 512 → ℝ) (Q : Fin S → Fin 1536 → ℝ) (s : Fin S) (e : Fin 512) : ℝ :=
  x s e + lin (attn Q) p.Wo p.bo s e

def mid {S : ℕ} (p : Par) (x : Fin S → Fin 512 → ℝ) (Q : Fin S → Fin 1536 → ℝ) (s : Fin S) : Fin 512 → ℝ :=
  ln p.g1 p.be1 (res1 p x Q s)

/-- The rows after the feed-forward residual, before normalisation. -/
def res2 {S : ℕ} (p : Par) (y : Fin S → Fin 512 → ℝ) (s : Fin S) (e : Fin 512) : ℝ :=
  y s e + lin (fun s f => max (lin y p.W1 p.b1 s f) 0) p.W2 p.b2 s e

def outOf {S : ℕ} (p : Par) (x : Fin S → Fin 512 → ℝ) (Q : Fin S → Fin 1536 → ℝ) (s : Fin S) : Fin 512 → ℝ :=
  ln p.g2 p.be2 (res2 p (mid p x Q) s)

/-- The projection of a layer's rows on queries, keys and values. -/
def proj {S : ℕ} (p : Par) (x : Fin S → Fin 512 → ℝ) : Fin S → Fin 1536 → ℝ := lin x p.Wqkv p.bqkv

/-- One layer. -/
def layer {S : ℕ} (p : Par) (x : Fin S → Fin 512 → ℝ) : Fin S → Fin 512 → ℝ := outOf p x (proj p x)

/-! ### Two identities -/

theorem expSum_pos {S : ℕ} (Q : Fin S → Fin 1536 → ℝ) (h : Fin 8) (q : Fin S) : 0 < expSum Q h q :=
  Finset.sum_pos (fun _ _ => Real.exp_pos _) ⟨q, Finset.mem_univ _⟩

theorem var_nonneg (t : Fin 512 → ℝ) : 0 ≤ var t :=
  div_nonneg (Finset.sum_nonneg fun _ _ => mul_self_nonneg _) (by norm_num)

theorem var_eps_pos (t : Fin 512 → ℝ) : 0 < var t + eps := add_pos_of_nonneg_of_pos (var_nonneg t) eps_pos

/-- The variance is the mean of the squares minus the square of the mean. -/
theorem var_eq (t : Fin 512 → ℝ) : (∑ e, t e * t e) / 512 - mean t * mean t = var t := by
  have h : ∑ e, (t e - mean t) * (t e - mean t) = ∑ e, t e * t e - 2 * mean t * ∑ e, t e + 512 * (mean t * mean t) := by
    have : ∀ e, (t e - mean t) * (t e - mean t) = t e * t e - 2 * mean t * t e + mean t * mean t := fun e => by ring
    simp only [this, Finset.sum_add_distrib, Finset.sum_sub_distrib, ← Finset.mul_sum, Finset.sum_const, Finset.card_univ,
      Fintype.card_fin, nsmul_eq_mul]
    push_cast
    ring
  have hs : ∑ e, t e = 512 * mean t := by unfold mean; ring
  unfold var
  rw [h, hs]; ring

end Cert.Net

end
-- ==== Proof.RefLayer.lean ====
/- One layer of the reference, written once for any number of rows `S`, and its value over the real numbers. -/
module

public import proofs.«01_k».proof.Proof.Spec

@[expose] public section

set_option maxRecDepth 16384

noncomputable section

namespace Cert.Net

open Idealize.ShloMosaic

/-- The shape facts the layer's operations state, at `S` rows. -/
class LayerFacts (S : ℕ) : Prop where
  wf_qkv : DotDims.WF ⟨3, ![4, S, 512]⟩ ⟨2, ![512, 1536]⟩ ⟨3, ![4, S, 1536]⟩ [2] [0] [0, 1] [1] [] []
  wf_qk : DotDims.WF ⟨4, ![4, 8, S, 64]⟩ ⟨4, ![4, 8, S, 64]⟩ ⟨4, ![4, 8, S, S]⟩ [3] [3] [2] [2] [0, 1] [0, 1]
  wf_pv : DotDims.WF ⟨4, ![4, 8, S, S]⟩ ⟨4, ![4, 8, S, 64]⟩ ⟨4, ![4, 8, S, 64]⟩ [3] [2] [2] [3] [0, 1] [0, 1]
  wf_o : DotDims.WF ⟨3, ![4, S, 512]⟩ ⟨2, ![512, 512]⟩ ⟨3, ![4, S, 512]⟩ [2] [0] [0, 1] [1] [] []
  wf_1 : DotDims.WF ⟨3, ![4, S, 512]⟩ ⟨2, ![512, 2048]⟩ ⟨3, ![4, S, 2048]⟩ [2] [0] [0, 1] [1] [] []
  wf_2 : DotDims.WF ⟨3, ![4, S, 2048]⟩ ⟨2, ![2048, 512]⟩ ⟨3, ![4, S, 512]⟩ [2] [0] [0, 1] [1] [] []
  tr_qkv : (⟨2, ![1536, 512]⟩ : Shape).Transposes [1, 0] ⟨2, ![512, 1536]⟩
  tr_o : (⟨2, ![512, 512]⟩ : Shape).Transposes [1, 0] ⟨2, ![512, 512]⟩
  tr_1 : (⟨2, ![2048, 512]⟩ : Shape).Transposes [1, 0] ⟨2, ![512, 2048]⟩
  tr_2 : (⟨2, ![512, 2048]⟩ : Shape).Transposes [1, 0] ⟨2, ![2048, 512]⟩
  tr_in : (⟨4, ![4, S, 8, 64]⟩ : Shape).Transposes [0, 2, 1, 3] ⟨4, ![4, 8, S, 64]⟩
  tr_out : (⟨4, ![4, 8, S, 64]⟩ : Shape).Transposes [0, 2, 1, 3] ⟨4, ![4, S, 8, 64]⟩
  rs_in : (⟨3, ![4, S, 512]⟩ : Shape).ShapeCasts ⟨4, ![4, S, 8, 64]⟩
  rs_out : (⟨4, ![4, S, 8, 64]⟩ : Shape).ShapeCasts ⟨3, ![4, S, 512]⟩
  sl_0 : (⟨3, ![4, S, 1536]⟩ : Shape).Slices ![0, 0, 0] ⟨3, ![4, S, 512]⟩
  sl_1 : (⟨3, ![4, S, 1536]⟩ : Shape).Slices ![0, 0, 512] ⟨3, ![4, S, 512]⟩
  sl_2 : (⟨3, ![4, S, 1536]⟩ : Shape).Slices ![0, 0, 1024] ⟨3, ![4, S, 512]⟩
  bi_1536 : (⟨1, ![1536]⟩ : Shape).BroadcastsInDim ⟨3, ![1, 1, 1536]⟩ (![2] : Fin 1 → Fin 3)
  bi_512 : (⟨1, ![512]⟩ : Shape).BroadcastsInDim ⟨3, ![1, 1, 512]⟩ (![2] : Fin 1 → Fin 3)
  bi_2048 : (⟨1, ![2048]⟩ : Shape).BroadcastsInDim ⟨3, ![1, 1, 2048]⟩ (![2] : Fin 1 → Fin 3)
  br_1536 : (⟨3, ![1, 1, 1536]⟩ : Shape).BroadcastsInDim ⟨3, ![4, S, 1536]⟩ (![0, 1, 2] : Fin 3 → Fin 3)
  br_512 : (⟨3, ![1, 1, 512]⟩ : Shape).BroadcastsInDim ⟨3, ![4, S, 512]⟩ (![0, 1, 2] : Fin 3 → Fin 3)
  br_2048 : (⟨3, ![1, 1, 2048]⟩ : Shape).BroadcastsInDim ⟨3, ![4, S, 2048]⟩ (![0, 1, 2] : Fin 3 → Fin 3)
  bs_sc : (⟨0, ![]⟩ : Shape).BroadcastsInDim ⟨4, ![4, 8, S, S]⟩ (![] : Fin 0 → Fin 4)
  bs_mx : (⟨0, ![]⟩ : Shape).BroadcastsInDim ⟨3, ![4, 8, S]⟩ (![] : Fin 0 → Fin 3)
  bs_1 : (⟨0, ![]⟩ : Shape).BroadcastsInDim ⟨3, ![4, S, 1]⟩ (![] : Fin 0 → Fin 3)
  bs_ff : (⟨0, ![]⟩ : Shape).BroadcastsInDim ⟨3, ![4, S, 2048]⟩ (![] : Fin 0 → Fin 3)
  bk_3 : (⟨3, ![4, 8, S]⟩ : Shape).BroadcastsInDim ⟨4, ![4, 8, S, 1]⟩ (![0, 1, 2] : Fin 3 → Fin 4)
  bk_4 : (⟨4, ![4, 8, S, 1]⟩ : Shape).BroadcastsInDim ⟨4, ![4, 8, S, S]⟩ (![0, 1, 2, 3] : Fin 4 → Fin 4)
  bm_2 : (⟨2, ![4, S]⟩ : Shape).BroadcastsInDim ⟨3, ![4, S, 1]⟩ (![0, 1] : Fin 2 → Fin 3)
  bm_3 : (⟨3, ![4, S, 1]⟩ : Shape).BroadcastsInDim ⟨3, ![4, S, 512]⟩ (![0, 1, 2] : Fin 3 → Fin 3)
  rd_s : (⟨4, ![4, 8, S, S]⟩ : Shape).ReducesTo [3] ⟨3, ![4, 8, S]⟩
  rd_m : (⟨3, ![4, S, 512]⟩ : Shape).ReducesTo [2] ⟨2, ![4, S]⟩
  h0 : 0 < (⟨0, ![]⟩ : Shape).numel

open LayerFacts

section
variable (S : ℕ) [LayerFacts S]

/-- The product of every row with a matrix. -/
abbrev dRow (S K N : ℕ) (wf : DotDims.WF ⟨3, ![4, S, K]⟩ ⟨2, ![K, N]⟩ ⟨3, ![4, S, N]⟩ [2] [0] [0, 1] [1] [] []) :
    DotDims ⟨3, ![4, S, K]⟩ ⟨2, ![K, N]⟩ ⟨3, ![4, S, N]⟩ where
  lhsContracting := [2]
  rhsContracting := [0]
  lhsNonContracting := [0, 1]
  rhsNonContracting := [1]
  lhsBatch := []
  rhsBatch := []
  wf := wf

abbrev dQk : DotDims ⟨4, ![4, 8, S, 64]⟩ ⟨4, ![4, 8, S, 64]⟩ ⟨4, ![4, 8, S, S]⟩ where
  lhsContracting := [3]
  rhsContracting := [3]
  lhsNonContracting := [2]
  rhsNonContracting := [2]
  lhsBatch := [0, 1]
  rhsBatch := [0, 1]
  wf := wf_qk

abbrev dPv : DotDims ⟨4, ![4, 8, S, S]⟩ ⟨4, ![4, 8, S, 64]⟩ ⟨4, ![4, 8, S, 64]⟩ where
  lhsContracting := [3]
  rhsContracting := [2]
  lhsNonContracting := [2]
  rhsNonContracting := [3]
  lhsBatch := [0, 1]
  rhsBatch := [0, 1]
  wf := wf_pv

/-- The joint projection of the rows. -/
def rQkv (x : FVec Ideal ⟨3, ![4, S, 512]⟩ .f32) (W : FVec Ideal ⟨2, ![1536, 512]⟩ .f32) (b : FVec Ideal ⟨1, ![1536]⟩ .f32) :
    FVec Ideal ⟨3, ![4, S, 1536]⟩ .f32 :=
  addf (Host.dotGeneral (dRow S 512 1536 wf_qkv) none x (transpose ⟨2, ![512, 1536]⟩ [1, 0] W (tr_qkv S)))
    (broadcastInDim ⟨3, ![4, S, 1536]⟩ ![0, 1, 2] br_1536 (broadcastInDim ⟨3, ![1, 1, 1536]⟩ ![2] (bi_1536 S) b))

/-- The scaled scores, from the joint projection. -/
def rScore (Q : FVec Ideal ⟨3, ![4, S, 1536]⟩ .f32) : FVec Ideal ⟨4, ![4, 8, S, S]⟩ .f32 :=
  mulf (Host.dotGeneral (dQk S) none
      (transpose ⟨4, ![4, 8, S, 64]⟩ [0, 2, 1, 3] (shapeCast ⟨4, ![4, S, 8, 64]⟩ (extractStridedSlice ⟨3, ![4, S, 512]⟩ ![0, 0, 0] Q sl_0) rs_in) tr_in)
      (transpose ⟨4, ![4, 8, S, 64]⟩ [0, 2, 1, 3] (shapeCast ⟨4, ![4, S, 8, 64]⟩ (extractStridedSlice ⟨3, ![4, S, 512]⟩ ![0, 0, 512] Q sl_1) rs_in) tr_in))
    (broadcastInDim ⟨4, ![4, 8, S, S]⟩ ![] bs_sc (constant ⟨0, ![]⟩ .f32 0x3E000000#32))

/-- The exponentials of the scores less their row's largest. -/
def rExp (s : FVec Ideal ⟨4, ![4, 8, S, S]⟩ .f32) : FVec Ideal ⟨4, ![4, 8, S, S]⟩ .f32 :=
  Host.exp (subf s (broadcastInDim ⟨4, ![4, 8, S, S]⟩ ![0, 1, 2, 3] bk_4 (broadcastInDim ⟨4, ![4, 8, S, 1]⟩ ![0, 1, 2] bk_3
    (maximumf (broadcastInDim ⟨3, ![4, 8, S]⟩ ![] bs_mx (constant ⟨0, ![]⟩ .f32 0xFF800000#32))
      (Host.reduce FloatOps.maximumf s (constant ⟨0, ![]⟩ .f32 0xFF800000#32) rd_s (h0 S))))))

/-- The heads' outputs, side by side. -/
def rAttn (Q : FVec Ideal ⟨3, ![4, S, 1536]⟩ .f32) (e : FVec Ideal ⟨4, ![4, 8, S, S]⟩ .f32) : FVec Ideal ⟨3, ![4, S, 512]⟩ .f32 :=
  shapeCast ⟨3, ![4, S, 512]⟩ (transpose ⟨4, ![4, S, 8, 64]⟩ [0, 2, 1, 3] (Host.dotGeneral (dPv S) none
      (Host.divf e (broadcastInDim ⟨4, ![4, 8, S, S]⟩ ![0, 1, 2, 3] bk_4 (broadcastInDim ⟨4, ![4, 8, S, 1]⟩ ![0, 1, 2] bk_3
        (Host.reduceAdd e (constant ⟨0, ![]⟩ .f32 0x00000000#32) rd_s (h0 S)))))
      (transpose ⟨4, ![4, 8, S, 64]⟩ [0, 2, 1, 3] (shapeCast ⟨4, ![4, S, 8, 64]⟩ (extractStridedSlice ⟨3, ![4, S, 512]⟩ ![0, 0, 1024] Q sl_2) rs_in) tr_in)) tr_out) rs_out

/-- The output projection of the heads added to the rows. -/
def rRes1 (x : FVec Ideal ⟨3, ![4, S, 512]⟩ .f32) (o : FVec Ideal ⟨3, ![4, S, 512]⟩ .f32) (Wo : FVec Ideal ⟨2, ![512, 512]⟩ .f32)
    (bo : FVec Ideal ⟨1, ![512]⟩ .f32) : FVec Ideal ⟨3, ![4, S, 512]⟩ .f32 :=
  addf x (addf (Host.dotGeneral (dRow S 512 512 wf_o) none o (transpose ⟨2, ![512, 512]⟩ [1, 0] Wo (tr_o S)))
    (broadcastInDim ⟨3, ![4, S, 512]⟩ ![0, 1, 2] br_512 (broadcastInDim ⟨3, ![1, 1, 512]⟩ ![2] (bi_512 S) bo)))

/-- The mean of each row. -/
def rMean (t : FVec Ideal ⟨3, ![4, S, 512]⟩ .f32) : FVec Ideal ⟨3, ![4, S, 1]⟩ .f32 :=
  Host.divf (broadcastInDim ⟨3, ![4, S, 1]⟩ ![0, 1] bm_2 (Host.reduceAdd t (constant ⟨0, ![]⟩ .f32 0x00000000#32) rd_m (h0 S)))
    (broadcastInDim ⟨3, ![4, S, 1]⟩ ![] bs_1 (constant ⟨0, ![]⟩ .f32 0x44000000#32))

/-- Each row less its mean. -/
def rDev (t : FVec Ideal ⟨3, ![4, S, 512]⟩ .f32) : FVec Ideal ⟨3, ![4, S, 512]⟩ .f32 :=
  subf t (broadcastInDim ⟨3, ![4, S, 512]⟩ ![0, 1, 2] bm_3 (rMean S t))

/-- Layer normalisation of each row. -/
def rLn (t : FVec Ideal ⟨3, ![4, S, 512]⟩ .f32) (g b : FVec Ideal ⟨1, ![512]⟩ .f32) : FVec Ideal ⟨3, ![4, S, 512]⟩ .f32 :=
  addf (mulf (Host.divf (rDev S t)
      (broadcastInDim ⟨3, ![4, S, 512]⟩ ![0, 1, 2] bm_3 (Host.sqrt (addf
        (Host.divf (broadcastInDim ⟨3, ![4, S, 1]⟩ ![0, 1] bm_2 (Host.reduceAdd (mulf (rDev S t) (rDev S t)) (constant ⟨0, ![]⟩ .f32 0x00000000#32) rd_m (h0 S)))
          (broadcastInDim ⟨3, ![4, S, 1]⟩ ![] bs_1 (constant ⟨0, ![]⟩ .f32 0x44000000#32)))
        (broadcastInDim ⟨3, ![4, S, 1]⟩ ![] bs_1 (constant ⟨0, ![]⟩ .f32 0x3727C5AC#32))))))
      (broadcastInDim ⟨3, ![4, S, 512]⟩ ![0, 1, 2] br_512 (broadcastInDim ⟨3, ![1, 1, 512]⟩ ![2] (bi_512 S) g)))
    (broadcastInDim ⟨3, ![4, S, 512]⟩ ![0, 1, 2] br_512 (broadcastInDim ⟨3, ![1, 1, 512]⟩ ![2] (bi_512 S) b))

/-- The feed-forward part added to the rows. -/
def rRes2 (y : FVec Ideal ⟨3, ![4, S, 512]⟩ .f32) (W1 : FVec Ideal ⟨2, ![2048, 512]⟩ .f32) (b1 : FVec Ideal ⟨1, ![2048]⟩ .f32)
    (W2 : FVec Ideal ⟨2, ![512, 2048]⟩ .f32) (b2 : FVec Ideal ⟨1, ![512]⟩ .f32) : FVec Ideal ⟨3, ![4, S, 512]⟩ .f32 :=
  addf y (addf (Host.dotGeneral (dRow S 2048 512 wf_2) none
      (maximumf (addf (Host.dotGeneral (dRow S 512 2048 wf_1) none y (transpose ⟨2, ![512, 2048]⟩ [1, 0] W1 (tr_1 S)))
          (broadcastInDim ⟨3, ![4, S, 2048]⟩ ![0, 1, 2] br_2048 (broadcastInDim ⟨3, ![1, 1, 2048]⟩ ![2] (bi_2048 S) b1)))
        (broadcastInDim ⟨3, ![4, S, 2048]⟩ ![] bs_ff (constant ⟨0, ![]⟩ .f32 0x00000000#32)))
      (transpose ⟨2, ![2048, 512]⟩ [1, 0] W2 (tr_2 S)))
    (broadcastInDim ⟨3, ![4, S, 512]⟩ ![0, 1, 2] br_512 (broadcastInDim ⟨3, ![1, 1, 512]⟩ ![2] (bi_512 S) b2)))

end

/-! ### Their values over the real numbers -/

section
variable {S : ℕ} [LayerFacts S]

/-- An array of shape 4 × S × n holds the real numbers `f`. -/
def Is3 {a b c : ℕ} (v : (⟨3, ![a, b, c]⟩ : Shape).Idx → EReal) (f : Fin a → Fin b → Fin c → ℝ) : Prop :=
  ∀ i j k, v (ix3 i j k) = ((f i j k : ℝ) : EReal)

def Is2 {a b : ℕ} (v : (⟨2, ![a, b]⟩ : Shape).Idx → EReal) (f : Fin a → Fin b → ℝ) : Prop :=
  ∀ i j, v (ix2 i j) = ((f i j : ℝ) : EReal)

def Is1 {a : ℕ} (v : (⟨1, ![a]⟩ : Shape).Idx → EReal) (f : Fin a → ℝ) : Prop :=
  ∀ i, v (ix1 i) = ((f i : ℝ) : EReal)

def Is4 {a b c d : ℕ} (v : (⟨4, ![a, b, c, d]⟩ : Shape).Idx → EReal) (f : Fin a → Fin b → Fin c → Fin d → ℝ) : Prop :=
  ∀ i j k l, v (ix4 i j k l) = ((f i j k l : ℝ) : EReal)

theorem dRow_lhs {S K N : ℕ} (wf) (i : Fin 4) (s : Fin S) (e : Fin N) (hc) (hK) (k : Fin K) :
    Shape.Idx.norm ((dRow S K N wf).lhsIdx (ix3 i s e) ((dRow S K N wf).contrIdx₁ (a := 2) hc hK k)) = ix3 i s k := by
  rw [Shape.Idx.norm_def]
  funext a
  match a with
  | ⟨0, _⟩ => rfl
  | ⟨1, _⟩ => rfl
  | ⟨2, _⟩ => rfl

theorem rQkv_real {x : FVec Ideal ⟨3, ![4, S, 512]⟩ .f32} {W : FVec Ideal ⟨2, ![1536, 512]⟩ .f32} {b : FVec Ideal ⟨1, ![1536]⟩ .f32}
    {X : Fin 4 → Fin S → Fin 512 → ℝ} {w : Fin 1536 → Fin 512 → ℝ} {v : Fin 1536 → ℝ} (hx : Is3 x X) (hW : Is2 W w) (hb : Is1 b v) :
    Is3 (rQkv S x W b) (fun i => lin (X i) w v) := by
  intro i s e
  pointwise [rQkv]
  simp only [dRow_lhs, hx i _ _, hW _ _, hb _, lin, EReal.coe_add, coe_sum, EReal.coe_mul]

theorem dQk_lhs (i : Fin 4) (h : Fin 8) (q k : Fin S) (hc) (hK) (d : Fin 64) :
    Shape.Idx.norm ((dQk S).lhsIdx (ix4 i h q k) ((dQk S).contrIdx₁ (a := 3) hc hK d)) = ix4 i h q d := by
  rw [Shape.Idx.norm_def]
  funext a
  match a with
  | ⟨0, _⟩ => rfl
  | ⟨1, _⟩ => rfl
  | ⟨2, _⟩ => rfl
  | ⟨3, _⟩ => rfl

theorem dQk_rhs (i : Fin 4) (h : Fin 8) (q k : Fin S) (hc) (hK) (d : Fin 64) :
    Shape.Idx.norm ((dQk S).rhsIdx (ix4 i h q k) ((dQk S).contrIdx₁ (a := 3) hc hK d)) = ix4 i h k d := by
  rw [Shape.Idx.norm_def]
  funext a
  match a with
  | ⟨0, _⟩ => rfl
  | ⟨1, _⟩ => rfl
  | ⟨2, _⟩ => rfl
  | ⟨3, _⟩ => rfl

theorem dPv_lhs (i : Fin 4) (h : Fin 8) (q : Fin S) (d : Fin 64) (hc) (hK) (k : Fin S) :
    Shape.Idx.norm ((dPv S).lhsIdx (ix4 i h q d) ((dPv S).contrIdx₁ (a := 3) hc hK k)) = ix4 i h q k := by
  rw [Shape.Idx.norm_def]
  funext a
  match a with
  | ⟨0, _⟩ => rfl
  | ⟨1, _⟩ => rfl
  | ⟨2, _⟩ => rfl
  | ⟨3, _⟩ => rfl

theorem dPv_rhs (i : Fin 4) (h : Fin 8) (q : Fin S) (d : Fin 64) (hc) (hK) (k : Fin S) :
    Shape.Idx.norm ((dPv S).rhsIdx (ix4 i h q d) ((dPv S).contrIdx₁ (a := 3) hc hK k)) = ix4 i h k d := by
  rw [Shape.Idx.norm_def]
  funext a
  match a with
  | ⟨0, _⟩ => rfl
  | ⟨1, _⟩ => rfl
  | ⟨2, _⟩ => rfl
  | ⟨3, _⟩ => rfl

/-- Cutting each row of 512 into 8 heads of 64. -/
theorem split_apply (v : (⟨3, ![4, S, 512]⟩ : Shape).Idx → EReal) (hh : (⟨3, ![4, S, 512]⟩ : Shape).ShapeCasts ⟨4, ![4, S, 8, 64]⟩)
    (i : Fin 4) (s : Fin S) (h : Fin 8) (d : Fin 64) :
    shapeCast ⟨4, ![4, S, 8, 64]⟩ v hh (ix4 i s h d) = v (ix3 i s ⟨h.val * 64 + d.val, by omega⟩) := by
  refine congrArg v (Shape.reshapeEquiv_eq_of_rowMajor _ ?_)
  rw [Shape.rowMajor_val_three, Shape.rowMajor_val_four]
  show (i.val * S + s.val) * 512 + (h.val * 64 + d.val) = ((i.val * S + s.val) * 8 + h.val) * 64 + d.val
  ring

/-- Putting the 8 heads of each row side by side. -/
theorem join_apply (v : (⟨4, ![4, S, 8, 64]⟩ : Shape).Idx → EReal) (hh : (⟨4, ![4, S, 8, 64]⟩ : Shape).ShapeCasts ⟨3, ![4, S, 512]⟩)
    (i : Fin 4) (s : Fin S) (e : Fin 512) :
    shapeCast ⟨3, ![4, S, 512]⟩ v hh (ix3 i s e) = v (ix4 i s (hi e) (lo e)) := by
  refine congrArg v (Shape.reshapeEquiv_eq_of_rowMajor _ ?_)
  rw [Shape.rowMajor_val_three, Shape.rowMajor_val_four]
  show ((i.val * S + s.val) * 8 + e.val / 64) * 64 + e.val % 64 = (i.val * S + s.val) * 512 + e.val
  omega

/-- Adding a last axis of size one. -/
theorem bcast_ms (v : (⟨2, ![4, S]⟩ : Shape).Idx → EReal) (hb) (i : Fin 4) (s : Fin S) (z : Fin 1) :
    broadcastInDim ⟨3, ![4, S, 1]⟩ (![0, 1] : Fin 2 → Fin 3) hb v (ix3 i s z) = v (ix2 i s) := by
  refine broadcastInDim_apply _ _ _ _ _ fun a => ?_
  match a with
  | ⟨0, _⟩ => rfl
  | ⟨1, _⟩ =>
    show s.val = if S = 1 then 0 else s.val
    split <;> omega

/-- Repeating a last axis of size one. -/
theorem bcast_m3 (v : (⟨3, ![4, S, 1]⟩ : Shape).Idx → EReal) (hb) (i : Fin 4) (s : Fin S) (e : Fin 512) :
    broadcastInDim ⟨3, ![4, S, 512]⟩ (![0, 1, 2] : Fin 3 → Fin 3) hb v (ix3 i s e) = v (ix3 i s 0) := by
  refine broadcastInDim_apply _ _ _ _ _ fun a => ?_
  match a with
  | ⟨0, _⟩ => rfl
  | ⟨1, _⟩ =>
    show s.val = if S = 1 then 0 else s.val
    split <;> omega
  | ⟨2, _⟩ => rfl

theorem bcast_k3 (v : (⟨3, ![4, 8, S]⟩ : Shape).Idx → EReal) (hb) (i : Fin 4) (h : Fin 8) (s : Fin S) (z : Fin 1) :
    broadcastInDim ⟨4, ![4, 8, S, 1]⟩ (![0, 1, 2] : Fin 3 → Fin 4) hb v (ix4 i h s z) = v (ix3 i h s) := by
  refine broadcastInDim_apply _ _ _ _ _ fun a => ?_
  match a with
  | ⟨0, _⟩ => rfl
  | ⟨1, _⟩ => rfl
  | ⟨2, _⟩ =>
    show s.val = if S = 1 then 0 else s.val
    split <;> omega

theorem bcast_k4 (v : (⟨4, ![4, 8, S, 1]⟩ : Shape).Idx → EReal) (hb) (i : Fin 4) (h : Fin 8) (s k : Fin S) :
    broadcastInDim ⟨4, ![4, 8, S, S]⟩ (![0, 1, 2, 3] : Fin 4 → Fin 4) hb v (ix4 i h s k) = v (ix4 i h s 0) := by
  refine broadcastInDim_apply _ _ _ _ _ fun a => ?_
  match a with
  | ⟨0, _⟩ => rfl
  | ⟨1, _⟩ => rfl
  | ⟨2, _⟩ =>
    show s.val = if S = 1 then 0 else s.val
    split <;> omega
  | ⟨3, _⟩ => rfl

/-- Exchanging the row and the head. -/
theorem tr_in_apply (v : (⟨4, ![4, S, 8, 64]⟩ : Shape).Idx → EReal) (hh) (i : Fin 4) (h : Fin 8) (s : Fin S) (d : Fin 64) :
    transpose ⟨4, ![4, 8, S, 64]⟩ [0, 2, 1, 3] v hh (ix4 i h s d) = v (ix4 i s h d) := by
  refine congrArg v (funext fun a => ?_)
  match a with
  | ⟨0, _⟩ => rfl
  | ⟨1, _⟩ => rfl
  | ⟨2, _⟩ => rfl
  | ⟨3, _⟩ => rfl

theorem tr_out_apply (v : (⟨4, ![4, 8, S, 64]⟩ : Shape).Idx → EReal) (hh) (i : Fin 4) (h : Fin 8) (s : Fin S) (d : Fin 64) :
    transpose ⟨4, ![4, S, 8, 64]⟩ [0, 2, 1, 3] v hh (ix4 i s h d) = v (ix4 i h s d) := by
  refine congrArg v (funext fun a => ?_)
  match a with
  | ⟨0, _⟩ => rfl
  | ⟨1, _⟩ => rfl
  | ⟨2, _⟩ => rfl
  | ⟨3, _⟩ => rfl

/-- One third of the joint projection, cut into heads. -/
def rHead (j : ℕ) (hs : (⟨3, ![4, S, 1536]⟩ : Shape).Slices ![0, 0, j * 512] ⟨3, ![4, S, 512]⟩) (Q : FVec Ideal ⟨3, ![4, S, 1536]⟩ .f32) :
    FVec Ideal ⟨4, ![4, 8, S, 64]⟩ .f32 :=
  transpose ⟨4, ![4, 8, S, 64]⟩ [0, 2, 1, 3] (shapeCast ⟨4, ![4, S, 8, 64]⟩ (extractStridedSlice ⟨3, ![4, S, 512]⟩ ![0, 0, j * 512] Q hs) rs_in) tr_in

theorem rHead_real (j : Fin 3) (hs) {Q : FVec Ideal ⟨3, ![4, S, 1536]⟩ .f32} {q : Fin 4 → Fin S → Fin 1536 → ℝ} (hQ : Is3 Q q)
    (i : Fin 4) (h : Fin 8) (s : Fin S) (d : Fin 64) : rHead j.val hs Q (ix4 i h s d) = ((q i s (col j h d) : ℝ) : EReal) := by
  rw [rHead, tr_in_apply, split_apply, ← hQ]
  refine congrArg Q (funext fun a => Fin.ext ?_)
  match a with
  | ⟨0, _⟩ => exact Nat.zero_add _
  | ⟨1, _⟩ => exact Nat.zero_add _
  | ⟨2, _⟩ => exact (Nat.add_assoc _ _ _).symm

theorem rScore_eq (Q : FVec Ideal ⟨3, ![4, S, 1536]⟩ .f32) : rScore S Q =
    mulf (Host.dotGeneral (dQk S) none (rHead 0 sl_0 Q) (rHead 1 sl_1 Q))
      (broadcastInDim ⟨4, ![4, 8, S, S]⟩ ![] bs_sc (constant ⟨0, ![]⟩ .f32 0x3E000000#32)) := rfl

theorem rScore_real {Q : FVec Ideal ⟨3, ![4, S, 1536]⟩ .f32} {q : Fin 4 → Fin S → Fin 1536 → ℝ} (hQ : Is3 Q q) :
    Is4 (rScore S Q) (fun i => score (q i)) := by
  intro i h a b
  rw [rScore_eq]
  have h0 := rHead_real (S := S) 0 sl_0 hQ
  have h1 := rHead_real (S := S) 1 sl_1 hQ
  pointwise [dQk_lhs, dQk_rhs]
  simp only [Fin.val_zero, Fin.val_one] at h0 h1
  simp only [h0, h1, bits_eighth, ← EReal.coe_mul, ← coe_sum, score]

/-- The largest of finitely many real numbers, at least one, is a real number. -/
theorem fold_max_real {ι : Type*} (s : Finset ι) (f : ι → ℝ) :
    (s = ∅ ∧ s.fold max (⊥ : EReal) (fun k => ((f k : ℝ) : EReal)) = ⊥) ∨
      ∃ M : ℝ, s.fold max (⊥ : EReal) (fun k => ((f k : ℝ) : EReal)) = (M : EReal) := by
  classical
  induction s using Finset.induction_on with
  | empty => exact .inl ⟨rfl, rfl⟩
  | insert a s h ih =>
    refine .inr ?_
    rw [Finset.fold_insert h]
    rcases ih with ⟨-, ih⟩ | ⟨M, ih⟩
    · exact ⟨f a, by rw [ih]; simp⟩
    · exact ⟨max (f a) M, by rw [ih, coe_max]⟩

theorem rExp_real {s : FVec Ideal ⟨4, ![4, 8, S, S]⟩ .f32} {f : Fin 4 → Fin 8 → Fin S → Fin S → ℝ} (hs : Is4 s f) :
    ∃ M : Fin 4 → Fin 8 → Fin S → ℝ, Is4 (rExp S s) (fun i h q k => Real.exp (f i h q k - M i h q)) := by
  have hM : ∀ i h (q : Fin S), ∃ M : ℝ, (Finset.univ : Finset (Fin S)).fold max (⊥ : EReal) (fun k => ((f i h q k : ℝ) : EReal)) = (M : EReal) :=
    fun i h q => (fold_max_real Finset.univ (f i h q)).resolve_left fun hh =>
      absurd hh.1 (Finset.Nonempty.ne_empty ⟨q, Finset.mem_univ q⟩)
  choose M hM using hM
  refine ⟨M, fun i h q k => ?_⟩
  pointwise [rExp, bcast_k3, bcast_k4]
  simp only [bits_neg_inf, hs _ _ _ _, hM, max_eq_right bot_le, ← EReal.coe_sub, exp_real]

/-- Weighting the value rows. -/
theorem dPv_apply (S : ℕ) [LayerFacts S] (l : FVec Ideal ⟨4, ![4, 8, S, S]⟩ .f32) (r : FVec Ideal ⟨4, ![4, 8, S, 64]⟩ .f32) (i : Fin 4) (h : Fin 8) (q : Fin S)
    (d : Fin 64) : Host.dotGeneral (dPv S) none l r (ix4 i h q d) = ∑ k : Fin S, l (ix4 i h q k) * r (ix4 i h k d) := by
  refine (Ideal.matmul_apply₁ (dPv S) (a := 3) rfl (K := S) rfl _ _ _ _).trans ((zero_add _).trans (Finset.sum_congr rfl fun k _ => ?_))
  exact congrArg₂ (fun a b => l a * r b) (dPv_lhs _ _ _ _ _ _ k) (dPv_rhs _ _ _ _ _ _ k)

theorem rAttn_real {Q : FVec Ideal ⟨3, ![4, S, 1536]⟩ .f32} {e : FVec Ideal ⟨4, ![4, 8, S, S]⟩ .f32}
    {q : Fin 4 → Fin S → Fin 1536 → ℝ} {M : Fin 4 → Fin 8 → Fin S → ℝ} (hQ : Is3 Q q)
    (he : Is4 e (fun i h a k => Real.exp (score (q i) h a k - M i h a))) :
    Is3 (rAttn S Q e) (fun i => attn (q i)) := by
  intro i a c
  have h2 : ∀ i h (s : Fin S) d, rHead 2 sl_2 Q (ix4 i h s d) = ((q i s (col 2 h d) : ℝ) : EReal) := rHead_real (S := S) 2 sl_2 hQ
  have hD : 0 < ∑ k, Real.exp (score (q i) (hi c) a k - M i (hi c) a) := Finset.sum_pos (fun _ _ => Real.exp_pos _) ⟨a, Finset.mem_univ a⟩
  rw [rAttn, join_apply, tr_out_apply]
  change Host.dotGeneral (dPv S) none (Host.divf e _) (rHead 2 sl_2 Q) _ = _
  refine (dPv_apply S _ _ _ _ _ _).trans ?_
  pointwise [bcast_k3, bcast_k4]
  simp only [h2, he _ _ _ _, ← coe_sum, div_real _ _ hD.ne', ← EReal.coe_mul]
  refine congrArg _ ?_
  have hE : ∀ k, Real.exp (score (q i) (hi c) a k - M i (hi c) a) = Real.exp (score (q i) (hi c) a k) / Real.exp (M i (hi c) a) := fun k => Real.exp_sub _ _
  have hX : expSum (q i) (hi c) a ≠ 0 := (expSum_pos _ _ _).ne'
  simp only [hE, ← Finset.sum_div, div_div_div_cancel_right₀ (Real.exp_ne_zero _)]
  rw [attn, head, Finset.sum_div]
  refine Finset.sum_congr rfl fun k _ => ?_
  rw [expSum]
  ring

theorem rRes1_real {x o : FVec Ideal ⟨3, ![4, S, 512]⟩ .f32} {W : FVec Ideal ⟨2, ![512, 512]⟩ .f32} {b : FVec Ideal ⟨1, ![512]⟩ .f32}
    {X O : Fin 4 → Fin S → Fin 512 → ℝ} {w : Fin 512 → Fin 512 → ℝ} {v : Fin 512 → ℝ} (hx : Is3 x X) (ho : Is3 o O) (hW : Is2 W w) (hb : Is1 b v) :
    Is3 (rRes1 S x o W b) (fun i s e => X i s e + lin (O i) w v s e) := by
  intro i s e
  pointwise [rRes1]
  simp only [dRow_lhs, hx i _ _, ho i _ _, hW _ _, hb _, lin, EReal.coe_add, coe_sum, EReal.coe_mul]

theorem rMean_real {t : FVec Ideal ⟨3, ![4, S, 512]⟩ .f32} {T : Fin 4 → Fin S → Fin 512 → ℝ} (ht : Is3 t T) (i : Fin 4) (s : Fin S) (z : Fin 1) :
    rMean S t (ix3 i s z) = ((mean (T i s) : ℝ) : EReal) := by
  pointwise [rMean, bcast_ms]
  simp only [ht _ _ _, bits_512, ← coe_sum, div_real _ _ (show (512 : ℝ) ≠ 0 by norm_num), mean]

theorem rLn_real {t : FVec Ideal ⟨3, ![4, S, 512]⟩ .f32} {g b : FVec Ideal ⟨1, ![512]⟩ .f32} {T : Fin 4 → Fin S → Fin 512 → ℝ}
    {G B : Fin 512 → ℝ} (ht : Is3 t T) (hg : Is1 g G) (hb : Is1 b B) :
    Is3 (rLn S t g b) (fun i s => ln G B (T i s)) := by
  have hd : Is3 (rDev S t) (fun i s e => T i s e - mean (T i s)) := by
    intro i s e
    pointwise [rDev, bcast_m3]
    rw [rMean_real ht, ht, ← EReal.coe_sub]
  intro i s e
  pointwise [rLn, bcast_ms, bcast_m3]
  have hv := var_eps_pos (T i s)
  rw [hg, hb]
  simp only [hd _ _ _, bits_512, bits_eps, ← EReal.coe_mul, ← coe_sum, div_real _ _ (show (512 : ℝ) ≠ 0 by norm_num), ← EReal.coe_add]
  rw [var] at hv
  rw [sqrt_real _ hv.le, div_real _ _ (Real.sqrt_pos.2 hv).ne', ← EReal.coe_mul, ← EReal.coe_add]
  rfl

theorem rRes2_real {y : FVec Ideal ⟨3, ![4, S, 512]⟩ .f32} {W1 : FVec Ideal ⟨2, ![2048, 512]⟩ .f32} {b1 : FVec Ideal ⟨1, ![2048]⟩ .f32}
    {W2 : FVec Ideal ⟨2, ![512, 2048]⟩ .f32} {b2 : FVec Ideal ⟨1, ![512]⟩ .f32} {Y : Fin 4 → Fin S → Fin 512 → ℝ}
    {w1 : Fin 2048 → Fin 512 → ℝ} {v1 : Fin 2048 → ℝ} {w2 : Fin 512 → Fin 2048 → ℝ} {v2 : Fin 512 → ℝ}
    (hy : Is3 y Y) (hW1 : Is2 W1 w1) (hb1 : Is1 b1 v1) (hW2 : Is2 W2 w2) (hb2 : Is1 b2 v2) :
    Is3 (rRes2 S y W1 b1 W2 b2) (fun i s e => Y i s e + lin (fun s f => max (lin (Y i) w1 v1 s f) 0) w2 v2 s e) := by
  intro i s e
  pointwise [rRes2, dRow_lhs]
  simp only [hy _ _ _, hW1 _ _, hb1 _, hW2 _ _, hb2 _, lin, ← EReal.coe_zero, ← EReal.coe_mul, ← coe_sum, ← EReal.coe_add, coe_max]

/-! ### The whole layer -/

/-- One layer's parameters, as arrays. -/
structure ParT where
  Wqkv : FVec Ideal ⟨2, ![1536, 512]⟩ .f32
  bqkv : FVec Ideal ⟨1, ![1536]⟩ .f32
  Wo : FVec Ideal ⟨2, ![512, 512]⟩ .f32
  bo : FVec Ideal ⟨1, ![512]⟩ .f32
  W1 : FVec Ideal ⟨2, ![2048, 512]⟩ .f32
  b1 : FVec Ideal ⟨1, ![2048]⟩ .f32
  W2 : FVec Ideal ⟨2, ![512, 2048]⟩ .f32
  b2 : FVec Ideal ⟨1, ![512]⟩ .f32
  g1 : FVec Ideal ⟨1, ![512]⟩ .f32
  be1 : FVec Ideal ⟨1, ![512]⟩ .f32
  g2 : FVec Ideal ⟨1, ![512]⟩ .f32
  be2 : FVec Ideal ⟨1, ![512]⟩ .f32

/-- The arrays hold the real parameters. -/
structure ParT.Is (p : ParT) (q : Par) : Prop where
  Wqkv : Is2 p.Wqkv q.Wqkv
  bqkv : Is1 p.bqkv q.bqkv
  Wo : Is2 p.Wo q.Wo
  bo : Is1 p.bo q.bo
  W1 : Is2 p.W1 q.W1
  b1 : Is1 p.b1 q.b1
  W2 : Is2 p.W2 q.W2
  b2 : Is1 p.b2 q.b2
  g1 : Is1 p.g1 q.g1
  be1 : Is1 p.be1 q.be1
  g2 : Is1 p.g2 q.g2
  be2 : Is1 p.be2 q.be2

variable (S) in
def rScores (x : FVec Ideal ⟨3, ![4, S, 512]⟩ .f32) (p : ParT) : FVec Ideal ⟨4, ![4, 8, S, S]⟩ .f32 := rScore S (rQkv S x p.Wqkv p.bqkv)

variable (S) in
def rMid (x : FVec Ideal ⟨3, ![4, S, 512]⟩ .f32) (p : ParT) : FVec Ideal ⟨3, ![4, S, 512]⟩ .f32 :=
  rLn S (rRes1 S x (rAttn S (rQkv S x p.Wqkv p.bqkv) (rExp S (rScores S x p))) p.Wo p.bo) p.g1 p.be1

variable (S) in
def rLayer (x : FVec Ideal ⟨3, ![4, S, 512]⟩ .f32) (p : ParT) : FVec Ideal ⟨3, ![4, S, 512]⟩ .f32 :=
  rLn S (rRes2 S (rMid S x p) p.W1 p.b1 p.W2 p.b2) p.g2 p.be2

theorem rScores_real {x : FVec Ideal ⟨3, ![4, S, 512]⟩ .f32} {p : ParT} {X : Fin 4 → Fin S → Fin 512 → ℝ} {q : Par} (hx : Is3 x X) (hp : p.Is q) :
    Is4 (rScores S x p) (fun i => score (proj q (X i))) :=
  rScore_real (rQkv_real hx hp.Wqkv hp.bqkv)

theorem rLayer_real {x : FVec Ideal ⟨3, ![4, S, 512]⟩ .f32} {p : ParT} {X : Fin 4 → Fin S → Fin 512 → ℝ} {q : Par} (hx : Is3 x X) (hp : p.Is q) :
    Is3 (rLayer S x p) (fun i => layer q (X i)) := by
  obtain ⟨M, hM⟩ := rExp_real (rScores_real hx hp)
  have hQ := rQkv_real hx hp.Wqkv hp.bqkv
  exact rLn_real (rRes2_real (rLn_real (rRes1_real hx (rAttn_real hQ hM) hp.Wo hp.bo) hp.g1 hp.be1) hp.W1 hp.b1 hp.W2 hp.b2) hp.g2 hp.be2

end

end Cert.Net

end
-- ==== Proof.RefJoin.lean ====
/- The reference's run, read as four layers and a pooling step between the second and the third. -/
module

public import proofs.«01_k».proof.Proof.RefLayer
public import proofs.«01_k».proof.Proof.Gen.ReferenceIdeal.Run

@[expose] public section

set_option maxRecDepth 16384

noncomputable section

namespace Cert.Net

open Idealize.ShloMosaic Idealize.ShloMosaic.TcCoe

instance layerFacts2048 : LayerFacts 2048 where
  wf_qkv := by decide
  wf_qk := by decide
  wf_pv := by decide
  wf_o := by decide
  wf_1 := by decide
  wf_2 := by decide
  tr_qkv := by decide
  tr_o := by decide
  tr_1 := by decide
  tr_2 := by decide
  tr_in := by decide
  tr_out := by decide
  rs_in := by decide
  rs_out := by decide
  sl_0 := by decide
  sl_1 := by decide
  sl_2 := by decide
  bi_1536 := by decide
  bi_512 := by decide
  bi_2048 := by decide
  br_1536 := by decide
  br_512 := by decide
  br_2048 := by decide
  bs_sc := by decide
  bs_mx := by decide
  bs_1 := by decide
  bs_ff := by decide
  bk_3 := by decide
  bk_4 := by decide
  bm_2 := by decide
  bm_3 := by decide
  rd_s := by decide
  rd_m := by decide
  h0 := by decide

instance layerFacts1024 : LayerFacts 1024 where
  wf_qkv := by decide
  wf_qk := by decide
  wf_pv := by decide
  wf_o := by decide
  wf_1 := by decide
  wf_2 := by decide
  tr_qkv := by decide
  tr_o := by decide
  tr_1 := by decide
  tr_2 := by decide
  tr_in := by decide
  tr_out := by decide
  rs_in := by decide
  rs_out := by decide
  sl_0 := by decide
  sl_1 := by decide
  sl_2 := by decide
  bi_1536 := by decide
  bi_512 := by decide
  bi_2048 := by decide
  br_1536 := by decide
  br_512 := by decide
  br_2048 := by decide
  bs_sc := by decide
  bs_mx := by decide
  bs_1 := by decide
  bs_ff := by decide
  bk_3 := by decide
  bk_4 := by decide
  bm_2 := by decide
  bm_3 := by decide
  rd_s := by decide
  rd_m := by decide
  h0 := by decide

/-! ### One layer's parameters out of the stacks -/

theorem slices3 (l : Fin 4) (n k : ℕ) : (⟨3, ![4, n, k]⟩ : Shape).Slices ![l.val, 0, 0] ⟨3, ![1, n, k]⟩ :=
  ⟨rfl, fun a => match a with
    | ⟨0, _⟩ => (show l.val + 1 ≤ 4 by omega)
    | ⟨1, _⟩ => (show 0 + n ≤ n by omega)
    | ⟨2, _⟩ => (show 0 + k ≤ k by omega)⟩

theorem slices2 (l : Fin 4) (n : ℕ) : (⟨2, ![4, n]⟩ : Shape).Slices ![l.val, 0] ⟨2, ![1, n]⟩ :=
  ⟨rfl, fun a => match a with
    | ⟨0, _⟩ => (show l.val + 1 ≤ 4 by omega)
    | ⟨1, _⟩ => (show 0 + n ≤ n by omega)⟩

theorem drop3 (n k : ℕ) : (⟨3, ![1, n, k]⟩ : Shape).ShapeCasts ⟨2, ![n, k]⟩ := by
  simp [Shape.ShapeCasts, Shape.numel, Fin.prod_univ_succ]

theorem drop2 (n : ℕ) : (⟨2, ![1, n]⟩ : Shape).ShapeCasts ⟨1, ![n]⟩ := by
  simp [Shape.ShapeCasts, Shape.numel, Fin.prod_univ_succ]

/-- Matrix `l` of a stack of four. -/
def at3 (l : Fin 4) {n k : ℕ} (A : FVec Ideal ⟨3, ![4, n, k]⟩ .f32) : FVec Ideal ⟨2, ![n, k]⟩ .f32 :=
  shapeCast ⟨2, ![n, k]⟩ (extractStridedSlice ⟨3, ![1, n, k]⟩ ![l.val, 0, 0] A (slices3 l n k)) (drop3 n k)

/-- Row `l` of four. -/
def at2 (l : Fin 4) {n : ℕ} (A : FVec Ideal ⟨2, ![4, n]⟩ .f32) : FVec Ideal ⟨1, ![n]⟩ .f32 :=
  shapeCast ⟨1, ![n]⟩ (extractStridedSlice ⟨2, ![1, n]⟩ ![l.val, 0] A (slices2 l n)) (drop2 n)

theorem at3_apply (l : Fin 4) {n k : ℕ} (A : FVec Ideal ⟨3, ![4, n, k]⟩ .f32) (i : Fin n) (j : Fin k) : at3 l A (ix2 i j) = A (ix3 l i j) := by
  have h : Shape.reshapeEquiv (drop3 n k) (ix2 i j) = ix3 (0 : Fin 1) i j := by
    refine Shape.reshapeEquiv_eq_of_rowMajor _ ?_
    rw [Shape.rowMajor_val_three, Shape.rowMajor_val_two]
    show (0 * n + i.val) * k + j.val = i.val * k + j.val
    rw [Nat.zero_mul, Nat.zero_add]
  unfold at3 shapeCast
  rw [h]
  refine congrArg A (funext fun a => Fin.ext ?_)
  match a with
  | ⟨0, _⟩ => exact Nat.add_zero _
  | ⟨1, _⟩ => exact Nat.zero_add _
  | ⟨2, _⟩ => exact Nat.zero_add _

theorem at2_apply (l : Fin 4) {n : ℕ} (A : FVec Ideal ⟨2, ![4, n]⟩ .f32) (i : Fin n) : at2 l A (ix1 i) = A (ix2 l i) := by
  have h : Shape.reshapeEquiv (drop2 n) (ix1 i) = ix2 (0 : Fin 1) i := by
    refine Shape.reshapeEquiv_eq_of_rowMajor _ ?_
    rw [Shape.rowMajor_val_two, Shape.rowMajor_val_one]
    show 0 * n + i.val = i.val
    rw [Nat.zero_mul, Nat.zero_add]
  unfold at2 shapeCast
  rw [h]
  refine congrArg A (funext fun a => Fin.ext ?_)
  match a with
  | ⟨0, _⟩ => exact Nat.add_zero _
  | ⟨1, _⟩ => exact Nat.zero_add _

/-- The parameter stacks. -/
structure Stacks where
  Wqkv : FVec Ideal ⟨3, ![4, 1536, 512]⟩ .f32
  bqkv : FVec Ideal ⟨2, ![4, 1536]⟩ .f32
  Wo : FVec Ideal ⟨3, ![4, 512, 512]⟩ .f32
  bo : FVec Ideal ⟨2, ![4, 512]⟩ .f32
  W1 : FVec Ideal ⟨3, ![4, 2048, 512]⟩ .f32
  b1 : FVec Ideal ⟨2, ![4, 2048]⟩ .f32
  W2 : FVec Ideal ⟨3, ![4, 512, 2048]⟩ .f32
  b2 : FVec Ideal ⟨2, ![4, 512]⟩ .f32
  g1 : FVec Ideal ⟨2, ![4, 512]⟩ .f32
  be1 : FVec Ideal ⟨2, ![4, 512]⟩ .f32
  g2 : FVec Ideal ⟨2, ![4, 512]⟩ .f32
  be2 : FVec Ideal ⟨2, ![4, 512]⟩ .f32

/-- Layer `l`'s arrays. -/
def Stacks.par (w : Stacks) (l : Fin 4) : ParT :=
  ⟨at3 l w.Wqkv, at2 l w.bqkv, at3 l w.Wo, at2 l w.bo, at3 l w.W1, at2 l w.b1, at3 l w.W2, at2 l w.b2, at2 l w.g1, at2 l w.be1, at2 l w.g2, at2 l w.be2⟩

section
open Cert.ReferenceIdeal Cert.ReferenceIdeal.Value

/-- The reference's stacks. -/
def refStacks (V0 : Valuation τ sig (Elt Ideal)) : Stacks :=
  ⟨V0 (Proc.devRef .tc main_arg2), V0 (Proc.devRef .tc main_arg3), V0 (Proc.devRef .tc main_arg4), V0 (Proc.devRef .tc main_arg5),
    V0 (Proc.devRef .tc main_arg6), V0 (Proc.devRef .tc main_arg7), V0 (Proc.devRef .tc main_arg8), V0 (Proc.devRef .tc main_arg9),
    V0 (Proc.devRef .tc main_arg10), V0 (Proc.devRef .tc main_arg11), V0 (Proc.devRef .tc main_arg12), V0 (Proc.devRef .tc main_arg13)⟩

def refX (V0 : Valuation τ sig (Elt Ideal)) : FVec Ideal ⟨3, ![4, 2048, 512]⟩ .f32 := V0 (Proc.devRef .tc main_arg0)

theorem ref_layer0 (V0 : Valuation τ sig (Elt Ideal)) : res_main_v120 V0 = rLayer 2048 (refX V0) ((refStacks V0).par 0) := rfl

end

end Cert.Net

end
-- ==== Proof.Pool.lean ====
/- Pooling of rows into chunks, over the reals: a boundary starts a new chunk after itself, and a chunk holds the mean of its rows. -/
module

public import proofs.«01_k».proof.Proof.Spec

@[expose] public section

noncomputable section

namespace Cert.Net

open Finset

/-- One where row `t` is a boundary: its probability passes one half, and it is not the first row. -/
def bit (b : Fin 2048 → EReal) (t : ℕ) : ℕ := if h : t < 2048 then (if t ≠ 0 ∧ ((1 / 2 : ℝ) : EReal) < b ⟨t, h⟩ then 1 else 0) else 0

/-- The chunk of row `s`: the number of boundaries before it. -/
def seg (b : Fin 2048 → EReal) (s : ℕ) : ℕ := ∑ t ∈ range s, bit b t

/-- The number of rows of chunk `c`. -/
def cnt (b : Fin 2048 → EReal) (c : ℕ) : ℝ := ∑ s : Fin 2048, if seg b s.val = c then 1 else 0

/-- The sum of the rows of chunk `c`. -/
def tot (b : Fin 2048 → EReal) (x : Fin 2048 → Fin 512 → ℝ) (c : ℕ) (e : Fin 512) : ℝ := ∑ s : Fin 2048, if seg b s.val = c then x s e else 0

/-- The mean of the rows of chunk `c`, zero for an empty one. -/
def pool (b : Fin 2048 → EReal) (x : Fin 2048 → Fin 512 → ℝ) (c : Fin 1024) (e : Fin 512) : ℝ := tot b x c.val e / max (cnt b c.val) 1

theorem bit_le (b : Fin 2048 → EReal) (t : ℕ) : bit b t ≤ 1 := by
  unfold bit
  split_ifs <;> omega

theorem seg_le (b : Fin 2048 → EReal) (s : ℕ) : seg b s ≤ s := by
  refine (sum_le_sum fun t _ => bit_le b t).trans ?_
  simp

theorem seg_mono (b : Fin 2048 → EReal) {s t : ℕ} (h : s ≤ t) : seg b s ≤ seg b t :=
  sum_le_sum_of_subset (range_subset_range.2 h)

theorem seg_succ (b : Fin 2048 → EReal) (s : ℕ) : ∑ t ∈ range (s + 1), bit b t = seg b s + bit b s := sum_range_succ _ _

theorem max_cnt_ne (b : Fin 2048 → EReal) (c : ℕ) : max (cnt b c) 1 ≠ 0 := (lt_of_lt_of_le one_pos (le_max_right _ _)).ne'

/-- A chunk past the last row's is empty. -/
theorem tot_past (b : Fin 2048 → EReal) (x : Fin 2048 → Fin 512 → ℝ) (c : ℕ) (e : Fin 512) (h : seg b 2047 < c) : tot b x c e = 0 :=
  sum_eq_zero fun s _ => if_neg fun hs => by
    have := seg_mono b (show s.val ≤ 2047 by omega)
    omega

end Cert.Net

end
-- ==== Proof.RefChunk.lean ====
/- The reference's pooling step, and its run as four layers with that step between the second and the third. -/
module

public import proofs.«01_k».proof.Proof.RefJoin
public import proofs.«01_k».proof.Proof.Pool
public import Idealize.ShloMosaic.Lib.Routing.OpsOne
public import Idealize.ShloMosaic.Lib.Pointwise

@[expose] public section

set_option maxRecDepth 16384

noncomputable section

namespace Cert.Net

open Idealize.ShloMosaic Idealize.ShloMosaic.TcCoe Idealize.ShloMosaic.ValueIdx Idealize.ShloMosaic.Routing
open Idealize.SL.Sem Idealize.ShloMosaic.StableHlo Cert.ReferenceIdeal Cert.ReferenceIdeal.Value Cert.ReferenceIdeal.Gen

def refB (V0 : Valuation τ sig (Elt Ideal)) : FVec Ideal ⟨2, ![4, 2048]⟩ .f32 := V0 (Proc.devRef .tc main_arg1)

/-- The sums of the rows with one id. -/
def rSums (ids : IVec S8192 32) (y : FVec Ideal S4x2048x512 .f32) : FVec Ideal S8192x512 .f32 :=
  Host.scatterAdd scatter_S8192x512_S8192x1_S8192x512_1_0_0_1 (broadcastInDim S8192x512 ![] bcast_S_S8192x512 (constant S_ .f32 0x00000000#32))
    (broadcastInDim S8192x1 ![0] bcast_S8192_S8192x1_0 ids) (shapeCast _ y shapeCasts_S4x2048x512_S8192x512)

/-- The number of rows with one id. -/
def rCnts (ids : IVec S8192 32) : FVec Ideal S8192 .f32 :=
  Host.scatterAdd scatter_S8192_S8192x1_S8192_n_0_0_1 (broadcastInDim S8192 ![] bcast_S_S8192 (constant S_ .f32 0x00000000#32))
    (broadcastInDim S8192x1 ![0] bcast_S8192_S8192x1_0 ids) (broadcastInDim S8192 ![] bcast_S_S8192 (constant S_ .f32 0x3F800000#32))

/-- Which slots lie up to the last row's chunk. -/
def rLive (g : IVec S4x2048 32) : IVec S4x2048x512 1 :=
  broadcastInDim S4x2048x512 ![0, 1, 2] bcast_S4x2048x1_S4x2048x512_0_1_2 (broadcastInDim S4x2048x1 ![0, 1] bcast_S4x2048_S4x2048x1_0_1
    (cmpi .slt (broadcastInDim S4x2048 ![0, 1] bcast_S1x2048_S4x2048_0_1 (broadcastInDim S1x2048 ![1] bcast_S2048_S1x2048_1 (iotaInDim S2048 32 0)))
      (broadcastInDim S4x2048 ![0, 1] bcast_S4x1_S4x2048_0_1 (broadcastInDim S4x1 ![0] bcast_S4_S4x1_0
        (addi (shapeCast _ (extractStridedSlice S4x1 ![0, 2047] g slices_S4x2048_S4x1_0_2047) shapeCasts_S4x1_S4)
          (broadcastInDim S4 ![] bcast_S_S4 (constantI S_ 32 1#32)))))))

/-- The means of the rows with one id. -/
def rMeans (ids : IVec S8192 32) (y : FVec Ideal S4x2048x512 .f32) : FVec Ideal S4x2048x512 .f32 :=
  Host.divf (shapeCast _ (rSums ids y) shapeCasts_S8192x512_S4x2048x512)
    (broadcastInDim S4x2048x512 ![0, 1, 2] bcast_S4x2048x1_S4x2048x512_0_1_2 (broadcastInDim S4x2048x1 ![0, 1] bcast_S4x2048_S4x2048x1_0_1
      (maximumf (shapeCast _ (rCnts ids) shapeCasts_S8192_S4x2048) (broadcastInDim S4x2048 ![] bcast_S_S4x2048 (constant S_ .f32 0x3F800000#32)))))

def rChunks (g : IVec S4x2048 32) (ids : IVec S8192 32) (y : FVec Ideal S4x2048x512 .f32) : FVec Ideal S4x1024x512 .f32 :=
  extractStridedSlice S4x1024x512 ![0, 0, 0] (select (rLive g) (rMeans ids y)
    (broadcastInDim S4x2048x512 ![] bcast_S_S4x2048x512 (id (constant S_ .f32 0x00000000#32)))) slices_S4x2048x512_S4x1024x512_0_0_0

theorem ref_chunks (V0 : Valuation τ sig (Elt Ideal)) :
    res_main_v284 V0 = rChunks (res_main_v249 V0) (res_main_v260 V0) (rLayer 2048 (res_main_v120 V0) ((refStacks V0).par 1)) := rfl

theorem ref_layer2 (V0 : Valuation τ sig (Elt Ideal)) : res_main_v405 V0 = rLayer 1024 (res_main_v284 V0) ((refStacks V0).par 2) := rfl

/-- The reference's run: the result is layer 3's output, the arguments are as they were. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v526)
        = rLayer 1024 (res_main_v405 (launchContents m c)) ((refStacks (launchContents m c)).par 3) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) :=
  Value.run (F := Ideal) m ρ

end Cert.Net

end
-- ==== Proof.RefPool.lean ====
/- What the reference's pooling step computes: every chunk's mean. -/
module

public import proofs.«01_k».proof.Proof.RefChunk

@[expose] public section

set_option maxRecDepth 16384

noncomputable section

namespace Cert.Net

open Idealize.ShloMosaic Idealize.ShloMosaic.TcCoe Idealize.ShloMosaic.Routing
open Idealize.SL.Sem Cert.ReferenceIdeal Cert.ReferenceIdeal.Value Cert.ReferenceIdeal.Gen

theorem vix1 {n : ℕ} (a : Fin n) : ValueIdx.ix1 a = ix1 a := rfl
theorem vix2 {n m : ℕ} (a : Fin n) (c : Fin m) : ValueIdx.ix2 a c = ix2 a c := rfl

/-- A running sum along the rows of a matrix, at an entry. -/
theorem cumsum_cols {A N L : ℕ} (hN : L + 1 = N) (x : IVec ⟨2, ![A, N]⟩ 32) (f : Fin A → ℕ → ℕ)
    (hx : ∀ (r : Fin A) (i : Fin N), x (ix2 r i) = BitVec.ofNat 32 (f r i.val)) (init : IVec ⟨0, ![]⟩ 32) (hinit : init ix0 = 0#32)
    (h : (⟨2, ![A, N]⟩ : Shape).ReduceWindows (![1, N] : Fin 2 → ℕ) ![1, 1] ![0, L] ![0, 0] ⟨2, ![A, N]⟩) (hu : 0 < (⟨0, ![]⟩ : Shape).numel)
    (r : Fin A) (j : Fin N) :
    Host.reduceWindow IntOp.addi ![1, N] ![1, 1] ![0, L] ![0, 0] x init h hu (ix2 r j)
      = BitVec.ofNat 32 (∑ t ∈ Finset.range (j.val + 1), f r t) := by
  subst hN
  have hi : init (Shape.Idx.first hu) = BitVec.ofNat 32 0 := (congrArg init (ix0_eta _).symm).trans hinit
  have hj := j.isLt
  have hr := r.isLt
  unfold Host.reduceWindow
  refine (foldl_addi_ofNat _ _ (fun n => if L ≤ j.val + n.val then f r (j.val + n.val - L) else 0) (fun n _ => ?_) _ 0 hi).trans ?_
  · have hn : n.val < L + 1 := (n.cast (numel2 _)).isLt
    have p0 : r.val * 1 + ((⟨2, ![1, L + 1]⟩ : Shape).rowMajor.symm n 0).val = r.val := by
      have := congrFun (symm2 n) 0
      have e : ((⟨2, ![1, L + 1]⟩ : Shape).rowMajor.symm n 0).val = 0 := congrArg Fin.val this
      omega
    have p1 : j.val * 1 + ((⟨2, ![1, L + 1]⟩ : Shape).rowMajor.symm n 1).val = j.val + n.val := by
      have := congrFun (symm2 n) 1
      have e : ((⟨2, ![1, L + 1]⟩ : Shape).rowMajor.symm n 1).val = n.val := congrArg Fin.val this
      omega
    dsimp only
    by_cases hL : L ≤ j.val + n.val
    · rw [if_pos hL, dif_pos]
      · refine (congrArg x (funext fun a => Fin.ext ?_)).trans (hx r ⟨j.val + n.val - L, by omega⟩)
        match a with
        | ⟨0, _⟩ =>
          show r.val * 1 + ((⟨2, ![1, L + 1]⟩ : Shape).rowMajor.symm n 0).val - 0 = r.val
          omega
        | ⟨1, _⟩ =>
          show j.val * 1 + ((⟨2, ![1, L + 1]⟩ : Shape).rowMajor.symm n 1).val - L = j.val + n.val - L
          rw [p1]
      · intro a
        match a with
        | ⟨0, _⟩ =>
          show 0 ≤ r.val * 1 + ((⟨2, ![1, L + 1]⟩ : Shape).rowMajor.symm n 0).val
            ∧ r.val * 1 + ((⟨2, ![1, L + 1]⟩ : Shape).rowMajor.symm n 0).val - 0 < A
          omega
        | ⟨1, _⟩ =>
          show L ≤ j.val * 1 + ((⟨2, ![1, L + 1]⟩ : Shape).rowMajor.symm n 1).val
            ∧ j.val * 1 + ((⟨2, ![1, L + 1]⟩ : Shape).rowMajor.symm n 1).val - L < L + 1
          omega
    · rw [if_neg hL, dif_neg]
      · exact hi
      · intro hin
        have h1 : L ≤ j.val * 1 + ((⟨2, ![1, L + 1]⟩ : Shape).rowMajor.symm n 1).val
            ∧ j.val * 1 + ((⟨2, ![1, L + 1]⟩ : Shape).rowMajor.symm n 1).val - L < L + 1 := hin 1
        omega
  · rw [Nat.zero_add, map_finRange_val _ (fun w => if L ≤ j.val + w then f r (j.val + w - L) else 0)]
    refine congrArg (BitVec.ofNat 32) ((congrArg (fun M => ((List.range M).map fun w => if L ≤ j.val + w then f r (j.val + w - L) else 0).sum)
      (numel2 (L + 1))).trans ((sum_window (f r) L j.val (by omega)).trans ?_))
    rw [Finset.sum_range, ← List.sum_ofFn]
    exact congrArg List.sum (by rw [List.ofFn_eq_map, ← map_finRange_val])

/-- The marked rows, as words. -/
theorem ref_bit (V0 : Valuation τ sig (Elt Ideal)) {b : Fin 4 → Fin 2048 → EReal} (hb : ∀ i j, refB V0 (ix2 i j) = b i j) (i : Fin 4) (s : Fin 2048) :
    res_main_v247 V0 (ix2 i s) = BitVec.ofNat 32 (bit (b i) s.val) := by
  unfold res_main_v247
  refine (scatter_col_set scatter_S4x2048_S1_S4_0_1_1_0_wf _ _ _ 0 (by rfl) i s).trans ?_
  by_cases h0 : s = 0
  · subst h0
    rfl
  · rw [if_neg h0]
    have h0' : s.val ≠ 0 := fun h => h0 (Fin.ext h)
    change (Ideal.cmp .ogt (refB V0 (ix2 i s)) (Ideal.ofBits .f32 0x3F000000#32)).setWidth 32 = _
    rw [hb, bits_half]
    unfold bit
    rw [dif_pos s.isLt]
    by_cases h : ((1 / 2 : ℝ) : EReal) < b i s
    · rw [if_pos ⟨h0', h⟩]
      have : Ideal.cmp .ogt (b i s) ((1 / 2 : ℝ) : EReal) = 1#1 := by
        simp only [Ideal.cmp, decide_eq_true h]
        rfl
      rw [this]; rfl
    · rw [if_neg fun h' => h h'.2]
      have : Ideal.cmp .ogt (b i s) ((1 / 2 : ℝ) : EReal) = 0#1 := by
        simp only [Ideal.cmp, decide_eq_false h]
        rfl
      rw [this]; rfl

/-- The chunk of a row, as a word. -/
theorem ref_seg (V0 : Valuation τ sig (Elt Ideal)) {b : Fin 4 → Fin 2048 → EReal} (hb : ∀ i j, refB V0 (ix2 i j) = b i j) (i : Fin 4) (s : Fin 2048) :
    res_main_v249 V0 (ix2 i s) = BitVec.ofNat 32 (seg (b i) s.val) := by
  unfold res_main_v249
  change Host.reduceWindow IntOp.addi ![1, 2048] ![1, 1] ![0, 2047] ![0, 0] (res_main_v247 V0) _ _ _ (ix2 i s) - res_main_v247 V0 (ix2 i s) = _
  rw [cumsum_cols (L := 2047) rfl (res_main_v247 V0) (fun r => bit (b r)) (ref_bit V0 hb) _ rfl, ref_bit V0 hb, seg_succ, BitVec.ofNat_add,
    BitVec.add_sub_cancel]

/-- The id of a row of the flattened batch. -/
def flatId (b : Fin 4 → Fin 2048 → EReal) (i : Fin 4) (s : Fin 2048) : ℕ := seg (b i) s.val + 2048 * i.val

def flatRow (i : Fin 4) (s : Fin 2048) : Fin 8192 := ⟨s.val + 2048 * i.val, by omega⟩

theorem ref_id (V0 : Valuation τ sig (Elt Ideal)) {b : Fin 4 → Fin 2048 → EReal} (hb : ∀ i j, refB V0 (ix2 i j) = b i j) (i : Fin 4) (s : Fin 2048) :
    res_main_v260 V0 (ix1 (flatRow i s)) = BitVec.ofNat 32 (flatId b i s) := by
  unfold res_main_v260
  refine (shapeCast_apply _ _ _ (ix2 i s) ?_).trans ?_
  · change ((⟨2, ![4, 2048]⟩ : Shape).rowMajor (ix2 i s)).val = ((⟨1, ![8192]⟩ : Shape).rowMajor (ix1 (flatRow i s))).val
    rw [Shape.rowMajor_val_two, Shape.rowMajor_val_one]
    show i.val * 2048 + s.val = s.val + 2048 * i.val
    omega
  change IntOp.addi (res_main_v249 V0 (ix2 i s)) _ = _
  rw [ref_seg V0 hb, flatId, BitVec.ofNat_add, BitVec.ofNat_mul]
  refine congrArg (_ + ·) ?_
  pointwise
  rfl

/-- A sum over the flattened batch, batch by batch. -/
theorem sum_flat {M : Type*} [AddCommMonoid M] (f : Fin 8192 → M) : ∑ n, f n = ∑ i : Fin 4, ∑ s : Fin 2048, f (flatRow i s) := by
  rw [← Finset.sum_product', ← Equiv.sum_comp (finProdFinEquiv (m := 4) (n := 2048))]
  rfl

theorem land_rows (ids : IVec S8192x1 32) (n r : Fin 8192) (e' e : Fin 512) :
    scatter_S8192x512_S8192x1_S8192x512_1_0_0_1.resultIdx? (ix2 n e') ids = some (ix2 r e) ↔ (ids (ix2 n 0)).toInt = (r.val : ℤ) ∧ e' = e := by
  refine (resultIdx?_ix2 _ _ _ r e).trans ?_
  have s0 : scatter_S8192x512_S8192x1_S8192x512_1_0_0_1.start (ix2 n e') ids 0 = (ids (ix2 n 0)).toInt := by
    refine congrArg (fun q => (ids q).toInt) (funext fun a => Fin.ext ?_)
    match a with
    | ⟨0, _⟩ => rfl
    | ⟨1, _⟩ => rfl
  have s1 : scatter_S8192x512_S8192x1_S8192x512_1_0_0_1.start (ix2 n e') ids 1 = 0 := rfl
  have w0 : scatter_S8192x512_S8192x1_S8192x512_1_0_0_1.window (ix2 n e') 0 = 0 := rfl
  have w1 : scatter_S8192x512_S8192x1_S8192x512_1_0_0_1.window (ix2 n e') 1 = e'.val := rfl
  rw [s0, s1, w0, w1, Fin.ext_iff]
  omega

theorem land_ids (ids : IVec S8192x1 32) (n r : Fin 8192) :
    scatter_S8192_S8192x1_S8192_n_0_0_1.resultIdx? (ix1 n) ids = some (ix1 r) ↔ (ids (ix2 n 0)).toInt = (r.val : ℤ) :=
  scatter_lands_signed scatter_S8192_S8192x1_S8192_n_0_0_1 rfl rfl rfl ids n r

/-- The ids of the flattened batch are the rows' ids. -/
def IdsAre (ids : IVec S8192 32) (b : Fin 4 → Fin 2048 → EReal) : Prop := ∀ i s, ids (ix1 (flatRow i s)) = BitVec.ofNat 32 (flatId b i s)

theorem id_lands {ids : IVec S8192 32} {b : Fin 4 → Fin 2048 → EReal} (h : IdsAre ids b) (i i' : Fin 4) (s c : Fin 2048) :
    (broadcastInDim S8192x1 ![0] bcast_S8192_S8192x1_0 ids (ix2 (flatRow i' s) 0)).toInt = ((flatRow i c).val : ℤ)
      ↔ i' = i ∧ seg (b i) s.val = c.val := by
  have e : broadcastInDim S8192x1 ![0] bcast_S8192_S8192x1_0 ids (ix2 (flatRow i' s) 0) = ids (ix1 (flatRow i' s)) := by pointwise
  have hs := seg_le (b i') s.val
  have := s.isLt
  have := i'.isLt
  have := c.isLt
  rw [e, h, StableHlo.Predicate.toInt_ofNat_small _ (by unfold flatId; omega)]
  show ((flatId b i' s : ℕ) : ℤ) = ((c.val + 2048 * i.val : ℕ) : ℤ) ↔ _
  unfold flatId
  constructor
  · intro q
    obtain rfl : i' = i := Fin.ext (by omega)
    exact ⟨rfl, by omega⟩
  · rintro ⟨rfl, q⟩
    omega

theorem sum_ids {ids : IVec S8192 32} {b : Fin 4 → Fin 2048 → EReal} (h : IdsAre ids b) (i : Fin 4) (c : Fin 2048) (f : Fin 8192 → EReal) :
    (∑ n, if (broadcastInDim S8192x1 ![0] bcast_S8192_S8192x1_0 ids (ix2 n 0)).toInt = ((flatRow i c).val : ℤ) then f n else 0)
      = ∑ s : Fin 2048, if seg (b i) s.val = c.val then f (flatRow i s) else 0 := by
  rw [sum_flat]
  simp only [id_lands h]
  rw [Finset.sum_eq_single i]
  · simp
  · intro j _ hj
    exact Finset.sum_eq_zero fun s _ => if_neg fun q => hj q.1
  · simp

theorem rSums_real {ids : IVec S8192 32} {b : Fin 4 → Fin 2048 → EReal} (h : IdsAre ids b) {y : FVec Ideal S4x2048x512 .f32}
    {Y : Fin 4 → Fin 2048 → Fin 512 → ℝ} (hy : Is3 y Y) (i : Fin 4) (c : Fin 2048) (e : Fin 512) :
    rSums ids y (ix2 (flatRow i c) e) = ((tot (b i) (Y i) c.val e : ℝ) : EReal) := by
  have hc : ∀ s : Fin 2048, shapeCast S8192x512 y shapeCasts_S4x2048x512_S8192x512 (ix2 (flatRow i s) e) = ((Y i s e : ℝ) : EReal) := fun s => by
    refine (shapeCast_apply _ _ _ (ix3 i s e) ?_).trans (hy i s e)
    change ((⟨3, ![4, 2048, 512]⟩ : Shape).rowMajor (ix3 i s e)).val = ((⟨2, ![8192, 512]⟩ : Shape).rowMajor (ix2 (flatRow i s) e)).val
    rw [Shape.rowMajor_val_two, Shape.rowMajor_val_three]
    show (i.val * 2048 + s.val) * 512 + e.val = (s.val + 2048 * i.val) * 512 + e.val
    omega
  change Ideal.ofBits .f32 0x00000000#32 + ∑ j ∈ Finset.univ.filter (fun j =>
    scatter_S8192x512_S8192x1_S8192x512_1_0_0_1.resultIdx? j (broadcastInDim S8192x1 ![0] bcast_S8192_S8192x1_0 ids) = some (ix2 (flatRow i c) e)),
    shapeCast S8192x512 y shapeCasts_S4x2048x512_S8192x512 j = _
  rw [bits_zero, EReal.coe_zero, zero_add, Finset.sum_filter, sum_idx2]
  simp only [land_rows]
  have step : ∀ n : Fin 8192, (∑ e' : Fin 512, if (broadcastInDim S8192x1 ![0] bcast_S8192_S8192x1_0 ids (ix2 n 0)).toInt = ((flatRow i c).val : ℤ) ∧ e' = e
      then shapeCast S8192x512 y shapeCasts_S4x2048x512_S8192x512 (ix2 n e') else 0)
      = if (broadcastInDim S8192x1 ![0] bcast_S8192_S8192x1_0 ids (ix2 n 0)).toInt = ((flatRow i c).val : ℤ)
        then shapeCast S8192x512 y shapeCasts_S4x2048x512_S8192x512 (ix2 n e) else 0 := fun n => by
    rw [Finset.sum_eq_single e]
    · simp
    · intro e' _ he
      exact if_neg fun q => he q.2
    · simp
  refine (Finset.sum_congr rfl fun n _ => step n).trans ((sum_ids h i c _).trans ?_)
  simp only [hc]
  rw [tot, coe_sum]
  refine Finset.sum_congr rfl fun s _ => ?_
  split <;> rfl

theorem rCnts_real {ids : IVec S8192 32} {b : Fin 4 → Fin 2048 → EReal} (h : IdsAre ids b) (i : Fin 4) (c : Fin 2048) :
    rCnts ids (ix1 (flatRow i c)) = ((cnt (b i) c.val : ℝ) : EReal) := by
  change Ideal.ofBits .f32 0x00000000#32 + ∑ j ∈ Finset.univ.filter (fun j =>
    scatter_S8192_S8192x1_S8192_n_0_0_1.resultIdx? j (broadcastInDim S8192x1 ![0] bcast_S8192_S8192x1_0 ids) = some (ix1 (flatRow i c))),
    Ideal.ofBits .f32 0x3F800000#32 = _
  rw [bits_zero, bits_one, EReal.coe_zero, zero_add, Finset.sum_filter, sum_idx1]
  simp only [land_ids]
  refine (sum_ids h i c _).trans ?_
  rw [cnt, coe_sum]
  refine Finset.sum_congr rfl fun s _ => ?_
  split <;> rfl

/-- The reference's chunks hold the means. -/
theorem rChunks_real {g : IVec S4x2048 32} {ids : IVec S8192 32} {b : Fin 4 → Fin 2048 → EReal} (hg : ∀ i s, g (ix2 i s) = BitVec.ofNat 32 (seg (b i) s.val))
    (h : IdsAre ids b) {y : FVec Ideal S4x2048x512 .f32} {Y : Fin 4 → Fin 2048 → Fin 512 → ℝ} (hy : Is3 y Y) :
    Is3 (rChunks g ids y) (fun i => pool (b i) (Y i)) := by
  intro i c e
  have hc' : c.val < 2048 := by omega
  have hm : rMeans ids y (ix3 i ⟨c.val, hc'⟩ e) = ((pool (b i) (Y i) c e : ℝ) : EReal) := by
    have h1 : shapeCast S4x2048x512 (rSums ids y) shapeCasts_S8192x512_S4x2048x512 (ix3 i ⟨c.val, hc'⟩ e) = ((tot (b i) (Y i) c.val e : ℝ) : EReal) := by
      refine (shapeCast_apply _ _ _ (ix2 (flatRow i ⟨c.val, hc'⟩) e) ?_).trans (rSums_real h hy i _ e)
      change ((⟨2, ![8192, 512]⟩ : Shape).rowMajor (ix2 _ e)).val = ((⟨3, ![4, 2048, 512]⟩ : Shape).rowMajor (ix3 i ⟨c.val, hc'⟩ e)).val
      rw [Shape.rowMajor_val_two, Shape.rowMajor_val_three]
      show (c.val + 2048 * i.val) * 512 + e.val = (i.val * 2048 + c.val) * 512 + e.val
      omega
    have h2 : shapeCast S4x2048 (rCnts ids) shapeCasts_S8192_S4x2048 (ix2 i ⟨c.val, hc'⟩) = ((cnt (b i) c.val : ℝ) : EReal) := by
      refine (shapeCast_apply _ _ _ (ix1 (flatRow i ⟨c.val, hc'⟩)) ?_).trans (rCnts_real h i _)
      change ((⟨1, ![8192]⟩ : Shape).rowMajor (ix1 _)).val = ((⟨2, ![4, 2048]⟩ : Shape).rowMajor (ix2 i ⟨c.val, hc'⟩)).val
      rw [Shape.rowMajor_val_two, Shape.rowMajor_val_one]
      show c.val + 2048 * i.val = i.val * 2048 + c.val
      omega
    have h3 : broadcastInDim S4x2048x512 ![0, 1, 2] bcast_S4x2048x1_S4x2048x512_0_1_2 (broadcastInDim S4x2048x1 ![0, 1] bcast_S4x2048_S4x2048x1_0_1
        (maximumf (shapeCast _ (rCnts ids) shapeCasts_S8192_S4x2048) (broadcastInDim S4x2048 ![] bcast_S_S4x2048 (constant S_ .f32 0x3F800000#32))))
        (ix3 i ⟨c.val, hc'⟩ e) = ((max (cnt (b i) c.val) 1 : ℝ) : EReal) := by
      refine (bcast_m3 _ _ _ _ _).trans ((bcast_ms _ _ _ _ _).trans ?_)
      change max (shapeCast S4x2048 (rCnts ids) shapeCasts_S8192_S4x2048 (ix2 i ⟨c.val, hc'⟩)) (Ideal.ofBits .f32 0x3F800000#32) = _
      rw [h2, bits_one, coe_max]
    change Ideal.div (shapeCast S4x2048x512 (rSums ids y) shapeCasts_S8192x512_S4x2048x512 (ix3 i ⟨c.val, hc'⟩ e)) (broadcastInDim _ _ _ _ _) = _
    rw [h1, h3, div_real _ _ (max_cnt_ne _ _), pool]
  have hl : rLive g (ix3 i ⟨c.val, hc'⟩ e) = IntOp.cmpi .slt (BitVec.ofNat 32 c.val) (BitVec.ofNat 32 (seg (b i) 2047 + 1)) := by
    have h4 : rLive g (ix3 i ⟨c.val, hc'⟩ e) = IntOp.cmpi .slt (BitVec.ofNat 32 c.val) (IntOp.addi (g (ix2 i 2047)) 1#32) := by
      unfold rLive
      pointwise
    rw [h4, hg, BitVec.ofNat_add]
    rfl
  have hx : extractStridedSlice S4x1024x512 ![0, 0, 0] (select (rLive g) (rMeans ids y)
      (broadcastInDim S4x2048x512 ![] bcast_S_S4x2048x512 (id (constant S_ .f32 0x00000000#32)))) slices_S4x2048x512_S4x1024x512_0_0_0 (ix3 i c e)
      = Scalar.select (rLive g (ix3 i ⟨c.val, hc'⟩ e)) (rMeans ids y (ix3 i ⟨c.val, hc'⟩ e)) (Ideal.ofBits .f32 0x00000000#32) := by
    pointwise
    change Scalar.select _ _ (Ideal.ofBits .f32 0x00000000#32) = _
    rw [bits_zero]
    rfl
  have h31 : seg (b i) 2047 + 1 < 2 ^ 31 := by have := seg_le (b i) 2047; omega
  rw [rChunks, hx, hm, hl, bits_zero]
  by_cases hlt : c.val < seg (b i) 2047 + 1
  · have : IntOp.cmpi .slt (BitVec.ofNat 32 c.val) (BitVec.ofNat 32 (seg (b i) 2047 + 1)) = 1#1 :=
      (StableHlo.Predicate.slt_ofNat_iff _ _ (by omega) h31).2 hlt
    rw [this]; rfl
  · have : IntOp.cmpi .slt (BitVec.ofNat 32 c.val) (BitVec.ofNat 32 (seg (b i) 2047 + 1)) = 0#1 :=
      (BitVec.eq_zero_or_eq_one _).resolve_right fun q => hlt ((StableHlo.Predicate.slt_ofNat_iff _ _ (by omega) h31).1 q)
    rw [this]
    show ((0 : ℝ) : EReal) = ((pool (b i) (Y i) c e : ℝ) : EReal)
    rw [pool, tot_past _ _ _ _ (by omega), zero_div]

/-- The result over the reals: two layers, the pooling, two layers. The boundary probabilities may be infinite. -/
structure Data where
  x : Fin 4 → Fin 2048 → Fin 512 → ℝ
  b : Fin 4 → Fin 2048 → EReal
  q : Fin 4 → Par

def Data.y0 (D : Data) (i : Fin 4) : Fin 2048 → Fin 512 → ℝ := layer (D.q 0) (D.x i)
def Data.y1 (D : Data) (i : Fin 4) : Fin 2048 → Fin 512 → ℝ := layer (D.q 1) (D.y0 i)
def Data.c (D : Data) (i : Fin 4) : Fin 1024 → Fin 512 → ℝ := pool (D.b i) (D.y1 i)
def Data.y2 (D : Data) (i : Fin 4) : Fin 1024 → Fin 512 → ℝ := layer (D.q 2) (D.c i)
def Data.y3 (D : Data) (i : Fin 4) : Fin 1024 → Fin 512 → ℝ := layer (D.q 3) (D.y2 i)

/-- The reference's arguments hold the reals `D`. -/
structure RefIs (V0 : Valuation τ sig (Elt Ideal)) (D : Data) : Prop where
  x : Is3 (refX V0) D.x
  b : ∀ i j, refB V0 (ix2 i j) = D.b i j
  q : ∀ l, ((refStacks V0).par l).Is (D.q l)

theorem ref_y0 {V0 : Valuation τ sig (Elt Ideal)} {D : Data} (h : RefIs V0 D) : Is3 (res_main_v120 V0) D.y0 := by
  rw [ref_layer0]
  exact rLayer_real h.x (h.q 0)

theorem ref_y1 {V0 : Valuation τ sig (Elt Ideal)} {D : Data} (h : RefIs V0 D) :
    Is3 (rLayer 2048 (res_main_v120 V0) ((refStacks V0).par 1)) D.y1 := rLayer_real (ref_y0 h) (h.q 1)

theorem ref_c {V0 : Valuation τ sig (Elt Ideal)} {D : Data} (h : RefIs V0 D) : Is3 (res_main_v284 V0) D.c := by
  rw [ref_chunks]
  exact rChunks_real (ref_seg V0 h.b) (ref_id V0 h.b) (ref_y1 h)

theorem ref_y2 {V0 : Valuation τ sig (Elt Ideal)} {D : Data} (h : RefIs V0 D) : Is3 (res_main_v405 V0) D.y2 := by
  rw [ref_layer2]
  exact rLayer_real (ref_c h) (h.q 2)

theorem ref_y3 {V0 : Valuation τ sig (Elt Ideal)} {D : Data} (h : RefIs V0 D) :
    Is3 (rLayer 1024 (res_main_v405 V0) ((refStacks V0).par 3)) D.y3 := rLayer_real (ref_y2 h) (h.q 3)

end Cert.Net

end
-- ==== Proof.Pre.lean ====
/- The precondition, read over the reals: every argument but the boundary probabilities is finite, and no attention score of the plain network passes 80. -/
module

public import proofs.«01_k».proof.Pre_finite_and_unclamped
public import proofs.«01_k».proof.Proof.RefPool

@[expose] public section

set_option maxRecDepth 16384

noncomputable section

namespace Cert.Net

open Idealize.ShloMosaic Idealize.ShloMosaic.TcCoe

instance preFacts : Cert.Pre_finite_and_unclamped.Facts where
  bcast_S_S4x2048x512 := by decide
  bcast_S_S4x2048 := by decide
  bcast_S_S4x1536x512 := by decide
  bcast_S_S4x1536 := by decide
  bcast_S_S4x512x512 := by decide
  bcast_S_S4x512 := by decide
  bcast_S_S4x512x2048 := by decide
  slices_S4x1536x512_S1x1536x512_0_0_0 := by decide
  shapeCasts_S1x1536x512_S1536x512 := by decide
  slices_S4x1536_S1x1536_0_0 := by decide
  shapeCasts_S1x1536_S1536 := by decide
  transposes_S1536x512_S512x1536_1_0 := by decide
  bcast_S1536_S1x1x1536_2 := by decide
  bcast_S1x1x1536_S4x2048x1536_0_1_2 := by decide
  slices_S4x2048x1536_S4x2048x512_0_0_0 := by decide
  slices_S4x2048x1536_S4x2048x512_0_0_512 := by decide
  slices_S4x2048x1536_S4x2048x512_0_0_1024 := by decide
  shapeCasts_S4x2048x512_S4x2048x8x64 := by decide
  transposes_S4x2048x8x64_S4x8x2048x64_0_2_1_3 := by decide
  bcast_S_S4x8x2048x2048 := by decide
  slices_S4x512x512_S1x512x512_0_0_0 := by decide
  shapeCasts_S1x512x512_S512x512 := by decide
  slices_S4x512_S1x512_0_0 := by decide
  shapeCasts_S1x512_S512 := by decide
  slices_S4x2048x512_S1x2048x512_0_0_0 := by decide
  shapeCasts_S1x2048x512_S2048x512 := by decide
  slices_S4x2048_S1x2048_0_0 := by decide
  shapeCasts_S1x2048_S2048 := by decide
  slices_S4x512x2048_S1x512x2048_0_0_0 := by decide
  shapeCasts_S1x512x2048_S512x2048 := by decide
  reducesTo_S4x8x2048x2048_S4x8x2048_d3 := by decide
  h_S_ := by decide
  bcast_S_S4x8x2048 := by decide
  bcast_S4x8x2048_S4x8x2048x1_0_1_2 := by decide
  bcast_S4x8x2048x1_S4x8x2048x2048_0_1_2_3 := by decide
  transposes_S4x8x2048x64_S4x2048x8x64_0_2_1_3 := by decide
  shapeCasts_S4x2048x8x64_S4x2048x512 := by decide
  transposes_S512x512_S512x512_1_0 := by decide
  bcast_S512_S1x1x512_2 := by decide
  bcast_S1x1x512_S4x2048x512_0_1_2 := by decide
  reducesTo_S4x2048x512_S4x2048_d2 := by decide
  bcast_S4x2048_S4x2048x1_0_1 := by decide
  bcast_S_S4x2048x1 := by decide
  bcast_S4x2048x1_S4x2048x512_0_1_2 := by decide
  transposes_S2048x512_S512x2048_1_0 := by decide
  bcast_S2048_S1x1x2048_2 := by decide
  bcast_S1x1x2048_S4x2048x2048_0_1_2 := by decide
  bcast_S_S4x2048x2048 := by decide
  transposes_S512x2048_S2048x512_1_0 := by decide
  slices_S4x1536x512_S1x1536x512_1_0_0 := by decide
  slices_S4x1536_S1x1536_1_0 := by decide
  slices_S4x512x512_S1x512x512_1_0_0 := by decide
  slices_S4x512_S1x512_1_0 := by decide
  slices_S4x2048x512_S1x2048x512_1_0_0 := by decide
  slices_S4x2048_S1x2048_1_0 := by decide
  slices_S4x512x2048_S1x512x2048_1_0_0 := by decide
  natLt_1_32 := by decide
  bcast_S_S1 := by decide
  bcast_S_S4 := by decide
  bcast_S_S_ := by decide
  reduceWindows_S4x2048_S4x2048_w1s1p0_0_w2048s1p2047_0 := by decide
  slices_S4x2048_S4x1_0_2047 := by decide
  shapeCasts_S4x1_S4 := by decide
  bcast_S4_S4x1_0 := by decide
  bcast_S_S4x1 := by decide
  bcast_S4x1_S4x2048_0_1 := by decide
  shapeCasts_S4x2048_S8192 := by decide
  shapeCasts_S4x2048x512_S8192x512 := by decide
  bcast_S_S8192x512 := by decide
  bcast_S8192_S8192x1_0 := by decide
  shapeCasts_S8192x512_S4x2048x512 := by decide
  bcast_S_S8192 := by decide
  shapeCasts_S8192_S4x2048 := by decide
  bcast_S2048_S1x2048_1 := by decide
  bcast_S1x2048_S4x2048_0_1 := by decide
  bcast_S4x2048_S4x2048x512_0_1 := by decide
  slices_S4x2048x512_S4x1024x512_0_0_0 := by decide
  slices_S4x1536x512_S1x1536x512_2_0_0 := by decide
  slices_S4x1536_S1x1536_2_0 := by decide
  bcast_S1x1x1536_S4x1024x1536_0_1_2 := by decide
  slices_S4x1024x1536_S4x1024x512_0_0_0 := by decide
  slices_S4x1024x1536_S4x1024x512_0_0_512 := by decide
  slices_S4x1024x1536_S4x1024x512_0_0_1024 := by decide
  shapeCasts_S4x1024x512_S4x1024x8x64 := by decide
  transposes_S4x1024x8x64_S4x8x1024x64_0_2_1_3 := by decide
  bcast_S_S4x8x1024x1024 := by decide
  slices_S4x512x512_S1x512x512_2_0_0 := by decide
  slices_S4x512_S1x512_2_0 := by decide
  slices_S4x2048x512_S1x2048x512_2_0_0 := by decide
  slices_S4x2048_S1x2048_2_0 := by decide
  slices_S4x512x2048_S1x512x2048_2_0_0 := by decide
  reducesTo_S4x8x1024x1024_S4x8x1024_d3 := by decide
  bcast_S_S4x8x1024 := by decide
  bcast_S4x8x1024_S4x8x1024x1_0_1_2 := by decide
  bcast_S4x8x1024x1_S4x8x1024x1024_0_1_2_3 := by decide
  transposes_S4x8x1024x64_S4x1024x8x64_0_2_1_3 := by decide
  shapeCasts_S4x1024x8x64_S4x1024x512 := by decide
  bcast_S1x1x512_S4x1024x512_0_1_2 := by decide
  reducesTo_S4x1024x512_S4x1024_d2 := by decide
  bcast_S4x1024_S4x1024x1_0_1 := by decide
  bcast_S_S4x1024x1 := by decide
  bcast_S4x1024x1_S4x1024x512_0_1_2 := by decide
  bcast_S1x1x2048_S4x1024x2048_0_1_2 := by decide
  bcast_S_S4x1024x2048 := by decide
  slices_S4x1536x512_S1x1536x512_3_0_0 := by decide
  slices_S4x1536_S1x1536_3_0 := by decide
  dot_S4x2048x512_S512x1536_S4x2048x1536_2_0_01_1_n_n_wf := by decide
  dot_S4x8x2048x64_S4x8x2048x64_S4x8x2048x2048_3_3_2_2_01_01_wf := by decide
  dot_S4x8x2048x2048_S4x8x2048x64_S4x8x2048x64_3_2_2_3_01_01_wf := by decide
  dot_S4x2048x512_S512x512_S4x2048x512_2_0_01_1_n_n_wf := by decide
  dot_S4x2048x512_S512x2048_S4x2048x2048_2_0_01_1_n_n_wf := by decide
  dot_S4x2048x2048_S2048x512_S4x2048x512_2_0_01_1_n_n_wf := by decide
  scatter_S4x2048_S1_S4_0_1_1_0_wf := by decide
  scatter_S8192x512_S8192x1_S8192x512_1_0_0_1_wf := by decide
  scatter_S8192_S8192x1_S8192_n_0_0_1_wf := by decide
  dot_S4x1024x512_S512x1536_S4x1024x1536_2_0_01_1_n_n_wf := by decide
  dot_S4x8x1024x64_S4x8x1024x64_S4x8x1024x1024_3_3_2_2_01_01_wf := by decide
  dot_S4x8x1024x1024_S4x8x1024x64_S4x8x1024x64_3_2_2_3_01_01_wf := by decide
  dot_S4x1024x512_S512x512_S4x1024x512_2_0_01_1_n_n_wf := by decide
  dot_S4x1024x512_S512x2048_S4x1024x2048_2_0_01_1_n_n_wf := by decide
  dot_S4x1024x2048_S2048x512_S4x1024x512_2_0_01_1_n_n_wf := by decide

/-- Where an array is finite. -/
def finMask {s : Shape} (h : (⟨0, ![]⟩ : Shape).BroadcastsInDim s (![] : Fin 0 → Fin s.rank)) (a : FVec Ideal s .f32) : IVec s 1 :=
  cmpf .olt (Host.absf a) (broadcastInDim s ![] h (constant ⟨0, ![]⟩ .f32 0x7F800000#32))

/-- Where scores stay at or below 80. -/
def lowMask {s : Shape} (h : (⟨0, ![]⟩ : Shape).BroadcastsInDim s (![] : Fin 0 → Fin s.rank)) (a : FVec Ideal s .f32) : IVec s 1 :=
  cmpf .ole a (broadcastInDim s ![] h (constant ⟨0, ![]⟩ .f32 0x42A00000#32))

section
open Cert.ReferenceIdeal Cert.ReferenceIdeal.Value Cert.Pre_finite_and_unclamped.Facts

theorem pre_eq (V0 : Valuation τ sig (Elt Ideal)) :
    Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
      = (finMask bcast_S_S4x2048x512 (V0 (Proc.devRef .tc main_arg0)), finMask bcast_S_S4x1536x512 (V0 (Proc.devRef .tc main_arg2)), finMask bcast_S_S4x1536 (V0 (Proc.devRef .tc main_arg3)), finMask bcast_S_S4x512x512 (V0 (Proc.devRef .tc main_arg4)), finMask bcast_S_S4x512 (V0 (Proc.devRef .tc main_arg5)), finMask bcast_S_S4x2048x512 (V0 (Proc.devRef .tc main_arg6)), finMask bcast_S_S4x2048 (V0 (Proc.devRef .tc main_arg7)), finMask bcast_S_S4x512x2048 (V0 (Proc.devRef .tc main_arg8)), finMask bcast_S_S4x512 (V0 (Proc.devRef .tc main_arg9)), finMask bcast_S_S4x512 (V0 (Proc.devRef .tc main_arg10)), finMask bcast_S_S4x512 (V0 (Proc.devRef .tc main_arg11)), finMask bcast_S_S4x512 (V0 (Proc.devRef .tc main_arg12)), finMask bcast_S_S4x512 (V0 (Proc.devRef .tc main_arg13)),
        lowMask bcast_S_S4x8x2048x2048 (rScores 2048 (refX V0) ((refStacks V0).par 0)),
        lowMask bcast_S_S4x8x2048x2048 (rScores 2048 (res_main_v120 V0) ((refStacks V0).par 1)),
        lowMask bcast_S_S4x8x1024x1024 (rScores 1024 (res_main_v284 V0) ((refStacks V0).par 2)),
        lowMask bcast_S_S4x8x1024x1024 (rScores 1024 (res_main_v405 V0) ((refStacks V0).par 3))) := rfl

end

theorem fin_real {s : Shape} (h : (⟨0, ![]⟩ : Shape).BroadcastsInDim s (![] : Fin 0 → Fin s.rank)) (a : FVec Ideal s .f32)
    (ha : finMask h a = fun _ => 1#1) (j : s.Idx) : a j = (((a j).toReal : ℝ) : EReal) := by
  have h1 : Ideal.cmp .olt (max (a j) (-(a j))) (Ideal.ofBits .f32 0x7F800000#32) = 1#1 := congrFun ha j
  rw [bits_inf] at h1
  have h2 : max (a j) (-(a j)) < ⊤ := by
    by_contra hn
    simp only [Ideal.cmp, decide_eq_false hn] at h1
    exact absurd h1 (by decide)
  have h3 := max_lt_iff.1 h2
  refine (EReal.coe_toReal h3.1.ne fun hb => ?_).symm
  rw [hb] at h3
  exact absurd h3.2 (by simp)

theorem low_real {s : Shape} (h : (⟨0, ![]⟩ : Shape).BroadcastsInDim s (![] : Fin 0 → Fin s.rank)) (a : FVec Ideal s .f32)
    (ha : lowMask h a = fun _ => 1#1) (j : s.Idx) (r : ℝ) (hr : a j = (r : EReal)) : r ≤ 80 := by
  have h1 : Ideal.cmp .ole (a j) (Ideal.ofBits .f32 0x42A00000#32) = 1#1 := congrFun ha j
  rw [bits_80, hr] at h1
  by_contra hn
  have h2 : ¬ ((r : ℝ) : EReal) ≤ ((80 : ℝ) : EReal) := fun q => hn (EReal.coe_le_coe_iff.1 q)
  simp only [Ideal.cmp, decide_eq_false h2] at h1
  exact absurd h1 (by decide)

/-- The stacks hold the real parameters of the four layers. -/
structure Stacks.Is (w : Stacks) (q : Fin 4 → Par) : Prop where
  Wqkv : Is3 w.Wqkv (fun l => (q l).Wqkv)
  bqkv : Is2 w.bqkv (fun l => (q l).bqkv)
  Wo : Is3 w.Wo (fun l => (q l).Wo)
  bo : Is2 w.bo (fun l => (q l).bo)
  W1 : Is3 w.W1 (fun l => (q l).W1)
  b1 : Is2 w.b1 (fun l => (q l).b1)
  W2 : Is3 w.W2 (fun l => (q l).W2)
  b2 : Is2 w.b2 (fun l => (q l).b2)
  g1 : Is2 w.g1 (fun l => (q l).g1)
  be1 : Is2 w.be1 (fun l => (q l).be1)
  g2 : Is2 w.g2 (fun l => (q l).g2)
  be2 : Is2 w.be2 (fun l => (q l).be2)

theorem Stacks.Is.par {w : Stacks} {q : Fin 4 → Par} (h : w.Is q) (l : Fin 4) : (w.par l).Is (q l) :=
  ⟨fun i j => (at3_apply l w.Wqkv i j).trans (h.Wqkv l i j), fun i => (at2_apply l w.bqkv i).trans (h.bqkv l i), fun i j => (at3_apply l w.Wo i j).trans (h.Wo l i j), fun i => (at2_apply l w.bo i).trans (h.bo l i), fun i j => (at3_apply l w.W1 i j).trans (h.W1 l i j), fun i => (at2_apply l w.b1 i).trans (h.b1 l i), fun i j => (at3_apply l w.W2 i j).trans (h.W2 l i j), fun i => (at2_apply l w.b2 i).trans (h.b2 l i), fun i => (at2_apply l w.g1 i).trans (h.g1 l i), fun i => (at2_apply l w.be1 i).trans (h.be1 l i), fun i => (at2_apply l w.g2 i).trans (h.g2 l i), fun i => (at2_apply l w.be2 i).trans (h.be2 l i)⟩

/-- The real parameters that finite stacks hold. -/
def Stacks.real (w : Stacks) (l : Fin 4) : Par := ⟨fun i j => (w.Wqkv (ix3 l i j)).toReal, fun i => (w.bqkv (ix2 l i)).toReal, fun i j => (w.Wo (ix3 l i j)).toReal, fun i => (w.bo (ix2 l i)).toReal, fun i j => (w.W1 (ix3 l i j)).toReal, fun i => (w.b1 (ix2 l i)).toReal, fun i j => (w.W2 (ix3 l i j)).toReal, fun i => (w.b2 (ix2 l i)).toReal, fun i => (w.g1 (ix2 l i)).toReal, fun i => (w.be1 (ix2 l i)).toReal, fun i => (w.g2 (ix2 l i)).toReal, fun i => (w.be2 (ix2 l i)).toReal⟩

/-- No score of a layer on rows `X` passes 80. -/
def LowAt {S : ℕ} (q : Par) (X : Fin S → Fin 512 → ℝ) : Prop := ∀ h a k, score (proj q X) h a k ≤ 80

structure Data.Low (D : Data) : Prop where
  l0 : ∀ i, LowAt (D.q 0) (D.x i)
  l1 : ∀ i, LowAt (D.q 1) (D.y0 i)
  l2 : ∀ i, LowAt (D.q 2) (D.c i)
  l3 : ∀ i, LowAt (D.q 3) (D.y2 i)

section
open Cert.ReferenceIdeal Cert.ReferenceIdeal.Value Cert.Pre_finite_and_unclamped.Facts

/-- The real numbers that finite arguments hold, and the boundary probabilities. -/
def refData (V0 : Valuation τ sig (Elt Ideal)) : Data :=
  ⟨fun i j k => (refX V0 (ix3 i j k)).toReal, fun i j => refB V0 (ix2 i j), (refStacks V0).real⟩

/-- What the precondition gives: the arguments are real numbers, and the scores stay low. -/
theorem pre_real (V0 : Valuation τ sig (Elt Ideal))
    (hp : (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.2.2.2.2.2.2.1 = (fun _ => 1#1) ∧
    (Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))).2.2.2.2.2.2.2.2.2.2.2.2.2.2.2.2 = (fun _ => 1#1)) :
    Is3 (refX V0) (refData V0).x ∧ (refStacks V0).Is (refData V0).q ∧ (refData V0).Low := by
  have e := pre_eq V0
  generalize Cert.Pre_finite_and_unclamped.fn (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) = f at hp e
  subst e
  obtain ⟨h0, h2, h3, h4, h5, h6, h7, h8, h9, h10, h11, h12, h13, h14, h15, h16, h17⟩ := hp
  have hx : Is3 (refX V0) (refData V0).x := fun i j k => fin_real _ _ h0 _
  have hq : (refStacks V0).Is (refData V0).q :=
    ⟨fun l i j => fin_real _ _ h2 _, fun l i => fin_real _ _ h3 _, fun l i j => fin_real _ _ h4 _, fun l i => fin_real _ _ h5 _, fun l i j => fin_real _ _ h6 _, fun l i => fin_real _ _ h7 _, fun l i j => fin_real _ _ h8 _, fun l i => fin_real _ _ h9 _, fun l i => fin_real _ _ h10 _, fun l i => fin_real _ _ h11 _, fun l i => fin_real _ _ h12 _, fun l i => fin_real _ _ h13 _⟩
  have hD : RefIs V0 (refData V0) := ⟨hx, fun _ _ => rfl, hq.par⟩
  exact ⟨hx, hq,
    ⟨fun i h a k => low_real _ _ h14 _ _ (rScores_real hx (hq.par 0) i h a k),
      fun i h a k => low_real _ _ h15 _ _ (rScores_real (ref_y0 hD) (hq.par 1) i h a k),
      fun i h a k => low_real _ _ h16 _ _ (rScores_real (ref_c hD) (hq.par 2) i h a k),
      fun i h a k => low_real _ _ h17 _ _ (rScores_real (ref_y2 hD) (hq.par 3) i h a k)⟩⟩

end

end Cert.Net

end
-- ==== Proof.KerLayer.lean ====
/- One layer of the kernel, written once for any number `M` of rows and `N` of keys, and its value over the real numbers. -/
module

public import proofs.«01_k».proof.Proof.RefLayer

@[expose] public section

set_option maxRecDepth 16384

noncomputable section

namespace Cert.Net

open Idealize.ShloMosaic

/-- The shape facts the row-wise operations state, at `M` rows. -/
class RowFacts (M : ℕ) : Prop where
  wf_qkv : DotDims.WF ⟨2, ![M, 512]⟩ ⟨2, ![1536, 512]⟩ ⟨2, ![M, 1536]⟩ [1] [1] [0] [0] [] []
  wf_o : DotDims.WF ⟨2, ![M, 512]⟩ ⟨2, ![512, 512]⟩ ⟨2, ![M, 512]⟩ [1] [1] [0] [0] [] []
  wf_1 : DotDims.WF ⟨2, ![M, 512]⟩ ⟨2, ![2048, 512]⟩ ⟨2, ![M, 2048]⟩ [1] [1] [0] [0] [] []
  wf_2 : DotDims.WF ⟨2, ![M, 2048]⟩ ⟨2, ![512, 2048]⟩ ⟨2, ![M, 512]⟩ [1] [1] [0] [0] [] []
  sc_x : (⟨3, ![1, M, 512]⟩ : Shape).ShapeCasts ⟨2, ![M, 512]⟩
  sc_y : (⟨2, ![M, 512]⟩ : Shape).ShapeCasts ⟨3, ![1, M, 512]⟩
  sc_h : (⟨4, ![1, 1, M, 64]⟩ : Shape).ShapeCasts ⟨2, ![M, 64]⟩
  sc_v : (⟨4, ![1, 1, M, 128]⟩ : Shape).ShapeCasts ⟨2, ![M, 128]⟩
  sc_h' : (⟨2, ![M, 64]⟩ : Shape).ShapeCasts ⟨4, ![1, 1, M, 64]⟩
  sc_v' : (⟨2, ![M, 128]⟩ : Shape).ShapeCasts ⟨4, ![1, 1, M, 128]⟩
  sc_m : (⟨1, ![M]⟩ : Shape).ShapeCasts ⟨2, ![M, 1]⟩
  br_m : (⟨2, ![M, 1]⟩ : Shape).Broadcasts ⟨2, ![M, 512]⟩
  br_512 : (⟨2, ![1, 512]⟩ : Shape).Broadcasts ⟨2, ![M, 512]⟩
  br_2048 : (⟨2, ![1, 2048]⟩ : Shape).Broadcasts ⟨2, ![M, 2048]⟩
  br_1536 : (⟨2, ![1, 1536]⟩ : Shape).Broadcasts ⟨2, ![M, 1536]⟩
  rd : (⟨2, ![M, 512]⟩ : Shape).Reduces [1] ⟨1, ![M]⟩
  sl_0 : (⟨2, ![M, 128]⟩ : Shape).Slices ![0, 0] ⟨2, ![M, 64]⟩
  sl_1 : (⟨2, ![M, 128]⟩ : Shape).Slices ![0, 64] ⟨2, ![M, 64]⟩
  cc_h : Shape.Concatenates [⟨2, ![M, 64]⟩, ⟨2, ![M, 64]⟩, ⟨2, ![M, 64]⟩, ⟨2, ![M, 64]⟩, ⟨2, ![M, 64]⟩, ⟨2, ![M, 64]⟩, ⟨2, ![M, 64]⟩, ⟨2, ![M, 64]⟩] ⟨2, ![M, 512]⟩ 1
  cc_v : Shape.Concatenates [⟨2, ![M, 64]⟩, ⟨2, ![M, 64]⟩] ⟨2, ![M, 128]⟩ 1

/-- The shape facts the attention's products state, at `M` rows and `N` keys. -/
class AttnFacts (M N : ℕ) : Prop where
  wf_qk : DotDims.WF ⟨2, ![M, 64]⟩ ⟨2, ![N, 64]⟩ ⟨2, ![M, N]⟩ [1] [1] [0] [0] [] []
  wf_ev : DotDims.WF ⟨2, ![M, N]⟩ ⟨2, ![N, 128]⟩ ⟨2, ![M, 128]⟩ [1] [0] [0] [1] [] []

/-- Rows times the rows of a second matrix. -/
abbrev dNT (M K N : ℕ) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

/-- Rows times the columns of a second matrix. -/
abbrev dNN (M K N : ℕ) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

theorem dNT_apply {M K N : ℕ} {φ : FTy} (wf) (l : FVec Ideal ⟨2, ![M, K]⟩ φ) (r : FVec Ideal ⟨2, ![N, K]⟩ φ) (acc : FVec Ideal ⟨2, ![M, N]⟩ .f32)
    (i : Fin M) (j : Fin N) : matmul (dNT M K N wf) none l r acc (ix2 i j) = acc (ix2 i j) + ∑ k : Fin K, l (ix2 i k) * r (ix2 j k) := by
  refine (Ideal.matmul_apply₁ (dNT M K N wf) (a := 1) rfl (K := K) rfl _ _ _ _).trans (congrArg _ (Finset.sum_congr rfl fun k _ => ?_))
  refine congrArg₂ (fun a b => l a * r b) ?_ ?_ <;>
  · funext a
    match a with
    | ⟨0, _⟩ => rfl
    | ⟨1, _⟩ => rfl

theorem dNN_apply {M K N : ℕ} {φ : FTy} (wf) (l : FVec Ideal ⟨2, ![M, K]⟩ φ) (r : FVec Ideal ⟨2, ![K, N]⟩ φ) (acc : FVec Ideal ⟨2, ![M, N]⟩ .f32)
    (i : Fin M) (j : Fin N) : matmul (dNN M K N wf) none l r acc (ix2 i j) = acc (ix2 i j) + ∑ k : Fin K, l (ix2 i k) * r (ix2 k j) := by
  refine (Ideal.matmul_apply₁ (dNN M K N wf) (a := 1) rfl (K := K) rfl _ _ _ _).trans (congrArg _ (Finset.sum_congr rfl fun k _ => ?_))
  refine congrArg₂ (fun a b => l a * r b) ?_ ?_ <;>
  · funext a
    match a with
    | ⟨0, _⟩ => rfl
    | ⟨1, _⟩ => rfl

/-- Repeating a single row. -/
theorem row_apply {M N : ℕ} (x : (⟨2, ![1, N]⟩ : Shape).Idx → EReal) (h) (i : Fin M) (e : Fin N) :
    broadcastTo ⟨2, ![M, N]⟩ x h (ix2 i e) = x (ix2 0 e) := by
  refine broadcastTo_apply _ _ _ _ fun a => ?_
  match a with
  | ⟨0, _⟩ => rfl
  | ⟨1, _⟩ =>
    show e.val = if N = 1 then 0 else e.val
    split <;> omega

/-- Repeating a single column. -/
theorem colm_apply {M N : ℕ} (x : (⟨2, ![M, 1]⟩ : Shape).Idx → EReal) (h) (i : Fin M) (e : Fin N) :
    broadcastTo ⟨2, ![M, N]⟩ x h (ix2 i e) = x (ix2 i 0) := by
  refine broadcastTo_apply _ _ _ _ fun a => ?_
  match a with
  | ⟨0, _⟩ =>
    show i.val = if M = 1 then 0 else i.val
    split <;> omega
  | ⟨1, _⟩ => rfl

theorem cast_m {M : ℕ} (x : (⟨1, ![M]⟩ : Shape).Idx → EReal) (h) (i : Fin M) (z : Fin 1) :
    shapeCast ⟨2, ![M, 1]⟩ x h (ix2 i z) = x (ix1 i) := by
  refine shapeCast_apply x h _ (ix1 i) ?_
  change ((⟨1, ![M]⟩ : Shape).rowMajor (ix1 i)).val = ((⟨2, ![M, 1]⟩ : Shape).rowMajor (ix2 i z)).val
  rw [Shape.rowMajor_val_one, Shape.rowMajor_val_two]
  show i.val = i.val * 1 + z.val
  omega

theorem cast_x {M N : ℕ} (x : (⟨3, ![1, M, N]⟩ : Shape).Idx → EReal) (h) (i : Fin M) (e : Fin N) :
    shapeCast ⟨2, ![M, N]⟩ x h (ix2 i e) = x (ix3 0 i e) := by
  refine shapeCast_apply x h _ (ix3 0 i e) ?_
  change ((⟨3, ![1, M, N]⟩ : Shape).rowMajor (ix3 0 i e)).val = ((⟨2, ![M, N]⟩ : Shape).rowMajor (ix2 i e)).val
  rw [Shape.rowMajor_val_two, Shape.rowMajor_val_three]
  show (0 * M + i.val) * N + e.val = i.val * N + e.val
  rw [Nat.zero_mul, Nat.zero_add]

theorem cast_y {M N : ℕ} (x : (⟨2, ![M, N]⟩ : Shape).Idx → EReal) (h) (z : Fin 1) (i : Fin M) (e : Fin N) :
    shapeCast ⟨3, ![1, M, N]⟩ x h (ix3 z i e) = x (ix2 i e) := by
  refine shapeCast_apply x h _ (ix2 i e) ?_
  change ((⟨2, ![M, N]⟩ : Shape).rowMajor (ix2 i e)).val = ((⟨3, ![1, M, N]⟩ : Shape).rowMajor (ix3 z i e)).val
  rw [Shape.rowMajor_val_two, Shape.rowMajor_val_three]
  show i.val * N + e.val = (z.val * M + i.val) * N + e.val
  rw [show z.val = 0 by omega, Nat.zero_mul, Nat.zero_add]

theorem cast_h {M N : ℕ} (x : (⟨4, ![1, 1, M, N]⟩ : Shape).Idx → EReal) (h) (i : Fin M) (e : Fin N) :
    shapeCast ⟨2, ![M, N]⟩ x h (ix2 i e) = x (ix4 0 0 i e) := by
  refine shapeCast_apply x h _ (ix4 0 0 i e) ?_
  change ((⟨4, ![1, 1, M, N]⟩ : Shape).rowMajor (ix4 0 0 i e)).val = ((⟨2, ![M, N]⟩ : Shape).rowMajor (ix2 i e)).val
  rw [Shape.rowMajor_val_two, Shape.rowMajor_val_four]
  show ((0 * 1 + 0) * M + i.val) * N + e.val = i.val * N + e.val
  rw [Nat.zero_mul, Nat.zero_add]

theorem cast_h' {M N : ℕ} (x : (⟨2, ![M, N]⟩ : Shape).Idx → EReal) (h) (y z : Fin 1) (i : Fin M) (e : Fin N) :
    shapeCast ⟨4, ![1, 1, M, N]⟩ x h (ix4 y z i e) = x (ix2 i e) := by
  refine shapeCast_apply x h _ (ix2 i e) ?_
  change ((⟨2, ![M, N]⟩ : Shape).rowMajor (ix2 i e)).val = ((⟨4, ![1, 1, M, N]⟩ : Shape).rowMajor (ix4 y z i e)).val
  rw [Shape.rowMajor_val_two, Shape.rowMajor_val_four]
  show i.val * N + e.val = ((y.val * 1 + z.val) * M + i.val) * N + e.val
  rw [show y.val = 0 by omega, show z.val = 0 by omega, Nat.zero_mul, Nat.zero_add]

theorem lt16 : FTy.bits .bf16 < FTy.bits .f32 := by decide
theorem cast_self (s : Shape) : s.ShapeCasts s := rfl

open RowFacts AttnFacts

section
variable (M N : ℕ) [RowFacts M] [RowFacts N] [AttnFacts M N]

/-- The exponentials of the clamped scores, against the value rows and the columns of ones. -/
def fWt (q : FVec Ideal ⟨4, ![1, 1, M, 64]⟩ .bf16) (k : FVec Ideal ⟨4, ![1, 1, N, 64]⟩ .bf16) (v : FVec Ideal ⟨4, ![1, 1, N, 128]⟩ .bf16) :
    FVec Ideal ⟨2, ![M, 128]⟩ .f32 :=
  matmul (dNN M N 128 wf_ev) none
    (exp (minimumf (truncf .bf16 (matmul (dNT M 64 N wf_qk) none (shapeCast ⟨2, ![M, 64]⟩ q sc_h) (shapeCast ⟨2, ![N, 64]⟩ k sc_h)
      (constant ⟨2, ![M, N]⟩ .f32 0x00000000#32)) lt16) (broadcast ⟨2, ![M, N]⟩ (Scalar.ofBits (F := Ideal) .bf16 0x42A0#16))))
    (shapeCast ⟨2, ![N, 128]⟩ v sc_v) (constant ⟨2, ![M, 128]⟩ .f32 0x00000000#32)

/-- One head. -/
def fHead (q : FVec Ideal ⟨4, ![1, 1, M, 64]⟩ .bf16) (k : FVec Ideal ⟨4, ![1, 1, N, 64]⟩ .bf16) (v : FVec Ideal ⟨4, ![1, 1, N, 128]⟩ .bf16) :
    FVec Ideal ⟨2, ![M, 64]⟩ .f32 :=
  divf (extractStridedSlice ⟨2, ![M, 64]⟩ ![0, 0] (fWt M N q k v) sl_0) (extractStridedSlice ⟨2, ![M, 64]⟩ ![0, 64] (fWt M N q k v) sl_1)

/-- The heads side by side. -/
def fCat (o : Fin 8 → FVec Ideal ⟨2, ![M, 64]⟩ .f32) : FVec Ideal ⟨2, ![M, 512]⟩ .f32 :=
  concatenate ⟨2, ![M, 512]⟩ 1 [⟨_, o 0⟩, ⟨_, o 1⟩, ⟨_, o 2⟩, ⟨_, o 3⟩, ⟨_, o 4⟩, ⟨_, o 5⟩, ⟨_, o 6⟩, ⟨_, o 7⟩] cc_h

/-- The attention's output product, residual and bias. -/
def fRes1 (o : Fin 8 → FVec Ideal ⟨2, ![M, 64]⟩ .f32) (x : FVec Ideal ⟨3, ![1, M, 512]⟩ .f32) (W : FVec Ideal ⟨2, ![512, 512]⟩ .bf16)
    (b : FVec Ideal ⟨2, ![1, 512]⟩ .f32) : FVec Ideal ⟨2, ![M, 512]⟩ .f32 :=
  addf (addf (shapeCast ⟨2, ![M, 512]⟩ x sc_x) (matmul (dNT M 512 512 wf_o) none (truncf .bf16 (fCat M o) lt16)
    (shapeCast ⟨2, ![512, 512]⟩ W (cast_self _)) (constant ⟨2, ![M, 512]⟩ .f32 0x00000000#32)))
    (broadcastTo ⟨2, ![M, 512]⟩ (shapeCast ⟨2, ![1, 512]⟩ b (cast_self _)) br_512)

/-- The mean of every row. -/
def fMean (t : FVec Ideal ⟨2, ![M, 512]⟩ .f32) : FVec Ideal ⟨2, ![M, 1]⟩ .f32 :=
  divf (shapeCast ⟨2, ![M, 1]⟩ (multiReduction .add [1] ⟨1, ![M]⟩ t 0x00000000#32 rd (.inl rfl) rfl) sc_m)
    (broadcast ⟨2, ![M, 1]⟩ (Scalar.ofBits (F := Ideal) .f32 0x44000000#32))

/-- Layer normalisation of every row. -/
def fLn (t : FVec Ideal ⟨2, ![M, 512]⟩ .f32) (g b : FVec Ideal ⟨2, ![1, 512]⟩ .f32) : FVec Ideal ⟨2, ![M, 512]⟩ .f32 :=
  addf (mulf (mulf (subf t (broadcastTo ⟨2, ![M, 512]⟩ (fMean M t) br_m))
      (broadcastTo ⟨2, ![M, 512]⟩ (rsqrt (addf (subf (fMean M (mulf t t)) (mulf (fMean M t) (fMean M t)))
        (broadcast ⟨2, ![M, 1]⟩ (Scalar.ofBits (F := Ideal) .f32 0x3727C5AC#32)))) br_m))
    (broadcastTo ⟨2, ![M, 512]⟩ (shapeCast ⟨2, ![1, 512]⟩ g (cast_self _)) br_512))
    (broadcastTo ⟨2, ![M, 512]⟩ (shapeCast ⟨2, ![1, 512]⟩ b (cast_self _)) br_512)

/-- The feed-forward part, with its residual. -/
def fRes2 (y : FVec Ideal ⟨2, ![M, 512]⟩ .f32) (W1 : FVec Ideal ⟨2, ![2048, 512]⟩ .bf16) (b1 : FVec Ideal ⟨2, ![1, 2048]⟩ .f32)
    (W2 : FVec Ideal ⟨2, ![512, 2048]⟩ .bf16) (b2 : FVec Ideal ⟨2, ![1, 512]⟩ .f32) : FVec Ideal ⟨2, ![M, 512]⟩ .f32 :=
  addf (addf y (matmul (dNT M 2048 512 wf_2) none
      (maximumf (addf (truncf .bf16 (matmul (dNT M 512 2048 wf_1) none (truncf .bf16 y lt16)
          (shapeCast ⟨2, ![2048, 512]⟩ W1 (cast_self _)) (constant ⟨2, ![M, 2048]⟩ .f32 0x00000000#32)) lt16)
        (broadcastTo ⟨2, ![M, 2048]⟩ (truncf .bf16 (shapeCast ⟨2, ![1, 2048]⟩ b1 (cast_self _)) lt16) br_2048))
        (broadcast ⟨2, ![M, 2048]⟩ (Scalar.ofBits (F := Ideal) .bf16 0x0000#16)))
      (shapeCast ⟨2, ![512, 2048]⟩ W2 (cast_self _)) (constant ⟨2, ![M, 512]⟩ .f32 0x00000000#32)))
    (broadcastTo ⟨2, ![M, 512]⟩ (shapeCast ⟨2, ![1, 512]⟩ b2 (cast_self _)) br_512)

/-- The joint projection of rows on queries, keys and values. -/
def fQkv (x : FVec Ideal ⟨2, ![M, 512]⟩ .f32) (W : FVec Ideal ⟨2, ![1536, 512]⟩ .bf16) (b : FVec Ideal ⟨2, ![1, 1536]⟩ .f32) :
    FVec Ideal ⟨2, ![M, 1536]⟩ .bf16 :=
  addf (truncf .bf16 (matmul (dNT M 512 1536 wf_qkv) none (truncf .bf16 x lt16)
      (shapeCast ⟨2, ![1536, 512]⟩ W (cast_self _)) (constant ⟨2, ![M, 1536]⟩ .f32 0x00000000#32)) lt16)
    (broadcastTo ⟨2, ![M, 1536]⟩ (truncf .bf16 (shapeCast ⟨2, ![1, 1536]⟩ b (cast_self _)) lt16) br_1536)

/-- Columns `o` to `o + 64` of the joint projection. -/
def fCut (o : ℕ) (h : (⟨2, ![M, 1536]⟩ : Shape).Slices ![0, o] ⟨2, ![M, 64]⟩) (Q : FVec Ideal ⟨2, ![M, 1536]⟩ .bf16) : FVec Ideal ⟨2, ![M, 64]⟩ .bf16 :=
  extractStridedSlice ⟨2, ![M, 64]⟩ ![0, o] Q h

/-- A head's queries, scaled. -/
def fQ (x : FVec Ideal ⟨2, ![M, 64]⟩ .bf16) : FVec Ideal ⟨4, ![1, 1, M, 64]⟩ .bf16 :=
  shapeCast ⟨4, ![1, 1, M, 64]⟩ (mulf x (broadcast ⟨2, ![M, 64]⟩ (Scalar.ofBits (F := Ideal) .bf16 0x3E00#16))) sc_h'

/-- A head's keys. -/
def fK (x : FVec Ideal ⟨2, ![M, 64]⟩ .bf16) : FVec Ideal ⟨4, ![1, 1, M, 64]⟩ .bf16 := shapeCast ⟨4, ![1, 1, M, 64]⟩ x sc_h'

/-- A head's values beside columns of ones. -/
def fV (x : FVec Ideal ⟨2, ![M, 64]⟩ .bf16) : FVec Ideal ⟨4, ![1, 1, M, 128]⟩ .bf16 :=
  shapeCast ⟨4, ![1, 1, M, 128]⟩ (concatenate ⟨2, ![M, 128]⟩ 1
    [⟨⟨2, ![M, 64]⟩, x⟩, ⟨⟨2, ![M, 64]⟩, broadcast ⟨2, ![M, 64]⟩ (Scalar.ofBits (F := Ideal) .bf16 0x3F80#16)⟩] cc_v) sc_v'

end

/-! ### Their values -/

section
variable {M N : ℕ} [RowFacts M] [RowFacts N] [AttnFacts M N]

/-- A head over real rows: the weighted average of the value rows. -/
theorem fHead_real {q : FVec Ideal ⟨4, ![1, 1, M, 64]⟩ .bf16} {k : FVec Ideal ⟨4, ![1, 1, N, 64]⟩ .bf16} {v : FVec Ideal ⟨4, ![1, 1, N, 128]⟩ .bf16}
    {Q : Fin N → Fin 1536 → ℝ} {h : Fin 8} {row : Fin M → Fin N}
    (hq : ∀ r d, q (ix4 0 0 r d) = ((Q (row r) (col 0 h d) * (1 / 8) : ℝ) : EReal))
    (hk : ∀ s d, k (ix4 0 0 s d) = ((Q s (col 1 h d) : ℝ) : EReal))
    (hv : ∀ s (d : Fin 64), v (ix4 0 0 s ⟨d.val, by omega⟩) = ((Q s (col 2 h d) : ℝ) : EReal))
    (h1 : ∀ s (d : Fin 64), v (ix4 0 0 s ⟨64 + d.val, by omega⟩) = ((1 : ℝ) : EReal))
    (hlow : ∀ a b, score Q h a b ≤ 80) :
    Is2 (fHead M N q k v) (fun r d => head Q h (row r) d) := by
  have hs : ∀ (r : Fin M) (s : Fin N), ∑ d, Q (row r) (col 0 h d) * (1 / 8) * Q s (col 1 h d) = score Q h (row r) s := by
    intro r s
    rw [score, Finset.sum_mul]
    exact Finset.sum_congr rfl fun d _ => by ring
  have hW : ∀ (r : Fin M) (d : Fin 128), fWt M N q k v (ix2 r d) = ∑ s : Fin N, ((Real.exp (score Q h (row r) s) : ℝ) : EReal) * v (ix4 0 0 s d) := by
    intro r d
    rw [fWt, dNN_apply]
    refine (congrArg₂ (· + ·) bits_zero rfl).trans ((zero_add _).trans (Finset.sum_congr rfl fun s _ => congrArg₂ (· * ·) ?_ (cast_h _ _ _ _)))
    change Ideal.exp (min (matmul (F := Ideal) (dNT M 64 N wf_qk) none _ _ _ (ix2 r s)) _) = _
    rw [dNT_apply]
    simp only [cast_h, hq, hk, ← EReal.coe_mul, ← coe_sum, hs]
    rw [show (constant (F := Ideal) ⟨2, ![M, N]⟩ .f32 0x00000000#32) (ix2 r s) = 0 from bits_zero, zero_add]
    rw [show broadcast ⟨2, ![M, N]⟩ (Scalar.ofBits (F := Ideal) .bf16 0x42A0#16) (ix2 r s) = ((80 : ℝ) : EReal) from bits_80', coe_min, min_eq_left (hlow _ _), exp_real]
  intro r d
  have e0 : extractStridedSlice ⟨2, ![M, 64]⟩ ![0, 0] (fWt M N q k v) sl_0 (ix2 r d) = fWt M N q k v (ix2 r ⟨d.val, by omega⟩) :=
    extractStridedSlice_apply _ _ _ _ _ fun a => by
      match a with
      | ⟨0, _⟩ => exact (Nat.zero_add _).symm
      | ⟨1, _⟩ => exact (Nat.zero_add _).symm
  have e1 : extractStridedSlice ⟨2, ![M, 64]⟩ ![0, 64] (fWt M N q k v) sl_1 (ix2 r d) = fWt M N q k v (ix2 r ⟨64 + d.val, by omega⟩) :=
    extractStridedSlice_apply _ _ _ _ _ fun a => by
      match a with
      | ⟨0, _⟩ => exact (Nat.zero_add _).symm
      | ⟨1, _⟩ => rfl
  refine (congrArg₂ Ideal.div e0 e1).trans ?_
  rw [hW, hW]
  simp only [hv, h1, ← EReal.coe_mul, ← coe_sum, mul_one]
  exact div_real _ _ (expSum_pos Q h (row r)).ne'

theorem fCat_apply (o : Fin 8 → FVec Ideal ⟨2, ![M, 64]⟩ .f32) (r : Fin M) (e : Fin 512) : fCat M o (ix2 r e) = o (hi e) (ix2 r (lo e)) := by
  refine concatenate_ofFn_apply (t := ⟨2, ![M, 512]⟩) (s₁ := ⟨2, ![M, 64]⟩) 1 o (cc_h (M := M)) rfl 64 rfl (ix2 r e) (hi e) rfl (ix2 r (lo e)) rfl fun b hb => ?_
  match b with
  | ⟨0, _⟩ => rfl
  | ⟨1, _⟩ => exact absurd rfl hb

theorem fRes1_real {o : Fin 8 → FVec Ideal ⟨2, ![M, 64]⟩ .f32} {x : FVec Ideal ⟨3, ![1, M, 512]⟩ .f32} {W : FVec Ideal ⟨2, ![512, 512]⟩ .bf16}
    {b : FVec Ideal ⟨2, ![1, 512]⟩ .f32} {O : Fin M → Fin 512 → ℝ} {X : Fin M → Fin 512 → ℝ} {w : Fin 512 → Fin 512 → ℝ} {c : Fin 512 → ℝ}
    (ho : ∀ r e, o (hi e) (ix2 r (lo e)) = ((O r e : ℝ) : EReal)) (hx : Is3 x (fun _ => X)) (hW : Is2 W w) (hb : Is2 b (fun _ => c)) :
    Is2 (fRes1 M o x W b) (fun r e => X r e + lin O w c r e) := by
  intro r e
  change (shapeCast _ x sc_x (ix2 r e) + matmul (F := Ideal) (dNT M 512 512 wf_o) none _ _ _ (ix2 r e) : EReal) + broadcastTo _ _ br_512 (ix2 r e) = _
  rw [dNT_apply, row_apply, cast_x, shapeCast_self, shapeCast_self, hx, hb, show (constant (F := Ideal) ⟨2, ![M, 512]⟩ .f32 0x00000000#32) (ix2 r e) = 0 from bits_zero, zero_add]
  have hc : ∀ k : Fin 512, truncf .bf16 (fCat M o) lt16 (ix2 r k) = ((O r k : ℝ) : EReal) :=
    fun k => (fCat_apply o r k).trans (ho r k)
  simp only [hc, hW _ _, ← EReal.coe_mul, ← coe_sum, ← EReal.coe_add, lin, add_assoc]

theorem fMean_real {t : FVec Ideal ⟨2, ![M, 512]⟩ .f32} {T : Fin M → Fin 512 → ℝ} (ht : Is2 t T) (r : Fin M) (z : Fin 1) :
    fMean M t (ix2 r z) = (((∑ e, T r e) / 512 : ℝ) : EReal) := by
  pointwise [fMean, cast_m]
  simp only [ht _ _, bits_512, ← coe_sum, div_real _ _ (show (512 : ℝ) ≠ 0 by norm_num)]

theorem fLn_real {t : FVec Ideal ⟨2, ![M, 512]⟩ .f32} {g b : FVec Ideal ⟨2, ![1, 512]⟩ .f32} {T : Fin M → Fin 512 → ℝ}
    {G B : Fin 512 → ℝ} (ht : Is2 t T) (hg : Is2 g (fun _ => G)) (hb : Is2 b (fun _ => B)) :
    Is2 (fLn M t g b) (fun r => ln G B (T r)) := by
  have hm := fMean_real ht
  have hq : ∀ r z, fMean M (mulf t t) (ix2 r z) = (((∑ e, T r e * T r e) / 512 : ℝ) : EReal) :=
    fMean_real (T := fun r e => T r e * T r e) fun i j => by rw [show mulf t t (ix2 i j) = t (ix2 i j) * t (ix2 i j) from rfl, ht, ← EReal.coe_mul]
  intro r e
  have hv := var_eps_pos (T r)
  have hi : rsqrt (addf (subf (fMean M (mulf t t)) (mulf (fMean M t) (fMean M t))) (broadcast ⟨2, ![M, 1]⟩ (Scalar.ofBits (F := Ideal) .f32 0x3727C5AC#32))) (ix2 r 0)
      = (((√(var (T r) + eps))⁻¹ : ℝ) : EReal) := by
    change Ideal.rsqrt ((fMean M (mulf t t) (ix2 r 0) - fMean M t (ix2 r 0) * fMean M t (ix2 r 0)) + Scalar.ofBits (F := Ideal) .f32 0x3727C5AC#32) = _
    rw [hm, hq, show Scalar.ofBits (F := Ideal) .f32 0x3727C5AC#32 = ((eps : ℝ) : EReal) from bits_eps, ← EReal.coe_mul, ← EReal.coe_sub, ← EReal.coe_add]
    have := var_eq (T r)
    rw [mean] at this
    rw [this, rsqrt_real _ hv]
  change (t (ix2 r e) - broadcastTo _ (fMean M t) br_m (ix2 r e)) * broadcastTo _ _ br_m (ix2 r e) * broadcastTo _ _ br_512 (ix2 r e) + broadcastTo _ _ br_512 (ix2 r e) = _
  rw [colm_apply, colm_apply, row_apply, row_apply, hi, hm, shapeCast_self, shapeCast_self, ht, hg, hb, ← EReal.coe_sub, ← EReal.coe_mul, ← EReal.coe_mul, ← EReal.coe_add]
  refine congrArg _ ?_
  show _ = (T r e - mean (T r)) / √(var (T r) + eps) * G e + B e
  rw [mean, div_eq_mul_inv (T r e - _)]

theorem fRes2_real {y : FVec Ideal ⟨2, ![M, 512]⟩ .f32} {W1 : FVec Ideal ⟨2, ![2048, 512]⟩ .bf16} {b1 : FVec Ideal ⟨2, ![1, 2048]⟩ .f32}
    {W2 : FVec Ideal ⟨2, ![512, 2048]⟩ .bf16} {b2 : FVec Ideal ⟨2, ![1, 512]⟩ .f32} {Y : Fin M → Fin 512 → ℝ}
    {w1 : Fin 2048 → Fin 512 → ℝ} {v1 : Fin 2048 → ℝ} {w2 : Fin 512 → Fin 2048 → ℝ} {v2 : Fin 512 → ℝ}
    (hy : Is2 y Y) (hW1 : Is2 W1 w1) (hb1 : Is2 b1 (fun _ => v1)) (hW2 : Is2 W2 w2) (hb2 : Is2 b2 (fun _ => v2)) :
    Is2 (fRes2 M y W1 b1 W2 b2) (fun r e => Y r e + lin (fun s f => max (lin Y w1 v1 s f) 0) w2 v2 r e) := by
  intro r e
  change (y (ix2 r e) + matmul (F := Ideal) (dNT M 2048 512 wf_2) none _ _ _ (ix2 r e) : EReal) + broadcastTo _ _ br_512 (ix2 r e) = _
  rw [dNT_apply, row_apply, shapeCast_self b2, shapeCast_self W2, hy, hb2, show (constant (F := Ideal) ⟨2, ![M, 512]⟩ .f32 0x00000000#32) (ix2 r e) = 0 from bits_zero, zero_add]
  show _ = ((Y r e + (∑ f, max (lin Y w1 v1 r f) 0 * w2 e f + v2 e) : ℝ) : EReal)
  rw [← add_assoc, EReal.coe_add, EReal.coe_add, coe_sum]
  refine congrArg₂ (· + ·) (congrArg₂ (· + ·) rfl (Finset.sum_congr rfl fun f _ => ?_)) rfl
  rw [hW2, EReal.coe_mul]
  refine congrArg₂ (· * ·) ?_ rfl
  change max (matmul (F := Ideal) (dNT M 512 2048 wf_1) none _ _ _ (ix2 r f) + broadcastTo _ _ br_2048 (ix2 r f)) (Scalar.ofBits (F := Ideal) .bf16 0x0000#16) = _
  rw [dNT_apply, row_apply, shapeCast_self W1, shapeCast_self b1, show Scalar.ofBits (F := Ideal) .bf16 0x0000#16 = ((0 : ℝ) : EReal) from bits_zero16, show (constant (F := Ideal) ⟨2, ![M, 2048]⟩ .f32 0x00000000#32) (ix2 r f) = 0 from bits_zero, zero_add]
  change max ((∑ k : Fin 512, y (ix2 r k) * W1 (ix2 f k)) + b1 (ix2 0 f)) _ = _
  simp only [hy _ _, hW1 _ _, hb1 _ _, ← EReal.coe_mul, ← coe_sum, ← EReal.coe_add, ← EReal.coe_zero, coe_max, lin]

theorem fQkv_real {x : FVec Ideal ⟨2, ![M, 512]⟩ .f32} {W : FVec Ideal ⟨2, ![1536, 512]⟩ .bf16} {b : FVec Ideal ⟨2, ![1, 1536]⟩ .f32}
    {X : Fin M → Fin 512 → ℝ} {w : Fin 1536 → Fin 512 → ℝ} {c : Fin 1536 → ℝ} (hx : Is2 x X) (hW : Is2 W w) (hb : Is2 b (fun _ => c)) :
    Is2 (fQkv M x W b) (lin X w c) := by
  intro r e
  change (matmul (F := Ideal) (dNT M 512 1536 wf_qkv) none _ _ _ (ix2 r e) : EReal) + broadcastTo _ _ br_1536 (ix2 r e) = _
  rw [dNT_apply, row_apply, shapeCast_self, shapeCast_self, show (constant (F := Ideal) ⟨2, ![M, 1536]⟩ .f32 0x00000000#32) (ix2 r e) = 0 from bits_zero, zero_add]
  change (∑ k : Fin 512, x (ix2 r k) * W (ix2 e k)) + b (ix2 0 e) = _
  simp only [hx _ _, hW _ _, hb _ _, ← EReal.coe_mul, ← coe_sum, ← EReal.coe_add, lin]

theorem fCut_apply (o : ℕ) (h) (Q : FVec Ideal ⟨2, ![M, 1536]⟩ .bf16) (r : Fin M) (d : Fin 64) (c : Fin 1536) (hc : c.val = o + d.val) :
    fCut M o h Q (ix2 r d) = Q (ix2 r c) :=
  extractStridedSlice_apply _ _ _ _ _ fun a => by
    match a with
    | ⟨0, _⟩ => exact (Nat.zero_add _).symm
    | ⟨1, _⟩ => exact hc

theorem fQ_apply (x : FVec Ideal ⟨2, ![M, 64]⟩ .bf16) (y z : Fin 1) (r : Fin M) (d : Fin 64) :
    fQ M x (ix4 y z r d) = x (ix2 r d) * ((1 / 8 : ℝ) : EReal) := by
  rw [fQ, cast_h']
  exact congrArg _ bits_eighth16

theorem fK_apply (x : FVec Ideal ⟨2, ![M, 64]⟩ .bf16) (y z : Fin 1) (r : Fin M) (d : Fin 64) : fK M x (ix4 y z r d) = x (ix2 r d) := by
  rw [fK, cast_h']

theorem fV_left (x : FVec Ideal ⟨2, ![M, 64]⟩ .bf16) (y z : Fin 1) (r : Fin M) (d : Fin 64) : fV M x (ix4 y z r ⟨d.val, by omega⟩) = x (ix2 r d) := by
  rw [fV, cast_h']
  refine concatenate_pair_apply_left (t := ⟨2, ![M, 128]⟩) (s₁ := ⟨2, ![M, 64]⟩) (s₂ := ⟨2, ![M, 64]⟩) 1 _ _ _ _ rfl (ix2 r d) fun b => ?_
  match b with
  | ⟨0, _⟩ => rfl
  | ⟨1, _⟩ => rfl

theorem fV_right (x : FVec Ideal ⟨2, ![M, 64]⟩ .bf16) (y z : Fin 1) (r : Fin M) (d : Fin 64) : fV M x (ix4 y z r ⟨64 + d.val, by omega⟩) = ((1 : ℝ) : EReal) := by
  rw [fV, cast_h']
  refine (concatenate_pair_apply_right (t := ⟨2, ![M, 128]⟩) (s₁ := ⟨2, ![M, 64]⟩) (s₂ := ⟨2, ![M, 64]⟩) 1 _ _ _ _ rfl rfl (ix2 r d) (fun b hb => ?_) ?_).trans bits_one16
  · match b with
    | ⟨0, _⟩ => rfl
    | ⟨1, _⟩ => exact absurd rfl hb
  · exact Nat.add_comm _ _

end

end Cert.Net
-- ==== Proof.KerBlock.lean ====
/- A block of one kernel layer: the heads cut out of a block, a whole layer's rows, and the heads written side by side. -/
module

public import proofs.«01_k».proof.Proof.KerLayer
public import Idealize.ShloMosaic.Lib.Pipeline.ValueKit

@[expose] public section

set_option maxRecDepth 16384

noncomputable section

namespace Cert.Net

open Idealize.ShloMosaic

instance rowFacts512 : RowFacts 512 where
  wf_qkv := by decide
  wf_o := by decide
  wf_1 := by decide
  wf_2 := by decide
  sc_x := by decide
  sc_y := by decide
  sc_h := by decide
  sc_v := by decide
  sc_h' := by decide
  sc_v' := by decide
  sc_m := by decide
  br_m := by decide
  br_512 := by decide
  br_2048 := by decide
  br_1536 := by decide
  rd := by decide
  sl_0 := by decide
  sl_1 := by decide
  cc_h := by decide
  cc_v := by decide

instance rowFacts1024 : RowFacts 1024 where
  wf_qkv := by decide
  wf_o := by decide
  wf_1 := by decide
  wf_2 := by decide
  sc_x := by decide
  sc_y := by decide
  sc_h := by decide
  sc_v := by decide
  sc_h' := by decide
  sc_v' := by decide
  sc_m := by decide
  br_m := by decide
  br_512 := by decide
  br_2048 := by decide
  br_1536 := by decide
  rd := by decide
  sl_0 := by decide
  sl_1 := by decide
  cc_h := by decide
  cc_v := by decide

instance rowFacts2048 : RowFacts 2048 where
  wf_qkv := by decide
  wf_o := by decide
  wf_1 := by decide
  wf_2 := by decide
  sc_x := by decide
  sc_y := by decide
  sc_h := by decide
  sc_v := by decide
  sc_h' := by decide
  sc_v' := by decide
  sc_m := by decide
  br_m := by decide
  br_512 := by decide
  br_2048 := by decide
  br_1536 := by decide
  rd := by decide
  sl_0 := by decide
  sl_1 := by decide
  cc_h := by decide
  cc_v := by decide

instance attnFacts512 : AttnFacts 512 2048 where
  wf_qk := by decide
  wf_ev := by decide

instance attnFacts1024 : AttnFacts 1024 1024 where
  wf_qk := by decide
  wf_ev := by decide

/-- A small number survives being written as a 32-bit word. -/
theorem w32 {n m : ℕ} (i : Fin n) (hm : n = m) (h : m < 4294967296) : (BitVec.ofNat 32 i.val).toNat = i.val := by
  have := i.isLt
  rw [BitVec.toNat_ofNat, Nat.mod_eq_of_lt (by omega)]

/-! ### A block's place in its array -/

theorem pos4 {m0 m1 m2 m3 n0 n1 n2 n3 : ℕ} {emb : (⟨4, ![m0, m1, m2, m3]⟩ : Shape).Idx → (⟨4, ![n0, n1, n2, n3]⟩ : Shape).Idx} {I : Fin 4 → ℕ}
    (h : ∀ y a, (emb y a).val = I a * ![m0, m1, m2, m3] a + (y a).val) {i0 i1 i2 i3 : ℕ} (hI : I = ![i0, i1, i2, i3])
    {y0 : Fin m0} {y1 : Fin m1} {y2 : Fin m2} {y3 : Fin m3} {j0 : Fin n0} {j1 : Fin n1} {j2 : Fin n2} {j3 : Fin n3}
    (h0 : i0 * m0 + y0.val = j0.val) (h1 : i1 * m1 + y1.val = j1.val) (h2 : i2 * m2 + y2.val = j2.val) (h3 : i3 * m3 + y3.val = j3.val) :
    emb (ix4 y0 y1 y2 y3) = ix4 j0 j1 j2 j3 := by
  subst hI
  funext a
  match a with
  | ⟨0, _⟩ => exact Fin.ext ((h _ 0).trans h0)
  | ⟨1, _⟩ => exact Fin.ext ((h _ 1).trans h1)
  | ⟨2, _⟩ => exact Fin.ext ((h _ 2).trans h2)
  | ⟨3, _⟩ => exact Fin.ext ((h _ 3).trans h3)

theorem pos3 {m0 m1 m2 n0 n1 n2 : ℕ} {emb : (⟨3, ![m0, m1, m2]⟩ : Shape).Idx → (⟨3, ![n0, n1, n2]⟩ : Shape).Idx} {I : Fin 3 → ℕ}
    (h : ∀ y a, (emb y a).val = I a * ![m0, m1, m2] a + (y a).val) {i0 i1 i2 : ℕ} (hI : I = ![i0, i1, i2])
    {y0 : Fin m0} {y1 : Fin m1} {y2 : Fin m2} {j0 : Fin n0} {j1 : Fin n1} {j2 : Fin n2}
    (h0 : i0 * m0 + y0.val = j0.val) (h1 : i1 * m1 + y1.val = j1.val) (h2 : i2 * m2 + y2.val = j2.val) :
    emb (ix3 y0 y1 y2) = ix3 j0 j1 j2 := by
  subst hI
  funext a
  match a with
  | ⟨0, _⟩ => exact Fin.ext ((h _ 0).trans h0)
  | ⟨1, _⟩ => exact Fin.ext ((h _ 1).trans h1)
  | ⟨2, _⟩ => exact Fin.ext ((h _ 2).trans h2)

theorem pos2 {m0 m1 : ℕ} {emb : (⟨2, ![m0, m1]⟩ : Shape).Idx → (⟨2, ![m0, m1]⟩ : Shape).Idx} {I : Fin 2 → ℕ}
    (h : ∀ y a, (emb y a).val = I a * ![m0, m1] a + (y a).val) (hI : I = ![0, 0]) (y) : emb y = y := by
  subst hI
  funext a
  match a with
  | ⟨0, _⟩ => exact Fin.ext ((h _ 0).trans (Nat.add_comm _ _ |>.trans (by rw [show (![0, 0] : Fin 2 → ℕ) 0 = 0 from rfl, Nat.zero_mul]; rfl)))
  | ⟨1, _⟩ => exact Fin.ext ((h _ 1).trans (Nat.add_comm _ _ |>.trans (by rw [show (![0, 0] : Fin 2 → ℕ) 1 = 0 from rfl, Nat.zero_mul]; rfl)))

/-! ### Heads of a block -/

theorem head_inb (M D : ℕ) (h : Fin 8) :
    ∀ a, (![0, h.val, 0, 0] : Fin 4 → ℕ) a + (⟨4, ![1, 1, M, D]⟩ : Shape).size a ≤ (⟨4, ![1, 8, M, D]⟩ : Shape).size a := by
  intro a
  match a with
  | ⟨0, _⟩ => exact Nat.le_refl 1
  | ⟨1, _⟩ => exact h.isLt
  | ⟨2, _⟩ => exact Nat.le_of_eq (Nat.zero_add M)
  | ⟨3, _⟩ => exact Nat.le_of_eq (Nat.zero_add D)

/-- The part of a block that holds head `h`. -/
abbrev hrect (M D : ℕ) (h : Fin 8) : Rect ⟨4, ![1, 8, M, D]⟩ :=
  Rect.unit (s := ⟨4, ![1, 8, M, D]⟩) ![0, h.val, 0, 0] (⟨4, ![1, 1, M, D]⟩ : Shape).size (head_inb M D h)

/-- Head `h` of a block. -/
def hd {M D : ℕ} (x : FVec Ideal ⟨4, ![1, 8, M, D]⟩ .bf16) (h : Fin 8) : FVec Ideal ⟨4, ![1, 1, M, D]⟩ .bf16 := View.ld (Val := Elt Ideal) (e' := .bf16) x (hrect M D h)

theorem hrect_emb (M D : ℕ) (h : Fin 8) (y z : Fin 1) (r : Fin M) (d : Fin D) : (hrect M D h).emb (ix4 y z r d) = ix4 0 h r d := by
  funext a
  match a with
  | ⟨0, _⟩ => exact Fin.ext (show 0 + 1 * y.val = 0 by omega)
  | ⟨1, _⟩ => exact Fin.ext (show h.val + 1 * z.val = h.val by omega)
  | ⟨2, _⟩ => exact Fin.ext (show 0 + 1 * r.val = r.val by omega)
  | ⟨3, _⟩ => exact Fin.ext (show 0 + 1 * d.val = d.val by omega)

theorem hd_apply {M D : ℕ} (x : FVec Ideal ⟨4, ![1, 8, M, D]⟩ .bf16) (h : Fin 8) (y z : Fin 1) (r : Fin M) (d : Fin D) :
    hd x h (ix4 y z r d) = x (ix4 0 h r d) := congrArg x (hrect_emb M D h y z r d)

/-- A block written head by head holds at head `h` what was written for `h`. -/
theorem canon_heads {M D : ℕ} (w : Fin 8 → FVec Ideal ⟨4, ![1, 1, M, D]⟩ .bf16) (h : Fin 8) (y : Fin 1) (r : Fin M) (d : Fin D) (L : List (Fin 8)) (hL : h ∈ L) :
    View.canon (Val := Elt Ideal) (e := .bf16) (L.map fun k => (⟨hrect M D k, w k⟩ : View.Piece (Elt Ideal) ⟨4, ![1, 8, M, D]⟩ .bf16)) (ix4 y h r d) = w h (ix4 0 0 r d) := by
  have hy : ix4 y h r d = (hrect M D h).emb (ix4 0 0 r d) := by rw [hrect_emb, Subsingleton.elim y 0]
  induction L with
  | nil => exact absurd hL List.not_mem_nil
  | cons k L ih =>
    rw [List.map_cons]
    by_cases hk : h = k
    · subst hk
      rw [hy]
      exact View.canon_cons_emb _ _ _ _
    · rw [View.canon_cons_of_not_mem]
      · exact ih ((List.mem_cons.1 hL).resolve_left hk)
      · intro hm
        have := (Rect.mem_set_unit (inb := head_inb M D k)).1 hm 1
        have h1 : k.val ≤ h.val := this.1
        have h2 : h.val < k.val + 1 := this.2
        exact hk (Fin.ext (by omega))

/-! ### A whole layer's rows -/

/-- One layer's parameters as a kernel reads them. -/
structure KWts where
  Wo : FVec Ideal ⟨2, ![512, 512]⟩ .bf16
  bo : FVec Ideal ⟨2, ![1, 512]⟩ .f32
  W1 : FVec Ideal ⟨2, ![2048, 512]⟩ .bf16
  b1 : FVec Ideal ⟨2, ![1, 2048]⟩ .f32
  W2 : FVec Ideal ⟨2, ![512, 2048]⟩ .bf16
  b2 : FVec Ideal ⟨2, ![1, 512]⟩ .f32
  g1 : FVec Ideal ⟨2, ![1, 512]⟩ .f32
  be1 : FVec Ideal ⟨2, ![1, 512]⟩ .f32
  g2 : FVec Ideal ⟨2, ![1, 512]⟩ .f32
  be2 : FVec Ideal ⟨2, ![1, 512]⟩ .f32

structure KWts.Is (w : KWts) (p : Par) : Prop where
  Wo : Is2 w.Wo p.Wo
  bo : Is2 w.bo fun _ => p.bo
  W1 : Is2 w.W1 p.W1
  b1 : Is2 w.b1 fun _ => p.b1
  W2 : Is2 w.W2 p.W2
  b2 : Is2 w.b2 fun _ => p.b2
  g1 : Is2 w.g1 fun _ => p.g1
  be1 : Is2 w.be1 fun _ => p.be1
  g2 : Is2 w.g2 fun _ => p.g2
  be2 : Is2 w.be2 fun _ => p.be2

section
variable (M N : ℕ) [RowFacts M] [RowFacts N] [AttnFacts M N]

/-- A block's output rows. -/
def fOut (q : FVec Ideal ⟨4, ![1, 8, M, 64]⟩ .bf16) (k : FVec Ideal ⟨4, ![1, 8, N, 64]⟩ .bf16) (v : FVec Ideal ⟨4, ![1, 8, N, 128]⟩ .bf16)
    (x : FVec Ideal ⟨3, ![1, M, 512]⟩ .f32) (w : KWts) : FVec Ideal ⟨2, ![M, 512]⟩ .f32 :=
  fLn M (fRes2 M (fLn M (fRes1 M (fun h => fHead M N (hd q h) (hd k h) (hd v h)) x w.Wo w.bo) w.g1 w.be1) w.W1 w.b1 w.W2 w.b2) w.g2 w.be2

variable {M N}

/-- What a block's queries, keys, values and rows stand for: rows `row` of the joint projection `Q` and of `X`. -/
structure BlkIs (row : Fin M → Fin N) (Q : Fin N → Fin 1536 → ℝ) (X : Fin N → Fin 512 → ℝ) (q : FVec Ideal ⟨4, ![1, 8, M, 64]⟩ .bf16)
    (k : FVec Ideal ⟨4, ![1, 8, N, 64]⟩ .bf16) (v : FVec Ideal ⟨4, ![1, 8, N, 128]⟩ .bf16) (x : FVec Ideal ⟨3, ![1, M, 512]⟩ .f32) : Prop where
  hq : ∀ h r d, q (ix4 0 h r d) = ((Q (row r) (col 0 h d) * (1 / 8) : ℝ) : EReal)
  hk : ∀ h s d, k (ix4 0 h s d) = ((Q s (col 1 h d) : ℝ) : EReal)
  hv : ∀ h s (d : Fin 64), v (ix4 0 h s ⟨d.val, by omega⟩) = ((Q s (col 2 h d) : ℝ) : EReal)
  one : ∀ h s (d : Fin 64), v (ix4 0 h s ⟨64 + d.val, by omega⟩) = ((1 : ℝ) : EReal)
  hx : ∀ r e, x (ix3 0 r e) = ((X (row r) e : ℝ) : EReal)
  low : ∀ h a b, score Q h a b ≤ 80

theorem fOut_real {row : Fin M → Fin N} {Q : Fin N → Fin 1536 → ℝ} {X : Fin N → Fin 512 → ℝ} {q : FVec Ideal ⟨4, ![1, 8, M, 64]⟩ .bf16}
    {k : FVec Ideal ⟨4, ![1, 8, N, 64]⟩ .bf16} {v : FVec Ideal ⟨4, ![1, 8, N, 128]⟩ .bf16} {x : FVec Ideal ⟨3, ![1, M, 512]⟩ .f32} {w : KWts} {p : Par}
    (hb : BlkIs row Q X q k v x) (hw : w.Is p) : Is2 (fOut M N q k v x w) (fun r => outOf p X Q (row r)) := by
  have ho : ∀ r e, fHead M N (hd q (hi e)) (hd k (hi e)) (hd v (hi e)) (ix2 r (lo e)) = ((attn Q (row r) e : ℝ) : EReal) := fun r e =>
    fHead_real (fun r d => (hd_apply q _ _ _ r d).trans (hb.hq _ r d)) (fun s d => (hd_apply k _ _ _ s d).trans (hb.hk _ s d))
      (fun s d => (hd_apply v _ _ _ s _).trans (hb.hv _ s d)) (fun s d => (hd_apply v _ _ _ s _).trans (hb.one _ s d)) (hb.low _) r (lo e)
  have hx : Is3 x (fun _ r => X (row r)) := fun z r e => by rw [Subsingleton.elim z 0]; exact hb.hx r e
  exact fLn_real (fRes2_real (fLn_real (fRes1_real ho hx hw.Wo hw.bo) hw.g1 hw.be1) hw.W1 hw.b1 hw.W2 hw.b2) hw.g2 hw.be2

/-- What the values' array holds at a head: the values, then ones. -/
def vext {N : ℕ} (Q : Fin N → Fin 1536 → ℝ) (h : Fin 8) (s : Fin N) (d : Fin 128) : ℝ := if hd : d.val < 64 then Q s (col 2 h ⟨d.val, hd⟩) else 1

theorem vext_left {N : ℕ} (Q : Fin N → Fin 1536 → ℝ) (h : Fin 8) (s : Fin N) (d : Fin 64) : vext Q h s ⟨d.val, by omega⟩ = Q s (col 2 h d) := dif_pos d.isLt

theorem vext_right {N : ℕ} (Q : Fin N → Fin 1536 → ℝ) (h : Fin 8) (s : Fin N) (d : Fin 64) : vext Q h s ⟨64 + d.val, by omega⟩ = 1 := dif_neg (by simp)

/-- What the arrays of queries, keys and values stand for: the joint projection `Q`, with the queries scaled. -/
structure ArrIs {N : ℕ} (Q : Fin 4 → Fin N → Fin 1536 → ℝ) (q k : FVec Ideal ⟨4, ![4, 8, N, 64]⟩ .bf16) (v : FVec Ideal ⟨4, ![4, 8, N, 128]⟩ .bf16) : Prop where
  hq : ∀ i h s d, q (ix4 i h s d) = ((Q i s (col 0 h d) * (1 / 8) : ℝ) : EReal)
  hk : ∀ i h s d, k (ix4 i h s d) = ((Q i s (col 1 h d) : ℝ) : EReal)
  hv : ∀ i h s d, v (ix4 i h s d) = ((vext (Q i) h s d : ℝ) : EReal)

end

/-! ### The next layer's projection, cut into heads -/

section
variable {M : ℕ} [RowFacts M]

theorem cut_facts (o : ℕ) (ho : o + 64 ≤ 1536) : (⟨2, ![M, 1536]⟩ : Shape).Slices ![0, o] ⟨2, ![M, 64]⟩ :=
  ⟨rfl, fun a => match a with
    | ⟨0, _⟩ => Nat.le_of_eq (Nat.zero_add M)
    | ⟨1, _⟩ => ho⟩

variable (Z : FVec Ideal ⟨2, ![M, 1536]⟩ .bf16)

/-- Head `h` of the next layer's queries. -/
def tQ (h : Fin 8) : FVec Ideal ⟨4, ![1, 1, M, 64]⟩ .bf16 := fQ M (fCut M (64 * h.val) (cut_facts _ (by omega)) Z)

/-- Head `h` of the next layer's keys. -/
def tK (h : Fin 8) : FVec Ideal ⟨4, ![1, 1, M, 64]⟩ .bf16 := fK M (fCut M (512 + 64 * h.val) (cut_facts _ (by omega)) Z)

/-- Head `h` of the next layer's values. -/
def tV (h : Fin 8) : FVec Ideal ⟨4, ![1, 1, M, 128]⟩ .bf16 := fV M (fCut M (1024 + 64 * h.val) (cut_facts _ (by omega)) Z)

/-- The heads, last first. -/
abbrev heads8 : List (Fin 8) := [7, 6, 5, 4, 3, 2, 1, 0]

theorem mem_heads8 (h : Fin 8) : h ∈ heads8 := by revert h; decide

variable {Z} {N : ℕ} {Q : Fin N → Fin 1536 → ℝ} {row : Fin M → Fin N}

theorem canon_q (hZ : Is2 Z (fun r => Q (row r))) (y : Fin 1) (h : Fin 8) (r : Fin M) (d : Fin 64) :
    View.canon (Val := Elt Ideal) (e := .bf16) (heads8.map fun k => (⟨hrect M 64 k, tQ Z k⟩ : View.Piece (Elt Ideal) ⟨4, ![1, 8, M, 64]⟩ .bf16)) (ix4 y h r d) = ((Q (row r) (col 0 h d) * (1 / 8) : ℝ) : EReal) := by
  rw [canon_heads (tQ Z) h y r d heads8 (mem_heads8 h), tQ, fQ_apply,
    fCut_apply _ _ Z r d (col 0 h d) (show 0 * 512 + h.val * 64 + d.val = _ by omega), hZ]
  exact (EReal.coe_mul _ _).symm

theorem canon_k (hZ : Is2 Z (fun r => Q (row r))) (y : Fin 1) (h : Fin 8) (r : Fin M) (d : Fin 64) :
    View.canon (Val := Elt Ideal) (e := .bf16) (heads8.map fun k => (⟨hrect M 64 k, tK Z k⟩ : View.Piece (Elt Ideal) ⟨4, ![1, 8, M, 64]⟩ .bf16)) (ix4 y h r d) = ((Q (row r) (col 1 h d) : ℝ) : EReal) := by
  rw [canon_heads (tK Z) h y r d heads8 (mem_heads8 h), tK, fK_apply,
    fCut_apply _ _ Z r d (col 1 h d) (show 1 * 512 + h.val * 64 + d.val = _ by omega), hZ]

theorem canon_v (hZ : Is2 Z (fun r => Q (row r))) (y : Fin 1) (h : Fin 8) (r : Fin M) (d : Fin 128) :
    View.canon (Val := Elt Ideal) (e := .bf16) (heads8.map fun k => (⟨hrect M 128 k, tV Z k⟩ : View.Piece (Elt Ideal) ⟨4, ![1, 8, M, 128]⟩ .bf16)) (ix4 y h r d) = ((vext Q h (row r) d : ℝ) : EReal) := by
  rw [canon_heads (tV Z) h y r d heads8 (mem_heads8 h), tV]
  by_cases hd : d.val < 64
  · obtain ⟨d', rfl⟩ : ∃ d' : Fin 64, d = ⟨d'.val, Nat.lt_trans d'.isLt (by decide)⟩ := ⟨⟨d.val, hd⟩, rfl⟩
    rw [fV_left, fCut_apply _ _ Z r d' (col 2 h d') (show 2 * 512 + h.val * 64 + d'.val = _ by omega), hZ, vext_left]
  · obtain ⟨d', rfl⟩ : ∃ d' : Fin 64, d = ⟨64 + d'.val, Nat.add_lt_add_left d'.isLt 64⟩ := ⟨⟨d.val - 64, by omega⟩, Fin.ext (show d.val = 64 + (d.val - 64) by omega)⟩
    rw [fV_right, vext_right]

end

end Cert.Net
-- ==== Proof.KerHost.lean ====
/- What the operations between the kernel calls leave: the layer's weights, cut out of the stacks. -/
module

public import proofs.«01_k».proof.Proof.KerBlock
public import proofs.«01_k».proof.Proof.Pre
public import proofs.«01_k».proof.Proof.Gen.KernelIdeal.Frame.Hosts0

@[expose] public section

set_option maxRecDepth 16384
set_option maxHeartbeats 1600000

noncomputable section

namespace Cert.Net

open Idealize.ShloMosaic Idealize.ShloMosaic.TcCoe Cert.KernelIdeal Cert.KernelIdeal.Gen

/-- Row `l` of four, as a matrix of one row. -/
theorem row_at {n : ℕ} {A : FVec Ideal ⟨2, ![4, n]⟩ .f32} {T : Fin 4 → Fin n → ℝ} (hA : Is2 A T) (l : Fin 4) (hb : (⟨1, ![n]⟩ : Shape).BroadcastsInDim ⟨2, ![1, n]⟩ ![1])
    {B : FVec Ideal ⟨2, ![1, n]⟩ .f32} (h : B = broadcastInDim ⟨2, ![1, n]⟩ ![1] hb (at2 l A)) : Is2 B fun _ => T l := fun z i => by
  rw [h]
  refine (broadcastInDim_apply (s := ⟨1, ![n]⟩) (t := ⟨2, ![1, n]⟩) _ _ _ _ (ix1 i) fun a => ?_).trans ((at2_apply l A i).trans (hA l i))
  match a with
  | ⟨0, _⟩ =>
    show i.val = if n = 1 then 0 else i.val
    split <;> omega

/-- Matrix `l` of four. -/
theorem mat_at {n k : ℕ} {A : FVec Ideal ⟨3, ![4, n, k]⟩ .f32} {T : Fin 4 → Fin n → Fin k → ℝ} (hA : Is3 A T) (l : Fin 4)
    {B : FVec Ideal ⟨2, ![n, k]⟩ .f32} (h : B = at3 l A) : Is2 B (T l) := fun i j => by
  rw [h]
  exact (at3_apply l A i j).trans (hA l i j)

/-- The boundary probabilities, as they are. -/
def ProbIs (A : FVec Ideal ⟨2, ![4, 2048]⟩ .f32) (b : Fin 4 → Fin 2048 → EReal) : Prop := ∀ i j, A (ix2 i j) = b i j

/-- The stacks, the boundary probabilities and the biases that every later operation reads. -/
structure Held (W : Valuation τ sig (Elt Ideal)) (q : Fin 4 → Par) (b : Fin 4 → Fin 2048 → EReal) : Prop where
  Wqkv : Is3 (W (Proc.devRef .tc main_v0)) (fun l => (q l).Wqkv)
  Wo : Is3 (W (Proc.devRef .tc main_v1)) (fun l => (q l).Wo)
  W1 : Is3 (W (Proc.devRef .tc main_v2)) (fun l => (q l).W1)
  W2 : Is3 (W (Proc.devRef .tc main_v3)) (fun l => (q l).W2)
  b : ProbIs (W (Proc.devRef .tc main_arg1)) b
  bqkv : Is2 (W (Proc.devRef .tc main_arg3)) (fun l => (q l).bqkv)
  bo : Is2 (W (Proc.devRef .tc main_arg5)) (fun l => (q l).bo)
  b1 : Is2 (W (Proc.devRef .tc main_arg7)) (fun l => (q l).b1)
  b2 : Is2 (W (Proc.devRef .tc main_arg9)) (fun l => (q l).b2)
  g1 : Is2 (W (Proc.devRef .tc main_arg10)) (fun l => (q l).g1)
  be1 : Is2 (W (Proc.devRef .tc main_arg11)) (fun l => (q l).be1)
  g2 : Is2 (W (Proc.devRef .tc main_arg12)) (fun l => (q l).g2)
  be2 : Is2 (W (Proc.devRef .tc main_arg13)) (fun l => (q l).be2)

/-- The references `Held` speaks of. -/
abbrev heldRefs : List (Ref sig .tc) := [main_v0, main_v1, main_v2, main_v3, main_arg1, main_arg3, main_arg5, main_arg7, main_arg9, main_arg10, main_arg11, main_arg12, main_arg13]

theorem Held.of {W W' : Valuation τ sig (Elt Ideal)} {q : Fin 4 → Par} {b : Fin 4 → Fin 2048 → EReal} (h : Held W q b)
    (hW : ∀ r ∈ heldRefs, W' (Proc.devRef .tc r) = W (Proc.devRef .tc r)) : Held W' q b := by
  have w0 := hW main_v0 (by decide)
  have w1 := hW main_v1 (by decide)
  have w2 := hW main_v2 (by decide)
  have w3 := hW main_v3 (by decide)
  have a1 := hW main_arg1 (by decide)
  have a3 := hW main_arg3 (by decide)
  have a5 := hW main_arg5 (by decide)
  have a7 := hW main_arg7 (by decide)
  have a9 := hW main_arg9 (by decide)
  have a10 := hW main_arg10 (by decide)
  have a11 := hW main_arg11 (by decide)
  have a12 := hW main_arg12 (by decide)
  have a13 := hW main_arg13 (by decide)
  exact ⟨w0 ▸ h.Wqkv, w1 ▸ h.Wo, w2 ▸ h.W1, w3 ▸ h.W2, a1 ▸ h.b, a3 ▸ h.bqkv, a5 ▸ h.bo, a7 ▸ h.b1, a9 ▸ h.b2, a10 ▸ h.g1, a11 ▸ h.be1, a12 ▸ h.g2, a13 ▸ h.be2⟩

variable {W : Valuation τ sig (Elt Ideal)} {q : Fin 4 → Par} {b : Fin 4 → Fin 2048 → EReal}

/-- The weights of the call after segment 1. -/
theorem seg1_wts (h : Held W q b) : KWts.Is ⟨StableHlo.after hostOps1 W (Proc.devRef .tc main_v11), StableHlo.after hostOps1 W (Proc.devRef .tc main_v14), StableHlo.after hostOps1 W (Proc.devRef .tc main_v16), StableHlo.after hostOps1 W (Proc.devRef .tc main_v19), StableHlo.after hostOps1 W (Proc.devRef .tc main_v21), StableHlo.after hostOps1 W (Proc.devRef .tc main_v24), StableHlo.after hostOps1 W (Proc.devRef .tc main_v27), StableHlo.after hostOps1 W (Proc.devRef .tc main_v30), StableHlo.after hostOps1 W (Proc.devRef .tc main_v33), StableHlo.after hostOps1 W (Proc.devRef .tc main_v36)⟩ (q 0) where
  Wo := mat_at h.Wo 0 (by after_results; rfl)
  bo := row_at h.bo 0 bcast_S512_S1x512_1 (by after_results; rfl)
  W1 := mat_at h.W1 0 (by after_results; rfl)
  b1 := row_at h.b1 0 bcast_S2048_S1x2048_1 (by after_results; rfl)
  W2 := mat_at h.W2 0 (by after_results; rfl)
  b2 := row_at h.b2 0 bcast_S512_S1x512_1 (by after_results; rfl)
  g1 := row_at h.g1 0 bcast_S512_S1x512_1 (by after_results; rfl)
  be1 := row_at h.be1 0 bcast_S512_S1x512_1 (by after_results; rfl)
  g2 := row_at h.g2 0 bcast_S512_S1x512_1 (by after_results; rfl)
  be2 := row_at h.be2 0 bcast_S512_S1x512_1 (by after_results; rfl)

/-- The projection weights of the call after segment 1. -/
theorem seg1_qkv (h : Held W q b) : Is2 (StableHlo.after hostOps1 W (Proc.devRef .tc main_v38)) (q 1).Wqkv ∧
    Is2 (StableHlo.after hostOps1 W (Proc.devRef .tc main_v41)) fun _ => (q 1).bqkv :=
  ⟨mat_at h.Wqkv 1 (by after_results; rfl), row_at h.bqkv 1 bcast_S1536_S1x1536_1 (by after_results; rfl)⟩

/-- The weights of the call after segment 2. -/
theorem seg2_wts (h : Held W q b) : KWts.Is ⟨StableHlo.after hostOps2 W (Proc.devRef .tc main_v44), StableHlo.after hostOps2 W (Proc.devRef .tc main_v47), StableHlo.after hostOps2 W (Proc.devRef .tc main_v49), StableHlo.after hostOps2 W (Proc.devRef .tc main_v52), StableHlo.after hostOps2 W (Proc.devRef .tc main_v54), StableHlo.after hostOps2 W (Proc.devRef .tc main_v57), StableHlo.after hostOps2 W (Proc.devRef .tc main_v60), StableHlo.after hostOps2 W (Proc.devRef .tc main_v63), StableHlo.after hostOps2 W (Proc.devRef .tc main_v66), StableHlo.after hostOps2 W (Proc.devRef .tc main_v69)⟩ (q 1) where
  Wo := mat_at h.Wo 1 (by after_results; rfl)
  bo := row_at h.bo 1 bcast_S512_S1x512_1 (by after_results; rfl)
  W1 := mat_at h.W1 1 (by after_results; rfl)
  b1 := row_at h.b1 1 bcast_S2048_S1x2048_1 (by after_results; rfl)
  W2 := mat_at h.W2 1 (by after_results; rfl)
  b2 := row_at h.b2 1 bcast_S512_S1x512_1 (by after_results; rfl)
  g1 := row_at h.g1 1 bcast_S512_S1x512_1 (by after_results; rfl)
  be1 := row_at h.be1 1 bcast_S512_S1x512_1 (by after_results; rfl)
  g2 := row_at h.g2 1 bcast_S512_S1x512_1 (by after_results; rfl)
  be2 := row_at h.be2 1 bcast_S512_S1x512_1 (by after_results; rfl)

/-- The projection weights of the call after segment 3. -/
theorem seg3_qkv (h : Held W q b) : Is2 (StableHlo.after hostOps3 W (Proc.devRef .tc main_v72)) (q 2).Wqkv ∧
    Is2 (StableHlo.after hostOps3 W (Proc.devRef .tc main_v75)) fun _ => (q 2).bqkv :=
  ⟨mat_at h.Wqkv 2 (by after_results; rfl), row_at h.bqkv 2 bcast_S1536_S1x1536_1 (by after_results; rfl)⟩

/-- The weights of the call after segment 4. -/
theorem seg4_wts (h : Held W q b) : KWts.Is ⟨StableHlo.after hostOps4 W (Proc.devRef .tc main_v79), StableHlo.after hostOps4 W (Proc.devRef .tc main_v82), StableHlo.after hostOps4 W (Proc.devRef .tc main_v84), StableHlo.after hostOps4 W (Proc.devRef .tc main_v87), StableHlo.after hostOps4 W (Proc.devRef .tc main_v89), StableHlo.after hostOps4 W (Proc.devRef .tc main_v92), StableHlo.after hostOps4 W (Proc.devRef .tc main_v95), StableHlo.after hostOps4 W (Proc.devRef .tc main_v98), StableHlo.after hostOps4 W (Proc.devRef .tc main_v101), StableHlo.after hostOps4 W (Proc.devRef .tc main_v104)⟩ (q 2) where
  Wo := mat_at h.Wo 2 (by after_results; rfl)
  bo := row_at h.bo 2 bcast_S512_S1x512_1 (by after_results; rfl)
  W1 := mat_at h.W1 2 (by after_results; rfl)
  b1 := row_at h.b1 2 bcast_S2048_S1x2048_1 (by after_results; rfl)
  W2 := mat_at h.W2 2 (by after_results; rfl)
  b2 := row_at h.b2 2 bcast_S512_S1x512_1 (by after_results; rfl)
  g1 := row_at h.g1 2 bcast_S512_S1x512_1 (by after_results; rfl)
  be1 := row_at h.be1 2 bcast_S512_S1x512_1 (by after_results; rfl)
  g2 := row_at h.g2 2 bcast_S512_S1x512_1 (by after_results; rfl)
  be2 := row_at h.be2 2 bcast_S512_S1x512_1 (by after_results; rfl)

/-- The projection weights of the call after segment 4. -/
theorem seg4_qkv (h : Held W q b) : Is2 (StableHlo.after hostOps4 W (Proc.devRef .tc main_v106)) (q 3).Wqkv ∧
    Is2 (StableHlo.after hostOps4 W (Proc.devRef .tc main_v109)) fun _ => (q 3).bqkv :=
  ⟨mat_at h.Wqkv 3 (by after_results; rfl), row_at h.bqkv 3 bcast_S1536_S1x1536_1 (by after_results; rfl)⟩

/-- The weights of the call after segment 5. -/
theorem seg5_wts (h : Held W q b) : KWts.Is ⟨StableHlo.after hostOps5 W (Proc.devRef .tc main_v112), StableHlo.after hostOps5 W (Proc.devRef .tc main_v115), StableHlo.after hostOps5 W (Proc.devRef .tc main_v117), StableHlo.after hostOps5 W (Proc.devRef .tc main_v120), StableHlo.after hostOps5 W (Proc.devRef .tc main_v122), StableHlo.after hostOps5 W (Proc.devRef .tc main_v125), StableHlo.after hostOps5 W (Proc.devRef .tc main_v128), StableHlo.after hostOps5 W (Proc.devRef .tc main_v131), StableHlo.after hostOps5 W (Proc.devRef .tc main_v134), StableHlo.after hostOps5 W (Proc.devRef .tc main_v137)⟩ (q 3) where
  Wo := mat_at h.Wo 3 (by after_results; rfl)
  bo := row_at h.bo 3 bcast_S512_S1x512_1 (by after_results; rfl)
  W1 := mat_at h.W1 3 (by after_results; rfl)
  b1 := row_at h.b1 3 bcast_S2048_S1x2048_1 (by after_results; rfl)
  W2 := mat_at h.W2 3 (by after_results; rfl)
  b2 := row_at h.b2 3 bcast_S512_S1x512_1 (by after_results; rfl)
  g1 := row_at h.g1 3 bcast_S512_S1x512_1 (by after_results; rfl)
  be1 := row_at h.be1 3 bcast_S512_S1x512_1 (by after_results; rfl)
  g2 := row_at h.g2 3 bcast_S512_S1x512_1 (by after_results; rfl)
  be2 := row_at h.be2 3 bcast_S512_S1x512_1 (by after_results; rfl)

/-- The boundary probabilities of the pooling call. -/
theorem seg3_b (h : Held W q b) (i : Fin 4) (t : Fin 2048) : StableHlo.after hostOps3 W (Proc.devRef .tc main_v76) (ix3 i (0 : Fin 1) t) = b i t := by
  have e : StableHlo.after hostOps3 W (Proc.devRef .tc main_v76) = (shapeCast S4x1x2048 (W (Proc.devRef .tc main_arg1) : FVec Ideal S4x2048 .f32) shapeCasts_S4x2048_S4x1x2048 : FVec Ideal S4x1x2048 .f32) := by
    after_results
    rfl
  rw [e]
  refine (shapeCast_apply _ _ _ (ix2 i t) ?_).trans (h.b i t)
  change ((⟨2, ![4, 2048]⟩ : Shape).rowMajor (ix2 i t)).val = ((⟨3, ![4, 1, 2048]⟩ : Shape).rowMajor (ix3 i (0 : Fin 1) t)).val
  rw [Shape.rowMajor_val_two, Shape.rowMajor_val_three]
  show i.val * 2048 + t.val = (i.val * 1 + 0) * 2048 + t.val
  omega

/-- The first segment: the stacks rounded, and the first layer's projection weights. -/
theorem seg0_held {w : Stacks} (hs : w.Is q) (hb : ProbIs (W (Proc.devRef .tc main_arg1)) b)
    (hw : w = ⟨W (Proc.devRef .tc main_arg2), W (Proc.devRef .tc main_arg3), W (Proc.devRef .tc main_arg4), W (Proc.devRef .tc main_arg5), W (Proc.devRef .tc main_arg6),
      W (Proc.devRef .tc main_arg7), W (Proc.devRef .tc main_arg8), W (Proc.devRef .tc main_arg9), W (Proc.devRef .tc main_arg10), W (Proc.devRef .tc main_arg11),
      W (Proc.devRef .tc main_arg12), W (Proc.devRef .tc main_arg13)⟩) : Held (StableHlo.after hostOps0 W) q b := by
  subst hw
  have a (r : Ref sig .tc) (h : r ∉ hostOps0_W) := StableHlo.after_of_writes_sub hostOps0 W hostOps0_writes h
  have w0 : StableHlo.after hostOps0 W (Proc.devRef .tc main_v0) = (truncf (F := Ideal) .bf16 (W (Proc.devRef .tc main_arg2) : FVec Ideal S4x1536x512 .f32) bitsLt_bf16_f32 : FVec Ideal S4x1536x512 .bf16) := by after_results; try rfl
  have w1 : StableHlo.after hostOps0 W (Proc.devRef .tc main_v1) = (truncf (F := Ideal) .bf16 (W (Proc.devRef .tc main_arg4) : FVec Ideal S4x512x512 .f32) bitsLt_bf16_f32 : FVec Ideal S4x512x512 .bf16) := by after_results; try rfl
  have w2 : StableHlo.after hostOps0 W (Proc.devRef .tc main_v2) = (truncf (F := Ideal) .bf16 (W (Proc.devRef .tc main_arg6) : FVec Ideal S4x2048x512 .f32) bitsLt_bf16_f32 : FVec Ideal S4x2048x512 .bf16) := by after_results; try rfl
  have w3 : StableHlo.after hostOps0 W (Proc.devRef .tc main_v3) = (truncf (F := Ideal) .bf16 (W (Proc.devRef .tc main_arg8) : FVec Ideal S4x512x2048 .f32) bitsLt_bf16_f32 : FVec Ideal S4x512x2048 .bf16) := by after_results; try rfl
  have a1 := a main_arg1 (by decide)
  have a3 := a main_arg3 (by decide)
  have a5 := a main_arg5 (by decide)
  have a7 := a main_arg7 (by decide)
  have a9 := a main_arg9 (by decide)
  have a10 := a main_arg10 (by decide)
  have a11 := a main_arg11 (by decide)
  have a12 := a main_arg12 (by decide)
  have a13 := a main_arg13 (by decide)
  exact ⟨w0 ▸ hs.Wqkv, w1 ▸ hs.Wo, w2 ▸ hs.W1, w3 ▸ hs.W2, a1 ▸ hb, a3 ▸ hs.bqkv, a5 ▸ hs.bo, a7 ▸ hs.b1, a9 ▸ hs.b2, a10 ▸ hs.g1, a11 ▸ hs.be1, a12 ▸ hs.g2, a13 ▸ hs.be2⟩

theorem seg0_qkv {T : Fin 4 → Fin 1536 → Fin 512 → ℝ} {T' : Fin 4 → Fin 1536 → ℝ} (h : Is3 (W (Proc.devRef .tc main_arg2)) T) (h' : Is2 (W (Proc.devRef .tc main_arg3)) T') :
    Is2 (StableHlo.after hostOps0 W (Proc.devRef .tc main_v5)) (T 0) ∧ Is2 (StableHlo.after hostOps0 W (Proc.devRef .tc main_v8)) fun _ => T' 0 :=
  ⟨mat_at h 0 (by after_results; rfl), row_at h' 0 bcast_S1536_S1x1536_1 (by after_results; rfl)⟩

end Cert.Net
-- ==== Proof.KerRegion0.lean ====
/- What the first kernel call (the first projection) leaves in its output arrays. -/
module

public import proofs.«01_k».proof.Proof.KerBlock
public import proofs.«01_k».proof.Proof.Gen.KernelIdeal.Frame.Region0
public import Idealize.ShloMosaic.Lib.Pipeline.Covers

@[expose] public section

set_option maxRecDepth 16384
set_option maxHeartbeats 1600000

noncomputable section

namespace Cert.Net

open Idealize.ShloMosaic Idealize.ShloMosaic.TcCoe Cert.KernelIdeal Cert.KernelIdeal.Gen

section
variable (x0 : Vec Ideal S1x1024x512 .f32) (x1 : Vec Ideal S1536x512 .bf16) (x2 : Vec Ideal S1x1536 .f32)

/-- The projection of the block's rows. -/
abbrev next0 : FVec Ideal S1024x1536 .bf16 := fQkv 1024 (shapeCast S1024x512 x0 (by decide)) x1 x2

theorem next0_eq : k0_pay4 (View.ld x0 r0_0) (View.ld x1 r0_1) (View.ld x2 r0_2) = next0 x0 x1 x2 := by
  have z3 : (![0, 0, 0] : Fin 3 → ℕ) = fun _ => 0 := by decide
  have z2 : (![0, 0] : Fin 2 → ℕ) = fun _ => 0 := by decide
  rw [show View.ld x0 r0_0 = x0 from View.ld_unit_zero z3 _ x0, show View.ld x1 r0_1 = x1 from View.ld_unit_zero z2 _ x1, show View.ld x2 r0_2 = x2 from View.ld_unit_zero z2 _ x2]
  rfl

theorem out0_q : out0_3 x0 x1 x2 = View.canon (Val := Elt Ideal) (e := .bf16) (heads8.map fun k => (⟨hrect 1024 64 k, tQ (next0 x0 x1 x2) k⟩ : View.Piece (Elt Ideal) ⟨4, ![1, 8, 1024, 64]⟩ .bf16)) := by
  rw [← next0_eq]
  rfl

theorem out0_k : out0_4 x0 x1 x2 = View.canon (Val := Elt Ideal) (e := .bf16) (heads8.map fun k => (⟨hrect 1024 64 k, tK (next0 x0 x1 x2) k⟩ : View.Piece (Elt Ideal) ⟨4, ![1, 8, 1024, 64]⟩ .bf16)) := by
  rw [← next0_eq]
  rfl

theorem out0_v : out0_5 x0 x1 x2 = View.canon (Val := Elt Ideal) (e := .bf16) (heads8.map fun k => (⟨hrect 1024 128 k, tV (next0 x0 x1 x2) k⟩ : View.Piece (Elt Ideal) ⟨4, ![1, 8, 1024, 128]⟩ .bf16)) := by
  rw [← next0_eq]
  rfl

end

variable (V : (c : Dev nD) → (b : Ref sig .tc) → Buf (Elt Ideal) ((c : Thread nD τ).loc b)) (c : Dev nD)

theorem ix0_x (t : Fin grid0.N) : win0_0.index t = ![(grid0.coords t 0).val, (grid0.coords t 1).val, 0] :=
  congrArg₂ (fun a b => ![a, b, 0]) (w32 (m := 4) (grid0.coords t 0) rfl (by decide)) (w32 (m := 2) (grid0.coords t 1) rfl (by decide))

theorem ix0_1 (t : Fin grid0.N) : win0_1.index t = ![0, 0] := rfl
theorem ix0_2 (t : Fin grid0.N) : win0_2.index t = ![0, 0] := rfl
theorem ix0_3 (t : Fin grid0.N) : win0_3.index t = ![(grid0.coords t 0).val, 0, (grid0.coords t 1).val, 0] :=
  congrArg₂ (fun a b => ![a, 0, b, 0]) (w32 (m := 4) (grid0.coords t 0) rfl (by decide)) (w32 (m := 2) (grid0.coords t 1) rfl (by decide))

theorem ix0_4 (t : Fin grid0.N) : win0_4.index t = ![(grid0.coords t 0).val, 0, (grid0.coords t 1).val, 0] :=
  congrArg₂ (fun a b => ![a, 0, b, 0]) (w32 (m := 4) (grid0.coords t 0) rfl (by decide)) (w32 (m := 2) (grid0.coords t 1) rfl (by decide))

theorem ix0_5 (t : Fin grid0.N) : win0_5.index t = ![(grid0.coords t 0).val, 0, (grid0.coords t 1).val, 0] :=
  congrArg₂ (fun a b => ![a, 0, b, 0]) (w32 (m := 4) (grid0.coords t 0) rfl (by decide)) (w32 (m := 2) (grid0.coords t 1) rfl (by decide))

theorem bat0_lt (t : Fin grid0.N) : (grid0.coords t 0).val < 4 := (grid0.coords t 0).isLt
theorem blk0_lt (t : Fin grid0.N) : (grid0.coords t 1).val < 2 := (grid0.coords t 1).isLt

/-- The batch entry of a step. -/
abbrev bat0 (t : Fin grid0.N) : Fin 4 := ⟨(grid0.coords t 0).val, bat0_lt t⟩

/-- The array row of a block row. -/
abbrev row0 (t : Fin grid0.N) (r : Fin 1024) : Fin 2048 := ⟨(grid0.coords t 1).val * 1024 + r.val, by have := blk0_lt t; omega⟩

theorem emb0_x (t : Fin grid0.N) (r : Fin 1024) (e : Fin 512) : (win0_0.blk t).view.emb (ix3 (0 : Fin 1) r e) = ix3 (bat0 t) (row0 t r) e :=
  pos3 (fun y a => win0_0.rect_emb_val t y a rfl) (ix0_x t) (Nat.mul_one _) rfl (by omega)

theorem emb0_3 (t : Fin grid0.N) (h : Fin 8) (r : Fin 1024) (d : Fin 64) : (win0_3.blk t).view.emb (ix4 (0 : Fin 1) h r d) = ix4 (bat0 t) h (row0 t r) d :=
  pos4 (fun y a => win0_3.rect_emb_val t y a rfl) (ix0_3 t) (Nat.mul_one _) (by omega) rfl (by omega)

theorem emb0_4 (t : Fin grid0.N) (h : Fin 8) (r : Fin 1024) (d : Fin 64) : (win0_4.blk t).view.emb (ix4 (0 : Fin 1) h r d) = ix4 (bat0 t) h (row0 t r) d :=
  pos4 (fun y a => win0_4.rect_emb_val t y a rfl) (ix0_4 t) (Nat.mul_one _) (by omega) rfl (by omega)

theorem emb0_5 (t : Fin grid0.N) (h : Fin 8) (r : Fin 1024) (d : Fin 128) : (win0_5.blk t).view.emb (ix4 (0 : Fin 1) h r d) = ix4 (bat0 t) h (row0 t r) d :=
  pos4 (fun y a => win0_5.rect_emb_val t y a rfl) (ix0_5 t) (Nat.mul_one _) (by omega) rfl (by omega)

theorem blk0_1 (t : Fin grid0.N) : iblk0 V c 1 t = V c (Pipeline.arrRef spec0 1) := funext fun y => congrArg (V c (Pipeline.arrRef spec0 1)) (pos2 (fun y a => win0_1.rect_emb_val t y a rfl) (ix0_1 t) y)
theorem blk0_2 (t : Fin grid0.N) : iblk0 V c 2 t = V c (Pipeline.arrRef spec0 2) := funext fun y => congrArg (V c (Pipeline.arrRef spec0 2)) (pos2 (fun y a => win0_2.rect_emb_val t y a rfl) (ix0_2 t) y)

theorem covers0_3 : (cfg0.win 3).Covers :=
  (cfg0.win 3).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 2) (β 2) rfl (by decide)
    | 3 => by have : (β 3).val < 1 := (β 3).isLt; show 0 = (β 3).val; omega⟩

theorem covers0_4 : (cfg0.win 4).Covers :=
  (cfg0.win 4).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 2) (β 2) rfl (by decide)
    | 3 => by have : (β 3).val < 1 := (β 3).isLt; show 0 = (β 3).val; omega⟩

theorem covers0_5 : (cfg0.win 5).Covers :=
  (cfg0.win 5).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 2) (β 2) rfl (by decide)
    | 3 => by have : (β 3).val < 1 := (β 3).isLt; show 0 = (β 3).val; omega⟩

/-- What the call's arrays hold when it starts. -/
structure In0 (pn : Par) (X : Fin 4 → Fin 2048 → Fin 512 → ℝ) : Prop where
  hX : Is3 (V c (Pipeline.arrRef spec0 0)) X
  hWq : Is2 (V c (Pipeline.arrRef spec0 1)) pn.Wqkv
  hbq : Is2 (V c (Pipeline.arrRef spec0 2)) fun _ => pn.bqkv

variable {V c} {pn : Par} {X : Fin 4 → Fin 2048 → Fin 512 → ℝ} (H : In0 V c pn X)
include H

theorem rows0_real (t : Fin grid0.N) : Is2 (shapeCast S1024x512 (iblk0 V c 0 t : FVec Ideal S1x1024x512 .f32) (by show S1x1024x512.ShapeCasts S1024x512; decide)) fun r => X (bat0 t) (row0 t r) := fun r e =>
  (cast_x _ _ r e).trans ((congrArg (V c (Pipeline.arrRef spec0 0)) (emb0_x t r e)).trans (H.hX (bat0 t) (row0 t r) e))

theorem next0_real (t : Fin grid0.N) : Is2 (next0 (iblk0 V c 0 t) (iblk0 V c 1 t) (iblk0 V c 2 t)) fun r => proj pn (X (bat0 t)) (row0 t r) := by
  rw [next0, blk0_1, blk0_2]
  exact fQkv_real (rows0_real H t) H.hWq H.hbq

theorem arr0_q (i : Fin 4) (h : Fin 8) (s : Fin 2048) (d : Fin 64) :
    (dat0 V c).arrAt 3 cfg0.N (ix4 i h s d) = ((proj pn (X i) s (col 0 h d) * (1 / 8) : ℝ) : EReal) := by
  have key := (dat0 V c).arrAt_eq_of_covers 3 (fun y : S4x8x2048x64.Idx => ((proj pn (X (y 0)) (y 2) (col 0 (y 1) (y 3)) * (1 / 8) : ℝ) : EReal)) covers0_3 fun t hf y => by
    blk_simp
    rw [after0_3, out0_q]
    obtain ⟨h, r, d, rfl⟩ : ∃ (h : Fin 8) (r : Fin 1024) (d : Fin 64), y = ix4 (0 : Fin 1) h r d := ⟨y 1, y 2, y 3, funext fun | 0 => Subsingleton.elim (α := Fin 1) _ _ | 1 => rfl | 2 => rfl | 3 => rfl⟩
    exact (canon_q (next0_real H t) 0 h r d).trans
      (congrArg (fun y : S4x8x2048x64.Idx => ((proj pn (X (y 0)) (y 2) (col 0 (y 1) (y 3)) * (1 / 8) : ℝ) : EReal)) (emb0_3 t h r d)).symm
  exact congrFun key (ix4 i h s d)

theorem arr0_k (i : Fin 4) (h : Fin 8) (s : Fin 2048) (d : Fin 64) :
    (dat0 V c).arrAt 4 cfg0.N (ix4 i h s d) = ((proj pn (X i) s (col 1 h d) : ℝ) : EReal) := by
  have key := (dat0 V c).arrAt_eq_of_covers 4 (fun y : S4x8x2048x64.Idx => ((proj pn (X (y 0)) (y 2) (col 1 (y 1) (y 3)) : ℝ) : EReal)) covers0_4 fun t hf y => by
    blk_simp
    rw [after0_4, out0_k]
    obtain ⟨h, r, d, rfl⟩ : ∃ (h : Fin 8) (r : Fin 1024) (d : Fin 64), y = ix4 (0 : Fin 1) h r d := ⟨y 1, y 2, y 3, funext fun | 0 => Subsingleton.elim (α := Fin 1) _ _ | 1 => rfl | 2 => rfl | 3 => rfl⟩
    exact (canon_k (next0_real H t) 0 h r d).trans
      (congrArg (fun y : S4x8x2048x64.Idx => ((proj pn (X (y 0)) (y 2) (col 1 (y 1) (y 3)) : ℝ) : EReal)) (emb0_4 t h r d)).symm
  exact congrFun key (ix4 i h s d)

theorem arr0_v (i : Fin 4) (h : Fin 8) (s : Fin 2048) (d : Fin 128) :
    (dat0 V c).arrAt 5 cfg0.N (ix4 i h s d) = ((vext (proj pn (X i)) h s d : ℝ) : EReal) := by
  have key := (dat0 V c).arrAt_eq_of_covers 5 (fun y : S4x8x2048x128.Idx => ((vext (proj pn (X (y 0))) (y 1) (y 2) (y 3) : ℝ) : EReal)) covers0_5 fun t hf y => by
    blk_simp
    rw [after0_5, out0_v]
    obtain ⟨h, r, d, rfl⟩ : ∃ (h : Fin 8) (r : Fin 1024) (d : Fin 128), y = ix4 (0 : Fin 1) h r d := ⟨y 1, y 2, y 3, funext fun | 0 => Subsingleton.elim (α := Fin 1) _ _ | 1 => rfl | 2 => rfl | 3 => rfl⟩
    exact (canon_v (next0_real H t) 0 h r d).trans
      (congrArg (fun y : S4x8x2048x128.Idx => ((vext (proj pn (X (y 0))) (y 1) (y 2) (y 3) : ℝ) : EReal)) (emb0_5 t h r d)).symm
  exact congrFun key (ix4 i h s d)

theorem arr0 : ArrIs (fun i => proj pn (X i)) ((dat0 V c).arrAt 3 cfg0.N) ((dat0 V c).arrAt 4 cfg0.N) ((dat0 V c).arrAt 5 cfg0.N) :=
  ⟨arr0_q H, arr0_k H, arr0_v H⟩

end Cert.Net
-- ==== Proof.KerRegion1.lean ====
/- What the second kernel call (the first byte layer and the next projection) leaves in its output arrays. -/
module

public import proofs.«01_k».proof.Proof.KerBlock
public import proofs.«01_k».proof.Proof.Frm.Region1
public import Idealize.ShloMosaic.Lib.Pipeline.Covers

@[expose] public section

set_option maxRecDepth 16384

noncomputable section

namespace Cert.Net

open Idealize.ShloMosaic Idealize.ShloMosaic.TcCoe Cert.KernelIdeal Cert.KernelIdeal.Gen

section
variable (x0 : Vec Ideal S1x8x512x64 .bf16) (x1 : Vec Ideal S1x8x2048x64 .bf16) (x2 : Vec Ideal S1x8x2048x128 .bf16) (x3 : Vec Ideal S1x512x512 .f32) (x4 : Vec Ideal S512x512 .bf16) (x5 : Vec Ideal S1x512 .f32) (x6 : Vec Ideal S2048x512 .bf16) (x7 : Vec Ideal S1x2048 .f32) (x8 : Vec Ideal S512x2048 .bf16) (x9 x10 x11 x12 x13 : Vec Ideal S1x512 .f32) (x14 : Vec Ideal S1536x512 .bf16) (x15 : Vec Ideal S1x1536 .f32)

/-- The block's output rows. -/
abbrev rows1 : FVec Ideal S512x512 .f32 := fOut 512 2048 x0 x1 x2 x3 ⟨x4, x5, x6, x7, x8, x9, x10, x11, x12, x13⟩

theorem rows1_eq : k1_pay25 (k1_pay61 x0 x1 x2 x3 x4 x5 x6 x7 x8 x9 x10 x11 x12 x13 x14 x15) (k1_pay62 x0 x1 x2 x3 x4 x5 x6 x7 x8 x9 x10 x11 x12 x13 x14 x15) (k1_pay63 x0 x1 x2 x3 x4 x5 x6 x7 x8 x9 x10 x11 x12 x13 x14 x15) = rows1 x0 x1 x2 x3 x4 x5 x6 x7 x8 x9 x10 x11 x12 x13 := by
  have z3 : (![0, 0, 0] : Fin 3 → ℕ) = fun _ => 0 := by decide
  have z2 : (![0, 0] : Fin 2 → ℕ) = fun _ => 0 := by decide
  unfold k1_pay61 k1_pay62 k1_pay63
  rw [show View.ld x3 r1_24 = x3 from View.ld_unit_zero z3 _ x3,
    show View.ld x4 r1_25 = x4 from View.ld_unit_zero z2 _ x4,
    show View.ld x5 r1_26 = x5 from View.ld_unit_zero z2 _ x5,
    show View.ld x6 r1_27 = x6 from View.ld_unit_zero z2 _ x6,
    show View.ld x7 r1_28 = x7 from View.ld_unit_zero z2 _ x7,
    show View.ld x8 r1_29 = x8 from View.ld_unit_zero z2 _ x8,
    show View.ld x9 r1_26 = x9 from View.ld_unit_zero z2 _ x9,
    show View.ld x10 r1_26 = x10 from View.ld_unit_zero z2 _ x10,
    show View.ld x11 r1_26 = x11 from View.ld_unit_zero z2 _ x11,
    show View.ld x12 r1_26 = x12 from View.ld_unit_zero z2 _ x12,
    show View.ld x13 r1_26 = x13 from View.ld_unit_zero z2 _ x13]
  rfl

theorem out1_rows (z : Fin 1) (r e : Fin 512) : out1_16 x0 x1 x2 x3 x4 x5 x6 x7 x8 x9 x10 x11 x12 x13 x14 x15 (ix3 z r e) = rows1 x0 x1 x2 x3 x4 x5 x6 x7 x8 x9 x10 x11 x12 x13 (ix2 r e) := by
  have z3 : (![0, 0, 0] : Fin 3 → ℕ) = fun _ => 0 := by decide
  unfold out1_16
  rw [View.canon_unit_zero z3]
  unfold k1_pay26
  rw [rows1_eq]
  exact cast_y ..

/-- The next layer's projection of the block's output rows. -/
abbrev next1 : FVec Ideal S512x1536 .bf16 := fQkv 512 (rows1 x0 x1 x2 x3 x4 x5 x6 x7 x8 x9 x10 x11 x12 x13) x14 x15

theorem next1_eq : k1_pay64 x0 x1 x2 x3 x4 x5 x6 x7 x8 x9 x10 x11 x12 x13 x14 x15 = next1 x0 x1 x2 x3 x4 x5 x6 x7 x8 x9 x10 x11 x12 x13 x14 x15 := by
  have z2 : (![0, 0] : Fin 2 → ℕ) = fun _ => 0 := by decide
  unfold k1_pay64 k1_pay27
  rw [rows1_eq, show View.ld x14 r1_30 = x14 from View.ld_unit_zero z2 _ x14, show View.ld x15 r1_31 = x15 from View.ld_unit_zero z2 _ x15]
  rfl

theorem out1_q : out1_17 x0 x1 x2 x3 x4 x5 x6 x7 x8 x9 x10 x11 x12 x13 x14 x15 = View.canon (Val := Elt Ideal) (e := .bf16) (heads8.map fun k => (⟨hrect 512 64 k, tQ (next1 x0 x1 x2 x3 x4 x5 x6 x7 x8 x9 x10 x11 x12 x13 x14 x15) k⟩ : View.Piece (Elt Ideal) ⟨4, ![1, 8, 512, 64]⟩ .bf16)) := by
  rw [← next1_eq]
  rfl

theorem out1_k : out1_18 x0 x1 x2 x3 x4 x5 x6 x7 x8 x9 x10 x11 x12 x13 x14 x15 = View.canon (Val := Elt Ideal) (e := .bf16) (heads8.map fun k => (⟨hrect 512 64 k, tK (next1 x0 x1 x2 x3 x4 x5 x6 x7 x8 x9 x10 x11 x12 x13 x14 x15) k⟩ : View.Piece (Elt Ideal) ⟨4, ![1, 8, 512, 64]⟩ .bf16)) := by
  rw [← next1_eq]
  rfl

theorem out1_v : out1_19 x0 x1 x2 x3 x4 x5 x6 x7 x8 x9 x10 x11 x12 x13 x14 x15 = View.canon (Val := Elt Ideal) (e := .bf16) (heads8.map fun k => (⟨hrect 512 128 k, tV (next1 x0 x1 x2 x3 x4 x5 x6 x7 x8 x9 x10 x11 x12 x13 x14 x15) k⟩ : View.Piece (Elt Ideal) ⟨4, ![1, 8, 512, 128]⟩ .bf16)) := by
  rw [← next1_eq]
  rfl

end

variable (V : (c : Dev nD) → (b : Ref sig .tc) → Buf (Elt Ideal) ((c : Thread nD τ).loc b)) (c : Dev nD)

/-- The layer's weights in the call's arrays. -/
def wts1 : KWts := ⟨V c (Pipeline.arrRef spec1 4), V c (Pipeline.arrRef spec1 5), V c (Pipeline.arrRef spec1 6), V c (Pipeline.arrRef spec1 7), V c (Pipeline.arrRef spec1 8),
  V c (Pipeline.arrRef spec1 9), V c (Pipeline.arrRef spec1 10), V c (Pipeline.arrRef spec1 11), V c (Pipeline.arrRef spec1 12), V c (Pipeline.arrRef spec1 13)⟩

theorem ix1_q (t : Fin grid1.N) : win1_0.index t = ![(grid1.coords t 0).val, 0, (grid1.coords t 1).val, 0] :=
  congrArg₂ (fun a b => ![a, 0, b, 0]) (w32 (m := 4) (grid1.coords t 0) rfl (by decide)) (w32 (m := 4) (grid1.coords t 1) rfl (by decide))

theorem ix1_k (t : Fin grid1.N) : win1_1.index t = ![(grid1.coords t 0).val, 0, 0, 0] :=
  congrArg (fun a => ![a, 0, 0, 0]) (w32 (m := 4) (grid1.coords t 0) rfl (by decide))

theorem ix1_v (t : Fin grid1.N) : win1_2.index t = ![(grid1.coords t 0).val, 0, 0, 0] :=
  congrArg (fun a => ![a, 0, 0, 0]) (w32 (m := 4) (grid1.coords t 0) rfl (by decide))

theorem ix1_x (t : Fin grid1.N) : win1_3.index t = ![(grid1.coords t 0).val, (grid1.coords t 1).val, 0] :=
  congrArg₂ (fun a b => ![a, b, 0]) (w32 (m := 4) (grid1.coords t 0) rfl (by decide)) (w32 (m := 4) (grid1.coords t 1) rfl (by decide))

theorem ix1_o (t : Fin grid1.N) : win1_16.index t = ![(grid1.coords t 0).val, (grid1.coords t 1).val, 0] :=
  congrArg₂ (fun a b => ![a, b, 0]) (w32 (m := 4) (grid1.coords t 0) rfl (by decide)) (w32 (m := 4) (grid1.coords t 1) rfl (by decide))

theorem ix1_4 (t : Fin grid1.N) : win1_4.index t = ![0, 0] := rfl
theorem ix1_5 (t : Fin grid1.N) : win1_5.index t = ![0, 0] := rfl
theorem ix1_6 (t : Fin grid1.N) : win1_6.index t = ![0, 0] := rfl
theorem ix1_7 (t : Fin grid1.N) : win1_7.index t = ![0, 0] := rfl
theorem ix1_8 (t : Fin grid1.N) : win1_8.index t = ![0, 0] := rfl
theorem ix1_9 (t : Fin grid1.N) : win1_9.index t = ![0, 0] := rfl
theorem ix1_10 (t : Fin grid1.N) : win1_10.index t = ![0, 0] := rfl
theorem ix1_11 (t : Fin grid1.N) : win1_11.index t = ![0, 0] := rfl
theorem ix1_12 (t : Fin grid1.N) : win1_12.index t = ![0, 0] := rfl
theorem ix1_13 (t : Fin grid1.N) : win1_13.index t = ![0, 0] := rfl

theorem ix1_14 (t : Fin grid1.N) : win1_14.index t = ![0, 0] := rfl
theorem ix1_15 (t : Fin grid1.N) : win1_15.index t = ![0, 0] := rfl

theorem ix1_17 (t : Fin grid1.N) : win1_17.index t = ![(grid1.coords t 0).val, 0, (grid1.coords t 1).val, 0] :=
  congrArg₂ (fun a b => ![a, 0, b, 0]) (w32 (m := 4) (grid1.coords t 0) rfl (by decide)) (w32 (m := 4) (grid1.coords t 1) rfl (by decide))

theorem ix1_18 (t : Fin grid1.N) : win1_18.index t = ![(grid1.coords t 0).val, 0, (grid1.coords t 1).val, 0] :=
  congrArg₂ (fun a b => ![a, 0, b, 0]) (w32 (m := 4) (grid1.coords t 0) rfl (by decide)) (w32 (m := 4) (grid1.coords t 1) rfl (by decide))

theorem ix1_19 (t : Fin grid1.N) : win1_19.index t = ![(grid1.coords t 0).val, 0, (grid1.coords t 1).val, 0] :=
  congrArg₂ (fun a b => ![a, 0, b, 0]) (w32 (m := 4) (grid1.coords t 0) rfl (by decide)) (w32 (m := 4) (grid1.coords t 1) rfl (by decide))

theorem bat1_lt (t : Fin grid1.N) : (grid1.coords t 0).val < 4 := (grid1.coords t 0).isLt
theorem blk1_lt (t : Fin grid1.N) : (grid1.coords t 1).val < 4 := (grid1.coords t 1).isLt

/-- The batch entry of a step. -/
abbrev bat1 (t : Fin grid1.N) : Fin 4 := ⟨(grid1.coords t 0).val, bat1_lt t⟩

/-- The array row of a block row. -/
abbrev row1 (t : Fin grid1.N) (r : Fin 512) : Fin 2048 := ⟨(grid1.coords t 1).val * 512 + r.val, by have := blk1_lt t; omega⟩

theorem emb1_q (t : Fin grid1.N) (h : Fin 8) (r : Fin 512) (d : Fin 64) : (win1_0.blk t).view.emb (ix4 (0 : Fin 1) h r d) = ix4 (bat1 t) h (row1 t r) d :=
  pos4 (fun y a => win1_0.rect_emb_val t y a rfl) (ix1_q t) (Nat.mul_one _) (by omega) rfl (by omega)

theorem emb1_k (t : Fin grid1.N) (h : Fin 8) (r : Fin 2048) (d : Fin 64) : (win1_1.blk t).view.emb (ix4 (0 : Fin 1) h r d) = ix4 (bat1 t) h r d :=
  pos4 (fun y a => win1_1.rect_emb_val t y a rfl) (ix1_k t) (Nat.mul_one _) (by omega) (by omega) (by omega)

theorem emb1_v (t : Fin grid1.N) (h : Fin 8) (r : Fin 2048) (d : Fin 128) : (win1_2.blk t).view.emb (ix4 (0 : Fin 1) h r d) = ix4 (bat1 t) h r d :=
  pos4 (fun y a => win1_2.rect_emb_val t y a rfl) (ix1_v t) (Nat.mul_one _) (by omega) (by omega) (by omega)

theorem emb1_x (t : Fin grid1.N) (r e : Fin 512) : (win1_3.blk t).view.emb (ix3 (0 : Fin 1) r e) = ix3 (bat1 t) (row1 t r) e :=
  pos3 (fun y a => win1_3.rect_emb_val t y a rfl) (ix1_x t) (Nat.mul_one _) rfl (by omega)

theorem emb1_o (t : Fin grid1.N) (r e : Fin 512) : (win1_16.blk t).view.emb (ix3 (0 : Fin 1) r e) = ix3 (bat1 t) (row1 t r) e :=
  pos3 (fun y a => win1_16.rect_emb_val t y a rfl) (ix1_o t) (Nat.mul_one _) rfl (by omega)

theorem blk1_4 (t : Fin grid1.N) : iblk1 V c 4 t = V c (Pipeline.arrRef spec1 4) := funext fun y => congrArg (V c (Pipeline.arrRef spec1 4)) (pos2 (fun y a => win1_4.rect_emb_val t y a rfl) (ix1_4 t) y)
theorem blk1_5 (t : Fin grid1.N) : iblk1 V c 5 t = V c (Pipeline.arrRef spec1 5) := funext fun y => congrArg (V c (Pipeline.arrRef spec1 5)) (pos2 (fun y a => win1_5.rect_emb_val t y a rfl) (ix1_5 t) y)
theorem blk1_6 (t : Fin grid1.N) : iblk1 V c 6 t = V c (Pipeline.arrRef spec1 6) := funext fun y => congrArg (V c (Pipeline.arrRef spec1 6)) (pos2 (fun y a => win1_6.rect_emb_val t y a rfl) (ix1_6 t) y)
theorem blk1_7 (t : Fin grid1.N) : iblk1 V c 7 t = V c (Pipeline.arrRef spec1 7) := funext fun y => congrArg (V c (Pipeline.arrRef spec1 7)) (pos2 (fun y a => win1_7.rect_emb_val t y a rfl) (ix1_7 t) y)
theorem blk1_8 (t : Fin grid1.N) : iblk1 V c 8 t = V c (Pipeline.arrRef spec1 8) := funext fun y => congrArg (V c (Pipeline.arrRef spec1 8)) (pos2 (fun y a => win1_8.rect_emb_val t y a rfl) (ix1_8 t) y)
theorem blk1_9 (t : Fin grid1.N) : iblk1 V c 9 t = V c (Pipeline.arrRef spec1 9) := funext fun y => congrArg (V c (Pipeline.arrRef spec1 9)) (pos2 (fun y a => win1_9.rect_emb_val t y a rfl) (ix1_9 t) y)
theorem blk1_10 (t : Fin grid1.N) : iblk1 V c 10 t = V c (Pipeline.arrRef spec1 10) := funext fun y => congrArg (V c (Pipeline.arrRef spec1 10)) (pos2 (fun y a => win1_10.rect_emb_val t y a rfl) (ix1_10 t) y)
theorem blk1_11 (t : Fin grid1.N) : iblk1 V c 11 t = V c (Pipeline.arrRef spec1 11) := funext fun y => congrArg (V c (Pipeline.arrRef spec1 11)) (pos2 (fun y a => win1_11.rect_emb_val t y a rfl) (ix1_11 t) y)
theorem blk1_12 (t : Fin grid1.N) : iblk1 V c 12 t = V c (Pipeline.arrRef spec1 12) := funext fun y => congrArg (V c (Pipeline.arrRef spec1 12)) (pos2 (fun y a => win1_12.rect_emb_val t y a rfl) (ix1_12 t) y)
theorem blk1_13 (t : Fin grid1.N) : iblk1 V c 13 t = V c (Pipeline.arrRef spec1 13) := funext fun y => congrArg (V c (Pipeline.arrRef spec1 13)) (pos2 (fun y a => win1_13.rect_emb_val t y a rfl) (ix1_13 t) y)
theorem blk1_14 (t : Fin grid1.N) : iblk1 V c 14 t = V c (Pipeline.arrRef spec1 14) := funext fun y => congrArg (V c (Pipeline.arrRef spec1 14)) (pos2 (fun y a => win1_14.rect_emb_val t y a rfl) (ix1_14 t) y)
theorem blk1_15 (t : Fin grid1.N) : iblk1 V c 15 t = V c (Pipeline.arrRef spec1 15) := funext fun y => congrArg (V c (Pipeline.arrRef spec1 15)) (pos2 (fun y a => win1_15.rect_emb_val t y a rfl) (ix1_15 t) y)

theorem blk1 {Q : Fin 4 → Fin 2048 → Fin 1536 → ℝ} {X : Fin 4 → Fin 2048 → Fin 512 → ℝ}
    (hA : ArrIs Q (V c (Pipeline.arrRef spec1 0)) (V c (Pipeline.arrRef spec1 1)) (V c (Pipeline.arrRef spec1 2))) (hX : Is3 (V c (Pipeline.arrRef spec1 3)) X)
    (hl : ∀ i h a b, score (Q i) h a b ≤ 80) (t : Fin grid1.N) :
    BlkIs (row1 t) (Q (bat1 t)) (X (bat1 t)) (iblk1 V c 0 t) (iblk1 V c 1 t) (iblk1 V c 2 t) (iblk1 V c 3 t) where
  hq h r d := (congrArg (V c (Pipeline.arrRef spec1 0)) (emb1_q t h r d)).trans (hA.hq (bat1 t) h (row1 t r) d)
  hk h s d := (congrArg (V c (Pipeline.arrRef spec1 1)) (emb1_k t h s d)).trans (hA.hk (bat1 t) h s d)
  hv h s d := (congrArg (V c (Pipeline.arrRef spec1 2)) (emb1_v t h s _)).trans ((hA.hv (bat1 t) h s _).trans (congrArg _ (vext_left _ h s d)))
  one h s d := (congrArg (V c (Pipeline.arrRef spec1 2)) (emb1_v t h s _)).trans ((hA.hv (bat1 t) h s _).trans (congrArg _ (vext_right _ h s d)))
  hx r e := (congrArg (V c (Pipeline.arrRef spec1 3)) (emb1_x t r e)).trans (hX (bat1 t) (row1 t r) e)
  low := hl _

theorem emb1_17 (t : Fin grid1.N) (h : Fin 8) (r : Fin 512) (d : Fin 64) : (win1_17.blk t).view.emb (ix4 (0 : Fin 1) h r d) = ix4 (bat1 t) h (row1 t r) d :=
  pos4 (fun y a => win1_17.rect_emb_val t y a rfl) (ix1_17 t) (Nat.mul_one _) (by omega) rfl (by omega)

theorem emb1_18 (t : Fin grid1.N) (h : Fin 8) (r : Fin 512) (d : Fin 64) : (win1_18.blk t).view.emb (ix4 (0 : Fin 1) h r d) = ix4 (bat1 t) h (row1 t r) d :=
  pos4 (fun y a => win1_18.rect_emb_val t y a rfl) (ix1_18 t) (Nat.mul_one _) (by omega) rfl (by omega)

theorem emb1_19 (t : Fin grid1.N) (h : Fin 8) (r : Fin 512) (d : Fin 128) : (win1_19.blk t).view.emb (ix4 (0 : Fin 1) h r d) = ix4 (bat1 t) h (row1 t r) d :=
  pos4 (fun y a => win1_19.rect_emb_val t y a rfl) (ix1_19 t) (Nat.mul_one _) (by omega) rfl (by omega)

theorem covers1_16 : (cfg1.win 16).Covers :=
  (cfg1.win 16).covers_of_indexMap_surj rfl (by decide) fun β => ⟨fun | 0 => β 0 | 1 => β 1, fun
    | 0 => w32 (m := 4) (β 0) rfl (by decide)
    | 1 => w32 (m := 4) (β 1) rfl (by decide)
    | 2 => by have : (β 2).val < 1 := (β 2).isLt; show 0 = (β 2).val; omega⟩

theorem covers1_17 : (cfg1.win 17).Covers :=
  (cfg1.win 17).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 4) (β 2) rfl (by decide)
    | 3 => by have : (β 3).val < 1 := (β 3).isLt; show 0 = (β 3).val; omega⟩

theorem covers1_18 : (cfg1.win 18).Covers :=
  (cfg1.win 18).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 4) (β 2) rfl (by decide)
    | 3 => by have : (β 3).val < 1 := (β 3).isLt; show 0 = (β 3).val; omega⟩

theorem covers1_19 : (cfg1.win 19).Covers :=
  (cfg1.win 19).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 4) (β 2) rfl (by decide)
    | 3 => by have : (β 3).val < 1 := (β 3).isLt; show 0 = (β 3).val; omega⟩

/-- What the call's arrays hold when it starts. -/
structure In1 (p pn : Par) (Q : Fin 4 → Fin 2048 → Fin 1536 → ℝ) (X : Fin 4 → Fin 2048 → Fin 512 → ℝ) : Prop where
  hA : ArrIs Q (V c (Pipeline.arrRef spec1 0)) (V c (Pipeline.arrRef spec1 1)) (V c (Pipeline.arrRef spec1 2))
  hX : Is3 (V c (Pipeline.arrRef spec1 3)) X
  hw : (wts1 V c).Is p
  hWq : Is2 (V c (Pipeline.arrRef spec1 14)) pn.Wqkv
  hbq : Is2 (V c (Pipeline.arrRef spec1 15)) fun _ => pn.bqkv
  hl : ∀ i h a b, score (Q i) h a b ≤ 80

variable {V c} {p pn : Par} {Q : Fin 4 → Fin 2048 → Fin 1536 → ℝ} {X : Fin 4 → Fin 2048 → Fin 512 → ℝ} (H : In1 V c p pn Q X)
include H

theorem rows1_real (t : Fin grid1.N) : Is2 (rows1 (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) (iblk1 V c 12 t) (iblk1 V c 13 t)) fun r => outOf p (X (bat1 t)) (Q (bat1 t)) (row1 t r) := by
  rw [rows1, blk1_4, blk1_5, blk1_6, blk1_7, blk1_8, blk1_9, blk1_10, blk1_11, blk1_12, blk1_13]
  exact fOut_real (blk1 V c H.hA H.hX H.hl t) H.hw

theorem next1_real (t : Fin grid1.N) : Is2 (next1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)) fun r => proj pn (outOf p (X (bat1 t)) (Q (bat1 t))) (row1 t r) := by
  have h := rows1_real H t
  unfold next1
  generalize rows1 _ _ _ _ _ _ _ _ _ _ _ _ _ _ = R at h ⊢
  rw [blk1_14, blk1_15]
  exact fQkv_real h H.hWq H.hbq

theorem arr1_x : Is3 ((dat1 V c).arrAt 16 cfg1.N) fun i => outOf p (X i) (Q i) := by
  have key := (dat1 V c).arrAt_eq_of_covers 16 (fun y : S4x2048x512.Idx => ((outOf p (X (y 0)) (Q (y 0)) (y 1) (y 2) : ℝ) : EReal)) covers1_16 fun t hf y => by
    blk_simp
    rw [after1_16]
    obtain ⟨r, e, rfl⟩ : ∃ r e : Fin 512, y = ix3 (0 : Fin 1) r e := ⟨y 1, y 2, funext fun | 0 => Subsingleton.elim (α := Fin 1) _ _ | 1 => rfl | 2 => rfl⟩
    exact ((out1_rows (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) 0 r e).trans (rows1_real H t r e)).trans
      (congrArg (fun y : S4x2048x512.Idx => ((outOf p (X (y 0)) (Q (y 0)) (y 1) (y 2) : ℝ) : EReal)) (emb1_o t r e)).symm
  exact fun i s e => congrFun key (ix3 i s e)

theorem arr1_q (i : Fin 4) (h : Fin 8) (s : Fin 2048) (d : Fin 64) :
    (dat1 V c).arrAt 17 cfg1.N (ix4 i h s d) = ((proj pn (outOf p (X i) (Q i)) s (col 0 h d) * (1 / 8) : ℝ) : EReal) := by
  have key := (dat1 V c).arrAt_eq_of_covers 17 (fun y : S4x8x2048x64.Idx => ((proj pn (outOf p (X (y 0)) (Q (y 0))) (y 2) (col 0 (y 1) (y 3)) * (1 / 8) : ℝ) : EReal)) covers1_17 fun t hf y => by
    blk_simp
    rw [after1_17, out1_q]
    obtain ⟨h, r, d, rfl⟩ : ∃ (h : Fin 8) (r : Fin 512) (d : Fin 64), y = ix4 (0 : Fin 1) h r d := ⟨y 1, y 2, y 3, funext fun | 0 => Subsingleton.elim (α := Fin 1) _ _ | 1 => rfl | 2 => rfl | 3 => rfl⟩
    exact (canon_q (next1_real H t) 0 h r d).trans
      (congrArg (fun y : S4x8x2048x64.Idx => ((proj pn (outOf p (X (y 0)) (Q (y 0))) (y 2) (col 0 (y 1) (y 3)) * (1 / 8) : ℝ) : EReal)) (emb1_17 t h r d)).symm
  exact congrFun key (ix4 i h s d)

theorem arr1_k (i : Fin 4) (h : Fin 8) (s : Fin 2048) (d : Fin 64) :
    (dat1 V c).arrAt 18 cfg1.N (ix4 i h s d) = ((proj pn (outOf p (X i) (Q i)) s (col 1 h d) : ℝ) : EReal) := by
  have key := (dat1 V c).arrAt_eq_of_covers 18 (fun y : S4x8x2048x64.Idx => ((proj pn (outOf p (X (y 0)) (Q (y 0))) (y 2) (col 1 (y 1) (y 3)) : ℝ) : EReal)) covers1_18 fun t hf y => by
    blk_simp
    rw [after1_18, out1_k]
    obtain ⟨h, r, d, rfl⟩ : ∃ (h : Fin 8) (r : Fin 512) (d : Fin 64), y = ix4 (0 : Fin 1) h r d := ⟨y 1, y 2, y 3, funext fun | 0 => Subsingleton.elim (α := Fin 1) _ _ | 1 => rfl | 2 => rfl | 3 => rfl⟩
    exact (canon_k (next1_real H t) 0 h r d).trans
      (congrArg (fun y : S4x8x2048x64.Idx => ((proj pn (outOf p (X (y 0)) (Q (y 0))) (y 2) (col 1 (y 1) (y 3)) : ℝ) : EReal)) (emb1_18 t h r d)).symm
  exact congrFun key (ix4 i h s d)

theorem arr1_v (i : Fin 4) (h : Fin 8) (s : Fin 2048) (d : Fin 128) :
    (dat1 V c).arrAt 19 cfg1.N (ix4 i h s d) = ((vext (proj pn (outOf p (X i) (Q i))) h s d : ℝ) : EReal) := by
  have key := (dat1 V c).arrAt_eq_of_covers 19 (fun y : S4x8x2048x128.Idx => ((vext (proj pn (outOf p (X (y 0)) (Q (y 0)))) (y 1) (y 2) (y 3) : ℝ) : EReal)) covers1_19 fun t hf y => by
    blk_simp
    rw [after1_19, out1_v]
    obtain ⟨h, r, d, rfl⟩ : ∃ (h : Fin 8) (r : Fin 512) (d : Fin 128), y = ix4 (0 : Fin 1) h r d := ⟨y 1, y 2, y 3, funext fun | 0 => Subsingleton.elim (α := Fin 1) _ _ | 1 => rfl | 2 => rfl | 3 => rfl⟩
    exact (canon_v (next1_real H t) 0 h r d).trans
      (congrArg (fun y : S4x8x2048x128.Idx => ((vext (proj pn (outOf p (X (y 0)) (Q (y 0)))) (y 1) (y 2) (y 3) : ℝ) : EReal)) (emb1_19 t h r d)).symm
  exact congrFun key (ix4 i h s d)

theorem arr1 : ArrIs (fun i => proj pn (outOf p (X i) (Q i))) ((dat1 V c).arrAt 17 cfg1.N) ((dat1 V c).arrAt 18 cfg1.N) ((dat1 V c).arrAt 19 cfg1.N) :=
  ⟨arr1_q H, arr1_k H, arr1_v H⟩

end Cert.Net
-- ==== Proof.KerRegion2.lean ====
/- What the third kernel call (the second byte layer) leaves in its output array. -/
module

public import proofs.«01_k».proof.Proof.KerBlock
public import proofs.«01_k».proof.Proof.Gen.KernelIdeal.Frame.Region2
public import Idealize.ShloMosaic.Lib.Pipeline.Covers

@[expose] public section

set_option maxRecDepth 16384

noncomputable section

namespace Cert.Net

open Idealize.ShloMosaic Idealize.ShloMosaic.TcCoe Cert.KernelIdeal Cert.KernelIdeal.Gen

theorem out2_eq (x0 : Vec Ideal S1x8x512x64 .bf16) (x1 : Vec Ideal S1x8x2048x64 .bf16) (x2 : Vec Ideal S1x8x2048x128 .bf16) (x3 : Vec Ideal S1x512x512 .f32) (x4 : Vec Ideal S512x512 .bf16) (x5 : Vec Ideal S1x512 .f32) (x6 : Vec Ideal S2048x512 .bf16) (x7 : Vec Ideal S1x2048 .f32) (x8 : Vec Ideal S512x2048 .bf16) (x9 x10 x11 x12 x13 : Vec Ideal S1x512 .f32) (z : Fin 1) (r e : Fin 512) :
    out2_14 x0 x1 x2 x3 x4 x5 x6 x7 x8 x9 x10 x11 x12 x13 (ix3 z r e) = fOut 512 2048 x0 x1 x2 x3 ⟨x4, x5, x6, x7, x8, x9, x10, x11, x12, x13⟩ (ix2 r e) := by
  unfold out2_14
  have z3 : (![0, 0, 0] : Fin 3 → ℕ) = fun _ => 0 := by decide
  have z2 : (![0, 0] : Fin 2 → ℕ) = fun _ => 0 := by decide
  rw [View.canon_unit_zero z3, show View.ld x3 r2_24 = x3 from View.ld_unit_zero z3 _ x3, show View.ld x4 r2_25 = x4 from View.ld_unit_zero z2 _ x4,
    show View.ld x5 r2_26 = x5 from View.ld_unit_zero z2 _ x5, show View.ld x6 r2_27 = x6 from View.ld_unit_zero z2 _ x6,
    show View.ld x7 r2_28 = x7 from View.ld_unit_zero z2 _ x7, show View.ld x8 r2_29 = x8 from View.ld_unit_zero z2 _ x8,
    show View.ld x9 r2_26 = x9 from View.ld_unit_zero z2 _ x9, show View.ld x10 r2_26 = x10 from View.ld_unit_zero z2 _ x10,
    show View.ld x11 r2_26 = x11 from View.ld_unit_zero z2 _ x11, show View.ld x12 r2_26 = x12 from View.ld_unit_zero z2 _ x12,
    show View.ld x13 r2_26 = x13 from View.ld_unit_zero z2 _ x13]
  unfold k2_pay1
  exact cast_y ..

variable (V : (c : Dev nD) → (b : Ref sig .tc) → Buf (Elt Ideal) ((c : Thread nD τ).loc b)) (c : Dev nD)

/-- The layer's weights in the call's arrays. -/
def wts2 : KWts := ⟨V c (Pipeline.arrRef spec2 4), V c (Pipeline.arrRef spec2 5), V c (Pipeline.arrRef spec2 6), V c (Pipeline.arrRef spec2 7), V c (Pipeline.arrRef spec2 8),
  V c (Pipeline.arrRef spec2 9), V c (Pipeline.arrRef spec2 10), V c (Pipeline.arrRef spec2 11), V c (Pipeline.arrRef spec2 12), V c (Pipeline.arrRef spec2 13)⟩

theorem ix2_q (t : Fin grid2.N) : win2_0.index t = ![(grid2.coords t 0).val, 0, (grid2.coords t 1).val, 0] :=
  congrArg₂ (fun a b => ![a, 0, b, 0]) (w32 (m := 4) (grid2.coords t 0) rfl (by decide)) (w32 (m := 4) (grid2.coords t 1) rfl (by decide))

theorem ix2_k (t : Fin grid2.N) : win2_1.index t = ![(grid2.coords t 0).val, 0, 0, 0] :=
  congrArg (fun a => ![a, 0, 0, 0]) (w32 (m := 4) (grid2.coords t 0) rfl (by decide))

theorem ix2_v (t : Fin grid2.N) : win2_2.index t = ![(grid2.coords t 0).val, 0, 0, 0] :=
  congrArg (fun a => ![a, 0, 0, 0]) (w32 (m := 4) (grid2.coords t 0) rfl (by decide))

theorem ix2_x (t : Fin grid2.N) : win2_3.index t = ![(grid2.coords t 0).val, (grid2.coords t 1).val, 0] :=
  congrArg₂ (fun a b => ![a, b, 0]) (w32 (m := 4) (grid2.coords t 0) rfl (by decide)) (w32 (m := 4) (grid2.coords t 1) rfl (by decide))

theorem ix2_o (t : Fin grid2.N) : win2_14.index t = ![(grid2.coords t 0).val, (grid2.coords t 1).val, 0] :=
  congrArg₂ (fun a b => ![a, b, 0]) (w32 (m := 4) (grid2.coords t 0) rfl (by decide)) (w32 (m := 4) (grid2.coords t 1) rfl (by decide))

theorem ix2_4 (t : Fin grid2.N) : win2_4.index t = ![0, 0] := rfl
theorem ix2_5 (t : Fin grid2.N) : win2_5.index t = ![0, 0] := rfl
theorem ix2_6 (t : Fin grid2.N) : win2_6.index t = ![0, 0] := rfl
theorem ix2_7 (t : Fin grid2.N) : win2_7.index t = ![0, 0] := rfl
theorem ix2_8 (t : Fin grid2.N) : win2_8.index t = ![0, 0] := rfl
theorem ix2_9 (t : Fin grid2.N) : win2_9.index t = ![0, 0] := rfl
theorem ix2_10 (t : Fin grid2.N) : win2_10.index t = ![0, 0] := rfl
theorem ix2_11 (t : Fin grid2.N) : win2_11.index t = ![0, 0] := rfl
theorem ix2_12 (t : Fin grid2.N) : win2_12.index t = ![0, 0] := rfl
theorem ix2_13 (t : Fin grid2.N) : win2_13.index t = ![0, 0] := rfl

theorem bat2_lt (t : Fin grid2.N) : (grid2.coords t 0).val < 4 := (grid2.coords t 0).isLt
theorem blk2_lt (t : Fin grid2.N) : (grid2.coords t 1).val < 4 := (grid2.coords t 1).isLt

/-- The batch entry of a step. -/
abbrev bat2 (t : Fin grid2.N) : Fin 4 := ⟨(grid2.coords t 0).val, bat2_lt t⟩

/-- The array row of a block row. -/
abbrev row2 (t : Fin grid2.N) (r : Fin 512) : Fin 2048 := ⟨(grid2.coords t 1).val * 512 + r.val, by have := blk2_lt t; omega⟩

theorem emb2_q (t : Fin grid2.N) (h : Fin 8) (r : Fin 512) (d : Fin 64) : (win2_0.blk t).view.emb (ix4 (0 : Fin 1) h r d) = ix4 (bat2 t) h (row2 t r) d :=
  pos4 (fun y a => win2_0.rect_emb_val t y a rfl) (ix2_q t) (Nat.mul_one _) (by omega) rfl (by omega)

theorem emb2_k (t : Fin grid2.N) (h : Fin 8) (r : Fin 2048) (d : Fin 64) : (win2_1.blk t).view.emb (ix4 (0 : Fin 1) h r d) = ix4 (bat2 t) h r d :=
  pos4 (fun y a => win2_1.rect_emb_val t y a rfl) (ix2_k t) (Nat.mul_one _) (by omega) (by omega) (by omega)

theorem emb2_v (t : Fin grid2.N) (h : Fin 8) (r : Fin 2048) (d : Fin 128) : (win2_2.blk t).view.emb (ix4 (0 : Fin 1) h r d) = ix4 (bat2 t) h r d :=
  pos4 (fun y a => win2_2.rect_emb_val t y a rfl) (ix2_v t) (Nat.mul_one _) (by omega) (by omega) (by omega)

theorem emb2_x (t : Fin grid2.N) (r e : Fin 512) : (win2_3.blk t).view.emb (ix3 (0 : Fin 1) r e) = ix3 (bat2 t) (row2 t r) e :=
  pos3 (fun y a => win2_3.rect_emb_val t y a rfl) (ix2_x t) (Nat.mul_one _) rfl (by omega)

theorem emb2_o (t : Fin grid2.N) (r e : Fin 512) : (win2_14.blk t).view.emb (ix3 (0 : Fin 1) r e) = ix3 (bat2 t) (row2 t r) e :=
  pos3 (fun y a => win2_14.rect_emb_val t y a rfl) (ix2_o t) (Nat.mul_one _) rfl (by omega)

theorem blk2_4 (t : Fin grid2.N) : iblk2 V c 4 t = V c (Pipeline.arrRef spec2 4) := funext fun y => congrArg (V c (Pipeline.arrRef spec2 4)) (pos2 (fun y a => win2_4.rect_emb_val t y a rfl) (ix2_4 t) y)
theorem blk2_5 (t : Fin grid2.N) : iblk2 V c 5 t = V c (Pipeline.arrRef spec2 5) := funext fun y => congrArg (V c (Pipeline.arrRef spec2 5)) (pos2 (fun y a => win2_5.rect_emb_val t y a rfl) (ix2_5 t) y)
theorem blk2_6 (t : Fin grid2.N) : iblk2 V c 6 t = V c (Pipeline.arrRef spec2 6) := funext fun y => congrArg (V c (Pipeline.arrRef spec2 6)) (pos2 (fun y a => win2_6.rect_emb_val t y a rfl) (ix2_6 t) y)
theorem blk2_7 (t : Fin grid2.N) : iblk2 V c 7 t = V c (Pipeline.arrRef spec2 7) := funext fun y => congrArg (V c (Pipeline.arrRef spec2 7)) (pos2 (fun y a => win2_7.rect_emb_val t y a rfl) (ix2_7 t) y)
theorem blk2_8 (t : Fin grid2.N) : iblk2 V c 8 t = V c (Pipeline.arrRef spec2 8) := funext fun y => congrArg (V c (Pipeline.arrRef spec2 8)) (pos2 (fun y a => win2_8.rect_emb_val t y a rfl) (ix2_8 t) y)
theorem blk2_9 (t : Fin grid2.N) : iblk2 V c 9 t = V c (Pipeline.arrRef spec2 9) := funext fun y => congrArg (V c (Pipeline.arrRef spec2 9)) (pos2 (fun y a => win2_9.rect_emb_val t y a rfl) (ix2_9 t) y)
theorem blk2_10 (t : Fin grid2.N) : iblk2 V c 10 t = V c (Pipeline.arrRef spec2 10) := funext fun y => congrArg (V c (Pipeline.arrRef spec2 10)) (pos2 (fun y a => win2_10.rect_emb_val t y a rfl) (ix2_10 t) y)
theorem blk2_11 (t : Fin grid2.N) : iblk2 V c 11 t = V c (Pipeline.arrRef spec2 11) := funext fun y => congrArg (V c (Pipeline.arrRef spec2 11)) (pos2 (fun y a => win2_11.rect_emb_val t y a rfl) (ix2_11 t) y)
theorem blk2_12 (t : Fin grid2.N) : iblk2 V c 12 t = V c (Pipeline.arrRef spec2 12) := funext fun y => congrArg (V c (Pipeline.arrRef spec2 12)) (pos2 (fun y a => win2_12.rect_emb_val t y a rfl) (ix2_12 t) y)
theorem blk2_13 (t : Fin grid2.N) : iblk2 V c 13 t = V c (Pipeline.arrRef spec2 13) := funext fun y => congrArg (V c (Pipeline.arrRef spec2 13)) (pos2 (fun y a => win2_13.rect_emb_val t y a rfl) (ix2_13 t) y)

theorem blk2 {Q : Fin 4 → Fin 2048 → Fin 1536 → ℝ} {X : Fin 4 → Fin 2048 → Fin 512 → ℝ}
    (hA : ArrIs Q (V c (Pipeline.arrRef spec2 0)) (V c (Pipeline.arrRef spec2 1)) (V c (Pipeline.arrRef spec2 2))) (hX : Is3 (V c (Pipeline.arrRef spec2 3)) X)
    (hl : ∀ i h a b, score (Q i) h a b ≤ 80) (t : Fin grid2.N) :
    BlkIs (row2 t) (Q (bat2 t)) (X (bat2 t)) (iblk2 V c 0 t) (iblk2 V c 1 t) (iblk2 V c 2 t) (iblk2 V c 3 t) where
  hq h r d := (congrArg (V c (Pipeline.arrRef spec2 0)) (emb2_q t h r d)).trans (hA.hq (bat2 t) h (row2 t r) d)
  hk h s d := (congrArg (V c (Pipeline.arrRef spec2 1)) (emb2_k t h s d)).trans (hA.hk (bat2 t) h s d)
  hv h s d := (congrArg (V c (Pipeline.arrRef spec2 2)) (emb2_v t h s _)).trans ((hA.hv (bat2 t) h s _).trans (congrArg _ (vext_left _ h s d)))
  one h s d := (congrArg (V c (Pipeline.arrRef spec2 2)) (emb2_v t h s _)).trans ((hA.hv (bat2 t) h s _).trans (congrArg _ (vext_right _ h s d)))
  hx r e := (congrArg (V c (Pipeline.arrRef spec2 3)) (emb2_x t r e)).trans (hX (bat2 t) (row2 t r) e)
  low := hl _

theorem covers2_14 : (cfg2.win 14).Covers :=
  (cfg2.win 14).covers_of_indexMap_surj rfl (by decide) fun β => ⟨fun | 0 => β 0 | 1 => β 1, fun
    | 0 => w32 (m := 4) (β 0) rfl (by decide)
    | 1 => w32 (m := 4) (β 1) rfl (by decide)
    | 2 => by have : (β 2).val < 1 := (β 2).isLt; show 0 = (β 2).val; omega⟩

theorem pt2 {p : Par} {Q : Fin 4 → Fin 2048 → Fin 1536 → ℝ} {X : Fin 4 → Fin 2048 → Fin 512 → ℝ}
    (hA : ArrIs Q (V c (Pipeline.arrRef spec2 0)) (V c (Pipeline.arrRef spec2 1)) (V c (Pipeline.arrRef spec2 2))) (hX : Is3 (V c (Pipeline.arrRef spec2 3)) X)
    (hw : (wts2 V c).Is p) (hl : ∀ i h a b, score (Q i) h a b ≤ 80) (t : Fin grid2.N) (r e : Fin 512) :
    out2_14 (iblk2 V c 0 t) (iblk2 V c 1 t) (iblk2 V c 2 t) (iblk2 V c 3 t) (iblk2 V c 4 t) (iblk2 V c 5 t) (iblk2 V c 6 t) (iblk2 V c 7 t) (iblk2 V c 8 t)
      (iblk2 V c 9 t) (iblk2 V c 10 t) (iblk2 V c 11 t) (iblk2 V c 12 t) (iblk2 V c 13 t) (ix3 0 r e) = ((outOf p (X (bat2 t)) (Q (bat2 t)) (row2 t r) e : ℝ) : EReal) := by
  rw [out2_eq, blk2_4, blk2_5, blk2_6, blk2_7, blk2_8, blk2_9, blk2_10, blk2_11, blk2_12, blk2_13]
  exact fOut_real (blk2 V c hA hX hl t) hw r e

/-- The output array's contents. -/
def G2 (p : Par) (Q : Fin 4 → Fin 2048 → Fin 1536 → ℝ) (X : Fin 4 → Fin 2048 → Fin 512 → ℝ) : S4x2048x512.Idx → EReal :=
  fun y => ((outOf p (X (y 0)) (Q (y 0)) (y 1) (y 2) : ℝ) : EReal)

theorem arr2 {p : Par} {Q : Fin 4 → Fin 2048 → Fin 1536 → ℝ} {X : Fin 4 → Fin 2048 → Fin 512 → ℝ}
    (hA : ArrIs Q (V c (Pipeline.arrRef spec2 0)) (V c (Pipeline.arrRef spec2 1)) (V c (Pipeline.arrRef spec2 2))) (hX : Is3 (V c (Pipeline.arrRef spec2 3)) X)
    (hw : (wts2 V c).Is p) (hl : ∀ i h a b, score (Q i) h a b ≤ 80) : Is3 ((dat2 V c).arrAt 14 cfg2.N) fun i => outOf p (X i) (Q i) := by
  have key := (dat2 V c).arrAt_eq_of_covers 14 (G2 p Q X) covers2_14 fun t hf y => by
    blk_simp
    rw [after2_14]
    obtain ⟨r, e, rfl⟩ : ∃ r e : Fin 512, y = ix3 (0 : Fin 1) r e := ⟨y 1, y 2, funext fun | 0 => Subsingleton.elim (α := Fin 1) _ _ | 1 => rfl | 2 => rfl⟩
    exact (pt2 V c hA hX hw hl t r e).trans (congrArg (G2 p Q X) (emb2_o t r e)).symm
  exact fun i s e => congrFun key (ix3 i s e)

end Cert.Net
-- ==== Proof.KerPool.lean ====
/- The kernel's pooling of rows into chunks: prefix sums by doubling shifts, an indicator matrix, a matrix product and a quotient. -/
module

public import proofs.«01_k».proof.Proof.KerBlock
public import proofs.«01_k».proof.Proof.Pool
public import Idealize.ShloMosaic.Lib.WordArith

@[expose] public section

set_option maxRecDepth 16384

noncomputable section

namespace Cert.Net

open Idealize.ShloMosaic Finset

/-! ### Prefix sums by doubling shifts -/

/-- One where a row is a boundary. -/
def fBit (b : FVec Ideal ⟨3, ![1, 1, 2048]⟩ .f32) : FVec Ideal ⟨2, ![1, 2048]⟩ .f32 :=
  select (cmpi .eq (iota .tc ⟨2, ![1, 2048]⟩ 32 [1] (by decide)) (broadcast ⟨2, ![1, 2048]⟩ 0#32)) (broadcast ⟨2, ![1, 2048]⟩ (Scalar.ofBits (F := Ideal) .f32 0x00000000#32))
    (select (cmpf .ogt (shapeCast ⟨2, ![1, 2048]⟩ b (by decide)) (broadcast ⟨2, ![1, 2048]⟩ (Scalar.ofBits (F := Ideal) .f32 0x3F000000#32)))
      (broadcast ⟨2, ![1, 2048]⟩ (Scalar.ofBits (F := Ideal) .f32 0x3F800000#32)) (broadcast ⟨2, ![1, 2048]⟩ (Scalar.ofBits (F := Ideal) .f32 0x00000000#32)))

/-- A row added to itself moved right by `w`. -/
def fShift (w v : ℕ) (hs : (⟨2, ![1, 2048]⟩ : Shape).Slices ![0, 0] ⟨2, ![1, v]⟩)
    (hc : Shape.Concatenates [⟨2, ![1, w]⟩, ⟨2, ![1, v]⟩] ⟨2, ![1, 2048]⟩ 1) (s : FVec Ideal ⟨2, ![1, 2048]⟩ .f32) : FVec Ideal ⟨2, ![1, 2048]⟩ .f32 :=
  addf s (concatenate ⟨2, ![1, 2048]⟩ 1 [⟨⟨2, ![1, w]⟩, broadcast ⟨2, ![1, w]⟩ (Scalar.ofBits (F := Ideal) .f32 0x00000000#32)⟩,
    ⟨⟨2, ![1, v]⟩, extractStridedSlice ⟨2, ![1, v]⟩ ![0, 0] s hs⟩] hc)

/-- The entries of a row are the numbers of boundaries among the last `w` rows. -/
def Win (b : Fin 2048 → EReal) (w : ℕ) (s : (⟨2, ![1, 2048]⟩ : Shape).Idx → EReal) : Prop :=
  ∀ t : Fin 2048, s (ix2 (0 : Fin 1) t) = (((∑ u ∈ Ico (t.val + 1 - w) (t.val + 1), bit b u : ℕ) : ℝ) : EReal)

theorem ixs_row (t : Fin 2048) (z : Fin 1) : (ix2 z t : (⟨2, ![1, 2048]⟩ : Shape).Idx) = ix2 (0 : Fin 1) t := by
  rw [Subsingleton.elim z 0]

theorem fBit_real {b : FVec Ideal ⟨3, ![1, 1, 2048]⟩ .f32} {B : Fin 2048 → EReal} (hb : ∀ t, b (ix3 (0 : Fin 1) (0 : Fin 1) t) = B t)
    (t : Fin 2048) : fBit b (ix2 (0 : Fin 1) t) = (((bit B t.val : ℕ) : ℝ) : EReal) := by
  change Scalar.select (IntOp.cmpi .eq (BitVec.ofNat 32 (0 * 2048 + t.val)) 0#32) (Ideal.ofBits .f32 0x00000000#32)
    (Scalar.select (Ideal.cmp .ogt (shapeCast ⟨2, ![1, 2048]⟩ b (by decide) (ix2 (0 : Fin 1) t)) (Ideal.ofBits .f32 0x3F000000#32))
      (Ideal.ofBits .f32 0x3F800000#32) (Ideal.ofBits .f32 0x00000000#32)) = _
  rw [cast_x, hb, bits_half, bits_one, bits_zero, Nat.zero_mul, Nat.zero_add]
  unfold bit
  rw [dif_pos t.isLt]
  by_cases h0 : t.val = 0
  · rw [if_neg fun h => h.1 h0, h0, Nat.cast_zero]
    rfl
  · have h1 : IntOp.cmpi .eq (BitVec.ofNat 32 t.val) 0#32 = 0#1 := by
      have : BitVec.ofNat 32 t.val ≠ 0#32 := fun h => h0 (by
        have := congrArg BitVec.toNat h
        rw [BitVec.toNat_ofNat, Nat.mod_eq_of_lt (by omega)] at this
        exact this)
      show BitVec.ofBool (BitVec.ofNat 32 t.val == 0#32) = 0#1
      rw [beq_false_of_ne this]
      rfl
    rw [h1]
    by_cases h : ((1 / 2 : ℝ) : EReal) < B t
    · rw [if_pos ⟨h0, h⟩, Nat.cast_one]
      have : Ideal.cmp .ogt (B t) ((1 / 2 : ℝ) : EReal) = 1#1 := by
        simp only [Ideal.cmp, decide_eq_true h]
        rfl
      rw [this]; rfl
    · rw [if_neg fun h' => h h'.2, Nat.cast_zero]
      have : Ideal.cmp .ogt (B t) ((1 / 2 : ℝ) : EReal) = 0#1 := by
        simp only [Ideal.cmp, decide_eq_false h]
        rfl
      rw [this]; rfl

theorem win_one {b : Fin 2048 → EReal} {s : (⟨2, ![1, 2048]⟩ : Shape).Idx → EReal}
    (h : ∀ t : Fin 2048, s (ix2 (0 : Fin 1) t) = (((bit b t.val : ℕ) : ℝ) : EReal)) : Win b 1 s := fun t => by
  rw [h, Nat.add_sub_cancel, Nat.Ico_succ_singleton, sum_singleton]

theorem fShift_win {b : Fin 2048 → EReal} {w v : ℕ} (hw : 0 < w) (hv : w + v = 2048) (hs) (hc) {s : FVec Ideal ⟨2, ![1, 2048]⟩ .f32} (h : Win b w s) :
    Win b (w + w) (fShift w v hs hc s) := fun t => by
  change s (ix2 (0 : Fin 1) t) + concatenate ⟨2, ![1, 2048]⟩ 1 [⟨⟨2, ![1, w]⟩, broadcast ⟨2, ![1, w]⟩ (Scalar.ofBits (F := Ideal) .f32 0x00000000#32)⟩,
    ⟨⟨2, ![1, v]⟩, extractStridedSlice ⟨2, ![1, v]⟩ ![0, 0] s hs⟩] hc (ix2 (0 : Fin 1) t) = _
  by_cases ht : t.val < w
  · rw [concatenate_pair_apply_left (t := ⟨2, ![1, 2048]⟩) (s₁ := ⟨2, ![1, w]⟩) (s₂ := ⟨2, ![1, v]⟩) 1 _ _ hc _ rfl (ix2 (0 : Fin 1) (⟨t.val, ht⟩ : Fin w))
      (fun b => by match b with | ⟨0, _⟩ => rfl | ⟨1, _⟩ => rfl)]
    change s (ix2 (0 : Fin 1) t) + Ideal.ofBits .f32 0x00000000#32 = _
    rw [bits_zero, h, ← EReal.coe_add, add_zero, show t.val + 1 - (w + w) = t.val + 1 - w by omega]
  · have hl : t.val - w < v := by omega
    rw [concatenate_pair_apply_right (t := ⟨2, ![1, 2048]⟩) (s₁ := ⟨2, ![1, w]⟩) (s₂ := ⟨2, ![1, v]⟩) 1 _ _ hc _ rfl rfl (ix2 (0 : Fin 1) (⟨t.val - w, hl⟩ : Fin v))
      (fun b hb => by match b with | ⟨0, _⟩ => rfl | ⟨1, _⟩ => exact absurd rfl hb) (by show t.val - w + w = t.val; omega)]
    rw [extractStridedSlice_apply (t := ⟨2, ![1, v]⟩) _ _ _ _ (ix2 (0 : Fin 1) (⟨t.val - w, by omega⟩ : Fin 2048))
      (fun a => by match a with | ⟨0, _⟩ => rfl | ⟨1, _⟩ => exact (Nat.zero_add _).symm)]
    rw [h, h, ← EReal.coe_add, ← Nat.cast_add, add_comm,
      show t.val - w + 1 - w = t.val + 1 - (w + w) by omega, show t.val - w + 1 = t.val + 1 - w by omega,
      sum_Ico_consecutive _ (by omega) (by omega)]

/-- All the shifts. -/
def fScan (m : FVec Ideal ⟨2, ![1, 2048]⟩ .f32) : FVec Ideal ⟨2, ![1, 2048]⟩ .f32 :=
  fShift 1024 1024 (by decide) (by decide) (fShift 512 1536 (by decide) (by decide) (fShift 256 1792 (by decide) (by decide)
    (fShift 128 1920 (by decide) (by decide) (fShift 64 1984 (by decide) (by decide) (fShift 32 2016 (by decide) (by decide)
      (fShift 16 2032 (by decide) (by decide) (fShift 8 2040 (by decide) (by decide) (fShift 4 2044 (by decide) (by decide)
        (fShift 2 2046 (by decide) (by decide) (fShift 1 2047 (by decide) (by decide) m))))))))))

/-- The chunk of every row. -/
def fSeg (m : FVec Ideal ⟨2, ![1, 2048]⟩ .f32) : FVec Ideal ⟨2, ![1, 2048]⟩ .f32 := subf (fScan m) m

theorem fSeg_real {b : Fin 2048 → EReal} {m : FVec Ideal ⟨2, ![1, 2048]⟩ .f32}
    (h : ∀ t : Fin 2048, m (ix2 (0 : Fin 1) t) = (((bit b t.val : ℕ) : ℝ) : EReal)) (t : Fin 2048) :
    fSeg m (ix2 (0 : Fin 1) t) = (((seg b t.val : ℕ) : ℝ) : EReal) := by
  have hw : Win b 2048 (fScan m) := fShift_win (by decide) (by decide) _ _ (fShift_win (by decide) (by decide) _ _ (fShift_win (by decide) (by decide) _ _
    (fShift_win (by decide) (by decide) _ _ (fShift_win (by decide) (by decide) _ _ (fShift_win (by decide) (by decide) _ _
    (fShift_win (by decide) (by decide) _ _ (fShift_win (by decide) (by decide) _ _ (fShift_win (by decide) (by decide) _ _
    (fShift_win (by decide) (by decide) _ _ (fShift_win (by decide) (by decide) _ _ (win_one h)))))))))))
  change fScan m (ix2 (0 : Fin 1) t) - m (ix2 (0 : Fin 1) t) = _
  rw [hw, h, ← EReal.coe_sub, show t.val + 1 - 2048 = 0 by omega, Nat.Ico_zero_eq_range, seg_succ, Nat.cast_add, add_sub_cancel_right]

/-! ### The indicator matrix and the means -/

/-- One where a row belongs to a chunk. -/
def fOne (a : BitVec 32) (g : FVec Ideal ⟨2, ![1, 2048]⟩ .f32) : FVec Ideal ⟨2, ![1024, 2048]⟩ .f32 :=
  select (cmpf .oeq (sitofp (F := Ideal) .f32 (addi (iota .tc ⟨2, ![1024, 2048]⟩ 32 [0] (by decide)) (broadcast ⟨2, ![1024, 2048]⟩ (Scalar.muli a 1024#32))))
      (broadcastTo ⟨2, ![1024, 2048]⟩ g (by decide)))
    (broadcast ⟨2, ![1024, 2048]⟩ (Scalar.ofBits (F := Ideal) .f32 0x3F800000#32)) (broadcast ⟨2, ![1024, 2048]⟩ (Scalar.ofBits (F := Ideal) .f32 0x00000000#32))

theorem fOne_real {b : Fin 2048 → EReal} {g : FVec Ideal ⟨2, ![1, 2048]⟩ .f32} (h : ∀ t : Fin 2048, g (ix2 (0 : Fin 1) t) = (((seg b t.val : ℕ) : ℝ) : EReal)) :
    Is2 (fOne 0#32 g) fun c t => if seg b t.val = c.val then 1 else 0 := fun c t => by
  change Scalar.select (Ideal.cmp .oeq ((((BitVec.ofNat 32 (0 * 1024 + c.val) + 0#32 * 1024#32).toInt : ℝ)) : EReal)
    (broadcastTo ⟨2, ![1024, 2048]⟩ g (by decide) (ix2 c t))) (Ideal.ofBits .f32 0x3F800000#32) (Ideal.ofBits .f32 0x00000000#32) = _
  rw [row_apply, h, bits_one, bits_zero, Nat.zero_mul, Nat.zero_add, show (0#32 * 1024#32 : BitVec 32) = 0#32 from rfl, BitVec.add_zero,
    WordArith.toInt_ofNat_small _ (by omega), Int.cast_natCast]
  show _ = (((if seg b t.val = c.val then 1 else 0 : ℝ)) : EReal)
  by_cases hc : seg b t.val = c.val
  · rw [if_pos hc, hc]
    have : Ideal.cmp .oeq (((c.val : ℕ) : ℝ) : EReal) (((c.val : ℕ) : ℝ) : EReal) = 1#1 := by
      simp only [Ideal.cmp, decide_true]
      rfl
    rw [this]; rfl
  · rw [if_neg hc]
    have : Ideal.cmp .oeq (((c.val : ℕ) : ℝ) : EReal) (((seg b t.val : ℕ) : ℝ) : EReal) = 0#1 := by
      have : ¬ (((c.val : ℕ) : ℝ) : EReal) = (((seg b t.val : ℕ) : ℝ) : EReal) := fun q => hc (Nat.cast_injective (EReal.coe_injective q)).symm
      simp only [Ideal.cmp, decide_eq_false this]
      rfl
    rw [this]; rfl

theorem wf_pool : DotDims.WF ⟨2, ![1024, 2048]⟩ ⟨2, ![2048, 512]⟩ ⟨2, ![1024, 512]⟩ [1] [0] [0] [1] [] [] := by decide
theorem rd_pool : (⟨2, ![1024, 2048]⟩ : Shape).Reduces [1] ⟨1, ![1024]⟩ := by decide

/-- The means of the chunks. -/
def fPool (p : FVec Ideal ⟨2, ![1024, 2048]⟩ .f32) (x : FVec Ideal ⟨3, ![1, 2048, 512]⟩ .f32) : FVec Ideal ⟨2, ![1024, 512]⟩ .f32 :=
  mulf (matmul (dNN 1024 2048 512 wf_pool) none (truncf .bf16 p lt16) (truncf .bf16 (shapeCast ⟨2, ![2048, 512]⟩ x (by decide)) lt16)
      (constant ⟨2, ![1024, 512]⟩ .f32 0x00000000#32))
    (broadcastTo ⟨2, ![1024, 512]⟩ (divf (broadcast ⟨2, ![1024, 1]⟩ (Scalar.ofBits (F := Ideal) .f32 0x3F800000#32))
      (maximumf (shapeCast ⟨2, ![1024, 1]⟩ (multiReduction .add [1] ⟨1, ![1024]⟩ p 0x00000000#32 rd_pool (.inl rfl) rfl) (by decide))
        (broadcast ⟨2, ![1024, 1]⟩ (Scalar.ofBits (F := Ideal) .f32 0x3F800000#32)))) (by decide))

theorem fPool_real {b : Fin 2048 → EReal} {p : FVec Ideal ⟨2, ![1024, 2048]⟩ .f32} (hp : Is2 p fun c t => if seg b t.val = c.val then 1 else 0)
    {x : FVec Ideal ⟨3, ![1, 2048, 512]⟩ .f32} {X : Fin 2048 → Fin 512 → ℝ} (hx : Is3 x fun _ => X) : Is2 (fPool p x) (pool b X) := by
  intro c e
  have h1 : matmul (dNN 1024 2048 512 wf_pool) none (truncf .bf16 p lt16) (truncf .bf16 (shapeCast ⟨2, ![2048, 512]⟩ x (by decide)) lt16)
      (constant ⟨2, ![1024, 512]⟩ .f32 0x00000000#32) (ix2 c e) = ((tot b X c.val e : ℝ) : EReal) := by
    rw [dNN_apply, show (constant (F := Ideal) ⟨2, ![1024, 512]⟩ .f32 0x00000000#32) (ix2 c e) = 0 from bits_zero, zero_add, tot, coe_sum]
    refine sum_congr rfl fun t _ => ?_
    change p (ix2 c t) * shapeCast ⟨2, ![2048, 512]⟩ x (by decide) (ix2 t e) = _
    rw [cast_x, hp, hx, ← EReal.coe_mul]
    exact congrArg _ (boole_mul _ _)
  have h2 : multiReduction .add [1] ⟨1, ![1024]⟩ p 0x00000000#32 rd_pool (.inl rfl) rfl (ix1 c) = ((cnt b c.val : ℝ) : EReal) := by
    pointwise
    simp only [hp _ _, ← coe_sum, cnt]
  change matmul (F := Ideal) (dNN 1024 2048 512 wf_pool) none _ _ _ (ix2 c e) * broadcastTo _ _ _ (ix2 c e) = _
  rw [h1, colm_apply]
  change _ * Ideal.div (Ideal.ofBits .f32 0x3F800000#32) (max (shapeCast ⟨2, ![1024, 1]⟩ _ _ (ix2 c 0)) (Ideal.ofBits .f32 0x3F800000#32)) = _
  rw [cast_m, h2, bits_one, coe_max, div_real _ _ (max_cnt_ne _ _), ← EReal.coe_mul, pool, mul_one_div]

end Cert.Net
-- ==== Proof.KerRegion3.lean ====
/- What the fourth kernel call (the pooling into chunks, with the projection of the chunks) leaves in its output arrays. -/
module

public import proofs.«01_k».proof.Proof.KerPool
public import proofs.«01_k».proof.Proof.Gen.KernelIdeal.Frame.Region3
public import Idealize.ShloMosaic.Lib.Pipeline.Covers

@[expose] public section

set_option maxRecDepth 16384
set_option maxHeartbeats 1600000

noncomputable section

namespace Cert.Net

open Idealize.ShloMosaic Idealize.ShloMosaic.TcCoe Cert.KernelIdeal Cert.KernelIdeal.Gen

section
variable (i : grid3.Coords) (x0 : Vec Ideal S1x1x2048 .f32) (x1 : Vec Ideal S1x2048x512 .f32) (x2 : Vec Ideal S1536x512 .bf16) (x3 : Vec Ideal S1x1536 .f32)

/-- The chunk means of the block. -/
abbrev mean3 : FVec Ideal S1024x512 .f32 := fPool (fOne (BitVec.ofNat 32 (i 1).val) (fSeg (fBit x0))) x1

/-- Their projection. -/
abbrev next3 : FVec Ideal S1024x1536 .bf16 := fQkv 1024 (mean3 i x0 x1) x2 x3

theorem mean3_eq : k3_pay8 (BitVec.ofNat 32 (i 1).val) (k3_pay37 i x0 x1 x2 x3) (k3_pay38 i x0 x1 x2 x3) (k3_pay39 i x0 x1 x2 x3) (k3_pay40 i x0 x1 x2 x3) (View.ld x1 r3_1)
    = mean3 i x0 x1 := by
  have z3 : (![0, 0, 0] : Fin 3 → ℕ) = fun _ => 0 := by decide
  unfold k3_pay37 k3_pay38 k3_pay39 k3_pay40
  rw [show View.ld x0 r3_0 = x0 from View.ld_unit_zero z3 _ x0, show View.ld x1 r3_1 = x1 from View.ld_unit_zero z3 _ x1]
  rfl

theorem next3_eq : k3_pay42 i x0 x1 x2 x3 = next3 i x0 x1 x2 x3 := by
  have z2 : (![0, 0] : Fin 2 → ℕ) = fun _ => 0 := by decide
  unfold k3_pay42 k3_pay41 k3_pay10
  rw [mean3_eq, show View.ld x2 r3_3 = x2 from View.ld_unit_zero z2 _ x2, show View.ld x3 r3_4 = x3 from View.ld_unit_zero z2 _ x3]
  rfl

theorem out3_c (r : Fin 1024) (e : Fin 512) : out3_4 i x0 x1 x2 x3 (ix3 (0 : Fin 1) r e) = mean3 i x0 x1 (ix2 r e) := by
  have z3 : (![0, 0, 0] : Fin 3 → ℕ) = fun _ => 0 := by decide
  unfold out3_4 k3_pay9
  rw [View.canon_unit_zero z3, mean3_eq]
  exact cast_y _ _ 0 r e

theorem out3_q : out3_5 i x0 x1 x2 x3 = View.canon (Val := Elt Ideal) (e := .bf16) (heads8.map fun k => (⟨hrect 1024 64 k, tQ (next3 i x0 x1 x2 x3) k⟩ : View.Piece (Elt Ideal) ⟨4, ![1, 8, 1024, 64]⟩ .bf16)) := by
  rw [← next3_eq]
  rfl

theorem out3_k : out3_6 i x0 x1 x2 x3 = View.canon (Val := Elt Ideal) (e := .bf16) (heads8.map fun k => (⟨hrect 1024 64 k, tK (next3 i x0 x1 x2 x3) k⟩ : View.Piece (Elt Ideal) ⟨4, ![1, 8, 1024, 64]⟩ .bf16)) := by
  rw [← next3_eq]
  rfl

theorem out3_v : out3_7 i x0 x1 x2 x3 = View.canon (Val := Elt Ideal) (e := .bf16) (heads8.map fun k => (⟨hrect 1024 128 k, tV (next3 i x0 x1 x2 x3) k⟩ : View.Piece (Elt Ideal) ⟨4, ![1, 8, 1024, 128]⟩ .bf16)) := by
  rw [← next3_eq]
  rfl

end

variable (V : (c : Dev nD) → (b : Ref sig .tc) → Buf (Elt Ideal) ((c : Thread nD τ).loc b)) (c : Dev nD)

theorem lt3_b (t : Fin grid3.N) : (grid3.coords t 0).val < 4 := (grid3.coords t 0).isLt
theorem lt3_j (t : Fin grid3.N) : (grid3.coords t 1).val < 1 := (grid3.coords t 1).isLt

theorem ix3_bp (t : Fin grid3.N) : win3_0.index t = ![(grid3.coords t 0).val, 0, 0] :=
  congrArg (fun a => ![a, 0, 0]) (w32 (m := 4) (grid3.coords t 0) rfl (by decide))

theorem ix3_x (t : Fin grid3.N) : win3_1.index t = ![(grid3.coords t 0).val, 0, 0] :=
  congrArg (fun a => ![a, 0, 0]) (w32 (m := 4) (grid3.coords t 0) rfl (by decide))

theorem ix3_2 (t : Fin grid3.N) : win3_2.index t = ![0, 0] := rfl
theorem ix3_3 (t : Fin grid3.N) : win3_3.index t = ![0, 0] := rfl

theorem ix3_4 (t : Fin grid3.N) : win3_4.index t = ![(grid3.coords t 0).val, (grid3.coords t 1).val, 0] :=
  congrArg₂ (fun a b => ![a, b, 0]) (w32 (m := 4) (grid3.coords t 0) rfl (by decide)) (w32 (m := 1) (grid3.coords t 1) rfl (by decide))

theorem ix3_5 (t : Fin grid3.N) : win3_5.index t = ![(grid3.coords t 0).val, 0, (grid3.coords t 1).val, 0] :=
  congrArg₂ (fun a b => ![a, 0, b, 0]) (w32 (m := 4) (grid3.coords t 0) rfl (by decide)) (w32 (m := 1) (grid3.coords t 1) rfl (by decide))

theorem ix3_6 (t : Fin grid3.N) : win3_6.index t = ![(grid3.coords t 0).val, 0, (grid3.coords t 1).val, 0] :=
  congrArg₂ (fun a b => ![a, 0, b, 0]) (w32 (m := 4) (grid3.coords t 0) rfl (by decide)) (w32 (m := 1) (grid3.coords t 1) rfl (by decide))

theorem ix3_7 (t : Fin grid3.N) : win3_7.index t = ![(grid3.coords t 0).val, 0, (grid3.coords t 1).val, 0] :=
  congrArg₂ (fun a b => ![a, 0, b, 0]) (w32 (m := 4) (grid3.coords t 0) rfl (by decide)) (w32 (m := 1) (grid3.coords t 1) rfl (by decide))

/-- The batch entry of a step. -/
abbrev bat3 (t : Fin grid3.N) : Fin 4 := ⟨(grid3.coords t 0).val, lt3_b t⟩

theorem emb3_bp (t : Fin grid3.N) (z : Fin 1) (e : Fin 2048) : (win3_0.blk t).view.emb (ix3 (0 : Fin 1) z e) = ix3 (bat3 t) z e :=
  pos3 (fun y a => win3_0.rect_emb_val t y a rfl) (ix3_bp t) (Nat.mul_one _) (by omega) (by omega)

theorem emb3_x (t : Fin grid3.N) (r : Fin 2048) (e : Fin 512) : (win3_1.blk t).view.emb (ix3 (0 : Fin 1) r e) = ix3 (bat3 t) r e :=
  pos3 (fun y a => win3_1.rect_emb_val t y a rfl) (ix3_x t) (Nat.mul_one _) (by omega) (by omega)

theorem emb3_4 (t : Fin grid3.N) (r : Fin 1024) (e : Fin 512) : (win3_4.blk t).view.emb (ix3 (0 : Fin 1) r e) = ix3 (bat3 t) r e :=
  pos3 (fun y a => win3_4.rect_emb_val t y a rfl) (ix3_4 t) (Nat.mul_one _) (by have := lt3_j t; omega) (by omega)

theorem emb3_5 (t : Fin grid3.N) (h : Fin 8) (r : Fin 1024) (d : Fin 64) : (win3_5.blk t).view.emb (ix4 (0 : Fin 1) h r d) = ix4 (bat3 t) h r d :=
  pos4 (fun y a => win3_5.rect_emb_val t y a rfl) (ix3_5 t) (Nat.mul_one _) (by omega) (by have := lt3_j t; omega) (by omega)

theorem emb3_6 (t : Fin grid3.N) (h : Fin 8) (r : Fin 1024) (d : Fin 64) : (win3_6.blk t).view.emb (ix4 (0 : Fin 1) h r d) = ix4 (bat3 t) h r d :=
  pos4 (fun y a => win3_6.rect_emb_val t y a rfl) (ix3_6 t) (Nat.mul_one _) (by omega) (by have := lt3_j t; omega) (by omega)

theorem emb3_7 (t : Fin grid3.N) (h : Fin 8) (r : Fin 1024) (d : Fin 128) : (win3_7.blk t).view.emb (ix4 (0 : Fin 1) h r d) = ix4 (bat3 t) h r d :=
  pos4 (fun y a => win3_7.rect_emb_val t y a rfl) (ix3_7 t) (Nat.mul_one _) (by omega) (by have := lt3_j t; omega) (by omega)

theorem blk3_2 (t : Fin grid3.N) : iblk3 V c 2 t = V c (Pipeline.arrRef spec3 2) := funext fun y => congrArg (V c (Pipeline.arrRef spec3 2)) (pos2 (fun y a => win3_2.rect_emb_val t y a rfl) (ix3_2 t) y)
theorem blk3_3 (t : Fin grid3.N) : iblk3 V c 3 t = V c (Pipeline.arrRef spec3 3) := funext fun y => congrArg (V c (Pipeline.arrRef spec3 3)) (pos2 (fun y a => win3_3.rect_emb_val t y a rfl) (ix3_3 t) y)

theorem covers3_4 : (cfg3.win 4).Covers :=
  (cfg3.win 4).covers_of_indexMap_surj rfl (by decide) fun β => ⟨fun | 0 => β 0 | 1 => β 1, fun
    | 0 => w32 (m := 4) (β 0) rfl (by decide)
    | 1 => w32 (m := 1) (β 1) rfl (by decide)
    | 2 => by have : (β 2).val < 1 := (β 2).isLt; show 0 = (β 2).val; omega⟩

theorem covers3_5 : (cfg3.win 5).Covers :=
  (cfg3.win 5).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 1) (β 2) rfl (by decide)
    | 3 => by have : (β 3).val < 1 := (β 3).isLt; show 0 = (β 3).val; omega⟩

theorem covers3_6 : (cfg3.win 6).Covers :=
  (cfg3.win 6).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 1) (β 2) rfl (by decide)
    | 3 => by have : (β 3).val < 1 := (β 3).isLt; show 0 = (β 3).val; omega⟩

theorem covers3_7 : (cfg3.win 7).Covers :=
  (cfg3.win 7).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 1) (β 2) rfl (by decide)
    | 3 => by have : (β 3).val < 1 := (β 3).isLt; show 0 = (β 3).val; omega⟩

/-- What the call's arrays hold when it starts. -/
structure In3 (pn : Par) (b : Fin 4 → Fin 2048 → EReal) (Y : Fin 4 → Fin 2048 → Fin 512 → ℝ) : Prop where
  hb : ∀ i t, V c (Pipeline.arrRef spec3 0) (ix3 i (0 : Fin 1) t) = b i t
  hY : Is3 (V c (Pipeline.arrRef spec3 1)) Y
  hWq : Is2 (V c (Pipeline.arrRef spec3 2)) pn.Wqkv
  hbq : Is2 (V c (Pipeline.arrRef spec3 3)) fun _ => pn.bqkv

variable {V c} {pn : Par} {b : Fin 4 → Fin 2048 → EReal} {Y : Fin 4 → Fin 2048 → Fin 512 → ℝ} (H : In3 V c pn b Y)
include H

theorem mean3_real (t : Fin grid3.N) : Is2 (mean3 (grid3.coords t) (iblk3 V c 0 t) (iblk3 V c 1 t)) (pool (b (bat3 t)) (Y (bat3 t))) := by
  have h0 : BitVec.ofNat 32 (grid3.coords t 1).val = 0#32 := by rw [show (grid3.coords t 1).val = 0 by have := lt3_j t; omega]
  rw [mean3, h0]
  refine fPool_real (fOne_real (fSeg_real (fBit_real fun e => ?_))) fun z r e => ?_
  · exact (congrArg (V c (Pipeline.arrRef spec3 0)) (emb3_bp t 0 e)).trans (H.hb (bat3 t) e)
  · rw [Subsingleton.elim z 0]
    exact (congrArg (V c (Pipeline.arrRef spec3 1)) (emb3_x t r e)).trans (H.hY (bat3 t) r e)

theorem next3_real (t : Fin grid3.N) : Is2 (next3 (grid3.coords t) (iblk3 V c 0 t) (iblk3 V c 1 t) (iblk3 V c 2 t) (iblk3 V c 3 t))
    fun r => proj pn (pool (b (bat3 t)) (Y (bat3 t))) r := by
  rw [next3, blk3_2, blk3_3]
  exact fQkv_real (mean3_real H t) H.hWq H.hbq

theorem arr3_c : Is3 ((dat3 V c).arrAt 4 cfg3.N) fun i => pool (b i) (Y i) := by
  have key := (dat3 V c).arrAt_eq_of_covers 4 (fun y : S4x1024x512.Idx => ((pool (b (y 0)) (Y (y 0)) (y 1) (y 2) : ℝ) : EReal)) covers3_4 fun t hf y => by
    blk_simp
    rw [after3_4]
    obtain ⟨r, e, rfl⟩ : ∃ (r : Fin 1024) (e : Fin 512), y = ix3 (0 : Fin 1) r e := ⟨y 1, y 2, funext fun | 0 => Subsingleton.elim (α := Fin 1) _ _ | 1 => rfl | 2 => rfl⟩
    exact ((out3_c _ _ _ _ _ r e).trans (mean3_real H t r e)).trans
      (congrArg (fun y : S4x1024x512.Idx => ((pool (b (y 0)) (Y (y 0)) (y 1) (y 2) : ℝ) : EReal)) (emb3_4 t r e)).symm
  exact fun i s e => congrFun key (ix3 i s e)

theorem arr3_q (i : Fin 4) (h : Fin 8) (s : Fin 1024) (d : Fin 64) :
    (dat3 V c).arrAt 5 cfg3.N (ix4 i h s d) = ((proj pn (pool (b i) (Y i)) s (col 0 h d) * (1 / 8) : ℝ) : EReal) := by
  have key := (dat3 V c).arrAt_eq_of_covers 5 (fun y : S4x8x1024x64.Idx => ((proj pn (pool (b (y 0)) (Y (y 0))) (y 2) (col 0 (y 1) (y 3)) * (1 / 8) : ℝ) : EReal)) covers3_5 fun t hf y => by
    blk_simp
    rw [after3_5, out3_q]
    obtain ⟨h, r, d, rfl⟩ : ∃ (h : Fin 8) (r : Fin 1024) (d : Fin 64), y = ix4 (0 : Fin 1) h r d := ⟨y 1, y 2, y 3, funext fun | 0 => Subsingleton.elim (α := Fin 1) _ _ | 1 => rfl | 2 => rfl | 3 => rfl⟩
    exact (canon_q (next3_real H t) 0 h r d).trans
      (congrArg (fun y : S4x8x1024x64.Idx => ((proj pn (pool (b (y 0)) (Y (y 0))) (y 2) (col 0 (y 1) (y 3)) * (1 / 8) : ℝ) : EReal)) (emb3_5 t h r d)).symm
  exact congrFun key (ix4 i h s d)

theorem arr3_k (i : Fin 4) (h : Fin 8) (s : Fin 1024) (d : Fin 64) :
    (dat3 V c).arrAt 6 cfg3.N (ix4 i h s d) = ((proj pn (pool (b i) (Y i)) s (col 1 h d) : ℝ) : EReal) := by
  have key := (dat3 V c).arrAt_eq_of_covers 6 (fun y : S4x8x1024x64.Idx => ((proj pn (pool (b (y 0)) (Y (y 0))) (y 2) (col 1 (y 1) (y 3)) : ℝ) : EReal)) covers3_6 fun t hf y => by
    blk_simp
    rw [after3_6, out3_k]
    obtain ⟨h, r, d, rfl⟩ : ∃ (h : Fin 8) (r : Fin 1024) (d : Fin 64), y = ix4 (0 : Fin 1) h r d := ⟨y 1, y 2, y 3, funext fun | 0 => Subsingleton.elim (α := Fin 1) _ _ | 1 => rfl | 2 => rfl | 3 => rfl⟩
    exact (canon_k (next3_real H t) 0 h r d).trans
      (congrArg (fun y : S4x8x1024x64.Idx => ((proj pn (pool (b (y 0)) (Y (y 0))) (y 2) (col 1 (y 1) (y 3)) : ℝ) : EReal)) (emb3_6 t h r d)).symm
  exact congrFun key (ix4 i h s d)

theorem arr3_v (i : Fin 4) (h : Fin 8) (s : Fin 1024) (d : Fin 128) :
    (dat3 V c).arrAt 7 cfg3.N (ix4 i h s d) = ((vext (proj pn (pool (b i) (Y i))) h s d : ℝ) : EReal) := by
  have key := (dat3 V c).arrAt_eq_of_covers 7 (fun y : S4x8x1024x128.Idx => ((vext (proj pn (pool (b (y 0)) (Y (y 0)))) (y 1) (y 2) (y 3) : ℝ) : EReal)) covers3_7 fun t hf y => by
    blk_simp
    rw [after3_7, out3_v]
    obtain ⟨h, r, d, rfl⟩ : ∃ (h : Fin 8) (r : Fin 1024) (d : Fin 128), y = ix4 (0 : Fin 1) h r d := ⟨y 1, y 2, y 3, funext fun | 0 => Subsingleton.elim (α := Fin 1) _ _ | 1 => rfl | 2 => rfl | 3 => rfl⟩
    exact (canon_v (next3_real H t) 0 h r d).trans
      (congrArg (fun y : S4x8x1024x128.Idx => ((vext (proj pn (pool (b (y 0)) (Y (y 0)))) (y 1) (y 2) (y 3) : ℝ) : EReal)) (emb3_7 t h r d)).symm
  exact congrFun key (ix4 i h s d)

theorem arr3 : ArrIs (fun i => proj pn (pool (b i) (Y i))) ((dat3 V c).arrAt 5 cfg3.N) ((dat3 V c).arrAt 6 cfg3.N) ((dat3 V c).arrAt 7 cfg3.N) :=
  ⟨arr3_q H, arr3_k H, arr3_v H⟩

end Cert.Net
-- ==== Proof.KerRegion4.lean ====
/- What the fifth kernel call (the first chunk layer and the next projection) leaves in its output arrays. -/
module

public import proofs.«01_k».proof.Proof.KerBlock
public import proofs.«01_k».proof.Proof.Frm.Region4
public import Idealize.ShloMosaic.Lib.Pipeline.Covers

@[expose] public section

set_option maxRecDepth 16384
set_option maxHeartbeats 200000

noncomputable section

namespace Cert.Net

open Idealize.ShloMosaic Idealize.ShloMosaic.TcCoe Cert.KernelIdeal Cert.KernelIdeal.Gen

section
variable (x0 : Vec Ideal S1x8x1024x64 .bf16) (x1 : Vec Ideal S1x8x1024x64 .bf16) (x2 : Vec Ideal S1x8x1024x128 .bf16) (x3 : Vec Ideal S1x1024x512 .f32) (x4 : Vec Ideal S512x512 .bf16) (x5 : Vec Ideal S1x512 .f32) (x6 : Vec Ideal S2048x512 .bf16) (x7 : Vec Ideal S1x2048 .f32) (x8 : Vec Ideal S512x2048 .bf16) (x9 x10 x11 x12 x13 : Vec Ideal S1x512 .f32) (x14 : Vec Ideal S1536x512 .bf16) (x15 : Vec Ideal S1x1536 .f32)

/-- The block's output rows. -/
abbrev rows4 : FVec Ideal S1024x512 .f32 := fOut 1024 1024 x0 x1 x2 x3 ⟨x4, x5, x6, x7, x8, x9, x10, x11, x12, x13⟩

theorem rows4_eq : k4_pay25 (k4_pay61 x0 x1 x2 x3 x4 x5 x6 x7 x8 x9 x10 x11 x12 x13 x14 x15) (k4_pay62 x0 x1 x2 x3 x4 x5 x6 x7 x8 x9 x10 x11 x12 x13 x14 x15) (k4_pay63 x0 x1 x2 x3 x4 x5 x6 x7 x8 x9 x10 x11 x12 x13 x14 x15) = rows4 x0 x1 x2 x3 x4 x5 x6 x7 x8 x9 x10 x11 x12 x13 := by
  have z3 : (![0, 0, 0] : Fin 3 → ℕ) = fun _ => 0 := by decide
  have z2 : (![0, 0] : Fin 2 → ℕ) = fun _ => 0 := by decide
  unfold k4_pay61 k4_pay62 k4_pay63
  rw [show View.ld x3 r4_16 = x3 from View.ld_unit_zero z3 _ x3,
    show View.ld x4 r4_17 = x4 from View.ld_unit_zero z2 _ x4,
    show View.ld x5 r4_18 = x5 from View.ld_unit_zero z2 _ x5,
    show View.ld x6 r4_19 = x6 from View.ld_unit_zero z2 _ x6,
    show View.ld x7 r4_20 = x7 from View.ld_unit_zero z2 _ x7,
    show View.ld x8 r4_21 = x8 from View.ld_unit_zero z2 _ x8,
    show View.ld x9 r4_18 = x9 from View.ld_unit_zero z2 _ x9,
    show View.ld x10 r4_18 = x10 from View.ld_unit_zero z2 _ x10,
    show View.ld x11 r4_18 = x11 from View.ld_unit_zero z2 _ x11,
    show View.ld x12 r4_18 = x12 from View.ld_unit_zero z2 _ x12,
    show View.ld x13 r4_18 = x13 from View.ld_unit_zero z2 _ x13]
  rfl

theorem out4_rows (z : Fin 1) (r : Fin 1024) (e : Fin 512) : out4_16 x0 x1 x2 x3 x4 x5 x6 x7 x8 x9 x10 x11 x12 x13 x14 x15 (ix3 z r e) = rows4 x0 x1 x2 x3 x4 x5 x6 x7 x8 x9 x10 x11 x12 x13 (ix2 r e) := by
  have z3 : (![0, 0, 0] : Fin 3 → ℕ) = fun _ => 0 := by decide
  unfold out4_16
  rw [View.canon_unit_zero z3]
  unfold k4_pay26
  rw [rows4_eq]
  exact cast_y ..

/-- The next layer's projection of the block's output rows. -/
abbrev next4 : FVec Ideal S1024x1536 .bf16 := fQkv 1024 (rows4 x0 x1 x2 x3 x4 x5 x6 x7 x8 x9 x10 x11 x12 x13) x14 x15

theorem next4_eq : k4_pay64 x0 x1 x2 x3 x4 x5 x6 x7 x8 x9 x10 x11 x12 x13 x14 x15 = next4 x0 x1 x2 x3 x4 x5 x6 x7 x8 x9 x10 x11 x12 x13 x14 x15 := by
  have z2 : (![0, 0] : Fin 2 → ℕ) = fun _ => 0 := by decide
  unfold k4_pay64 k4_pay27
  rw [rows4_eq, show View.ld x14 r4_22 = x14 from View.ld_unit_zero z2 _ x14, show View.ld x15 r4_23 = x15 from View.ld_unit_zero z2 _ x15]
  rfl

theorem out4_q : out4_17 x0 x1 x2 x3 x4 x5 x6 x7 x8 x9 x10 x11 x12 x13 x14 x15 = View.canon (Val := Elt Ideal) (e := .bf16) (heads8.map fun k => (⟨hrect 1024 64 k, tQ (next4 x0 x1 x2 x3 x4 x5 x6 x7 x8 x9 x10 x11 x12 x13 x14 x15) k⟩ : View.Piece (Elt Ideal) ⟨4, ![1, 8, 1024, 64]⟩ .bf16)) := by
  rw [← next4_eq]
  rfl

theorem out4_k : out4_18 x0 x1 x2 x3 x4 x5 x6 x7 x8 x9 x10 x11 x12 x13 x14 x15 = View.canon (Val := Elt Ideal) (e := .bf16) (heads8.map fun k => (⟨hrect 1024 64 k, tK (next4 x0 x1 x2 x3 x4 x5 x6 x7 x8 x9 x10 x11 x12 x13 x14 x15) k⟩ : View.Piece (Elt Ideal) ⟨4, ![1, 8, 1024, 64]⟩ .bf16)) := by
  rw [← next4_eq]
  rfl

theorem out4_v : out4_19 x0 x1 x2 x3 x4 x5 x6 x7 x8 x9 x10 x11 x12 x13 x14 x15 = View.canon (Val := Elt Ideal) (e := .bf16) (heads8.map fun k => (⟨hrect 1024 128 k, tV (next4 x0 x1 x2 x3 x4 x5 x6 x7 x8 x9 x10 x11 x12 x13 x14 x15) k⟩ : View.Piece (Elt Ideal) ⟨4, ![1, 8, 1024, 128]⟩ .bf16)) := by
  rw [← next4_eq]
  rfl

end

variable (V : (c : Dev nD) → (b : Ref sig .tc) → Buf (Elt Ideal) ((c : Thread nD τ).loc b)) (c : Dev nD)

/-- The layer's weights in the call's arrays. -/
def wts4 : KWts := ⟨V c (Pipeline.arrRef spec4 4), V c (Pipeline.arrRef spec4 5), V c (Pipeline.arrRef spec4 6), V c (Pipeline.arrRef spec4 7), V c (Pipeline.arrRef spec4 8),
  V c (Pipeline.arrRef spec4 9), V c (Pipeline.arrRef spec4 10), V c (Pipeline.arrRef spec4 11), V c (Pipeline.arrRef spec4 12), V c (Pipeline.arrRef spec4 13)⟩

theorem ix4_q (t : Fin grid4.N) : win4_0.index t = ![(grid4.coords t 0).val, 0, (grid4.coords t 1).val, 0] :=
  congrArg₂ (fun a b => ![a, 0, b, 0]) (w32 (m := 4) (grid4.coords t 0) rfl (by decide)) (w32 (m := 1) (grid4.coords t 1) rfl (by decide))

theorem ix4_k (t : Fin grid4.N) : win4_1.index t = ![(grid4.coords t 0).val, 0, 0, 0] :=
  congrArg (fun a => ![a, 0, 0, 0]) (w32 (m := 4) (grid4.coords t 0) rfl (by decide))

theorem ix4_v (t : Fin grid4.N) : win4_2.index t = ![(grid4.coords t 0).val, 0, 0, 0] :=
  congrArg (fun a => ![a, 0, 0, 0]) (w32 (m := 4) (grid4.coords t 0) rfl (by decide))

theorem ix4_x (t : Fin grid4.N) : win4_3.index t = ![(grid4.coords t 0).val, (grid4.coords t 1).val, 0] :=
  congrArg₂ (fun a b => ![a, b, 0]) (w32 (m := 4) (grid4.coords t 0) rfl (by decide)) (w32 (m := 1) (grid4.coords t 1) rfl (by decide))

theorem ix4_o (t : Fin grid4.N) : win4_16.index t = ![(grid4.coords t 0).val, (grid4.coords t 1).val, 0] :=
  congrArg₂ (fun a b => ![a, b, 0]) (w32 (m := 4) (grid4.coords t 0) rfl (by decide)) (w32 (m := 1) (grid4.coords t 1) rfl (by decide))

theorem ix4_4 (t : Fin grid4.N) : win4_4.index t = ![0, 0] := rfl
theorem ix4_5 (t : Fin grid4.N) : win4_5.index t = ![0, 0] := rfl
theorem ix4_6 (t : Fin grid4.N) : win4_6.index t = ![0, 0] := rfl
theorem ix4_7 (t : Fin grid4.N) : win4_7.index t = ![0, 0] := rfl
theorem ix4_8 (t : Fin grid4.N) : win4_8.index t = ![0, 0] := rfl
theorem ix4_9 (t : Fin grid4.N) : win4_9.index t = ![0, 0] := rfl
theorem ix4_10 (t : Fin grid4.N) : win4_10.index t = ![0, 0] := rfl
theorem ix4_11 (t : Fin grid4.N) : win4_11.index t = ![0, 0] := rfl
theorem ix4_12 (t : Fin grid4.N) : win4_12.index t = ![0, 0] := rfl
theorem ix4_13 (t : Fin grid4.N) : win4_13.index t = ![0, 0] := rfl

theorem ix4_14 (t : Fin grid4.N) : win4_14.index t = ![0, 0] := rfl
theorem ix4_15 (t : Fin grid4.N) : win4_15.index t = ![0, 0] := rfl

theorem ix4_17 (t : Fin grid4.N) : win4_17.index t = ![(grid4.coords t 0).val, 0, (grid4.coords t 1).val, 0] :=
  congrArg₂ (fun a b => ![a, 0, b, 0]) (w32 (m := 4) (grid4.coords t 0) rfl (by decide)) (w32 (m := 1) (grid4.coords t 1) rfl (by decide))

theorem ix4_18 (t : Fin grid4.N) : win4_18.index t = ![(grid4.coords t 0).val, 0, (grid4.coords t 1).val, 0] :=
  congrArg₂ (fun a b => ![a, 0, b, 0]) (w32 (m := 4) (grid4.coords t 0) rfl (by decide)) (w32 (m := 1) (grid4.coords t 1) rfl (by decide))

theorem ix4_19 (t : Fin grid4.N) : win4_19.index t = ![(grid4.coords t 0).val, 0, (grid4.coords t 1).val, 0] :=
  congrArg₂ (fun a b => ![a, 0, b, 0]) (w32 (m := 4) (grid4.coords t 0) rfl (by decide)) (w32 (m := 1) (grid4.coords t 1) rfl (by decide))

theorem bat4_lt (t : Fin grid4.N) : (grid4.coords t 0).val < 4 := (grid4.coords t 0).isLt
theorem blk4_lt (t : Fin grid4.N) : (grid4.coords t 1).val < 1 := (grid4.coords t 1).isLt

/-- The batch entry of a step. -/
abbrev bat4 (t : Fin grid4.N) : Fin 4 := ⟨(grid4.coords t 0).val, bat4_lt t⟩

theorem emb4_q (t : Fin grid4.N) (h : Fin 8) (r : Fin 1024) (d : Fin 64) : (win4_0.blk t).view.emb (ix4 (0 : Fin 1) h r d) = ix4 (bat4 t) h r d :=
  pos4 (fun y a => win4_0.rect_emb_val t y a rfl) (ix4_q t) (Nat.mul_one _) (by omega) (by have := blk4_lt t; omega) (by omega)

theorem emb4_k (t : Fin grid4.N) (h : Fin 8) (r : Fin 1024) (d : Fin 64) : (win4_1.blk t).view.emb (ix4 (0 : Fin 1) h r d) = ix4 (bat4 t) h r d :=
  pos4 (fun y a => win4_1.rect_emb_val t y a rfl) (ix4_k t) (Nat.mul_one _) (by omega) (by omega) (by omega)

theorem emb4_v (t : Fin grid4.N) (h : Fin 8) (r : Fin 1024) (d : Fin 128) : (win4_2.blk t).view.emb (ix4 (0 : Fin 1) h r d) = ix4 (bat4 t) h r d :=
  pos4 (fun y a => win4_2.rect_emb_val t y a rfl) (ix4_v t) (Nat.mul_one _) (by omega) (by omega) (by omega)

theorem emb4_x (t : Fin grid4.N) (r : Fin 1024) (e : Fin 512) : (win4_3.blk t).view.emb (ix3 (0 : Fin 1) r e) = ix3 (bat4 t) r e :=
  pos3 (fun y a => win4_3.rect_emb_val t y a rfl) (ix4_x t) (Nat.mul_one _) (by have := blk4_lt t; omega) (by omega)

theorem emb4_o (t : Fin grid4.N) (r : Fin 1024) (e : Fin 512) : (win4_16.blk t).view.emb (ix3 (0 : Fin 1) r e) = ix3 (bat4 t) r e :=
  pos3 (fun y a => win4_16.rect_emb_val t y a rfl) (ix4_o t) (Nat.mul_one _) (by have := blk4_lt t; omega) (by omega)

theorem blk4_4 (t : Fin grid4.N) : iblk4 V c 4 t = V c (Pipeline.arrRef spec4 4) := funext fun y => congrArg (V c (Pipeline.arrRef spec4 4)) (pos2 (fun y a => win4_4.rect_emb_val t y a rfl) (ix4_4 t) y)
theorem blk4_5 (t : Fin grid4.N) : iblk4 V c 5 t = V c (Pipeline.arrRef spec4 5) := funext fun y => congrArg (V c (Pipeline.arrRef spec4 5)) (pos2 (fun y a => win4_5.rect_emb_val t y a rfl) (ix4_5 t) y)
theorem blk4_6 (t : Fin grid4.N) : iblk4 V c 6 t = V c (Pipeline.arrRef spec4 6) := funext fun y => congrArg (V c (Pipeline.arrRef spec4 6)) (pos2 (fun y a => win4_6.rect_emb_val t y a rfl) (ix4_6 t) y)
theorem blk4_7 (t : Fin grid4.N) : iblk4 V c 7 t = V c (Pipeline.arrRef spec4 7) := funext fun y => congrArg (V c (Pipeline.arrRef spec4 7)) (pos2 (fun y a => win4_7.rect_emb_val t y a rfl) (ix4_7 t) y)
theorem blk4_8 (t : Fin grid4.N) : iblk4 V c 8 t = V c (Pipeline.arrRef spec4 8) := funext fun y => congrArg (V c (Pipeline.arrRef spec4 8)) (pos2 (fun y a => win4_8.rect_emb_val t y a rfl) (ix4_8 t) y)
theorem blk4_9 (t : Fin grid4.N) : iblk4 V c 9 t = V c (Pipeline.arrRef spec4 9) := funext fun y => congrArg (V c (Pipeline.arrRef spec4 9)) (pos2 (fun y a => win4_9.rect_emb_val t y a rfl) (ix4_9 t) y)
theorem blk4_10 (t : Fin grid4.N) : iblk4 V c 10 t = V c (Pipeline.arrRef spec4 10) := funext fun y => congrArg (V c (Pipeline.arrRef spec4 10)) (pos2 (fun y a => win4_10.rect_emb_val t y a rfl) (ix4_10 t) y)
theorem blk4_11 (t : Fin grid4.N) : iblk4 V c 11 t = V c (Pipeline.arrRef spec4 11) := funext fun y => congrArg (V c (Pipeline.arrRef spec4 11)) (pos2 (fun y a => win4_11.rect_emb_val t y a rfl) (ix4_11 t) y)
theorem blk4_12 (t : Fin grid4.N) : iblk4 V c 12 t = V c (Pipeline.arrRef spec4 12) := funext fun y => congrArg (V c (Pipeline.arrRef spec4 12)) (pos2 (fun y a => win4_12.rect_emb_val t y a rfl) (ix4_12 t) y)
theorem blk4_13 (t : Fin grid4.N) : iblk4 V c 13 t = V c (Pipeline.arrRef spec4 13) := funext fun y => congrArg (V c (Pipeline.arrRef spec4 13)) (pos2 (fun y a => win4_13.rect_emb_val t y a rfl) (ix4_13 t) y)
theorem blk4_14 (t : Fin grid4.N) : iblk4 V c 14 t = V c (Pipeline.arrRef spec4 14) := funext fun y => congrArg (V c (Pipeline.arrRef spec4 14)) (pos2 (fun y a => win4_14.rect_emb_val t y a rfl) (ix4_14 t) y)
theorem blk4_15 (t : Fin grid4.N) : iblk4 V c 15 t = V c (Pipeline.arrRef spec4 15) := funext fun y => congrArg (V c (Pipeline.arrRef spec4 15)) (pos2 (fun y a => win4_15.rect_emb_val t y a rfl) (ix4_15 t) y)

section
variable {Q : Fin 4 → Fin 1024 → Fin 1536 → ℝ} {X : Fin 4 → Fin 1024 → Fin 512 → ℝ} (hA : ArrIs Q (V c (Pipeline.arrRef spec4 0)) (V c (Pipeline.arrRef spec4 1)) (V c (Pipeline.arrRef spec4 2))) (t : Fin grid4.N)
include hA

theorem bq4 (h : Fin 8) (r : Fin 1024) (d : Fin 64) : iblk4 V c 0 t (ix4 (0 : Fin 1) h r d) = ((Q (bat4 t) r (col 0 h d) * (1 / 8) : ℝ) : EReal) :=
  (congrArg (V c (Pipeline.arrRef spec4 0)) (emb4_q t h r d)).trans (hA.hq (bat4 t) h r d)

theorem bk4 (h : Fin 8) (r : Fin 1024) (d : Fin 64) : iblk4 V c 1 t (ix4 (0 : Fin 1) h r d) = ((Q (bat4 t) r (col 1 h d) : ℝ) : EReal) :=
  (congrArg (V c (Pipeline.arrRef spec4 1)) (emb4_k t h r d)).trans (hA.hk (bat4 t) h r d)

theorem bv4 (h : Fin 8) (r : Fin 1024) (d : Fin 128) : iblk4 V c 2 t (ix4 (0 : Fin 1) h r d) = ((vext (Q (bat4 t)) h r d : ℝ) : EReal) :=
  (congrArg (V c (Pipeline.arrRef spec4 2)) (emb4_v t h r d)).trans (hA.hv (bat4 t) h r d)

omit hA in
theorem bx4 (hX : Is3 (V c (Pipeline.arrRef spec4 3)) X) (r : Fin 1024) (e : Fin 512) : iblk4 V c 3 t (ix3 (0 : Fin 1) r e) = ((X (bat4 t) r e : ℝ) : EReal) :=
  (congrArg (V c (Pipeline.arrRef spec4 3)) (emb4_x t r e)).trans (hX (bat4 t) r e)

theorem blk4 (hX : Is3 (V c (Pipeline.arrRef spec4 3)) X) (hl : ∀ i h a b, score (Q i) h a b ≤ 80) :
    BlkIs (fun r => r) (Q (bat4 t)) (X (bat4 t)) (iblk4 V c 0 t) (iblk4 V c 1 t) (iblk4 V c 2 t) (iblk4 V c 3 t) where
  hq := bq4 V c hA t
  hk := bk4 V c hA t
  hv h s d := (bv4 V c hA t h s _).trans (congrArg _ (vext_left _ h s d))
  one h s d := (bv4 V c hA t h s _).trans (congrArg _ (vext_right _ h s d))
  hx := bx4 V c t hX
  low := hl _

end

/-- The block's weights, as it reads them. -/
def wtsB4 (t : Fin grid4.N) : KWts := ⟨iblk4 V c 4 t, iblk4 V c 5 t, iblk4 V c 6 t, iblk4 V c 7 t, iblk4 V c 8 t, iblk4 V c 9 t, iblk4 V c 10 t, iblk4 V c 11 t, iblk4 V c 12 t, iblk4 V c 13 t⟩

set_option maxHeartbeats 1000000 in
theorem wtsB4_is {p : Par} (hw : (wts4 V c).Is p) (t : Fin grid4.N) : (wtsB4 V c t).Is p where
  Wo i j := (congrFun (blk4_4 V c t) (ix2 i j)).trans (hw.Wo i j)
  bo i j := (congrFun (blk4_5 V c t) (ix2 i j)).trans (hw.bo i j)
  W1 i j := (congrFun (blk4_6 V c t) (ix2 i j)).trans (hw.W1 i j)
  b1 i j := (congrFun (blk4_7 V c t) (ix2 i j)).trans (hw.b1 i j)
  W2 i j := (congrFun (blk4_8 V c t) (ix2 i j)).trans (hw.W2 i j)
  b2 i j := (congrFun (blk4_9 V c t) (ix2 i j)).trans (hw.b2 i j)
  g1 i j := (congrFun (blk4_10 V c t) (ix2 i j)).trans (hw.g1 i j)
  be1 i j := (congrFun (blk4_11 V c t) (ix2 i j)).trans (hw.be1 i j)
  g2 i j := (congrFun (blk4_12 V c t) (ix2 i j)).trans (hw.g2 i j)
  be2 i j := (congrFun (blk4_13 V c t) (ix2 i j)).trans (hw.be2 i j)

theorem emb4_17 (t : Fin grid4.N) (h : Fin 8) (r : Fin 1024) (d : Fin 64) : (win4_17.blk t).view.emb (ix4 (0 : Fin 1) h r d) = ix4 (bat4 t) h r d :=
  pos4 (fun y a => win4_17.rect_emb_val t y a rfl) (ix4_17 t) (Nat.mul_one _) (by omega) (by have := blk4_lt t; omega) (by omega)

theorem emb4_18 (t : Fin grid4.N) (h : Fin 8) (r : Fin 1024) (d : Fin 64) : (win4_18.blk t).view.emb (ix4 (0 : Fin 1) h r d) = ix4 (bat4 t) h r d :=
  pos4 (fun y a => win4_18.rect_emb_val t y a rfl) (ix4_18 t) (Nat.mul_one _) (by omega) (by have := blk4_lt t; omega) (by omega)

theorem emb4_19 (t : Fin grid4.N) (h : Fin 8) (r : Fin 1024) (d : Fin 128) : (win4_19.blk t).view.emb (ix4 (0 : Fin 1) h r d) = ix4 (bat4 t) h r d :=
  pos4 (fun y a => win4_19.rect_emb_val t y a rfl) (ix4_19 t) (Nat.mul_one _) (by omega) (by have := blk4_lt t; omega) (by omega)

theorem covers4_16 : (cfg4.win 16).Covers :=
  (cfg4.win 16).covers_of_indexMap_surj rfl (by decide) fun β => ⟨fun | 0 => β 0 | 1 => β 1, fun
    | 0 => w32 (m := 4) (β 0) rfl (by decide)
    | 1 => w32 (m := 1) (β 1) rfl (by decide)
    | 2 => by have : (β 2).val < 1 := (β 2).isLt; show 0 = (β 2).val; omega⟩

theorem covers4_17 : (cfg4.win 17).Covers :=
  (cfg4.win 17).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 1) (β 2) rfl (by decide)
    | 3 => by have : (β 3).val < 1 := (β 3).isLt; show 0 = (β 3).val; omega⟩

theorem covers4_18 : (cfg4.win 18).Covers :=
  (cfg4.win 18).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 1) (β 2) rfl (by decide)
    | 3 => by have : (β 3).val < 1 := (β 3).isLt; show 0 = (β 3).val; omega⟩

theorem covers4_19 : (cfg4.win 19).Covers :=
  (cfg4.win 19).covers_of_indexMap_surj rfl (by decide) fun β => ⟨fun | 0 => β 0 | 1 => β 2, fun
    | 0 => w32 (m := 4) (β 0) rfl (by decide)
    | 1 => by have : (β 1).val < 1 := (β 1).isLt; show 0 = (β 1).val; omega
    | 2 => w32 (m := 1) (β 2) rfl (by decide)
    | 3 => by have : (β 3).val < 1 := (β 3).isLt; show 0 = (β 3).val; omega⟩

/-- What the call's arrays hold when it starts. -/
structure In4 (p pn : Par) (Q : Fin 4 → Fin 1024 → Fin 1536 → ℝ) (X : Fin 4 → Fin 1024 → Fin 512 → ℝ) : Prop where
  hA : ArrIs Q (V c (Pipeline.arrRef spec4 0)) (V c (Pipeline.arrRef spec4 1)) (V c (Pipeline.arrRef spec4 2))
  hX : Is3 (V c (Pipeline.arrRef spec4 3)) X
  hw : (wts4 V c).Is p
  hWq : Is2 (V c (Pipeline.arrRef spec4 14)) pn.Wqkv
  hbq : Is2 (V c (Pipeline.arrRef spec4 15)) fun _ => pn.bqkv
  hl : ∀ i h a b, score (Q i) h a b ≤ 80

variable {V c} {p pn : Par} {Q : Fin 4 → Fin 1024 → Fin 1536 → ℝ} {X : Fin 4 → Fin 1024 → Fin 512 → ℝ} (H : In4 V c p pn Q X)
include H

theorem rows4_real (t : Fin grid4.N) : Is2 (rows4 (iblk4 V c 0 t) (iblk4 V c 1 t) (iblk4 V c 2 t) (iblk4 V c 3 t) (iblk4 V c 4 t) (iblk4 V c 5 t) (iblk4 V c 6 t) (iblk4 V c 7 t)
    (iblk4 V c 8 t) (iblk4 V c 9 t) (iblk4 V c 10 t) (iblk4 V c 11 t) (iblk4 V c 12 t) (iblk4 V c 13 t)) fun r => outOf p (X (bat4 t)) (Q (bat4 t)) r := by
  exact fOut_real (blk4 V c H.hA t H.hX H.hl) (wtsB4_is V c H.hw t)

theorem next4_real (t : Fin grid4.N) : Is2 (next4 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t)) fun r => proj pn (outOf p (X (bat4 t)) (Q (bat4 t))) r := by
  have h := rows4_real H t
  unfold next4
  generalize rows4 _ _ _ _ _ _ _ _ _ _ _ _ _ _ = R at h ⊢
  rw [blk4_14, blk4_15]
  exact fQkv_real h H.hWq H.hbq

theorem arr4_x : Is3 ((dat4 V c).arrAt 16 cfg4.N) fun i => outOf p (X i) (Q i) := by
  have key := (dat4 V c).arrAt_eq_of_covers 16 (fun y : S4x1024x512.Idx => ((outOf p (X (y 0)) (Q (y 0)) (y 1) (y 2) : ℝ) : EReal)) covers4_16 fun t hf y => by
    blk_simp
    rw [after4_16]
    obtain ⟨r, e, rfl⟩ : ∃ (r : Fin 1024) (e : Fin 512), y = ix3 (0 : Fin 1) r e := ⟨y 1, y 2, funext fun | 0 => Subsingleton.elim (α := Fin 1) _ _ | 1 => rfl | 2 => rfl⟩
    exact ((out4_rows (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) (iblk4 V c 11 t) (iblk4 V c 12 t) (iblk4 V c 13 t) (iblk4 V c 14 t) (iblk4 V c 15 t) 0 r e).trans (rows4_real H t r e)).trans
      (congrArg (fun y : S4x1024x512.Idx => ((outOf p (X (y 0)) (Q (y 0)) (y 1) (y 2) : ℝ) : EReal)) (emb4_o t r e)).symm
  exact fun i s e => congrFun key (ix3 i s e)

theorem arr4_q (i : Fin 4) (h : Fin 8) (s : Fin 1024) (d : Fin 64) :
    (dat4 V c).arrAt 17 cfg4.N (ix4 i h s d) = ((proj pn (outOf p (X i) (Q i)) s (col 0 h d) * (1 / 8) : ℝ) : EReal) := by
  have key := (dat4 V c).arrAt_eq_of_covers 17 (fun y : S4x8x1024x64.Idx => ((proj pn (outOf p (X (y 0)) (Q (y 0))) (y 2) (col 0 (y 1) (y 3)) * (1 / 8) : ℝ) : EReal)) covers4_17 fun t hf y => by
    blk_simp
    rw [after4_17, out4_q]
    obtain ⟨h, r, d, rfl⟩ : ∃ (h : Fin 8) (r : Fin 1024) (d : Fin 64), y = ix4 (0 : Fin 1) h r d := ⟨y 1, y 2, y 3, funext fun | 0 => Subsingleton.elim (α := Fin 1) _ _ | 1 => rfl | 2 => rfl | 3 => rfl⟩
    exact (canon_q (next4_real H t) 0 h r d).trans
      (congrArg (fun y : S4x8x1024x64.Idx => ((proj pn (outOf p (X (y 0)) (Q (y 0))) (y 2) (col 0 (y 1) (y 3)) * (1 / 8) : ℝ) : EReal)) (emb4_17 t h r d)).symm
  exact congrFun key (ix4 i h s d)

theorem arr4_k (i : Fin 4) (h : Fin 8) (s : Fin 1024) (d : Fin 64) :
    (dat4 V c).arrAt 18 cfg4.N (ix4 i h s d) = ((proj pn (outOf p (X i) (Q i)) s (col 1 h d) : ℝ) : EReal) := by
  have key := (dat4 V c).arrAt_eq_of_covers 18 (fun y : S4x8x1024x64.Idx => ((proj pn (outOf p (X (y 0)) (Q (y 0))) (y 2) (col 1 (y 1) (y 3)) : ℝ) : EReal)) covers4_18 fun t hf y => by
    blk_simp
    rw [after4_18, out4_k]
    obtain ⟨h, r, d, rfl⟩ : ∃ (h : Fin 8) (r : Fin 1024) (d : Fin 64), y = ix4 (0 : Fin 1) h r d := ⟨y 1, y 2, y 3, funext fun | 0 => Subsingleton.elim (α := Fin 1) _ _ | 1 => rfl | 2 => rfl | 3 => rfl⟩
    exact (canon_k (next4_real H t) 0 h r d).trans
      (congrArg (fun y : S4x8x1024x64.Idx => ((proj pn (outOf p (X (y 0)) (Q (y 0))) (y 2) (col 1 (y 1) (y 3)) : ℝ) : EReal)) (emb4_18 t h r d)).symm
  exact congrFun key (ix4 i h s d)

theorem arr4_v (i : Fin 4) (h : Fin 8) (s : Fin 1024) (d : Fin 128) :
    (dat4 V c).arrAt 19 cfg4.N (ix4 i h s d) = ((vext (proj pn (outOf p (X i) (Q i))) h s d : ℝ) : EReal) := by
  have key := (dat4 V c).arrAt_eq_of_covers 19 (fun y : S4x8x1024x128.Idx => ((vext (proj pn (outOf p (X (y 0)) (Q (y 0)))) (y 1) (y 2) (y 3) : ℝ) : EReal)) covers4_19 fun t hf y => by
    blk_simp
    rw [after4_19, out4_v]
    obtain ⟨h, r, d, rfl⟩ : ∃ (h : Fin 8) (r : Fin 1024) (d : Fin 128), y = ix4 (0 : Fin 1) h r d := ⟨y 1, y 2, y 3, funext fun | 0 => Subsingleton.elim (α := Fin 1) _ _ | 1 => rfl | 2 => rfl | 3 => rfl⟩
    exact (canon_v (next4_real H t) 0 h r d).trans
      (congrArg (fun y : S4x8x1024x128.Idx => ((vext (proj pn (outOf p (X (y 0)) (Q (y 0)))) (y 1) (y 2) (y 3) : ℝ) : EReal)) (emb4_19 t h r d)).symm
  exact congrFun key (ix4 i h s d)

theorem arr4 : ArrIs (fun i => proj pn (outOf p (X i) (Q i))) ((dat4 V c).arrAt 17 cfg4.N) ((dat4 V c).arrAt 18 cfg4.N) ((dat4 V c).arrAt 19 cfg4.N) :=
  ⟨arr4_q H, arr4_k H, arr4_v H⟩

end Cert.Net
-- ==== Proof.KerRegion5.lean ====
/- What the sixth kernel call (the second chunk layer) leaves in its output array. -/
module

public import proofs.«01_k».proof.Proof.KerBlock
public import proofs.«01_k».proof.Proof.Gen.KernelIdeal.Frame.Region5
public import Idealize.ShloMosaic.Lib.Pipeline.Covers

@[expose] public section

set_option maxRecDepth 16384
set_option maxHeartbeats 200000

noncomputable section

namespace Cert.Net

open Idealize.ShloMosaic Idealize.ShloMosaic.TcCoe Cert.KernelIdeal Cert.KernelIdeal.Gen

theorem out5_eq (x0 : Vec Ideal S1x8x1024x64 .bf16) (x1 : Vec Ideal S1x8x1024x64 .bf16) (x2 : Vec Ideal S1x8x1024x128 .bf16) (x3 : Vec Ideal S1x1024x512 .f32) (x4 : Vec Ideal S512x512 .bf16) (x5 : Vec Ideal S1x512 .f32) (x6 : Vec Ideal S2048x512 .bf16) (x7 : Vec Ideal S1x2048 .f32) (x8 : Vec Ideal S512x2048 .bf16) (x9 x10 x11 x12 x13 : Vec Ideal S1x512 .f32) (z : Fin 1) (r : Fin 1024) (e : Fin 512) :
    out5_14 x0 x1 x2 x3 x4 x5 x6 x7 x8 x9 x10 x11 x12 x13 (ix3 z r e) = fOut 1024 1024 x0 x1 x2 x3 ⟨x4, x5, x6, x7, x8, x9, x10, x11, x12, x13⟩ (ix2 r e) := by
  unfold out5_14
  have z3 : (![0, 0, 0] : Fin 3 → ℕ) = fun _ => 0 := by decide
  have z2 : (![0, 0] : Fin 2 → ℕ) = fun _ => 0 := by decide
  rw [View.canon_unit_zero z3, show View.ld x3 r5_16 = x3 from View.ld_unit_zero z3 _ x3, show View.ld x4 r5_17 = x4 from View.ld_unit_zero z2 _ x4,
    show View.ld x5 r5_18 = x5 from View.ld_unit_zero z2 _ x5, show View.ld x6 r5_19 = x6 from View.ld_unit_zero z2 _ x6,
    show View.ld x7 r5_20 = x7 from View.ld_unit_zero z2 _ x7, show View.ld x8 r5_21 = x8 from View.ld_unit_zero z2 _ x8,
    show View.ld x9 r5_18 = x9 from View.ld_unit_zero z2 _ x9, show View.ld x10 r5_18 = x10 from View.ld_unit_zero z2 _ x10,
    show View.ld x11 r5_18 = x11 from View.ld_unit_zero z2 _ x11, show View.ld x12 r5_18 = x12 from View.ld_unit_zero z2 _ x12,
    show View.ld x13 r5_18 = x13 from View.ld_unit_zero z2 _ x13]
  unfold k5_pay1
  exact cast_y ..

variable (V : (c : Dev nD) → (b : Ref sig .tc) → Buf (Elt Ideal) ((c : Thread nD τ).loc b)) (c : Dev nD)

/-- The layer's weights in the call's arrays. -/
def wts5 : KWts := ⟨V c (Pipeline.arrRef spec5 4), V c (Pipeline.arrRef spec5 5), V c (Pipeline.arrRef spec5 6), V c (Pipeline.arrRef spec5 7), V c (Pipeline.arrRef spec5 8),
  V c (Pipeline.arrRef spec5 9), V c (Pipeline.arrRef spec5 10), V c (Pipeline.arrRef spec5 11), V c (Pipeline.arrRef spec5 12), V c (Pipeline.arrRef spec5 13)⟩

theorem ix5_q (t : Fin grid5.N) : win5_0.index t = ![(grid5.coords t 0).val, 0, (grid5.coords t 1).val, 0] :=
  congrArg₂ (fun a b => ![a, 0, b, 0]) (w32 (m := 4) (grid5.coords t 0) rfl (by decide)) (w32 (m := 1) (grid5.coords t 1) rfl (by decide))

theorem ix5_k (t : Fin grid5.N) : win5_1.index t = ![(grid5.coords t 0).val, 0, 0, 0] :=
  congrArg (fun a => ![a, 0, 0, 0]) (w32 (m := 4) (grid5.coords t 0) rfl (by decide))

theorem ix5_v (t : Fin grid5.N) : win5_2.index t = ![(grid5.coords t 0).val, 0, 0, 0] :=
  congrArg (fun a => ![a, 0, 0, 0]) (w32 (m := 4) (grid5.coords t 0) rfl (by decide))

theorem ix5_x (t : Fin grid5.N) : win5_3.index t = ![(grid5.coords t 0).val, (grid5.coords t 1).val, 0] :=
  congrArg₂ (fun a b => ![a, b, 0]) (w32 (m := 4) (grid5.coords t 0) rfl (by decide)) (w32 (m := 1) (grid5.coords t 1) rfl (by decide))

theorem ix5_o (t : Fin grid5.N) : win5_14.index t = ![(grid5.coords t 0).val, (grid5.coords t 1).val, 0] :=
  congrArg₂ (fun a b => ![a, b, 0]) (w32 (m := 4) (grid5.coords t 0) rfl (by decide)) (w32 (m := 1) (grid5.coords t 1) rfl (by decide))

theorem ix5_4 (t : Fin grid5.N) : win5_4.index t = ![0, 0] := rfl
theorem ix5_5 (t : Fin grid5.N) : win5_5.index t = ![0, 0] := rfl
theorem ix5_6 (t : Fin grid5.N) : win5_6.index t = ![0, 0] := rfl
theorem ix5_7 (t : Fin grid5.N) : win5_7.index t = ![0, 0] := rfl
theorem ix5_8 (t : Fin grid5.N) : win5_8.index t = ![0, 0] := rfl
theorem ix5_9 (t : Fin grid5.N) : win5_9.index t = ![0, 0] := rfl
theorem ix5_10 (t : Fin grid5.N) : win5_10.index t = ![0, 0] := rfl
theorem ix5_11 (t : Fin grid5.N) : win5_11.index t = ![0, 0] := rfl
theorem ix5_12 (t : Fin grid5.N) : win5_12.index t = ![0, 0] := rfl
theorem ix5_13 (t : Fin grid5.N) : win5_13.index t = ![0, 0] := rfl

theorem bat5_lt (t : Fin grid5.N) : (grid5.coords t 0).val < 4 := (grid5.coords t 0).isLt
theorem blk5_lt (t : Fin grid5.N) : (grid5.coords t 1).val < 1 := (grid5.coords t 1).isLt

/-- The batch entry of a step. -/
abbrev bat5 (t : Fin grid5.N) : Fin 4 := ⟨(grid5.coords t 0).val, bat5_lt t⟩

theorem emb5_q (t : Fin grid5.N) (h : Fin 8) (r : Fin 1024) (d : Fin 64) : (win5_0.blk t).view.emb (ix4 (0 : Fin 1) h r d) = ix4 (bat5 t) h r d :=
  pos4 (fun y a => win5_0.rect_emb_val t y a rfl) (ix5_q t) (Nat.mul_one _) (by omega) (by have := blk5_lt t; omega) (by omega)

theorem emb5_k (t : Fin grid5.N) (h : Fin 8) (r : Fin 1024) (d : Fin 64) : (win5_1.blk t).view.emb (ix4 (0 : Fin 1) h r d) = ix4 (bat5 t) h r d :=
  pos4 (fun y a => win5_1.rect_emb_val t y a rfl) (ix5_k t) (Nat.mul_one _) (by omega) (by omega) (by omega)

theorem emb5_v (t : Fin grid5.N) (h : Fin 8) (r : Fin 1024) (d : Fin 128) : (win5_2.blk t).view.emb (ix4 (0 : Fin 1) h r d) = ix4 (bat5 t) h r d :=
  pos4 (fun y a => win5_2.rect_emb_val t y a rfl) (ix5_v t) (Nat.mul_one _) (by omega) (by omega) (by omega)

theorem emb5_x (t : Fin grid5.N) (r : Fin 1024) (e : Fin 512) : (win5_3.blk t).view.emb (ix3 (0 : Fin 1) r e) = ix3 (bat5 t) r e :=
  pos3 (fun y a => win5_3.rect_emb_val t y a rfl) (ix5_x t) (Nat.mul_one _) (by have := blk5_lt t; omega) (by omega)

theorem emb5_o (t : Fin grid5.N) (r : Fin 1024) (e : Fin 512) : (win5_14.blk t).view.emb (ix3 (0 : Fin 1) r e) = ix3 (bat5 t) r e :=
  pos3 (fun y a => win5_14.rect_emb_val t y a rfl) (ix5_o t) (Nat.mul_one _) (by have := blk5_lt t; omega) (by omega)

theorem blk5_4 (t : Fin grid5.N) : iblk5 V c 4 t = V c (Pipeline.arrRef spec5 4) := funext fun y => congrArg (V c (Pipeline.arrRef spec5 4)) (pos2 (fun y a => win5_4.rect_emb_val t y a rfl) (ix5_4 t) y)
theorem blk5_5 (t : Fin grid5.N) : iblk5 V c 5 t = V c (Pipeline.arrRef spec5 5) := funext fun y => congrArg (V c (Pipeline.arrRef spec5 5)) (pos2 (fun y a => win5_5.rect_emb_val t y a rfl) (ix5_5 t) y)
theorem blk5_6 (t : Fin grid5.N) : iblk5 V c 6 t = V c (Pipeline.arrRef spec5 6) := funext fun y => congrArg (V c (Pipeline.arrRef spec5 6)) (pos2 (fun y a => win5_6.rect_emb_val t y a rfl) (ix5_6 t) y)
theorem blk5_7 (t : Fin grid5.N) : iblk5 V c 7 t = V c (Pipeline.arrRef spec5 7) := funext fun y => congrArg (V c (Pipeline.arrRef spec5 7)) (pos2 (fun y a => win5_7.rect_emb_val t y a rfl) (ix5_7 t) y)
theorem blk5_8 (t : Fin grid5.N) : iblk5 V c 8 t = V c (Pipeline.arrRef spec5 8) := funext fun y => congrArg (V c (Pipeline.arrRef spec5 8)) (pos2 (fun y a => win5_8.rect_emb_val t y a rfl) (ix5_8 t) y)
theorem blk5_9 (t : Fin grid5.N) : iblk5 V c 9 t = V c (Pipeline.arrRef spec5 9) := funext fun y => congrArg (V c (Pipeline.arrRef spec5 9)) (pos2 (fun y a => win5_9.rect_emb_val t y a rfl) (ix5_9 t) y)
theorem blk5_10 (t : Fin grid5.N) : iblk5 V c 10 t = V c (Pipeline.arrRef spec5 10) := funext fun y => congrArg (V c (Pipeline.arrRef spec5 10)) (pos2 (fun y a => win5_10.rect_emb_val t y a rfl) (ix5_10 t) y)
theorem blk5_11 (t : Fin grid5.N) : iblk5 V c 11 t = V c (Pipeline.arrRef spec5 11) := funext fun y => congrArg (V c (Pipeline.arrRef spec5 11)) (pos2 (fun y a => win5_11.rect_emb_val t y a rfl) (ix5_11 t) y)
theorem blk5_12 (t : Fin grid5.N) : iblk5 V c 12 t = V c (Pipeline.arrRef spec5 12) := funext fun y => congrArg (V c (Pipeline.arrRef spec5 12)) (pos2 (fun y a => win5_12.rect_emb_val t y a rfl) (ix5_12 t) y)
theorem blk5_13 (t : Fin grid5.N) : iblk5 V c 13 t = V c (Pipeline.arrRef spec5 13) := funext fun y => congrArg (V c (Pipeline.arrRef spec5 13)) (pos2 (fun y a => win5_13.rect_emb_val t y a rfl) (ix5_13 t) y)

section
variable {Q : Fin 4 → Fin 1024 → Fin 1536 → ℝ} {X : Fin 4 → Fin 1024 → Fin 512 → ℝ} (hA : ArrIs Q (V c (Pipeline.arrRef spec5 0)) (V c (Pipeline.arrRef spec5 1)) (V c (Pipeline.arrRef spec5 2))) (t : Fin grid5.N)
include hA

theorem bq5 (h : Fin 8) (r : Fin 1024) (d : Fin 64) : iblk5 V c 0 t (ix4 (0 : Fin 1) h r d) = ((Q (bat5 t) r (col 0 h d) * (1 / 8) : ℝ) : EReal) :=
  (congrArg (V c (Pipeline.arrRef spec5 0)) (emb5_q t h r d)).trans (hA.hq (bat5 t) h r d)

theorem bk5 (h : Fin 8) (r : Fin 1024) (d : Fin 64) : iblk5 V c 1 t (ix4 (0 : Fin 1) h r d) = ((Q (bat5 t) r (col 1 h d) : ℝ) : EReal) :=
  (congrArg (V c (Pipeline.arrRef spec5 1)) (emb5_k t h r d)).trans (hA.hk (bat5 t) h r d)

theorem bv5 (h : Fin 8) (r : Fin 1024) (d : Fin 128) : iblk5 V c 2 t (ix4 (0 : Fin 1) h r d) = ((vext (Q (bat5 t)) h r d : ℝ) : EReal) :=
  (congrArg (V c (Pipeline.arrRef spec5 2)) (emb5_v t h r d)).trans (hA.hv (bat5 t) h r d)

omit hA in
theorem bx5 (hX : Is3 (V c (Pipeline.arrRef spec5 3)) X) (r : Fin 1024) (e : Fin 512) : iblk5 V c 3 t (ix3 (0 : Fin 1) r e) = ((X (bat5 t) r e : ℝ) : EReal) :=
  (congrArg (V c (Pipeline.arrRef spec5 3)) (emb5_x t r e)).trans (hX (bat5 t) r e)

theorem blk5 (hX : Is3 (V c (Pipeline.arrRef spec5 3)) X) (hl : ∀ i h a b, score (Q i) h a b ≤ 80) :
    BlkIs (fun r => r) (Q (bat5 t)) (X (bat5 t)) (iblk5 V c 0 t) (iblk5 V c 1 t) (iblk5 V c 2 t) (iblk5 V c 3 t) where
  hq := bq5 V c hA t
  hk := bk5 V c hA t
  hv h s d := (bv5 V c hA t h s _).trans (congrArg _ (vext_left _ h s d))
  one h s d := (bv5 V c hA t h s _).trans (congrArg _ (vext_right _ h s d))
  hx := bx5 V c t hX
  low := hl _

end

/-- The block's weights, as it reads them. -/
def wtsB5 (t : Fin grid5.N) : KWts := ⟨iblk5 V c 4 t, iblk5 V c 5 t, iblk5 V c 6 t, iblk5 V c 7 t, iblk5 V c 8 t, iblk5 V c 9 t, iblk5 V c 10 t, iblk5 V c 11 t, iblk5 V c 12 t, iblk5 V c 13 t⟩

theorem wtsB5_is {p : Par} (hw : (wts5 V c).Is p) (t : Fin grid5.N) : (wtsB5 V c t).Is p where
  Wo i j := (congrFun (blk5_4 V c t) (ix2 i j)).trans (hw.Wo i j)
  bo i j := (congrFun (blk5_5 V c t) (ix2 i j)).trans (hw.bo i j)
  W1 i j := (congrFun (blk5_6 V c t) (ix2 i j)).trans (hw.W1 i j)
  b1 i j := (congrFun (blk5_7 V c t) (ix2 i j)).trans (hw.b1 i j)
  W2 i j := (congrFun (blk5_8 V c t) (ix2 i j)).trans (hw.W2 i j)
  b2 i j := (congrFun (blk5_9 V c t) (ix2 i j)).trans (hw.b2 i j)
  g1 i j := (congrFun (blk5_10 V c t) (ix2 i j)).trans (hw.g1 i j)
  be1 i j := (congrFun (blk5_11 V c t) (ix2 i j)).trans (hw.be1 i j)
  g2 i j := (congrFun (blk5_12 V c t) (ix2 i j)).trans (hw.g2 i j)
  be2 i j := (congrFun (blk5_13 V c t) (ix2 i j)).trans (hw.be2 i j)

theorem covers5_14 : (cfg5.win 14).Covers :=
  (cfg5.win 14).covers_of_indexMap_surj rfl (by decide) fun β => ⟨fun | 0 => β 0 | 1 => β 1, fun
    | 0 => w32 (m := 4) (β 0) rfl (by decide)
    | 1 => w32 (m := 1) (β 1) rfl (by decide)
    | 2 => by have : (β 2).val < 1 := (β 2).isLt; show 0 = (β 2).val; omega⟩

theorem pt5 {p : Par} {Q : Fin 4 → Fin 1024 → Fin 1536 → ℝ} {X : Fin 4 → Fin 1024 → Fin 512 → ℝ}
    (hA : ArrIs Q (V c (Pipeline.arrRef spec5 0)) (V c (Pipeline.arrRef spec5 1)) (V c (Pipeline.arrRef spec5 2))) (hX : Is3 (V c (Pipeline.arrRef spec5 3)) X)
    (hw : (wts5 V c).Is p) (hl : ∀ i h a b, score (Q i) h a b ≤ 80) (t : Fin grid5.N) (r : Fin 1024) (e : Fin 512) :
    out5_14 (iblk5 V c 0 t) (iblk5 V c 1 t) (iblk5 V c 2 t) (iblk5 V c 3 t) (iblk5 V c 4 t) (iblk5 V c 5 t) (iblk5 V c 6 t) (iblk5 V c 7 t) (iblk5 V c 8 t)
      (iblk5 V c 9 t) (iblk5 V c 10 t) (iblk5 V c 11 t) (iblk5 V c 12 t) (iblk5 V c 13 t) (ix3 0 r e) = ((outOf p (X (bat5 t)) (Q (bat5 t)) r e : ℝ) : EReal) := by
  rw [out5_eq]
  exact fOut_real (blk5 V c hA t hX hl) (wtsB5_is V c hw t) r e

/-- The output array's contents. -/
def G5 (p : Par) (Q : Fin 4 → Fin 1024 → Fin 1536 → ℝ) (X : Fin 4 → Fin 1024 → Fin 512 → ℝ) : S4x1024x512.Idx → EReal :=
  fun y => ((outOf p (X (y 0)) (Q (y 0)) (y 1) (y 2) : ℝ) : EReal)

theorem arr5 {p : Par} {Q : Fin 4 → Fin 1024 → Fin 1536 → ℝ} {X : Fin 4 → Fin 1024 → Fin 512 → ℝ}
    (hA : ArrIs Q (V c (Pipeline.arrRef spec5 0)) (V c (Pipeline.arrRef spec5 1)) (V c (Pipeline.arrRef spec5 2))) (hX : Is3 (V c (Pipeline.arrRef spec5 3)) X)
    (hw : (wts5 V c).Is p) (hl : ∀ i h a b, score (Q i) h a b ≤ 80) : Is3 ((dat5 V c).arrAt 14 cfg5.N) fun i => outOf p (X i) (Q i) := by
  have key := (dat5 V c).arrAt_eq_of_covers 14 (G5 p Q X) covers5_14 fun t hf y => by
    blk_simp
    rw [after5_14]
    obtain ⟨r, e, rfl⟩ : ∃ (r : Fin 1024) (e : Fin 512), y = ix3 (0 : Fin 1) r e := ⟨y 1, y 2, funext fun | 0 => Subsingleton.elim (α := Fin 1) _ _ | 1 => rfl | 2 => rfl⟩
    exact (pt5 V c hA hX hw hl t r e).trans (congrArg (G5 p Q X) (emb5_o t r e)).symm
  exact fun i s e => congrFun key (ix3 i s e)

end Cert.Net
-- ==== Proof.KerJoin.lean ====
/- The six calls joined: what the whole kernel leaves in its result. -/
module

public import proofs.«01_k».proof.Proof.KerHost
public import proofs.«01_k».proof.Proof.KerRegion0
public import proofs.«01_k».proof.Proof.KerRegion1
public import proofs.«01_k».proof.Proof.KerRegion2
public import proofs.«01_k».proof.Proof.KerRegion3
public import proofs.«01_k».proof.Proof.KerRegion4
public import proofs.«01_k».proof.Proof.KerRegion5
public import proofs.«01_k».proof.Proof.Frm.Fold0

@[expose] public section

set_option maxRecDepth 16384

noncomputable section

namespace Cert.Net

open Idealize.ShloMosaic Idealize.ShloMosaic.TcCoe Cert.KernelIdeal Cert.KernelIdeal.Gen

theorem ArrIs.of_eq {N : ℕ} {Q : Fin 4 → Fin N → Fin 1536 → ℝ} {q k q' k' : FVec Ideal ⟨4, ![4, 8, N, 64]⟩ .bf16} {v v' : FVec Ideal ⟨4, ![4, 8, N, 128]⟩ .bf16}
    (h : ArrIs Q q k v) (eq : q' = q) (ek : k' = k) (ev : v' = v) : ArrIs Q q' k' v' := by
  subst eq ek ev
  exact h

theorem Is3.of_eq {a b c : ℕ} {A B : (⟨3, ![a, b, c]⟩ : Shape).Idx → EReal} {T : Fin a → Fin b → Fin c → ℝ} (h : Is3 A T) (he : B = A) : Is3 B T := he ▸ h

/-! ### The stacks stay as they are, through every call -/

theorem heldIn0 : ∀ a ∈ heldRefs, ∀ w : Fin cfg0.W, Pipeline.arrRef spec0 w = a → (cfg0.win w).isOut = false :=
  ListAll.forall_mem_of_all_decide (by decide +kernel)
theorem heldIn1 : ∀ a ∈ heldRefs, ∀ w : Fin cfg1.W, Pipeline.arrRef spec1 w = a → (cfg1.win w).isOut = false :=
  ListAll.forall_mem_of_all_decide (by decide +kernel)
theorem heldIn2 : ∀ a ∈ heldRefs, ∀ w : Fin cfg2.W, Pipeline.arrRef spec2 w = a → (cfg2.win w).isOut = false :=
  ListAll.forall_mem_of_all_decide (by decide +kernel)
theorem heldIn3 : ∀ a ∈ heldRefs, ∀ w : Fin cfg3.W, Pipeline.arrRef spec3 w = a → (cfg3.win w).isOut = false :=
  ListAll.forall_mem_of_all_decide (by decide +kernel)
theorem heldIn4 : ∀ a ∈ heldRefs, ∀ w : Fin cfg4.W, Pipeline.arrRef spec4 w = a → (cfg4.win w).isOut = false :=
  ListAll.forall_mem_of_all_decide (by decide +kernel)
theorem heldIn5 : ∀ a ∈ heldRefs, ∀ w : Fin cfg5.W, Pipeline.arrRef spec5 w = a → (cfg5.win w).isOut = false :=
  ListAll.forall_mem_of_all_decide (by decide +kernel)
theorem heldOut1 : ∀ a ∈ heldRefs, a ∉ hostOps1_W :=
  ListAll.forall_mem_of_all_decide (by decide +kernel)
theorem heldOut2 : ∀ a ∈ heldRefs, a ∉ hostOps2_W :=
  ListAll.forall_mem_of_all_decide (by decide +kernel)
theorem heldOut3 : ∀ a ∈ heldRefs, a ∉ hostOps3_W :=
  ListAll.forall_mem_of_all_decide (by decide +kernel)
theorem heldOut4 : ∀ a ∈ heldRefs, a ∉ hostOps4_W :=
  ListAll.forall_mem_of_all_decide (by decide +kernel)
theorem heldOut5 : ∀ a ∈ heldRefs, a ∉ hostOps5_W :=
  ListAll.forall_mem_of_all_decide (by decide +kernel)

variable {m : (ℓ : Loc nD τ sig) → Buf (Elt Ideal) ℓ} {ρ : Dev nD → PrngReg} {c : Dev nD} {D : Data}

/-- The kernel's arguments hold the numbers `D`. -/
structure KerIs (W : Valuation τ sig (Elt Ideal)) (D : Data) : Prop where
  x : Is3 (W (Proc.devRef .tc main_arg0)) D.x
  b : ProbIs (W (Proc.devRef .tc main_arg1)) D.b
  q : Stacks.Is ⟨W (Proc.devRef .tc main_arg2), W (Proc.devRef .tc main_arg3), W (Proc.devRef .tc main_arg4), W (Proc.devRef .tc main_arg5), W (Proc.devRef .tc main_arg6),
    W (Proc.devRef .tc main_arg7), W (Proc.devRef .tc main_arg8), W (Proc.devRef .tc main_arg9), W (Proc.devRef .tc main_arg10), W (Proc.devRef .tc main_arg11),
    W (Proc.devRef .tc main_arg12), W (Proc.devRef .tc main_arg13)⟩ D.q
  low : D.Low

variable (h : KerIs (W0 m ρ c) D)
include h

theorem held1 : Held (W1 m ρ c) D.q D.b := seg0_held h.q h.b rfl
theorem held2 : Held (W2 m ρ c) D.q D.b := (held1 h).of fun r hr => W2_of m ρ c r (heldIn0 r hr)
theorem held3 : Held (W3 m ρ c) D.q D.b := (held2 h).of fun r hr => W3_of m ρ c r (heldOut1 r hr)
theorem held4 : Held (W4 m ρ c) D.q D.b := (held3 h).of fun r hr => W4_of m ρ c r (heldIn1 r hr)
theorem held5 : Held (W5 m ρ c) D.q D.b := (held4 h).of fun r hr => W5_of m ρ c r (heldOut2 r hr)
theorem held6 : Held (W6 m ρ c) D.q D.b := (held5 h).of fun r hr => W6_of m ρ c r (heldIn2 r hr)
theorem held7 : Held (W7 m ρ c) D.q D.b := (held6 h).of fun r hr => W7_of m ρ c r (heldOut3 r hr)
theorem held8 : Held (W8 m ρ c) D.q D.b := (held7 h).of fun r hr => W8_of m ρ c r (heldIn3 r hr)
theorem held9 : Held (W9 m ρ c) D.q D.b := (held8 h).of fun r hr => W9_of m ρ c r (heldOut4 r hr)
theorem held10 : Held (W10 m ρ c) D.q D.b := (held9 h).of fun r hr => W10_of m ρ c r (heldIn4 r hr)
theorem held11 : Held (W11 m ρ c) D.q D.b := (held10 h).of fun r hr => W11_of m ρ c r (heldOut5 r hr)

/-! ### One call after another -/

theorem in0 : In0 (V1 m ρ) c (D.q 0) D.x where
  hX := h.x.of_eq ((W1_args m ρ c main_arg0 (by decide)).trans (W0_args m ρ c main_arg0 (by decide)).symm)
  hWq := (seg0_qkv (T := fun l => (D.q l).Wqkv) (T' := fun l => (D.q l).bqkv) h.q.Wqkv h.q.bqkv).1
  hbq := (seg0_qkv (T := fun l => (D.q l).Wqkv) (T' := fun l => (D.q l).bqkv) h.q.Wqkv h.q.bqkv).2

theorem in1 : In1 (V3 m ρ) c (D.q 0) (D.q 1) (fun i => proj (D.q 0) (D.x i)) D.x where
  hA := (arr0 (in0 h)).of_eq ((W3_of m ρ c main_v9_0 (by decide)).trans (W2_arr m ρ c 3)) ((W3_of m ρ c main_v9_1 (by decide)).trans (W2_arr m ρ c 4))
    ((W3_of m ρ c main_v9_2 (by decide)).trans (W2_arr m ρ c 5))
  hX := h.x.of_eq ((W3_args m ρ c main_arg0 (by decide)).trans (W0_args m ρ c main_arg0 (by decide)).symm)
  hw := seg1_wts (held2 h)
  hWq := (seg1_qkv (held2 h)).1
  hbq := (seg1_qkv (held2 h)).2
  hl := h.low.l0

theorem is_y1 : Is3 ((dat2 (V5 m ρ) c).arrAt 14 cfg2.N) D.y1 :=
  arr2 (V5 m ρ) c
    ((arr1 (in1 h)).of_eq ((W5_of m ρ c main_v42_1 (by decide)).trans (W4_arr m ρ c 17)) ((W5_of m ρ c main_v42_2 (by decide)).trans (W4_arr m ρ c 18))
      ((W5_of m ρ c main_v42_3 (by decide)).trans (W4_arr m ρ c 19)))
    ((arr1_x (in1 h)).of_eq ((W5_of m ρ c main_v42_0 (by decide)).trans (W4_arr m ρ c 16))) (seg2_wts (held4 h)) h.low.l1

theorem in3 : In3 (V7 m ρ) c (D.q 2) D.b D.y1 where
  hb := seg3_b (held6 h)
  hY := (is_y1 h).of_eq ((W7_of m ρ c main_v70 (by decide)).trans (W6_arr m ρ c 14))
  hWq := (seg3_qkv (held6 h)).1
  hbq := (seg3_qkv (held6 h)).2

theorem in4 : In4 (V9 m ρ) c (D.q 2) (D.q 3) (fun i => proj (D.q 2) (D.c i)) D.c where
  hA := (arr3 (in3 h)).of_eq ((W9_of m ρ c main_v77_1 (by decide)).trans (W8_arr m ρ c 5)) ((W9_of m ρ c main_v77_2 (by decide)).trans (W8_arr m ρ c 6))
    ((W9_of m ρ c main_v77_3 (by decide)).trans (W8_arr m ρ c 7))
  hX := (arr3_c (in3 h)).of_eq ((W9_of m ρ c main_v77_0 (by decide)).trans (W8_arr m ρ c 4))
  hw := seg4_wts (held8 h)
  hWq := (seg4_qkv (held8 h)).1
  hbq := (seg4_qkv (held8 h)).2
  hl := h.low.l2

theorem is_y3 : Is3 ((dat5 (V11 m ρ) c).arrAt 14 cfg5.N) D.y3 :=
  arr5 (V11 m ρ) c
    ((arr4 (in4 h)).of_eq ((W11_of m ρ c main_v110_1 (by decide)).trans (W10_arr m ρ c 17)) ((W11_of m ρ c main_v110_2 (by decide)).trans (W10_arr m ρ c 18))
      ((W11_of m ρ c main_v110_3 (by decide)).trans (W10_arr m ρ c 19)))
    ((arr4_x (in4 h)).of_eq ((W11_of m ρ c main_v110_0 (by decide)).trans (W10_arr m ρ c 16))) (seg5_wts (held10 h)) h.low.l3

/-- The kernel's result holds the four layers' rows. -/
theorem ker_y3 : Is3 (W12 m ρ c (Proc.devRef .tc main_v138)) D.y3 := (is_y3 h).of_eq (W12_arr m ρ c 14)

end Cert.Net
-- ==== Proof.Same.lean ====
/- The kernel and the reference leave the same result. -/
module

public import proofs.«01_k».proof.Defs
public import proofs.«01_k».proof.Proof.KerJoin
public import proofs.«01_k».proof.Proof.Pre
public import proofs.«01_k».proof.Proof.Frm.Whole

@[expose] public section

set_option maxRecDepth 16384

noncomputable section

namespace Cert.Net

open Idealize.ShloMosaic Idealize.ShloMosaic.TcCoe Idealize.SL.Sem

theorem ProbIs.of_eq {A B : FVec Ideal ⟨2, ![4, 2048]⟩ .f32} {b : Fin 4 → Fin 2048 → EReal} (h : ProbIs A b) (he : B = A) : ProbIs B b := he ▸ h

theorem Is2.of_eq {a b : ℕ} {A B : FVec Ideal ⟨2, ![a, b]⟩ .f32} {T : Fin a → Fin b → ℝ} (h : Is2 A T) (he : B = A) : Is2 B T := he ▸ h

/-- Two arrays that hold the same reals are the same. -/
theorem Is3.unique {a b c : ℕ} {A B : FVec Ideal ⟨3, ![a, b, c]⟩ .f32} {T : Fin a → Fin b → Fin c → ℝ} (hA : Is3 A T) (hB : Is3 B T) : A = B := funext fun y => by
  obtain ⟨i, j, k, rfl⟩ : ∃ (i : Fin a) (j : Fin b) (k : Fin c), y = ix3 i j k := ⟨y 0, y 1, y 2, funext fun | 0 => rfl | 1 => rfl | 2 => rfl⟩
  exact (hA i j k).trans (hB i j k).symm

abbrev KMem := (ℓ : Loc Cert.KernelIdeal.nD Cert.KernelIdeal.τ Cert.KernelIdeal.sig) → Buf (Elt Ideal) ℓ
abbrev RMem := (ℓ : Loc Cert.ReferenceIdeal.nD Cert.ReferenceIdeal.τ Cert.ReferenceIdeal.sig) → Buf (Elt Ideal) ℓ

/-- Both programs' arguments hold the same real numbers, and every score stays low. -/
theorem both_is (m : KMem) (g : Dev Cert.KernelIdeal.nD → PrngReg) (m' : RMem) (hp : Pre_KernelIdeal_finite_and_unclamped m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    RefIs (StableHlo.launchContents m' c) (refData (StableHlo.launchContents m' c)) ∧ KerIs (Cert.KernelIdeal.Gen.W0 m g c) (refData (StableHlo.launchContents m' c)) := by
  have hp := hp c
  rw [← h0, ← h1, ← h2, ← h3, ← h4, ← h5, ← h6, ← h7, ← h8, ← h9, ← h10, ← h11, ← h12, ← h13] at hp
  obtain ⟨hx, hq, hl⟩ := pre_real (StableHlo.launchContents m' c) hp
  exact ⟨⟨hx, fun _ _ => rfl, hq.par⟩, hx.of_eq h0.symm, ProbIs.of_eq (fun _ _ => rfl) h1.symm,
    ⟨hq.Wqkv.of_eq h2.symm, hq.bqkv.of_eq h3.symm, hq.Wo.of_eq h4.symm, hq.bo.of_eq h5.symm, hq.W1.of_eq h6.symm, hq.b1.of_eq h7.symm, hq.W2.of_eq h8.symm,
      hq.b2.of_eq h9.symm, hq.g1.of_eq h10.symm, hq.be1.of_eq h11.symm, hq.g2.of_eq h12.symm, hq.be2.of_eq h13.symm⟩, hl⟩

theorem same : algebraic_KernelIdeal_ReferenceIdeal_pre_finite_and_unclamped := fun m g m' g' hp ha => by
  refine ⟨fun c => Cert.KernelIdeal.Gen.W12 m g c (Proc.devRef .tc Cert.KernelIdeal.main_v138), ?_, ?_⟩
  · refine (θ_run Cert.KernelIdeal.defs _ _).mono (fun r h c => ?_) (Cert.KernelIdeal.Gen.run_whole m g)
    exact ⟨h.1 c _ (Cert.KernelIdeal.Gen.mem_uc Cert.KernelIdeal.main_v138 (by decide)),
      (h.1 c _ (Cert.KernelIdeal.Gen.mem_uc Cert.KernelIdeal.main_arg0 (by decide))).trans (Cert.KernelIdeal.Gen.W12_main_arg0 m g c),
      (h.1 c _ (Cert.KernelIdeal.Gen.mem_uc Cert.KernelIdeal.main_arg1 (by decide))).trans (Cert.KernelIdeal.Gen.W12_main_arg1 m g c),
      (h.1 c _ (Cert.KernelIdeal.Gen.mem_uc Cert.KernelIdeal.main_arg2 (by decide))).trans (Cert.KernelIdeal.Gen.W12_main_arg2 m g c),
      (h.1 c _ (Cert.KernelIdeal.Gen.mem_uc Cert.KernelIdeal.main_arg3 (by decide))).trans (Cert.KernelIdeal.Gen.W12_main_arg3 m g c),
      (h.1 c _ (Cert.KernelIdeal.Gen.mem_uc Cert.KernelIdeal.main_arg4 (by decide))).trans (Cert.KernelIdeal.Gen.W12_main_arg4 m g c),
      (h.1 c _ (Cert.KernelIdeal.Gen.mem_uc Cert.KernelIdeal.main_arg5 (by decide))).trans (Cert.KernelIdeal.Gen.W12_main_arg5 m g c),
      (h.1 c _ (Cert.KernelIdeal.Gen.mem_uc Cert.KernelIdeal.main_arg6 (by decide))).trans (Cert.KernelIdeal.Gen.W12_main_arg6 m g c),
      (h.1 c _ (Cert.KernelIdeal.Gen.mem_uc Cert.KernelIdeal.main_arg7 (by decide))).trans (Cert.KernelIdeal.Gen.W12_main_arg7 m g c),
      (h.1 c _ (Cert.KernelIdeal.Gen.mem_uc Cert.KernelIdeal.main_arg8 (by decide))).trans (Cert.KernelIdeal.Gen.W12_main_arg8 m g c),
      (h.1 c _ (Cert.KernelIdeal.Gen.mem_uc Cert.KernelIdeal.main_arg9 (by decide))).trans (Cert.KernelIdeal.Gen.W12_main_arg9 m g c),
      (h.1 c _ (Cert.KernelIdeal.Gen.mem_uc Cert.KernelIdeal.main_arg10 (by decide))).trans (Cert.KernelIdeal.Gen.W12_main_arg10 m g c),
      (h.1 c _ (Cert.KernelIdeal.Gen.mem_uc Cert.KernelIdeal.main_arg11 (by decide))).trans (Cert.KernelIdeal.Gen.W12_main_arg11 m g c),
      (h.1 c _ (Cert.KernelIdeal.Gen.mem_uc Cert.KernelIdeal.main_arg12 (by decide))).trans (Cert.KernelIdeal.Gen.W12_main_arg12 m g c),
      (h.1 c _ (Cert.KernelIdeal.Gen.mem_uc Cert.KernelIdeal.main_arg13 (by decide))).trans (Cert.KernelIdeal.Gen.W12_main_arg13 m g c)⟩
  · refine (θ_run Cert.ReferenceIdeal.defs _ _).mono (fun r h c => ⟨?_, (h c).2⟩) (ref_run m' g')
    obtain ⟨h0, h1, h2, h3, h4, h5, h6, h7, h8, h9, h10, h11, h12, h13⟩ := ha c
    obtain ⟨hr, hk⟩ := both_is m g m' hp c h0 h1 h2 h3 h4 h5 h6 h7 h8 h9 h10 h11 h12 h13
    exact (h c).1.trans ((ref_y3 hr).unique (ker_y3 hk))

end Cert.Net
-- ==== Proof.lean ====
/- The kernel runs and leaves its arguments alone, as do its idealization and the reference; and, read over the
   extended reals, the kernel and the reference leave the same result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frm.Whole
public import proofs.«01_k».proof.Proof.Pre
public import proofs.«01_k».proof.Proof.Same

@[expose] public section

noncomputable section

namespace Cert.Proof

open Idealize.ShloMosaic Idealize.SL.Sem

/-- The reference runs, leaves its arguments alone, and has no semaphore to leave raised. -/
theorem ref_quiet : quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and its idealization are one program text, read at bits and at the extended reals: what holds of the
    idealization's text at any reading of the floats holds of the kernel's. -/
theorem kernel_quiet : @quiescent_Kernel Cert.Kernel.Gen.facts :=
  Eq.mp (by chain_rfl) (fun (m : (ℓ : Loc Cert.KernelIdeal.nD Cert.KernelIdeal.τ Cert.KernelIdeal.sig) → Buf (Elt Bits) ℓ)
    (ρ : Dev Cert.KernelIdeal.nD → PrngReg) (_ : True) => Cert.KernelIdeal.Gen.frame m ρ)

theorem claim : Cert.Claim :=
  ⟨Cert.Kernel.Gen.facts, Cert.KernelIdeal.Gen.facts, Cert.ReferenceIdeal.Gen.facts, Cert.Net.preFacts,
    kernel_quiet, fun m ρ _ => Cert.KernelIdeal.Gen.frame m ρ, fun m ρ _ => Cert.KernelIdeal.Gen.frame m ρ,
    fun m ρ _ => ref_quiet m ρ trivial, fun m ρ _ => ref_quiet m ρ trivial, trivial, Cert.Net.same⟩

end Cert.Proof

end
